-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5)
      ∧ r.2.mem ((c.tc : Thread Cert.Kernel22.nD Cert.Kernel22.τ).loc Cert.Kernel22.main_arg6) = m ((c.tc : Thread Cert.Kernel22.nD Cert.Kernel22.τ).loc Cert.Kernel22.main_arg6)
      ∧ r.2.mem ((c.tc : Thread Cert.Kernel22.nD Cert.Kernel22.τ).loc Cert.Kernel22.main_arg7) = m ((c.tc : Thread Cert.Kernel22.nD Cert.Kernel22.τ).loc Cert.Kernel22.main_arg7))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
      ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
      ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5)
      ∧ r.2.mem ((c.tc : Thread Cert.Reference22Ideal.nD Cert.Reference22Ideal.τ).loc Cert.Reference22Ideal.main_arg6) = m ((c.tc : Thread Cert.Reference22Ideal.nD Cert.Reference22Ideal.τ).loc Cert.Reference22Ideal.main_arg6)
      ∧ r.2.mem ((c.tc : Thread Cert.Reference22Ideal.nD Cert.Reference22Ideal.τ).loc Cert.Reference22Ideal.main_arg7) = m ((c.tc : Thread Cert.Reference22Ideal.nD Cert.Reference22Ideal.τ).loc Cert.Reference22Ideal.main_arg7))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5)
      ∧ r.2.mem ((c.tc : Thread Cert.Kernel23.nD Cert.Kernel23.τ).loc Cert.Kernel23.main_arg6) = m ((c.tc : Thread Cert.Kernel23.nD Cert.Kernel23.τ).loc Cert.Kernel23.main_arg6)
      ∧ r.2.mem ((c.tc : Thread Cert.Kernel23.nD Cert.Kernel23.τ).loc Cert.Kernel23.main_arg7) = m ((c.tc : Thread Cert.Kernel23.nD Cert.Kernel23.τ).loc Cert.Kernel23.main_arg7))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
      ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6)
      ∧ r.2.mem ((c.tc : Thread Cert.Kernel23Ideal.nD Cert.Kernel23Ideal.τ).loc Cert.Kernel23Ideal.main_arg7) = m ((c.tc : Thread Cert.Kernel23Ideal.nD Cert.Kernel23Ideal.τ).loc Cert.Kernel23Ideal.main_arg7))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5)
      ∧ r.2.mem ((c.tc : Thread Cert.Reference23Ideal.nD Cert.Reference23Ideal.τ).loc Cert.Reference23Ideal.main_arg6) = m ((c.tc : Thread Cert.Reference23Ideal.nD Cert.Reference23Ideal.τ).loc Cert.Reference23Ideal.main_arg6)
      ∧ r.2.mem ((c.tc : Thread Cert.Reference23Ideal.nD Cert.Reference23Ideal.τ).loc Cert.Reference23Ideal.main_arg7) = m ((c.tc : Thread Cert.Reference23Ideal.nD Cert.Reference23Ideal.τ).loc Cert.Reference23Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_1)) (v1 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_1) = v0 c
          ∧ r.2.mem ((c.tc : Thread Cert.KernelIdeal.nD Cert.KernelIdeal.τ).loc Cert.KernelIdeal.main_v0_2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v9_0)) (v1 : (c : Dev Cert.Kernel2Ideal.nD) → Buf (Elt Ideal) ((c.tc : Thread Cert.Kernel2Ideal.nD Cert.Kernel2Ideal.τ).loc Cert.Kernel2Ideal.main_v9_1)) (v2 : (c : Dev Cert.Kernel2Ideal.nD) → Buf (Elt Ideal) ((c.tc : Thread Cert.Kernel2Ideal.nD Cert.Kernel2Ideal.τ).loc Cert.Kernel2Ideal.main_v9_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9_0) = v0 c
          ∧ r.2.mem ((c.tc : Thread Cert.Kernel2Ideal.nD Cert.Kernel2Ideal.τ).loc Cert.Kernel2Ideal.main_v9_1) = v1 c
          ∧ r.2.mem ((c.tc : Thread Cert.Kernel2Ideal.nD Cert.Kernel2Ideal.τ).loc Cert.Kernel2Ideal.main_v9_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v80) = v0 c
          ∧ r.2.mem ((c.tc : Thread Cert.Reference2Ideal.nD Cert.Reference2Ideal.τ).loc Cert.Reference2Ideal.main_v83) = v1 c
          ∧ r.2.mem ((c.tc : Thread Cert.Reference2Ideal.nD Cert.Reference2Ideal.τ).loc Cert.Reference2Ideal.main_v86) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_v26) = v1 c
          ∧ r.2.mem ((c.tc : Thread Cert.Reference13Ideal.nD Cert.Reference13Ideal.τ).loc Cert.Reference13Ideal.main_v7) = v2 c
          ∧ r.2.mem ((c.tc : Thread Cert.Reference13Ideal.nD Cert.Reference13Ideal.τ).loc Cert.Reference13Ideal.main_v13) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_v26) = v1 c
          ∧ r.2.mem ((c.tc : Thread Cert.Reference14Ideal.nD Cert.Reference14Ideal.τ).loc Cert.Reference14Ideal.main_v7) = v2 c
          ∧ r.2.mem ((c.tc : Thread Cert.Reference14Ideal.nD Cert.Reference14Ideal.τ).loc Cert.Reference14Ideal.main_v13) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_v26) = v1 c
          ∧ r.2.mem ((c.tc : Thread Cert.Reference15Ideal.nD Cert.Reference15Ideal.τ).loc Cert.Reference15Ideal.main_v7) = v2 c
          ∧ r.2.mem ((c.tc : Thread Cert.Reference15Ideal.nD Cert.Reference15Ideal.τ).loc Cert.Reference15Ideal.main_v13) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v1) = v0 c
          ∧ r.2.mem ((c.tc : Thread Cert.Reference16Ideal.nD Cert.Reference16Ideal.τ).loc Cert.Reference16Ideal.main_v26) = v1 c
          ∧ r.2.mem ((c.tc : Thread Cert.Reference16Ideal.nD Cert.Reference16Ideal.τ).loc Cert.Reference16Ideal.main_v7) = v2 c
          ∧ r.2.mem ((c.tc : Thread Cert.Reference16Ideal.nD Cert.Reference16Ideal.τ).loc Cert.Reference16Ideal.main_v13) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v8) = v0 c
          ∧ r.2.mem ((c.tc : Thread Cert.Reference18Ideal.nD Cert.Reference18Ideal.τ).loc Cert.Reference18Ideal.main_v6) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v5) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v0) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)) →
    ∃ (v0 : (c : Dev Cert.Kernel21Ideal.nD) → Buf (Elt Ideal) ((c.tc : Thread Cert.Kernel21Ideal.nD Cert.Kernel21Ideal.τ).loc Cert.Kernel21Ideal.main_v0_3)) (v1 : (c : Dev Cert.Kernel21Ideal.nD) → Buf (Elt Ideal) ((c.tc : Thread Cert.Kernel21Ideal.nD Cert.Kernel21Ideal.τ).loc Cert.Kernel21Ideal.main_v0_4)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_3) = v0 c
          ∧ r.2.mem ((c.tc : Thread Cert.Kernel21Ideal.nD Cert.Kernel21Ideal.τ).loc Cert.Kernel21Ideal.main_v0_4) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v46) = v0 c
          ∧ r.2.mem ((c.tc : Thread Cert.Reference21Ideal.nD Cert.Reference21Ideal.τ).loc Cert.Reference21Ideal.main_v41) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)
      ∧ m' ((c.tc : Thread Cert.Reference22Ideal.nD Cert.Reference22Ideal.τ).loc Cert.Reference22Ideal.main_arg6) = m ((c.tc : Thread Cert.Kernel22Ideal.nD Cert.Kernel22Ideal.τ).loc Cert.Kernel22Ideal.main_arg6)
      ∧ m' ((c.tc : Thread Cert.Reference22Ideal.nD Cert.Reference22Ideal.τ).loc Cert.Reference22Ideal.main_arg7) = m ((c.tc : Thread Cert.Kernel22Ideal.nD Cert.Kernel22Ideal.τ).loc Cert.Kernel22Ideal.main_arg7)) →
    ∃ (v0 : (c : Dev Cert.Kernel22Ideal.nD) → Buf (Elt Ideal) ((c.tc : Thread Cert.Kernel22Ideal.nD Cert.Kernel22Ideal.τ).loc Cert.Kernel22Ideal.main_v0_3)) (v1 : (c : Dev Cert.Kernel22Ideal.nD) → Buf (Elt Ideal) ((c.tc : Thread Cert.Kernel22Ideal.nD Cert.Kernel22Ideal.τ).loc Cert.Kernel22Ideal.main_v0_4)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_3) = v0 c
          ∧ r.2.mem ((c.tc : Thread Cert.Kernel22Ideal.nD Cert.Kernel22Ideal.τ).loc Cert.Kernel22Ideal.main_v0_4) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
          ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
          ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v46) = v0 c
          ∧ r.2.mem ((c.tc : Thread Cert.Reference22Ideal.nD Cert.Reference22Ideal.τ).loc Cert.Reference22Ideal.main_v41) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5)
          ∧ r.2.mem ((c.tc : Thread Cert.Reference22Ideal.nD Cert.Reference22Ideal.τ).loc Cert.Reference22Ideal.main_arg6) = m' ((c.tc : Thread Cert.Reference22Ideal.nD Cert.Reference22Ideal.τ).loc Cert.Reference22Ideal.main_arg6)
          ∧ r.2.mem ((c.tc : Thread Cert.Reference22Ideal.nD Cert.Reference22Ideal.τ).loc Cert.Reference22Ideal.main_arg7) = m' ((c.tc : Thread Cert.Reference22Ideal.nD Cert.Reference22Ideal.τ).loc Cert.Reference22Ideal.main_arg7))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)
      ∧ m' ((c.tc : Thread Cert.Reference23Ideal.nD Cert.Reference23Ideal.τ).loc Cert.Reference23Ideal.main_arg6) = m ((c.tc : Thread Cert.Kernel23Ideal.nD Cert.Kernel23Ideal.τ).loc Cert.Kernel23Ideal.main_arg6)
      ∧ m' ((c.tc : Thread Cert.Reference23Ideal.nD Cert.Reference23Ideal.τ).loc Cert.Reference23Ideal.main_arg7) = m ((c.tc : Thread Cert.Kernel23Ideal.nD Cert.Kernel23Ideal.τ).loc Cert.Kernel23Ideal.main_arg7)) →
    ∃ (v0 : (c : Dev Cert.Kernel23Ideal.nD) → Buf (Elt Ideal) ((c.tc : Thread Cert.Kernel23Ideal.nD Cert.Kernel23Ideal.τ).loc Cert.Kernel23Ideal.main_v2)) (v1 : (c : Dev Cert.Kernel23Ideal.nD) → Buf (Elt Ideal) ((c.tc : Thread Cert.Kernel23Ideal.nD Cert.Kernel23Ideal.τ).loc Cert.Kernel23Ideal.main_v0_4)) (v2 : (c : Dev Cert.Kernel23Ideal.nD) → Buf (Elt Ideal) ((c.tc : Thread Cert.Kernel23Ideal.nD Cert.Kernel23Ideal.τ).loc Cert.Kernel23Ideal.main_v0_5)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v2) = v0 c
          ∧ r.2.mem ((c.tc : Thread Cert.Kernel23Ideal.nD Cert.Kernel23Ideal.τ).loc Cert.Kernel23Ideal.main_v0_4) = v1 c
          ∧ r.2.mem ((c.tc : Thread Cert.Kernel23Ideal.nD Cert.Kernel23Ideal.τ).loc Cert.Kernel23Ideal.main_v0_5) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
          ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6)
          ∧ r.2.mem ((c.tc : Thread Cert.Kernel23Ideal.nD Cert.Kernel23Ideal.τ).loc Cert.Kernel23Ideal.main_arg7) = m ((c.tc : Thread Cert.Kernel23Ideal.nD Cert.Kernel23Ideal.τ).loc Cert.Kernel23Ideal.main_arg7))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v68) = v0 c
          ∧ r.2.mem ((c.tc : Thread Cert.Reference23Ideal.nD Cert.Reference23Ideal.τ).loc Cert.Reference23Ideal.main_v83) = v1 c
          ∧ r.2.mem ((c.tc : Thread Cert.Reference23Ideal.nD Cert.Reference23Ideal.τ).loc Cert.Reference23Ideal.main_v78) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5)
          ∧ r.2.mem ((c.tc : Thread Cert.Reference23Ideal.nD Cert.Reference23Ideal.τ).loc Cert.Reference23Ideal.main_arg6) = m' ((c.tc : Thread Cert.Reference23Ideal.nD Cert.Reference23Ideal.τ).loc Cert.Reference23Ideal.main_arg6)
          ∧ r.2.mem ((c.tc : Thread Cert.Reference23Ideal.nD Cert.Reference23Ideal.τ).loc Cert.Reference23Ideal.main_arg7) = m' ((c.tc : Thread Cert.Reference23Ideal.nD Cert.Reference23Ideal.τ).loc Cert.Reference23Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hPre_finite2 : Cert.Pre_finite2.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
-- ==== Pre_finite2.lean ====
abbrev S2x2048x5632 : Shape := ⟨3, ![2, 2048, 5632]⟩
abbrev S2x2048x1024 : Shape := ⟨3, ![2, 2048, 1024]⟩
abbrev S2816x1024 : Shape := ⟨2, ![2816, 1024]⟩
abbrev S3x5632 : Shape := ⟨2, ![3, 5632]⟩
abbrev S1x5632 : Shape := ⟨2, ![1, 5632]⟩
abbrev S_ : Shape := ⟨0, ![]⟩

class Facts : Prop where
  bcast_S_S2x2048x5632 : S_.BroadcastsInDim S2x2048x5632 (![] : Fin 0 → Fin S2x2048x5632.rank)
  bitsLt_bf16_f32 : FTy.bits .bf16 < FTy.bits .f32
  bcast_S_S2x2048x1024 : S_.BroadcastsInDim S2x2048x1024 (![] : Fin 0 → Fin S2x2048x1024.rank)
  bcast_S_S2816x1024 : S_.BroadcastsInDim S2816x1024 (![] : Fin 0 → Fin S2816x1024.rank)
  bcast_S_S3x5632 : S_.BroadcastsInDim S3x5632 (![] : Fin 0 → Fin S3x5632.rank)
  bcast_S_S1x5632 : S_.BroadcastsInDim S1x5632 (![] : Fin 0 → Fin S1x5632.rank)

variable [Facts]

def fn {F : FTy → Type} [FloatOps F] (main_arg0 : FVec F S2x2048x5632 .f32) (main_arg1 : FVec F S2x2048x1024 .bf16) (main_arg2 : FVec F S2816x1024 .bf16) (main_arg3 : FVec F S3x5632 .f32) (main_arg4 : FVec F S1x5632 .f32) : IVec S2x2048x5632 1 × IVec S2x2048x1024 1 × IVec S2816x1024 1 × IVec S3x5632 1 × IVec S1x5632 1 :=
  let main_v0 : FVec F S2x2048x5632 .f32 := Host.absf main_arg0
  let main_cst : FVec F S_ .f32 := constant S_ .f32 0x7F800000#32
  let main_v1 : FVec F S2x2048x5632 .f32 := broadcastInDim S2x2048x5632 ![] bcast_S_S2x2048x5632 main_cst
  let main_v2 : IVec S2x2048x5632 1 := cmpf .olt main_v0 main_v1
  let main_v3 : FVec F S2x2048x1024 .f32 := (extf .f32 · bitsLt_bf16_f32) main_arg1
  let main_v4 : FVec F S2x2048x1024 .f32 := Host.absf main_v3
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_v7 : FVec F S2816x1024 .f32 := (extf .f32 · bitsLt_bf16_f32) main_arg2
  let main_v8 : FVec F S2816x1024 .f32 := Host.absf main_v7
  let main_cst_1 : FVec F S_ .f32 := constant S_ .f32 0x7F800000#32
  let main_v9 : FVec F S2816x1024 .f32 := broadcastInDim S2816x1024 ![] bcast_S_S2816x1024 main_cst_1
  let main_v10 : IVec S2816x1024 1 := cmpf .olt main_v8 main_v9
  let main_v11 : FVec F S3x5632 .f32 := Host.absf main_arg3
  let main_cst_2 : FVec F S_ .f32 := constant S_ .f32 0x7F800000#32
  let main_v12 : FVec F S3x5632 .f32 := broadcastInDim S3x5632 ![] bcast_S_S3x5632 main_cst_2
  let main_v13 : IVec S3x5632 1 := cmpf .olt main_v11 main_v12
  let main_v14 : FVec F S1x5632 .f32 := Host.absf main_arg4
  let main_cst_3 : FVec F S_ .f32 := constant S_ .f32 0x7F800000#32
  let main_v15 : FVec F S1x5632 .f32 := broadcastInDim S1x5632 ![] bcast_S_S1x5632 main_cst_3
  let main_v16 : IVec S1x5632 1 := cmpf .olt main_v14 main_v15
  (main_v2, main_v6, main_v10, main_v13, main_v16)
-- ==== Kernel.lean ====
abbrev S2x2048x4224 : Shape := ⟨3, ![2, 2048, 4224]⟩
abbrev S128x512 : Shape := ⟨2, ![128, 512]⟩
abbrev S1x512 : Shape := ⟨2, ![1, 512]⟩
abbrev S2x32x4x128x128 : Shape := ⟨5, ![2, 32, 4, 128, 128]⟩
abbrev S2x2048x512 : Shape := ⟨3, ![2, 2048, 512]⟩
abbrev S2x2048x128 : Shape := ⟨3, ![2, 2048, 128]⟩
abbrev S2x64x512 : Shape := ⟨3, ![2, 64, 512]⟩
abbrev S2x64x128 : Shape := ⟨3, ![2, 64, 128]⟩
abbrev S2x1x4x128x128 : Shape := ⟨5, ![2, 1, 4, 128, 128]⟩
abbrev S8x128x128 : Shape := ⟨3, ![8, 128, 128]⟩
abbrev S1x1x1x128x128 : Shape := ⟨5, ![1, 1, 1, 128, 128]⟩
abbrev S128x128 : Shape := ⟨2, ![128, 128]⟩
abbrev S1x64x512 : Shape := ⟨3, ![1, 64, 512]⟩
abbrev S64x512 : Shape := ⟨2, ![64, 512]⟩
abbrev S1x64x128 : Shape := ⟨3, ![1, 64, 128]⟩
abbrev S64x128 : Shape := ⟨2, ![64, 128]⟩
abbrev S64x64 : Shape := ⟨2, ![64, 64]⟩
abbrev S128 : Shape := ⟨1, ![128]⟩
abbrev S1x128 : Shape := ⟨2, ![1, 128]⟩
abbrev S1x128x128 : Shape := ⟨3, ![1, 128, 128]⟩
abbrev S128x64 : Shape := ⟨2, ![128, 64]⟩
abbrev S64x384 : Shape := ⟨2, ![64, 384]⟩
abbrev S64x256 : Shape := ⟨2, ![64, 256]⟩
abbrev S512 : Shape := ⟨1, ![512]⟩
abbrev S512x128 : Shape := ⟨2, ![512, 128]⟩

abbrev nBuf : Space → Nat
  | .hbm => 12
  | .vmem => 27
  | .smem => 0
  | _ => 0

abbrev bufTy : (tb : Table) → Fin (tcTables nBuf tb) → BufTy
  | .hbm, ⟨0, _⟩ => ⟨S2x2048x4224, .f32⟩
  | .hbm, ⟨1, _⟩ => ⟨S128x512, .f32⟩
  | .hbm, ⟨2, _⟩ => ⟨S1x512, .f32⟩
  | .hbm, ⟨3, _⟩ => ⟨S2x32x4x128x128, .f32⟩
  | .hbm, ⟨4, _⟩ => ⟨S2x2048x512, .f32⟩
  | .hbm, ⟨5, _⟩ => ⟨S2x2048x128, .f32⟩
  | .hbm, ⟨6, _⟩ => ⟨S2x2048x512, .bf16⟩
  | .hbm, ⟨7, _⟩ => ⟨S2x2048x512, .bf16⟩
  | .hbm, ⟨8, _⟩ => ⟨S2x2048x512, .bf16⟩
  | .hbm, ⟨9, _⟩ => ⟨S2x2048x128, .bf16⟩
  | .hbm, ⟨10, _⟩ => ⟨S128x512, .f32⟩
  | .hbm, ⟨11, _⟩ => ⟨S1x512, .f32⟩
  | .local _ .vmem, ⟨0, _⟩ => ⟨S2x64x512, .f32⟩
  | .local _ .vmem, ⟨1, _⟩ => ⟨S2x64x512, .f32⟩
  | .local _ .vmem, ⟨2, _⟩ => ⟨S2x64x512, .f32⟩
  | .local _ .vmem, ⟨3, _⟩ => ⟨S2x64x512, .f32⟩
  | .local _ .vmem, ⟨4, _⟩ => ⟨S2x64x512, .f32⟩
  | .local _ .vmem, ⟨5, _⟩ => ⟨S2x64x512, .f32⟩
  | .local _ .vmem, ⟨6, _⟩ => ⟨S2x64x128, .f32⟩
  | .local _ .vmem, ⟨7, _⟩ => ⟨S2x64x128, .f32⟩
  | .local _ .vmem, ⟨8, _⟩ => ⟨S128x512, .f32⟩
  | .local _ .vmem, ⟨9, _⟩ => ⟨S1x512, .f32⟩
  | .local _ .vmem, ⟨10, _⟩ => ⟨S2x1x4x128x128, .f32⟩
  | .local _ .vmem, ⟨11, _⟩ => ⟨S2x1x4x128x128, .f32⟩
  | .local _ .vmem, ⟨12, _⟩ => ⟨S2x64x512, .f32⟩
  | .local _ .vmem, ⟨13, _⟩ => ⟨S2x64x512, .f32⟩
  | .local _ .vmem, ⟨14, _⟩ => ⟨S2x64x128, .f32⟩
  | .local _ .vmem, ⟨15, _⟩ => ⟨S2x64x128, .f32⟩
  | .local _ .vmem, ⟨16, _⟩ => ⟨S2x64x512, .bf16⟩
  | .local _ .vmem, ⟨17, _⟩ => ⟨S2x64x512, .bf16⟩
  | .local _ .vmem, ⟨18, _⟩ => ⟨S2x64x512, .bf16⟩
  | .local _ .vmem, ⟨19, _⟩ => ⟨S2x64x512, .bf16⟩
  | .local _ .vmem, ⟨20, _⟩ => ⟨S2x64x512, .bf16⟩
  | .local _ .vmem, ⟨21, _⟩ => ⟨S2x64x512, .bf16⟩
  | .local _ .vmem, ⟨22, _⟩ => ⟨S2x64x128, .bf16⟩
  | .local _ .vmem, ⟨23, _⟩ => ⟨S2x64x128, .bf16⟩
  | .local _ .vmem, ⟨24, _⟩ => ⟨S128x512, .f32⟩
  | .local _ .vmem, ⟨25, _⟩ => ⟨S1x512, .f32⟩
  | .local _ .vmem, ⟨26, _⟩ => ⟨S8x128x128, .f32⟩
  | _, _ => ⟨S2x2048x4224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg14_0 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem14_0 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c4_i32 : BitVec 32 := 4#32
  let c0_i32_0 : BitVec 32 := 0#32
  ![c0_i32.toNat, v0.toNat, c4_i32.toNat]

def cc0_transform_1 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c5_i32 : BitVec 32 := 5#32
  let c0_i32_0 : BitVec 32 := 0#32
  ![c0_i32.toNat, v0.toNat, c5_i32.toNat]

def cc0_transform_2 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c6_i32 : BitVec 32 := 6#32
  let c0_i32_0 : BitVec 32 := 0#32
  ![c0_i32.toNat, v0.toNat, c6_i32.toNat]

def cc0_transform_3 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c32_i32 : BitVec 32 := 32#32
  let c0_i32_0 : BitVec 32 := 0#32
  ![c0_i32.toNat, v0.toNat, c32_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 5 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, v0.toNat, c0_i32_0.toNat, c0_i32_1.toNat, c0_i32_2.toNat]

def cc0_transform_7 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_8 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_9 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_10 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_11 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_12 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x1x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x64x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x64x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x64x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x64x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S128x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceIdeal.lean ====
abbrev S2x2048x4224 : Shape := ⟨3, ![2, 2048, 4224]⟩
abbrev S128x512 : Shape := ⟨2, ![128, 512]⟩
abbrev S1x512 : Shape := ⟨2, ![1, 512]⟩
abbrev S2x32x4x128x128 : Shape := ⟨5, ![2, 32, 4, 128, 128]⟩
abbrev S2x2048x512 : Shape := ⟨3, ![2, 2048, 512]⟩
abbrev S2x2048x128 : Shape := ⟨3, ![2, 2048, 128]⟩
abbrev S2x2048x4x128 : Shape := ⟨4, ![2, 2048, 4, 128]⟩
abbrev S1x1x512 : Shape := ⟨3, ![1, 1, 512]⟩
abbrev S_ : Shape := ⟨0, ![]⟩
abbrev S64x64 : Shape := ⟨2, ![64, 64]⟩
abbrev S2x32x64x4x128 : Shape := ⟨5, ![2, 32, 64, 4, 128]⟩
abbrev S32x2x4x64x128 : Shape := ⟨5, ![32, 2, 4, 64, 128]⟩
abbrev S2x4x128x128 : Shape := ⟨4, ![2, 4, 128, 128]⟩
abbrev S1x2x4x64x128 : Shape := ⟨5, ![1, 2, 4, 64, 128]⟩
abbrev S2x4x64x128 : Shape := ⟨4, ![2, 4, 64, 128]⟩
abbrev S2x4x64x64 : Shape := ⟨4, ![2, 4, 64, 64]⟩
abbrev S2x4x1x128 : Shape := ⟨4, ![2, 4, 1, 128]⟩
abbrev S2x4x128 : Shape := ⟨3, ![2, 4, 128]⟩
abbrev S2x4x128x1 : Shape := ⟨4, ![2, 4, 128, 1]⟩
abbrev S2x4x128x64 : Shape := ⟨4, ![2, 4, 128, 64]⟩

abbrev nBuf : Space → Nat
  | .hbm => 187
  | .vmem => 0
  | .smem => 0
  | _ => 0

abbrev hbmTy0_0 (i : Nat) : BufTy := match i % 128 with
  | 0 => ⟨S2x2048x4224, .f32⟩
  | 1 => ⟨S128x512, .f32⟩
  | 2 => ⟨S1x512, .f32⟩
  | 3 => ⟨S2x32x4x128x128, .f32⟩
  | 4 => ⟨S2x2048x512, .f32⟩
  | 5 => ⟨S2x2048x128, .f32⟩
  | 6 => ⟨S2x2048x512, .f32⟩
  | 7 => ⟨S2x2048x4x128, .f32⟩
  | 8 => ⟨S2x2048x512, .f32⟩
  | 9 => ⟨S2x2048x4x128, .f32⟩
  | 10 => ⟨S2x2048x512, .f32⟩
  | 11 => ⟨S2x2048x4x128, .f32⟩
  | 12 => ⟨S2x2048x128, .f32⟩
  | 13 => ⟨S2x2048x512, .f32⟩
  | 14 => ⟨S1x1x512, .f32⟩
  | 15 => ⟨S2x2048x512, .f32⟩
  | 16 => ⟨S2x2048x512, .f32⟩
  | 17 => ⟨S2x2048x512, .f32⟩
  | 18 => ⟨S_, .f32⟩
  | 19 => ⟨S2x2048x512, .f32⟩
  | 20 => ⟨S2x2048x512, .f32⟩
  | 21 => ⟨S2x2048x512, .f32⟩
  | 22 => ⟨S2x2048x512, .f32⟩
  | 23 => ⟨S2x2048x512, .i1⟩
  | 24 => ⟨S2x2048x512, .f32⟩
  | 25 => ⟨S2x2048x512, .f32⟩
  | 26 => ⟨S2x2048x512, .f32⟩
  | 27 => ⟨S2x2048x512, .f32⟩
  | 28 => ⟨S2x2048x512, .f32⟩
  | 29 => ⟨S2x2048x512, .f32⟩
  | 30 => ⟨S2x2048x512, .f32⟩
  | 31 => ⟨S2x2048x512, .f32⟩
  | 32 => ⟨S2x2048x512, .f32⟩
  | 33 => ⟨S_, .f32⟩
  | 34 => ⟨S2x2048x512, .f32⟩
  | 35 => ⟨S2x2048x512, .f32⟩
  | 36 => ⟨S2x2048x4x128, .f32⟩
  | 37 => ⟨S2x2048x4x128, .f32⟩
  | 38 => ⟨S_, .i1⟩
  | 39 => ⟨S64x64, .i1⟩
  | 40 => ⟨S64x64, .i32⟩
  | 41 => ⟨S_, .i32⟩
  | 42 => ⟨S64x64, .i32⟩
  | 43 => ⟨S64x64, .i32⟩
  | 44 => ⟨S64x64, .i32⟩
  | 45 => ⟨S64x64, .i1⟩
  | 46 => ⟨S_, .i1⟩
  | 47 => ⟨S64x64, .i1⟩
  | 48 => ⟨S64x64, .i1⟩
  | 49 => ⟨S_, .f32⟩
  | 50 => ⟨S2x2048x4x128, .f32⟩
  | 51 => ⟨S2x2048x4x128, .f32⟩
  | 52 => ⟨S2x32x64x4x128, .f32⟩
  | 53 => ⟨S32x2x4x64x128, .f32⟩
  | 54 => ⟨S2x32x64x4x128, .f32⟩
  | 55 => ⟨S32x2x4x64x128, .f32⟩
  | 56 => ⟨S2x32x64x4x128, .f32⟩
  | 57 => ⟨S32x2x4x64x128, .f32⟩
  | 58 => ⟨S2x32x64x4x128, .f32⟩
  | 59 => ⟨S32x2x4x64x128, .f32⟩
  | 60 => ⟨S2x32x64x4x128, .f32⟩
  | 61 => ⟨S32x2x4x64x128, .f32⟩
  | 62 => ⟨S_, .f32⟩
  | 63 => ⟨S2x4x128x128, .f32⟩
  | 64 => ⟨S_, .f32⟩
  | 65 => ⟨S32x2x4x64x128, .f32⟩
  | 66 => ⟨S_, .f32⟩
  | 67 => ⟨S32x2x4x64x128, .f32⟩
  | 68 => ⟨S_, .i32⟩
  | 69 => ⟨S32x2x4x64x128, .f32⟩
  | 70 => ⟨S32x2x4x64x128, .f32⟩
  | 71 => ⟨S32x2x4x64x128, .f32⟩
  | 72 => ⟨S32x2x4x64x128, .f32⟩
  | 73 => ⟨S32x2x4x64x128, .f32⟩
  | 74 => ⟨S64x64, .i1⟩
  | 75 => ⟨S_, .i32⟩
  | 76 => ⟨S2x4x128x128, .f32⟩
  | 77 => ⟨S32x2x4x64x128, .f32⟩
  | 78 => ⟨S32x2x4x64x128, .f32⟩
  | 79 => ⟨S_, .i32⟩
  | 80 => ⟨S_, .i1⟩
  | 81 => ⟨S_, .i32⟩
  | 82 => ⟨S_, .i32⟩
  | 83 => ⟨S_, .i32⟩
  | 84 => ⟨S_, .i32⟩
  | 85 => ⟨S_, .i32⟩
  | 86 => ⟨S_, .i32⟩
  | 87 => ⟨S_, .i32⟩
  | 88 => ⟨S_, .i32⟩
  | 89 => ⟨S1x2x4x64x128, .f32⟩
  | 90 => ⟨S2x4x64x128, .f32⟩
  | 91 => ⟨S_, .i32⟩
  | 92 => ⟨S_, .i32⟩
  | 93 => ⟨S_, .i32⟩
  | 94 => ⟨S_, .i32⟩
  | 95 => ⟨S1x2x4x64x128, .f32⟩
  | 96 => ⟨S2x4x64x128, .f32⟩
  | 97 => ⟨S_, .i32⟩
  | 98 => ⟨S_, .i32⟩
  | 99 => ⟨S_, .i32⟩
  | 100 => ⟨S_, .i32⟩
  | 101 => ⟨S1x2x4x64x128, .f32⟩
  | 102 => ⟨S2x4x64x128, .f32⟩
  | 103 => ⟨S_, .i32⟩
  | 104 => ⟨S_, .i32⟩
  | 105 => ⟨S_, .i32⟩
  | 106 => ⟨S_, .i32⟩
  | 107 => ⟨S1x2x4x64x128, .f32⟩
  | 108 => ⟨S2x4x64x128, .f32⟩
  | 109 => ⟨S_, .i32⟩
  | 110 => ⟨S_, .i32⟩
  | 111 => ⟨S_, .i32⟩
  | 112 => ⟨S_, .i32⟩
  | 113 => ⟨S1x2x4x64x128, .f32⟩
  | 114 => ⟨S2x4x64x128, .f32⟩
  | 115 => ⟨S64x64, .i1⟩
  | 116 => ⟨S2x4x64x128, .f32⟩
  | 117 => ⟨S2x4x64x128, .f32⟩
  | 118 => ⟨S2x4x64x128, .f32⟩
  | 119 => ⟨S2x4x64x128, .f32⟩
  | 120 => ⟨S2x4x128x128, .f32⟩
  | 121 => ⟨S2x4x64x128, .f32⟩
  | 122 => ⟨S_, .f32⟩
  | 123 => ⟨S_, .f32⟩
  | 124 => ⟨S2x4x64x128, .f32⟩
  | 125 => ⟨S2x4x64x128, .f32⟩
  | 126 => ⟨S2x4x64x128, .f32⟩
  | 127 => ⟨S2x4x64x128, .f32⟩
  | _ => ⟨S2x2048x4224, .f32⟩

abbrev hbmTy0_1 (i : Nat) : BufTy := match i % 128 with
  | 0 => ⟨S2x4x64x128, .f32⟩
  | 1 => ⟨S2x4x64x128, .f32⟩
  | 2 => ⟨S2x4x64x64, .f32⟩
  | 3 => ⟨S_, .f32⟩
  | 4 => ⟨S_, .f32⟩
  | 5 => ⟨S2x4x64x64, .i1⟩
  | 6 => ⟨S2x4x64x64, .f32⟩
  | 7 => ⟨S2x4x64x64, .f32⟩
  | 8 => ⟨S2x4x1x128, .f32⟩
  | 9 => ⟨S2x4x64x128, .f32⟩
  | 10 => ⟨S2x4x64x128, .f32⟩
  | 11 => ⟨S2x4x64x128, .f32⟩
  | 12 => ⟨S2x4x64x128, .f32⟩
  | 13 => ⟨S2x4x1x128, .f32⟩
  | 14 => ⟨S2x4x128, .f32⟩
  | 15 => ⟨S2x4x128x1, .f32⟩
  | 16 => ⟨S2x4x128x1, .f32⟩
  | 17 => ⟨S2x4x128x64, .f32⟩
  | 18 => ⟨S2x4x64x128, .f32⟩
  | 19 => ⟨S2x4x128x64, .f32⟩
  | 20 => ⟨S2x4x64x128, .f32⟩
  | 21 => ⟨S2x4x128x128, .f32⟩
  | 22 => ⟨S2x4x128x128, .f32⟩
  | 23 => ⟨S2x4x64x128, .f32⟩
  | 24 => ⟨S2x4x128x64, .f32⟩
  | 25 => ⟨S2x4x64x128, .f32⟩
  | 26 => ⟨S2x4x64x128, .f32⟩
  | 27 => ⟨S2x4x64x64, .f32⟩
  | 28 => ⟨S2x4x128x128, .f32⟩
  | 29 => ⟨S2x4x128x128, .f32⟩
  | 30 => ⟨S2x4x128x128, .f32⟩
  | 31 => ⟨S_, .f32⟩
  | 32 => ⟨S2x4x64x64, .f32⟩
  | 33 => ⟨S2x4x64x64, .f32⟩
  | 34 => ⟨S2x4x64x128, .f32⟩
  | 35 => ⟨S2x4x64x128, .f32⟩
  | 36 => ⟨S2x4x64x128, .f32⟩
  | 37 => ⟨S1x2x4x64x128, .f32⟩
  | 38 => ⟨S_, .i32⟩
  | 39 => ⟨S_, .i32⟩
  | 40 => ⟨S_, .i32⟩
  | 41 => ⟨S_, .i32⟩
  | 42 => ⟨S32x2x4x64x128, .f32⟩
  | 43 => ⟨S1x2x4x64x128, .f32⟩
  | 44 => ⟨S_, .i32⟩
  | 45 => ⟨S_, .i32⟩
  | 46 => ⟨S_, .i32⟩
  | 47 => ⟨S_, .i32⟩
  | 48 => ⟨S32x2x4x64x128, .f32⟩
  | 49 => ⟨S_, .i32⟩
  | 50 => ⟨S_, .i32⟩
  | 51 => ⟨S2x32x64x4x128, .f32⟩
  | 52 => ⟨S2x2048x4x128, .f32⟩
  | 53 => ⟨S2x32x64x4x128, .f32⟩
  | 54 => ⟨S2x2048x4x128, .f32⟩
  | 55 => ⟨S2x2048x512, .f32⟩
  | 56 => ⟨S2x2048x512, .bf16⟩
  | 57 => ⟨S2x2048x512, .f32⟩
  | 58 => ⟨S2x2048x512, .bf16⟩
  | _ => ⟨S2x2048x4224, .f32⟩

abbrev hbmTy (i : Nat) : BufTy := match i / 128 with
  | 0 => hbmTy0_0 i
  | 1 => hbmTy0_1 i
  | _ => ⟨S2x2048x4224, .f32⟩

abbrev bufTy : (tb : Table) → Fin (tcTables nBuf tb) → BufTy
  | .hbm, ⟨i, _⟩ => hbmTy i
  | _, _ => ⟨S2x2048x4224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_v12 : Ref sig .tc := ⟨.hbm, 31, rfl⟩
abbrev main_v13 : Ref sig .tc := ⟨.hbm, 32, rfl⟩
abbrev main_cst : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c : Ref sig .tc := ⟨.hbm, 38, rfl⟩
abbrev main_v18 : Ref sig .tc := ⟨.hbm, 39, rfl⟩
abbrev main_call1_v0 : Ref sig .tc := ⟨.hbm, 40, rfl⟩
abbrev main_call1_c : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_c_0 : Ref sig .tc := ⟨.hbm, 46, rfl⟩
abbrev main_call1_v5 : Ref sig .tc := ⟨.hbm, 47, rfl⟩
abbrev main_v19 : Ref sig .tc := ⟨.hbm, 48, rfl⟩
abbrev main_cst_0 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_cst_1 : Ref sig .tc := ⟨.hbm, 62, rfl⟩
abbrev main_v32 : Ref sig .tc := ⟨.hbm, 63, rfl⟩
abbrev main_cst_2 : Ref sig .tc := ⟨.hbm, 64, rfl⟩
abbrev main_v33 : Ref sig .tc := ⟨.hbm, 65, rfl⟩
abbrev main_cst_3 : Ref sig .tc := ⟨.hbm, 66, rfl⟩
abbrev main_v34 : Ref sig .tc := ⟨.hbm, 67, rfl⟩
abbrev main_c_4 : Ref sig .tc := ⟨.hbm, 68, rfl⟩
abbrev main_v35_0 : Ref sig .tc := ⟨.hbm, 69, rfl⟩
abbrev main_v35_1 : Ref sig .tc := ⟨.hbm, 70, rfl⟩
abbrev main_v35_2 : Ref sig .tc := ⟨.hbm, 71, rfl⟩
abbrev main_v35_3 : Ref sig .tc := ⟨.hbm, 72, rfl⟩
abbrev main_v35_4 : Ref sig .tc := ⟨.hbm, 73, rfl⟩
abbrev main_v35_5 : Ref sig .tc := ⟨.hbm, 74, rfl⟩
abbrev main_v35_6 : Ref sig .tc := ⟨.hbm, 75, rfl⟩
abbrev main_v35_7 : Ref sig .tc := ⟨.hbm, 76, rfl⟩
abbrev main_v35_8 : Ref sig .tc := ⟨.hbm, 77, rfl⟩
abbrev main_v35_9 : Ref sig .tc := ⟨.hbm, 78, rfl⟩
abbrev main_while0c_c_14 : Ref sig .tc := ⟨.hbm, 79, rfl⟩
abbrev main_while0c_v44 : Ref sig .tc := ⟨.hbm, 80, rfl⟩
abbrev main_while0b_c_14 : Ref sig .tc := ⟨.hbm, 81, rfl⟩
abbrev main_while0b_v44 : Ref sig .tc := ⟨.hbm, 82, rfl⟩
abbrev main_while0b_c_15 : Ref sig .tc := ⟨.hbm, 83, rfl⟩
abbrev main_while0b_v45 : Ref sig .tc := ⟨.hbm, 84, rfl⟩
abbrev main_while0b_call2_c : Ref sig .tc := ⟨.hbm, 85, rfl⟩
abbrev main_while0b_call2_c_0 : Ref sig .tc := ⟨.hbm, 86, rfl⟩
abbrev main_while0b_call2_c_1 : Ref sig .tc := ⟨.hbm, 87, rfl⟩
abbrev main_while0b_call2_c_2 : Ref sig .tc := ⟨.hbm, 88, rfl⟩
abbrev main_while0b_call2_v0 : Ref sig .tc := ⟨.hbm, 89, rfl⟩
abbrev main_while0b_v46 : Ref sig .tc := ⟨.hbm, 90, rfl⟩
abbrev main_while0b_call3_c : Ref sig .tc := ⟨.hbm, 91, rfl⟩
abbrev main_while0b_call3_c_0 : Ref sig .tc := ⟨.hbm, 92, rfl⟩
abbrev main_while0b_call3_c_1 : Ref sig .tc := ⟨.hbm, 93, rfl⟩
abbrev main_while0b_call3_c_2 : Ref sig .tc := ⟨.hbm, 94, rfl⟩
abbrev main_while0b_call3_v0 : Ref sig .tc := ⟨.hbm, 95, rfl⟩
abbrev main_while0b_v47 : Ref sig .tc := ⟨.hbm, 96, rfl⟩
abbrev main_while0b_call4_c : Ref sig .tc := ⟨.hbm, 97, rfl⟩
abbrev main_while0b_call4_c_0 : Ref sig .tc := ⟨.hbm, 98, rfl⟩
abbrev main_while0b_call4_c_1 : Ref sig .tc := ⟨.hbm, 99, rfl⟩
abbrev main_while0b_call4_c_2 : Ref sig .tc := ⟨.hbm, 100, rfl⟩
abbrev main_while0b_call4_v0 : Ref sig .tc := ⟨.hbm, 101, rfl⟩
abbrev main_while0b_v48 : Ref sig .tc := ⟨.hbm, 102, rfl⟩
abbrev main_while0b_call5_c : Ref sig .tc := ⟨.hbm, 103, rfl⟩
abbrev main_while0b_call5_c_0 : Ref sig .tc := ⟨.hbm, 104, rfl⟩
abbrev main_while0b_call5_c_1 : Ref sig .tc := ⟨.hbm, 105, rfl⟩
abbrev main_while0b_call5_c_2 : Ref sig .tc := ⟨.hbm, 106, rfl⟩
abbrev main_while0b_call5_v0 : Ref sig .tc := ⟨.hbm, 107, rfl⟩
abbrev main_while0b_v49 : Ref sig .tc := ⟨.hbm, 108, rfl⟩
abbrev main_while0b_call6_c : Ref sig .tc := ⟨.hbm, 109, rfl⟩
abbrev main_while0b_call6_c_0 : Ref sig .tc := ⟨.hbm, 110, rfl⟩
abbrev main_while0b_call6_c_1 : Ref sig .tc := ⟨.hbm, 111, rfl⟩
abbrev main_while0b_call6_c_2 : Ref sig .tc := ⟨.hbm, 112, rfl⟩
abbrev main_while0b_call6_v0 : Ref sig .tc := ⟨.hbm, 113, rfl⟩
abbrev main_while0b_v50 : Ref sig .tc := ⟨.hbm, 114, rfl⟩
abbrev main_while0b_v51_0 : Ref sig .tc := ⟨.hbm, 115, rfl⟩
abbrev main_while0b_v51_1 : Ref sig .tc := ⟨.hbm, 116, rfl⟩
abbrev main_while0b_v51_2 : Ref sig .tc := ⟨.hbm, 117, rfl⟩
abbrev main_while0b_v51_3 : Ref sig .tc := ⟨.hbm, 118, rfl⟩
abbrev main_while0b_v51_4 : Ref sig .tc := ⟨.hbm, 119, rfl⟩
abbrev main_while0b_v51_5 : Ref sig .tc := ⟨.hbm, 120, rfl⟩
abbrev main_while0b_v51_6 : Ref sig .tc := ⟨.hbm, 121, rfl⟩
abbrev main_while0b_call7_call0_cst : Ref sig .tc := ⟨.hbm, 122, rfl⟩
abbrev main_while0b_call7_call0_v0 : Ref sig .tc := ⟨.hbm, 123, rfl⟩
abbrev main_while0b_v52 : Ref sig .tc := ⟨.hbm, 124, rfl⟩
abbrev main_while0b_v53 : Ref sig .tc := ⟨.hbm, 125, rfl⟩
abbrev main_while0b_v54 : Ref sig .tc := ⟨.hbm, 126, rfl⟩
abbrev main_while0b_v55 : Ref sig .tc := ⟨.hbm, 127, rfl⟩
abbrev main_while0b_v56 : Ref sig .tc := ⟨.hbm, 128, rfl⟩
abbrev main_while0b_v57 : Ref sig .tc := ⟨.hbm, 129, rfl⟩
abbrev main_while0b_v58 : Ref sig .tc := ⟨.hbm, 130, rfl⟩
abbrev main_while0b_cst_16 : Ref sig .tc := ⟨.hbm, 131, rfl⟩
abbrev main_while0b_call8_v0 : Ref sig .tc := ⟨.hbm, 132, rfl⟩
abbrev main_while0b_v59_1 : Ref sig .tc := ⟨.hbm, 133, rfl⟩
abbrev main_while0b_call8_v2 : Ref sig .tc := ⟨.hbm, 134, rfl⟩
abbrev main_while0b_v59_0 : Ref sig .tc := ⟨.hbm, 135, rfl⟩
abbrev main_while0b_v60 : Ref sig .tc := ⟨.hbm, 136, rfl⟩
abbrev main_while0b_v61 : Ref sig .tc := ⟨.hbm, 137, rfl⟩
abbrev main_while0b_v62 : Ref sig .tc := ⟨.hbm, 138, rfl⟩
abbrev main_while0b_v63 : Ref sig .tc := ⟨.hbm, 139, rfl⟩
abbrev main_while0b_v64 : Ref sig .tc := ⟨.hbm, 140, rfl⟩
abbrev main_while0b_v65 : Ref sig .tc := ⟨.hbm, 141, rfl⟩
abbrev main_while0b_v66 : Ref sig .tc := ⟨.hbm, 142, rfl⟩
abbrev main_while0b_v67 : Ref sig .tc := ⟨.hbm, 143, rfl⟩
abbrev main_while0b_v68 : Ref sig .tc := ⟨.hbm, 144, rfl⟩
abbrev main_while0b_v69 : Ref sig .tc := ⟨.hbm, 145, rfl⟩
abbrev main_while0b_v70 : Ref sig .tc := ⟨.hbm, 146, rfl⟩
abbrev main_while0b_v71 : Ref sig .tc := ⟨.hbm, 147, rfl⟩
abbrev main_while0b_v72 : Ref sig .tc := ⟨.hbm, 148, rfl⟩
abbrev main_while0b_v73 : Ref sig .tc := ⟨.hbm, 149, rfl⟩
abbrev main_while0b_v74 : Ref sig .tc := ⟨.hbm, 150, rfl⟩
abbrev main_while0b_v75 : Ref sig .tc := ⟨.hbm, 151, rfl⟩
abbrev main_while0b_v76 : Ref sig .tc := ⟨.hbm, 152, rfl⟩
abbrev main_while0b_v77 : Ref sig .tc := ⟨.hbm, 153, rfl⟩
abbrev main_while0b_v78 : Ref sig .tc := ⟨.hbm, 154, rfl⟩
abbrev main_while0b_v79 : Ref sig .tc := ⟨.hbm, 155, rfl⟩
abbrev main_while0b_v80 : Ref sig .tc := ⟨.hbm, 156, rfl⟩
abbrev main_while0b_v81 : Ref sig .tc := ⟨.hbm, 157, rfl⟩
abbrev main_while0b_v82 : Ref sig .tc := ⟨.hbm, 158, rfl⟩
abbrev main_while0b_call9_cst : Ref sig .tc := ⟨.hbm, 159, rfl⟩
abbrev main_while0b_call9_v0 : Ref sig .tc := ⟨.hbm, 160, rfl⟩
abbrev main_while0b_v83 : Ref sig .tc := ⟨.hbm, 161, rfl⟩
abbrev main_while0b_v84 : Ref sig .tc := ⟨.hbm, 162, rfl⟩
abbrev main_while0b_v85 : Ref sig .tc := ⟨.hbm, 163, rfl⟩
abbrev main_while0b_v86 : Ref sig .tc := ⟨.hbm, 164, rfl⟩
abbrev main_while0b_call10_v0 : Ref sig .tc := ⟨.hbm, 165, rfl⟩
abbrev main_while0b_call10_c : Ref sig .tc := ⟨.hbm, 166, rfl⟩
abbrev main_while0b_call10_c_0 : Ref sig .tc := ⟨.hbm, 167, rfl⟩
abbrev main_while0b_call10_c_1 : Ref sig .tc := ⟨.hbm, 168, rfl⟩
abbrev main_while0b_call10_c_2 : Ref sig .tc := ⟨.hbm, 169, rfl⟩
abbrev main_while0b_v87 : Ref sig .tc := ⟨.hbm, 170, rfl⟩
abbrev main_while0b_call11_v0 : Ref sig .tc := ⟨.hbm, 171, rfl⟩
abbrev main_while0b_call11_c : Ref sig .tc := ⟨.hbm, 172, rfl⟩
abbrev main_while0b_call11_c_0 : Ref sig .tc := ⟨.hbm, 173, rfl⟩
abbrev main_while0b_call11_c_1 : Ref sig .tc := ⟨.hbm, 174, rfl⟩
abbrev main_while0b_call11_c_2 : Ref sig .tc := ⟨.hbm, 175, rfl⟩
abbrev main_while0b_v88 : Ref sig .tc := ⟨.hbm, 176, rfl⟩
abbrev main_while0b_c_17 : Ref sig .tc := ⟨.hbm, 177, rfl⟩
abbrev main_while0b_v89 : Ref sig .tc := ⟨.hbm, 178, rfl⟩
abbrev main_v36 : Ref sig .tc := ⟨.hbm, 179, rfl⟩
abbrev main_v37 : Ref sig .tc := ⟨.hbm, 180, rfl⟩
abbrev main_v38 : Ref sig .tc := ⟨.hbm, 181, rfl⟩
abbrev main_v39 : Ref sig .tc := ⟨.hbm, 182, rfl⟩
abbrev main_v40 : Ref sig .tc := ⟨.hbm, 183, rfl⟩
abbrev main_v41 : Ref sig .tc := ⟨.hbm, 184, rfl⟩
abbrev main_v42 : Ref sig .tc := ⟨.hbm, 185, rfl⟩
abbrev main_v43 : Ref sig .tc := ⟨.hbm, 186, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S2x2048x5632 : Shape := ⟨3, ![2, 2048, 5632]⟩
abbrev S2x2048x1024 : Shape := ⟨3, ![2, 2048, 1024]⟩
abbrev S2816x1024 : Shape := ⟨2, ![2816, 1024]⟩
abbrev S3x5632 : Shape := ⟨2, ![3, 5632]⟩
abbrev S1x5632 : Shape := ⟨2, ![1, 5632]⟩
abbrev S2x2048x2x11x256 : Shape := ⟨5, ![2, 2048, 2, 11, 256]⟩
abbrev S2x2048x11x2x256 : Shape := ⟨5, ![2, 2048, 11, 2, 256]⟩
abbrev S3x2x11x256 : Shape := ⟨4, ![3, 2, 11, 256]⟩
abbrev S3x11x2x256 : Shape := ⟨4, ![3, 11, 2, 256]⟩
abbrev S1x2x11x256 : Shape := ⟨4, ![1, 2, 11, 256]⟩
abbrev S1x11x2x256 : Shape := ⟨4, ![1, 11, 2, 256]⟩
abbrev S1x1024x512 : Shape := ⟨3, ![1, 1024, 512]⟩
abbrev S1x8x512 : Shape := ⟨3, ![1, 8, 512]⟩
abbrev S1x1024x1024 : Shape := ⟨3, ![1, 1024, 1024]⟩
abbrev S1x16x1024 : Shape := ⟨3, ![1, 16, 1024]⟩
abbrev S256x1024 : Shape := ⟨2, ![256, 1024]⟩
abbrev S3x512 : Shape := ⟨2, ![3, 512]⟩
abbrev S1x512 : Shape := ⟨2, ![1, 512]⟩
abbrev S8x512 : Shape := ⟨2, ![8, 512]⟩
abbrev S1024x512 : Shape := ⟨2, ![1024, 512]⟩
abbrev S1040x512 : Shape := ⟨2, ![1040, 512]⟩
abbrev S1032x512 : Shape := ⟨2, ![1032, 512]⟩
abbrev S1032x256 : Shape := ⟨2, ![1032, 256]⟩
abbrev S1032x1 : Shape := ⟨2, ![1032, 1]⟩
abbrev S1024x1024 : Shape := ⟨2, ![1024, 1024]⟩
abbrev S1024x256 : Shape := ⟨2, ![1024, 256]⟩
abbrev S16x1024 : Shape := ⟨2, ![16, 1024]⟩
abbrev S16x256 : Shape := ⟨2, ![16, 256]⟩
abbrev S8x256 : Shape := ⟨2, ![8, 256]⟩
abbrev S512 : Shape := ⟨1, ![512]⟩

abbrev nBuf : Space → Nat
  | .hbm => 17
  | .vmem => 22
  | .smem => 0
  | _ => 0

abbrev bufTy : (tb : Table) → Fin (tcTables nBuf tb) → BufTy
  | .hbm, ⟨0, _⟩ => ⟨S2x2048x5632, .f32⟩
  | .hbm, ⟨1, _⟩ => ⟨S2x2048x1024, .bf16⟩
  | .hbm, ⟨2, _⟩ => ⟨S2816x1024, .bf16⟩
  | .hbm, ⟨3, _⟩ => ⟨S3x5632, .f32⟩
  | .hbm, ⟨4, _⟩ => ⟨S1x5632, .f32⟩
  | .hbm, ⟨5, _⟩ => ⟨S2x2048x2x11x256, .f32⟩
  | .hbm, ⟨6, _⟩ => ⟨S2x2048x11x2x256, .f32⟩
  | .hbm, ⟨7, _⟩ => ⟨S2x2048x5632, .f32⟩
  | .hbm, ⟨8, _⟩ => ⟨S3x2x11x256, .f32⟩
  | .hbm, ⟨9, _⟩ => ⟨S3x11x2x256, .f32⟩
  | .hbm, ⟨10, _⟩ => ⟨S3x5632, .f32⟩
  | .hbm, ⟨11, _⟩ => ⟨S1x2x11x256, .f32⟩
  | .hbm, ⟨12, _⟩ => ⟨S1x11x2x256, .f32⟩
  | .hbm, ⟨13, _⟩ => ⟨S1x5632, .f32⟩
  | .hbm, ⟨14, _⟩ => ⟨S2x2048x5632, .bf16⟩
  | .hbm, ⟨15, _⟩ => ⟨S3x5632, .f32⟩
  | .hbm, ⟨16, _⟩ => ⟨S1x5632, .f32⟩
  | .local _ .vmem, ⟨0, _⟩ => ⟨S1x1024x512, .f32⟩
  | .local _ .vmem, ⟨1, _⟩ => ⟨S1x1024x512, .f32⟩
  | .local _ .vmem, ⟨2, _⟩ => ⟨S1x8x512, .f32⟩
  | .local _ .vmem, ⟨3, _⟩ => ⟨S1x8x512, .f32⟩
  | .local _ .vmem, ⟨4, _⟩ => ⟨S1x8x512, .f32⟩
  | .local _ .vmem, ⟨5, _⟩ => ⟨S1x8x512, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x16x1024, .bf16⟩
  | .local _ .vmem, ⟨9, _⟩ => ⟨S1x16x1024, .bf16⟩
  | .local _ .vmem, ⟨10, _⟩ => ⟨S256x1024, .bf16⟩
  | .local _ .vmem, ⟨11, _⟩ => ⟨S256x1024, .bf16⟩
  | .local _ .vmem, ⟨12, _⟩ => ⟨S3x512, .f32⟩
  | .local _ .vmem, ⟨13, _⟩ => ⟨S3x512, .f32⟩
  | .local _ .vmem, ⟨14, _⟩ => ⟨S1x512, .f32⟩
  | .local _ .vmem, ⟨15, _⟩ => ⟨S1x512, .f32⟩
  | .local _ .vmem, ⟨16, _⟩ => ⟨S1x1024x512, .bf16⟩
  | .local _ .vmem, ⟨17, _⟩ => ⟨S1x1024x512, .bf16⟩
  | .local _ .vmem, ⟨18, _⟩ => ⟨S3x512, .f32⟩
  | .local _ .vmem, ⟨19, _⟩ => ⟨S3x512, .f32⟩
  | .local _ .vmem, ⟨20, _⟩ => ⟨S1x512, .f32⟩
  | .local _ .vmem, ⟨21, _⟩ => ⟨S1x512, .f32⟩
  | _, _ => ⟨S2x2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![11, 2, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.muli arg2 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![arg1.toNat, v2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c128_i32 : BitVec 32 := 128#32
  let v1 : BitVec 32 := Scalar.muli v0 c128_i32
  let c255_i32 : BitVec 32 := 255#32
  let v2 : BitVec 32 := Scalar.minsi v1 c255_i32
  let c0_i32 : BitVec 32 := 0#32
  ![arg1.toNat, v2.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c64_i32 : BitVec 32 := 64#32
  let v1 : BitVec 32 := Scalar.muli v0 c64_i32
  let c127_i32 : BitVec 32 := 127#32
  let v2 : BitVec 32 := Scalar.minsi v1 c127_i32
  let c0_i32 : BitVec 32 := 0#32
  let c0_i32_0 : BitVec 32 := 0#32
  ![arg1.toNat, v2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S3x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]
-- ==== Reference2Ideal.lean ====
abbrev S2x2048x5632 : Shape := ⟨3, ![2, 2048, 5632]⟩
abbrev S2x2048x1024 : Shape := ⟨3, ![2, 2048, 1024]⟩
abbrev S2816x1024 : Shape := ⟨2, ![2816, 1024]⟩
abbrev S3x5632 : Shape := ⟨2, ![3, 5632]⟩
abbrev S1x5632 : Shape := ⟨2, ![1, 5632]⟩
abbrev S_ : Shape := ⟨0, ![]⟩
abbrev S2x2x5632 : Shape := ⟨3, ![2, 2, 5632]⟩
abbrev S2x2050x5632 : Shape := ⟨3, ![2, 2050, 5632]⟩
abbrev S5632 : Shape := ⟨1, ![5632]⟩
abbrev S1x1x5632 : Shape := ⟨3, ![1, 1, 5632]⟩
abbrev S2x2048x2816 : Shape := ⟨3, ![2, 2048, 2816]⟩
abbrev S2x2048x2x11x256 : Shape := ⟨5, ![2, 2048, 2, 11, 256]⟩
abbrev S2x2048x11x2x256 : Shape := ⟨5, ![2, 2048, 11, 2, 256]⟩
abbrev S3x2x11x256 : Shape := ⟨4, ![3, 2, 11, 256]⟩
abbrev S3x11x2x256 : Shape := ⟨4, ![3, 11, 2, 256]⟩
abbrev S1x2x11x256 : Shape := ⟨4, ![1, 2, 11, 256]⟩
abbrev S1x11x2x256 : Shape := ⟨4, ![1, 11, 2, 256]⟩

abbrev nBuf : Space → Nat
  | .hbm => 124
  | .vmem => 0
  | .smem => 0
  | _ => 0

abbrev bufTy : (tb : Table) → Fin (tcTables nBuf tb) → BufTy
  | .hbm, ⟨0, _⟩ => ⟨S2x2048x5632, .f32⟩
  | .hbm, ⟨1, _⟩ => ⟨S2x2048x1024, .bf16⟩
  | .hbm, ⟨2, _⟩ => ⟨S2816x1024, .bf16⟩
  | .hbm, ⟨3, _⟩ => ⟨S3x5632, .f32⟩
  | .hbm, ⟨4, _⟩ => ⟨S1x5632, .f32⟩
  | .hbm, ⟨5, _⟩ => ⟨S_, .f32⟩
  | .hbm, ⟨6, _⟩ => ⟨S2x2x5632, .f32⟩
  | .hbm, ⟨7, _⟩ => ⟨S2x2050x5632, .f32⟩
  | .hbm, ⟨8, _⟩ => ⟨S_, .f32⟩
  | .hbm, ⟨9, _⟩ => ⟨S2x2x5632, .f32⟩
  | .hbm, ⟨10, _⟩ => ⟨S2x2048x5632, .f32⟩
  | .hbm, ⟨11, _⟩ => ⟨S1x5632, .f32⟩
  | .hbm, ⟨12, _⟩ => ⟨S5632, .f32⟩
  | .hbm, ⟨13, _⟩ => ⟨S1x1x5632, .f32⟩
  | .hbm, ⟨14, _⟩ => ⟨S2x2048x5632, .f32⟩
  | .hbm, ⟨15, _⟩ => ⟨S2x2048x5632, .f32⟩
  | .hbm, ⟨16, _⟩ => ⟨S_, .f32⟩
  | .hbm, ⟨17, _⟩ => ⟨S2x2048x5632, .f32⟩
  | .hbm, ⟨18, _⟩ => ⟨S2x2048x5632, .f32⟩
  | .hbm, ⟨19, _⟩ => ⟨S2x2048x5632, .f32⟩
  | .hbm, ⟨20, _⟩ => ⟨S1x5632, .f32⟩
  | .hbm, ⟨21, _⟩ => ⟨S5632, .f32⟩
  | .hbm, ⟨22, _⟩ => ⟨S1x1x5632, .f32⟩
  | .hbm, ⟨23, _⟩ => ⟨S2x2048x5632, .f32⟩
  | .hbm, ⟨24, _⟩ => ⟨S2x2048x5632, .f32⟩
  | .hbm, ⟨25, _⟩ => ⟨S2x2048x5632, .f32⟩
  | .hbm, ⟨26, _⟩ => ⟨S2x2048x5632, .f32⟩
  | .hbm, ⟨27, _⟩ => ⟨S1x5632, .f32⟩
  | .hbm, ⟨28, _⟩ => ⟨S5632, .f32⟩
  | .hbm, ⟨29, _⟩ => ⟨S1x1x5632, .f32⟩
  | .hbm, ⟨30, _⟩ => ⟨S2x2048x5632, .f32⟩
  | .hbm, ⟨31, _⟩ => ⟨S2x2048x5632, .f32⟩
  | .hbm, ⟨32, _⟩ => ⟨S2x2048x5632, .f32⟩
  | .hbm, ⟨33, _⟩ => ⟨S1x1x5632, .f32⟩
  | .hbm, ⟨34, _⟩ => ⟨S2x2048x5632, .f32⟩
  | .hbm, ⟨35, _⟩ => ⟨S2x2048x5632, .f32⟩
  | .hbm, ⟨36, _⟩ => ⟨S2x2048x2816, .f32⟩
  | .hbm, ⟨37, _⟩ => ⟨S2x2048x2816, .f32⟩
  | .hbm, ⟨38, _⟩ => ⟨S2x2048x2816, .f32⟩
  | .hbm, ⟨39, _⟩ => ⟨S2x2048x2816, .f32⟩
  | .hbm, ⟨40, _⟩ => ⟨S_, .f32⟩
  | .hbm, ⟨41, _⟩ => ⟨S2x2048x2816, .f32⟩
  | .hbm, ⟨42, _⟩ => ⟨S2x2048x2816, .f32⟩
  | .hbm, ⟨43, _⟩ => ⟨S_, .f32⟩
  | .hbm, ⟨44, _⟩ => ⟨S2x2048x2816, .f32⟩
  | .hbm, ⟨45, _⟩ => ⟨S2x2048x2816, .f32⟩
  | .hbm, ⟨46, _⟩ => ⟨S_, .f32⟩
  | .hbm, ⟨47, _⟩ => ⟨S2x2048x2816, .f32⟩
  | .hbm, ⟨48, _⟩ => ⟨S2x2048x2816, .f32⟩
  | .hbm, ⟨49, _⟩ => ⟨S2x2048x2816, .f32⟩
  | .hbm, ⟨50, _⟩ => ⟨S2x2048x2816, .f32⟩
  | .hbm, ⟨51, _⟩ => ⟨S2x2048x2816, .f32⟩
  | .hbm, ⟨52, _⟩ => ⟨S2816x1024, .f32⟩
  | .hbm, ⟨53, _⟩ => ⟨S2x2048x1024, .f32⟩
  | .hbm, ⟨54, _⟩ => ⟨S2x2048x1024, .f32⟩
  | .hbm, ⟨55, _⟩ => ⟨S2x2048x2816, .f32⟩
  | .hbm, ⟨56, _⟩ => ⟨S2x2048x2816, .f32⟩
  | .hbm, ⟨57, _⟩ => ⟨S2x2048x2816, .f32⟩
  | .hbm, ⟨58, _⟩ => ⟨S2x2048x2816, .f32⟩
  | .hbm, ⟨59, _⟩ => ⟨S2x2048x2816, .f32⟩
  | .hbm, ⟨60, _⟩ => ⟨S2x2048x2816, .f32⟩
  | .hbm, ⟨61, _⟩ => ⟨S2x2048x2816, .f32⟩
  | .hbm, ⟨62, _⟩ => ⟨S2x2048x5632, .f32⟩
  | .hbm, ⟨63, _⟩ => ⟨S_, .f32⟩
  | .hbm, ⟨64, _⟩ => ⟨S5632, .f32⟩
  | .hbm, ⟨65, _⟩ => ⟨S1x1x5632, .f32⟩
  | .hbm, ⟨66, _⟩ => ⟨S_, .f32⟩
  | .hbm, ⟨67, _⟩ => ⟨S5632, .f32⟩
  | .hbm, ⟨68, _⟩ => ⟨S1x5632, .f32⟩
  | .hbm, ⟨69, _⟩ => ⟨S2x2048x5632, .f32⟩
  | .hbm, ⟨70, _⟩ => ⟨S_, .f32⟩
  | .hbm, ⟨71, _⟩ => ⟨S5632, .f32⟩
  | .hbm, ⟨72, _⟩ => ⟨S1x1x5632, .f32⟩
  | .hbm, ⟨73, _⟩ => ⟨S2x2048x5632, .f32⟩
  | .hbm, ⟨74, _⟩ => ⟨S2x2048x5632, .f32⟩
  | .hbm, ⟨75, _⟩ => ⟨S_, .f32⟩
  | .hbm, ⟨76, _⟩ => ⟨S5632, .f32⟩
  | .hbm, ⟨77, _⟩ => ⟨S1x5632, .f32⟩
  | .hbm, ⟨78, _⟩ => ⟨S_, .f32⟩
  | .hbm, ⟨79, _⟩ => ⟨S3x5632, .f32⟩
  | .hbm, ⟨80, _⟩ => ⟨S_, .f32⟩
  | .hbm, ⟨81, _⟩ => ⟨S2x2050x5632, .f32⟩
  | .hbm, ⟨82, _⟩ => ⟨S2x2048x5632, .f32⟩
  | .hbm, ⟨83, _⟩ => ⟨S_, .f32⟩
  | .hbm, ⟨84, _⟩ => ⟨S5632, .f32⟩
  | .hbm, ⟨85, _⟩ => ⟨S1x1x5632, .f32⟩
  | .hbm, ⟨86, _⟩ => ⟨S2x2048x5632, .f32⟩
  | .hbm, ⟨87, _⟩ => ⟨S2x2048x5632, .f32⟩
  | .hbm, ⟨88, _⟩ => ⟨S_, .f32⟩
  | .hbm, ⟨89, _⟩ => ⟨S5632, .f32⟩
  | .hbm, ⟨90, _⟩ => ⟨S1x5632, .f32⟩
  | .hbm, ⟨91, _⟩ => ⟨S_, .f32⟩
  | .hbm, ⟨92, _⟩ => ⟨S3x5632, .f32⟩
  | .hbm, ⟨93, _⟩ => ⟨S3x5632, .f32⟩
  | .hbm, ⟨94, _⟩ => ⟨S_, .f32⟩
  | .hbm, ⟨95, _⟩ => ⟨S2x2050x5632, .f32⟩
  | .hbm, ⟨96, _⟩ => ⟨S2x2050x5632, .f32⟩
  | .hbm, ⟨97, _⟩ => ⟨S2x2048x5632, .f32⟩
  | .hbm, ⟨98, _⟩ => ⟨S_, .f32⟩
  | .hbm, ⟨99, _⟩ => ⟨S5632, .f32⟩
  | .hbm, ⟨100, _⟩ => ⟨S1x1x5632, .f32⟩
  | .hbm, ⟨101, _⟩ => ⟨S2x2048x5632, .f32⟩
  | .hbm, ⟨102, _⟩ => ⟨S2x2048x5632, .f32⟩
  | .hbm, ⟨103, _⟩ => ⟨S_, .f32⟩
  | .hbm, ⟨104, _⟩ => ⟨S5632, .f32⟩
  | .hbm, ⟨105, _⟩ => ⟨S1x5632, .f32⟩
  | .hbm, ⟨106, _⟩ => ⟨S_, .f32⟩
  | .hbm, ⟨107, _⟩ => ⟨S3x5632, .f32⟩
  | .hbm, ⟨108, _⟩ => ⟨S3x5632, .f32⟩
  | .hbm, ⟨109, _⟩ => ⟨S_, .f32⟩
  | .hbm, ⟨110, _⟩ => ⟨S2x2050x5632, .f32⟩
  | .hbm, ⟨111, _⟩ => ⟨S2x2050x5632, .f32⟩
  | .hbm, ⟨112, _⟩ => ⟨S2x2x5632, .f32⟩
  | .hbm, ⟨113, _⟩ => ⟨S2x2048x5632, .f32⟩
  | .hbm, ⟨114, _⟩ => ⟨S2x2048x2x11x256, .f32⟩
  | .hbm, ⟨115, _⟩ => ⟨S2x2048x11x2x256, .f32⟩
  | .hbm, ⟨116, _⟩ => ⟨S2x2048x5632, .f32⟩
  | .hbm, ⟨117, _⟩ => ⟨S2x2048x5632, .bf16⟩
  | .hbm, ⟨118, _⟩ => ⟨S3x2x11x256, .f32⟩
  | .hbm, ⟨119, _⟩ => ⟨S3x11x2x256, .f32⟩
  | .hbm, ⟨120, _⟩ => ⟨S3x5632, .f32⟩
  | .hbm, ⟨121, _⟩ => ⟨S1x2x11x256, .f32⟩
  | .hbm, ⟨122, _⟩ => ⟨S1x11x2x256, .f32⟩
  | .hbm, ⟨123, _⟩ => ⟨S1x5632, .f32⟩
  | _, _ => ⟨S2x2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v30_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v30_1 : Ref sig .tc := ⟨.hbm, 49, rfl⟩
abbrev main_v30_0 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v38 : Ref sig .tc := ⟨.hbm, 61, rfl⟩
abbrev main_v39 : Ref sig .tc := ⟨.hbm, 62, rfl⟩
abbrev main_cst_2 : Ref sig .tc := ⟨.hbm, 63, rfl⟩
abbrev main_v40 : Ref sig .tc := ⟨.hbm, 64, rfl⟩
abbrev main_v41 : Ref sig .tc := ⟨.hbm, 65, rfl⟩
abbrev main_cst_3 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_4 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_5 : Ref sig .tc := ⟨.hbm, 75, rfl⟩
abbrev main_v49 : Ref sig .tc := ⟨.hbm, 76, rfl⟩
abbrev main_v50 : Ref sig .tc := ⟨.hbm, 77, rfl⟩
abbrev main_cst_6 : Ref sig .tc := ⟨.hbm, 78, rfl⟩
abbrev main_v51 : Ref sig .tc := ⟨.hbm, 79, rfl⟩
abbrev main_cst_7 : Ref sig .tc := ⟨.hbm, 80, rfl⟩
abbrev main_v52 : Ref sig .tc := ⟨.hbm, 81, rfl⟩
abbrev main_v53 : Ref sig .tc := ⟨.hbm, 82, rfl⟩
abbrev main_cst_8 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_9 : Ref sig .tc := ⟨.hbm, 88, rfl⟩
abbrev main_v58 : Ref sig .tc := ⟨.hbm, 89, rfl⟩
abbrev main_v59 : Ref sig .tc := ⟨.hbm, 90, rfl⟩
abbrev main_cst_10 : Ref sig .tc := ⟨.hbm, 91, rfl⟩
abbrev main_v60 : Ref sig .tc := ⟨.hbm, 92, rfl⟩
abbrev main_v61 : Ref sig .tc := ⟨.hbm, 93, rfl⟩
abbrev main_cst_11 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_12 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_13 : Ref sig .tc := ⟨.hbm, 103, rfl⟩
abbrev main_v69 : Ref sig .tc := ⟨.hbm, 104, rfl⟩
abbrev main_v70 : Ref sig .tc := ⟨.hbm, 105, rfl⟩
abbrev main_cst_14 : Ref sig .tc := ⟨.hbm, 106, rfl⟩
abbrev main_v71 : Ref sig .tc := ⟨.hbm, 107, rfl⟩
abbrev main_v72 : Ref sig .tc := ⟨.hbm, 108, rfl⟩
abbrev main_cst_15 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩

abbrev nD : Nat := 1
abbrev τ : Topo := Topo.v7x

variable {F : FTy → Type} [FloatOps F]
-- ==== Kernel3.lean ====
abbrev S4096x2816 : Shape := ⟨2, ![4096, 2816]⟩
abbrev S4096x1024 : Shape := ⟨2, ![4096, 1024]⟩
abbrev S2816x1024 : Shape := ⟨2, ![2816, 1024]⟩
abbrev S4096x1408 : Shape := ⟨2, ![4096, 1408]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S4096x1408, .bf16⟩
  | .local _ .vmem, ⟨1, _⟩ => ⟨S4096x1408, .bf16⟩
  | .local _ .vmem, ⟨2, _⟩ => ⟨S4096x1024, .bf16⟩
  | .local _ .vmem, ⟨3, _⟩ => ⟨S1408x1024, .bf16⟩
  | .local _ .vmem, ⟨4, _⟩ => ⟨S1408x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4096x5632 : Shape := ⟨2, ![4096, 5632]⟩
abbrev S5632x1024 : Shape := ⟨2, ![5632, 1024]⟩
abbrev S4096x1024 : Shape := ⟨2, ![4096, 1024]⟩
abbrev S512x5632 : Shape := ⟨2, ![512, 5632]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x5632, .bf16⟩
  | .hbm, ⟨1, _⟩ => ⟨S5632x1024, .bf16⟩
  | .hbm, ⟨2, _⟩ => ⟨S4096x1024, .bf16⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S512x1024, .bf16⟩
  | .local _ .vmem, ⟨4, _⟩ => ⟨S512x1024, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x5632 : Shape := ⟨2, ![4096, 5632]⟩
abbrev S5632x1024 : Shape := ⟨2, ![5632, 1024]⟩
abbrev S_ : Shape := ⟨0, ![]⟩
abbrev S4096x1024 : Shape := ⟨2, ![4096, 1024]⟩
abbrev S1024x5632 : Shape := ⟨2, ![1024, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x1024, .bf16⟩
  | .hbm, ⟨2, _⟩ => ⟨S_, .f32⟩
  | .hbm, ⟨3, _⟩ => ⟨S4096x1024, .f32⟩
  | .hbm, ⟨4, _⟩ => ⟨S5632x1024, .f32⟩
  | .hbm, ⟨5, _⟩ => ⟨S1024x5632, .f32⟩
  | .hbm, ⟨6, _⟩ => ⟨S4096x5632, .f32⟩
  | .hbm, ⟨7, _⟩ => ⟨S4096x5632, .f32⟩
  | .hbm, ⟨8, _⟩ => ⟨S4096x1024, .f32⟩
  | .hbm, ⟨9, _⟩ => ⟨S4096x1024, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4096x5632 : Shape := ⟨2, ![4096, 5632]⟩
abbrev S4096x1024 : Shape := ⟨2, ![4096, 1024]⟩
abbrev S5632x1024 : Shape := ⟨2, ![5632, 1024]⟩
abbrev S4096x1408 : Shape := ⟨2, ![4096, 1408]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S5632x1024, .bf16⟩
  | .local _ .vmem, ⟨0, _⟩ => ⟨S4096x1408, .bf16⟩
  | .local _ .vmem, ⟨1, _⟩ => ⟨S4096x1408, .bf16⟩
  | .local _ .vmem, ⟨2, _⟩ => ⟨S4096x1024, .bf16⟩
  | .local _ .vmem, ⟨3, _⟩ => ⟨S1408x1024, .bf16⟩
  | .local _ .vmem, ⟨4, _⟩ => ⟨S1408x1024, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x5632 : Shape := ⟨2, ![4096, 5632]⟩
abbrev S4096x1024 : Shape := ⟨2, ![4096, 1024]⟩
abbrev S_ : Shape := ⟨0, ![]⟩
abbrev S5632x1024 : Shape := ⟨2, ![5632, 1024]⟩
abbrev S1024x5632 : Shape := ⟨2, ![1024, 5632]⟩

abbrev nBuf : Space → Nat
  | .hbm => 12
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S_, .f32⟩
  | .hbm, ⟨3, _⟩ => ⟨S5632x1024, .f32⟩
  | .hbm, ⟨4, _⟩ => ⟨S4096x1024, .f32⟩
  | .hbm, ⟨5, _⟩ => ⟨S1024x5632, .f32⟩
  | .hbm, ⟨6, _⟩ => ⟨S4096x5632, .f32⟩
  | .hbm, ⟨7, _⟩ => ⟨S4096x5632, .f32⟩
  | .hbm, ⟨8, _⟩ => ⟨S5632x1024, .f32⟩
  | .hbm, ⟨9, _⟩ => ⟨S1024x5632, .f32⟩
  | .hbm, ⟨10, _⟩ => ⟨S5632x1024, .f32⟩
  | .hbm, ⟨11, _⟩ => ⟨S5632x1024, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel6.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S4096x4224 : Shape := ⟨2, ![4096, 4224]⟩
abbrev S4096x1024 : Shape := ⟨2, ![4096, 1024]⟩
abbrev S4224x1024 : Shape := ⟨2, ![4224, 1024]⟩
abbrev S4096x1408 : Shape := ⟨2, ![4096, 1408]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x4224, .bf16⟩
  | .hbm, ⟨1, _⟩ => ⟨S4096x1024, .bf16⟩
  | .hbm, ⟨2, _⟩ => ⟨S4224x1024, .bf16⟩
  | .local _ .vmem, ⟨0, _⟩ => ⟨S4096x1408, .bf16⟩
  | .local _ .vmem, ⟨1, _⟩ => ⟨S4096x1408, .bf16⟩
  | .local _ .vmem, ⟨2, _⟩ => ⟨S4096x1024, .bf16⟩
  | .local _ .vmem, ⟨3, _⟩ => ⟨S1408x1024, .bf16⟩
  | .local _ .vmem, ⟨4, _⟩ => ⟨S1408x1024, .bf16⟩
  | _, _ => ⟨S4096x4224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x4224 : Shape := ⟨2, ![4096, 4224]⟩
abbrev S4096x1024 : Shape := ⟨2, ![4096, 1024]⟩
abbrev S_ : Shape := ⟨0, ![]⟩
abbrev S4224x1024 : Shape := ⟨2, ![4224, 1024]⟩
abbrev S1024x4224 : Shape := ⟨2, ![1024, 4224]⟩

abbrev nBuf : Space → Nat
  | .hbm => 12
  | .vmem => 0
  | .smem => 0
  | _ => 0

abbrev bufTy : (tb : Table) → Fin (tcTables nBuf tb) → BufTy
  | .hbm, ⟨0, _⟩ => ⟨S4096x4224, .bf16⟩
  | .hbm, ⟨1, _⟩ => ⟨S4096x1024, .bf16⟩
  | .hbm, ⟨2, _⟩ => ⟨S_, .f32⟩
  | .hbm, ⟨3, _⟩ => ⟨S4224x1024, .f32⟩
  | .hbm, ⟨4, _⟩ => ⟨S4096x1024, .f32⟩
  | .hbm, ⟨5, _⟩ => ⟨S1024x4224, .f32⟩
  | .hbm, ⟨6, _⟩ => ⟨S4096x4224, .f32⟩
  | .hbm, ⟨7, _⟩ => ⟨S4096x4224, .f32⟩
  | .hbm, ⟨8, _⟩ => ⟨S4224x1024, .f32⟩
  | .hbm, ⟨9, _⟩ => ⟨S1024x4224, .f32⟩
  | .hbm, ⟨10, _⟩ => ⟨S4224x1024, .f32⟩
  | .hbm, ⟨11, _⟩ => ⟨S4224x1024, .bf16⟩
  | _, _ => ⟨S4096x4224, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel9.lean ====
abbrev S4096x4224 : Shape := ⟨2, ![4096, 4224]⟩
abbrev S4224x1024 : Shape := ⟨2, ![4224, 1024]⟩
abbrev S4096x1024 : Shape := ⟨2, ![4096, 1024]⟩
abbrev S512x4224 : Shape := ⟨2, ![512, 4224]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x4224, .bf16⟩
  | .hbm, ⟨1, _⟩ => ⟨S4224x1024, .bf16⟩
  | .hbm, ⟨2, _⟩ => ⟨S4096x1024, .bf16⟩
  | .local _ .vmem, ⟨0, _⟩ => ⟨S512x4224, .bf16⟩
  | .local _ .vmem, ⟨1, _⟩ => ⟨S512x4224, .bf16⟩
  | .local _ .vmem, ⟨2, _⟩ => ⟨S4224x1024, .bf16⟩
  | .local _ .vmem, ⟨3, _⟩ => ⟨S512x1024, .bf16⟩
  | .local _ .vmem, ⟨4, _⟩ => ⟨S512x1024, .bf16⟩
  | _, _ => ⟨S4096x4224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4224 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4224x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x4224 : Shape := ⟨2, ![4096, 4224]⟩
abbrev S4224x1024 : Shape := ⟨2, ![4224, 1024]⟩
abbrev S_ : Shape := ⟨0, ![]⟩
abbrev S4096x1024 : Shape := ⟨2, ![4096, 1024]⟩
abbrev S1024x4224 : Shape := ⟨2, ![1024, 4224]⟩

abbrev nBuf : Space → Nat
  | .hbm => 10
  | .vmem => 0
  | .smem => 0
  | _ => 0

abbrev bufTy : (tb : Table) → Fin (tcTables nBuf tb) → BufTy
  | .hbm, ⟨0, _⟩ => ⟨S4096x4224, .bf16⟩
  | .hbm, ⟨1, _⟩ => ⟨S4224x1024, .bf16⟩
  | .hbm, ⟨2, _⟩ => ⟨S_, .f32⟩
  | .hbm, ⟨3, _⟩ => ⟨S4096x1024, .f32⟩
  | .hbm, ⟨4, _⟩ => ⟨S4224x1024, .f32⟩
  | .hbm, ⟨5, _⟩ => ⟨S1024x4224, .f32⟩
  | .hbm, ⟨6, _⟩ => ⟨S4096x4224, .f32⟩
  | .hbm, ⟨7, _⟩ => ⟨S4096x4224, .f32⟩
  | .hbm, ⟨8, _⟩ => ⟨S4096x1024, .f32⟩
  | .hbm, ⟨9, _⟩ => ⟨S4096x1024, .bf16⟩
  | _, _ => ⟨S4096x4224, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S4096x1024 : Shape := ⟨2, ![4096, 1024]⟩
abbrev S4224x1024 : Shape := ⟨2, ![4224, 1024]⟩
abbrev S4096x4224 : Shape := ⟨2, ![4096, 4224]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4224x1024, .bf16⟩
  | .hbm, ⟨2, _⟩ => ⟨S4096x4224, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S4224x1024 : Shape := ⟨2, ![4224, 1024]⟩
abbrev S1024x4224 : Shape := ⟨2, ![1024, 4224]⟩
abbrev S4096x4224 : Shape := ⟨2, ![4096, 4224]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4224x1024, .bf16⟩
  | .hbm, ⟨2, _⟩ => ⟨S4096x1024, .f32⟩
  | .hbm, ⟨3, _⟩ => ⟨S4224x1024, .f32⟩
  | .hbm, ⟨4, _⟩ => ⟨S1024x4224, .f32⟩
  | .hbm, ⟨5, _⟩ => ⟨S4096x4224, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel11.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel12.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .bf16⟩
  | .local _ .vmem, ⟨4, _⟩ => ⟨S1024x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x2816, .f32⟩
  | .hbm, ⟨3, _⟩ => ⟨S2816x1024, .f32⟩
  | .hbm, ⟨4, _⟩ => ⟨S4096x1024, .f32⟩
  | .hbm, ⟨5, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel13.lean ====
abbrev S8x704x1024 : Shape := ⟨3, ![8, 704, 1024]⟩
abbrev S1x704x1024 : Shape := ⟨3, ![1, 704, 1024]⟩
abbrev S704x1024 : Shape := ⟨2, ![704, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x704x1024, .bf16⟩
  | .hbm, ⟨1, _⟩ => ⟨S1x704x1024, .f32⟩
  | .hbm, ⟨2, _⟩ => ⟨S1x704x1024, .f32⟩
  | .hbm, ⟨3, _⟩ => ⟨S1x704x1024, .f32⟩
  | .hbm, ⟨4, _⟩ => ⟨S704x1024, .f32⟩
  | .hbm, ⟨5, _⟩ => ⟨S1x704x1024, .f32⟩
  | .hbm, ⟨6, _⟩ => ⟨S1x704x1024, .f32⟩
  | .hbm, ⟨7, _⟩ => ⟨S1x704x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S176x1024, .f32⟩
  | .local _ .vmem, ⟨9, _⟩ => ⟨S176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference13Ideal.lean ====
abbrev S8x704x1024 : Shape := ⟨3, ![8, 704, 1024]⟩
abbrev S1x704x1024 : Shape := ⟨3, ![1, 704, 1024]⟩
abbrev S_ : Shape := ⟨0, ![]⟩
abbrev S704x1024 : Shape := ⟨2, ![704, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S1x704x1024, .f32⟩
  | .hbm, ⟨2, _⟩ => ⟨S1x704x1024, .f32⟩
  | .hbm, ⟨3, _⟩ => ⟨S1x704x1024, .f32⟩
  | .hbm, ⟨4, _⟩ => ⟨S8x704x1024, .f32⟩
  | .hbm, ⟨5, _⟩ => ⟨S_, .f32⟩
  | .hbm, ⟨6, _⟩ => ⟨S704x1024, .f32⟩
  | .hbm, ⟨7, _⟩ => ⟨S1x704x1024, .f32⟩
  | .hbm, ⟨8, _⟩ => ⟨S_, .f32⟩
  | .hbm, ⟨9, _⟩ => ⟨S1x704x1024, .f32⟩
  | .hbm, ⟨10, _⟩ => ⟨S1x704x1024, .f32⟩
  | .hbm, ⟨11, _⟩ => ⟨S_, .f32⟩
  | .hbm, ⟨12, _⟩ => ⟨S1x704x1024, .f32⟩
  | .hbm, ⟨13, _⟩ => ⟨S1x704x1024, .f32⟩
  | .hbm, ⟨14, _⟩ => ⟨S1x704x1024, .f32⟩
  | .hbm, ⟨15, _⟩ => ⟨S_, .f32⟩
  | .hbm, ⟨16, _⟩ => ⟨S1x704x1024, .f32⟩
  | .hbm, ⟨17, _⟩ => ⟨S1x704x1024, .f32⟩
  | .hbm, ⟨18, _⟩ => ⟨S1x704x1024, .f32⟩
  | .hbm, ⟨19, _⟩ => ⟨S_, .f32⟩
  | .hbm, ⟨20, _⟩ => ⟨S1x704x1024, .f32⟩
  | .hbm, ⟨21, _⟩ => ⟨S1x704x1024, .f32⟩
  | .hbm, ⟨22, _⟩ => ⟨S1x704x1024, .f32⟩
  | .hbm, ⟨23, _⟩ => ⟨S_, .f32⟩
  | .hbm, ⟨24, _⟩ => ⟨S1x704x1024, .f32⟩
  | .hbm, ⟨25, _⟩ => ⟨S1x704x1024, .f32⟩
  | .hbm, ⟨26, _⟩ => ⟨S_, .f32⟩
  | .hbm, ⟨27, _⟩ => ⟨S1x704x1024, .f32⟩
  | .hbm, ⟨28, _⟩ => ⟨S1x704x1024, .f32⟩
  | .hbm, ⟨29, _⟩ => ⟨S1x704x1024, .f32⟩
  | .hbm, ⟨30, _⟩ => ⟨S_, .f32⟩
  | .hbm, ⟨31, _⟩ => ⟨S1x704x1024, .f32⟩
  | .hbm, ⟨32, _⟩ => ⟨S1x704x1024, .f32⟩
  | .hbm, ⟨33, _⟩ => ⟨S1x704x1024, .f32⟩
  | .hbm, ⟨34, _⟩ => ⟨S_, .f32⟩
  | .hbm, ⟨35, _⟩ => ⟨S1x704x1024, .f32⟩
  | .hbm, ⟨36, _⟩ => ⟨S1x704x1024, .f32⟩
  | .hbm, ⟨37, _⟩ => ⟨S1x704x1024, .f32⟩
  | .hbm, ⟨38, _⟩ => ⟨S_, .f32⟩
  | .hbm, ⟨39, _⟩ => ⟨S1x704x1024, .f32⟩
  | .hbm, ⟨40, _⟩ => ⟨S1x704x1024, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel14.lean ====
abbrev S8x352x1024 : Shape := ⟨3, ![8, 352, 1024]⟩
abbrev S1x352x1024 : Shape := ⟨3, ![1, 352, 1024]⟩
abbrev S352x1024 : Shape := ⟨2, ![352, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S1x352x1024, .f32⟩
  | .hbm, ⟨2, _⟩ => ⟨S1x352x1024, .f32⟩
  | .hbm, ⟨3, _⟩ => ⟨S1x352x1024, .f32⟩
  | .hbm, ⟨4, _⟩ => ⟨S352x1024, .f32⟩
  | .hbm, ⟨5, _⟩ => ⟨S1x352x1024, .f32⟩
  | .hbm, ⟨6, _⟩ => ⟨S1x352x1024, .f32⟩
  | .hbm, ⟨7, _⟩ => ⟨S1x352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S176x1024, .f32⟩
  | .local _ .vmem, ⟨9, _⟩ => ⟨S176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference14Ideal.lean ====
abbrev S8x352x1024 : Shape := ⟨3, ![8, 352, 1024]⟩
abbrev S1x352x1024 : Shape := ⟨3, ![1, 352, 1024]⟩
abbrev S_ : Shape := ⟨0, ![]⟩
abbrev S352x1024 : Shape := ⟨2, ![352, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S1x352x1024, .f32⟩
  | .hbm, ⟨2, _⟩ => ⟨S1x352x1024, .f32⟩
  | .hbm, ⟨3, _⟩ => ⟨S1x352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S1x352x1024, .f32⟩
  | .hbm, ⟨8, _⟩ => ⟨S_, .f32⟩
  | .hbm, ⟨9, _⟩ => ⟨S1x352x1024, .f32⟩
  | .hbm, ⟨10, _⟩ => ⟨S1x352x1024, .f32⟩
  | .hbm, ⟨11, _⟩ => ⟨S_, .f32⟩
  | .hbm, ⟨12, _⟩ => ⟨S1x352x1024, .f32⟩
  | .hbm, ⟨13, _⟩ => ⟨S1x352x1024, .f32⟩
  | .hbm, ⟨14, _⟩ => ⟨S1x352x1024, .f32⟩
  | .hbm, ⟨15, _⟩ => ⟨S_, .f32⟩
  | .hbm, ⟨16, _⟩ => ⟨S1x352x1024, .f32⟩
  | .hbm, ⟨17, _⟩ => ⟨S1x352x1024, .f32⟩
  | .hbm, ⟨18, _⟩ => ⟨S1x352x1024, .f32⟩
  | .hbm, ⟨19, _⟩ => ⟨S_, .f32⟩
  | .hbm, ⟨20, _⟩ => ⟨S1x352x1024, .f32⟩
  | .hbm, ⟨21, _⟩ => ⟨S1x352x1024, .f32⟩
  | .hbm, ⟨22, _⟩ => ⟨S1x352x1024, .f32⟩
  | .hbm, ⟨23, _⟩ => ⟨S_, .f32⟩
  | .hbm, ⟨24, _⟩ => ⟨S1x352x1024, .f32⟩
  | .hbm, ⟨25, _⟩ => ⟨S1x352x1024, .f32⟩
  | .hbm, ⟨26, _⟩ => ⟨S_, .f32⟩
  | .hbm, ⟨27, _⟩ => ⟨S1x352x1024, .f32⟩
  | .hbm, ⟨28, _⟩ => ⟨S1x352x1024, .f32⟩
  | .hbm, ⟨29, _⟩ => ⟨S1x352x1024, .f32⟩
  | .hbm, ⟨30, _⟩ => ⟨S_, .f32⟩
  | .hbm, ⟨31, _⟩ => ⟨S1x352x1024, .f32⟩
  | .hbm, ⟨32, _⟩ => ⟨S1x352x1024, .f32⟩
  | .hbm, ⟨33, _⟩ => ⟨S1x352x1024, .f32⟩
  | .hbm, ⟨34, _⟩ => ⟨S_, .f32⟩
  | .hbm, ⟨35, _⟩ => ⟨S1x352x1024, .f32⟩
  | .hbm, ⟨36, _⟩ => ⟨S1x352x1024, .f32⟩
  | .hbm, ⟨37, _⟩ => ⟨S1x352x1024, .f32⟩
  | .hbm, ⟨38, _⟩ => ⟨S_, .f32⟩
  | .hbm, ⟨39, _⟩ => ⟨S1x352x1024, .f32⟩
  | .hbm, ⟨40, _⟩ => ⟨S1x352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel15.lean ====
abbrev S8x451x1024 : Shape := ⟨3, ![8, 451, 1024]⟩
abbrev S1x451x1024 : Shape := ⟨3, ![1, 451, 1024]⟩
abbrev S451x1024 : Shape := ⟨2, ![451, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x451x1024, .bf16⟩
  | .hbm, ⟨1, _⟩ => ⟨S1x451x1024, .f32⟩
  | .hbm, ⟨2, _⟩ => ⟨S1x451x1024, .f32⟩
  | .hbm, ⟨3, _⟩ => ⟨S1x451x1024, .f32⟩
  | .hbm, ⟨4, _⟩ => ⟨S451x1024, .f32⟩
  | .hbm, ⟨5, _⟩ => ⟨S1x451x1024, .f32⟩
  | .hbm, ⟨6, _⟩ => ⟨S1x451x1024, .f32⟩
  | .hbm, ⟨7, _⟩ => ⟨S1x451x1024, .f32⟩
  | .local _ .vmem, ⟨0, _⟩ => ⟨S8x451x1024, .bf16⟩
  | .local _ .vmem, ⟨1, _⟩ => ⟨S1x451x1024, .f32⟩
  | .local _ .vmem, ⟨2, _⟩ => ⟨S1x451x1024, .f32⟩
  | .local _ .vmem, ⟨3, _⟩ => ⟨S1x451x1024, .f32⟩
  | .local _ .vmem, ⟨4, _⟩ => ⟨S451x1024, .f32⟩
  | .local _ .vmem, ⟨5, _⟩ => ⟨S1x451x1024, .f32⟩
  | .local _ .vmem, ⟨6, _⟩ => ⟨S1x451x1024, .f32⟩
  | .local _ .vmem, ⟨7, _⟩ => ⟨S1x451x1024, .f32⟩
  | _, _ => ⟨S8x451x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x451x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x451x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x451x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x451x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S451x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x451x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x451x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x451x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference15Ideal.lean ====
abbrev S8x451x1024 : Shape := ⟨3, ![8, 451, 1024]⟩
abbrev S1x451x1024 : Shape := ⟨3, ![1, 451, 1024]⟩
abbrev S_ : Shape := ⟨0, ![]⟩
abbrev S451x1024 : Shape := ⟨2, ![451, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x451x1024, .bf16⟩
  | .hbm, ⟨1, _⟩ => ⟨S1x451x1024, .f32⟩
  | .hbm, ⟨2, _⟩ => ⟨S1x451x1024, .f32⟩
  | .hbm, ⟨3, _⟩ => ⟨S1x451x1024, .f32⟩
  | .hbm, ⟨4, _⟩ => ⟨S8x451x1024, .f32⟩
  | .hbm, ⟨5, _⟩ => ⟨S_, .f32⟩
  | .hbm, ⟨6, _⟩ => ⟨S451x1024, .f32⟩
  | .hbm, ⟨7, _⟩ => ⟨S1x451x1024, .f32⟩
  | .hbm, ⟨8, _⟩ => ⟨S_, .f32⟩
  | .hbm, ⟨9, _⟩ => ⟨S1x451x1024, .f32⟩
  | .hbm, ⟨10, _⟩ => ⟨S1x451x1024, .f32⟩
  | .hbm, ⟨11, _⟩ => ⟨S_, .f32⟩
  | .hbm, ⟨12, _⟩ => ⟨S1x451x1024, .f32⟩
  | .hbm, ⟨13, _⟩ => ⟨S1x451x1024, .f32⟩
  | .hbm, ⟨14, _⟩ => ⟨S1x451x1024, .f32⟩
  | .hbm, ⟨15, _⟩ => ⟨S_, .f32⟩
  | .hbm, ⟨16, _⟩ => ⟨S1x451x1024, .f32⟩
  | .hbm, ⟨17, _⟩ => ⟨S1x451x1024, .f32⟩
  | .hbm, ⟨18, _⟩ => ⟨S1x451x1024, .f32⟩
  | .hbm, ⟨19, _⟩ => ⟨S_, .f32⟩
  | .hbm, ⟨20, _⟩ => ⟨S1x451x1024, .f32⟩
  | .hbm, ⟨21, _⟩ => ⟨S1x451x1024, .f32⟩
  | .hbm, ⟨22, _⟩ => ⟨S1x451x1024, .f32⟩
  | .hbm, ⟨23, _⟩ => ⟨S_, .f32⟩
  | .hbm, ⟨24, _⟩ => ⟨S1x451x1024, .f32⟩
  | .hbm, ⟨25, _⟩ => ⟨S1x451x1024, .f32⟩
  | .hbm, ⟨26, _⟩ => ⟨S_, .f32⟩
  | .hbm, ⟨27, _⟩ => ⟨S1x451x1024, .f32⟩
  | .hbm, ⟨28, _⟩ => ⟨S1x451x1024, .f32⟩
  | .hbm, ⟨29, _⟩ => ⟨S1x451x1024, .f32⟩
  | .hbm, ⟨30, _⟩ => ⟨S_, .f32⟩
  | .hbm, ⟨31, _⟩ => ⟨S1x451x1024, .f32⟩
  | .hbm, ⟨32, _⟩ => ⟨S1x451x1024, .f32⟩
  | .hbm, ⟨33, _⟩ => ⟨S1x451x1024, .f32⟩
  | .hbm, ⟨34, _⟩ => ⟨S_, .f32⟩
  | .hbm, ⟨35, _⟩ => ⟨S1x451x1024, .f32⟩
  | .hbm, ⟨36, _⟩ => ⟨S1x451x1024, .f32⟩
  | .hbm, ⟨37, _⟩ => ⟨S1x451x1024, .f32⟩
  | .hbm, ⟨38, _⟩ => ⟨S_, .f32⟩
  | .hbm, ⟨39, _⟩ => ⟨S1x451x1024, .f32⟩
  | .hbm, ⟨40, _⟩ => ⟨S1x451x1024, .f32⟩
  | _, _ => ⟨S8x451x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel16.lean ====
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S128x1024, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference16Ideal.lean ====
abbrev S8x128x1024 : Shape := ⟨3, ![8, 128, 1024]⟩
abbrev S1x128x1024 : Shape := ⟨3, ![1, 128, 1024]⟩
abbrev S_ : Shape := ⟨0, ![]⟩
abbrev S128x1024 : Shape := ⟨2, ![128, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S1x128x1024, .f32⟩
  | .hbm, ⟨8, _⟩ => ⟨S_, .f32⟩
  | .hbm, ⟨9, _⟩ => ⟨S1x128x1024, .f32⟩
  | .hbm, ⟨10, _⟩ => ⟨S1x128x1024, .f32⟩
  | .hbm, ⟨11, _⟩ => ⟨S_, .f32⟩
  | .hbm, ⟨12, _⟩ => ⟨S1x128x1024, .f32⟩
  | .hbm, ⟨13, _⟩ => ⟨S1x128x1024, .f32⟩
  | .hbm, ⟨14, _⟩ => ⟨S1x128x1024, .f32⟩
  | .hbm, ⟨15, _⟩ => ⟨S_, .f32⟩
  | .hbm, ⟨16, _⟩ => ⟨S1x128x1024, .f32⟩
  | .hbm, ⟨17, _⟩ => ⟨S1x128x1024, .f32⟩
  | .hbm, ⟨18, _⟩ => ⟨S1x128x1024, .f32⟩
  | .hbm, ⟨19, _⟩ => ⟨S_, .f32⟩
  | .hbm, ⟨20, _⟩ => ⟨S1x128x1024, .f32⟩
  | .hbm, ⟨21, _⟩ => ⟨S1x128x1024, .f32⟩
  | .hbm, ⟨22, _⟩ => ⟨S1x128x1024, .f32⟩
  | .hbm, ⟨23, _⟩ => ⟨S_, .f32⟩
  | .hbm, ⟨24, _⟩ => ⟨S1x128x1024, .f32⟩
  | .hbm, ⟨25, _⟩ => ⟨S1x128x1024, .f32⟩
  | .hbm, ⟨26, _⟩ => ⟨S_, .f32⟩
  | .hbm, ⟨27, _⟩ => ⟨S1x128x1024, .f32⟩
  | .hbm, ⟨28, _⟩ => ⟨S1x128x1024, .f32⟩
  | .hbm, ⟨29, _⟩ => ⟨S1x128x1024, .f32⟩
  | .hbm, ⟨30, _⟩ => ⟨S_, .f32⟩
  | .hbm, ⟨31, _⟩ => ⟨S1x128x1024, .f32⟩
  | .hbm, ⟨32, _⟩ => ⟨S1x128x1024, .f32⟩
  | .hbm, ⟨33, _⟩ => ⟨S1x128x1024, .f32⟩
  | .hbm, ⟨34, _⟩ => ⟨S_, .f32⟩
  | .hbm, ⟨35, _⟩ => ⟨S1x128x1024, .f32⟩
  | .hbm, ⟨36, _⟩ => ⟨S1x128x1024, .f32⟩
  | .hbm, ⟨37, _⟩ => ⟨S1x128x1024, .f32⟩
  | .hbm, ⟨38, _⟩ => ⟨S_, .f32⟩
  | .hbm, ⟨39, _⟩ => ⟨S1x128x1024, .f32⟩
  | .hbm, ⟨40, _⟩ => ⟨S1x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel17.lean ====
abbrev S1x1024x768 : Shape := ⟨3, ![1, 1024, 768]⟩
abbrev S1x256x768 : Shape := ⟨3, ![1, 256, 768]⟩

abbrev nBuf : Space → Nat
  | .hbm => 7
  | .vmem => 14
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S1x1024x768, .f32⟩
  | .hbm, ⟨3, _⟩ => ⟨S1x1024x768, .f32⟩
  | .hbm, ⟨4, _⟩ => ⟨S1x1024x768, .f32⟩
  | .hbm, ⟨5, _⟩ => ⟨S1x1024x768, .f32⟩
  | .hbm, ⟨6, _⟩ => ⟨S1x1024x768, .f32⟩
  | .local _ .vmem, ⟨0, _⟩ => ⟨S1x256x768, .f32⟩
  | .local _ .vmem, ⟨1, _⟩ => ⟨S1x256x768, .f32⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | _, _ => ⟨S1x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference17Ideal.lean ====
abbrev S1x1024x768 : Shape := ⟨3, ![1, 1024, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S1x1024x768, .f32⟩
  | .hbm, ⟨3, _⟩ => ⟨S1x1024x768, .f32⟩
  | .hbm, ⟨4, _⟩ => ⟨S_, .f32⟩
  | .hbm, ⟨5, _⟩ => ⟨S1x1024x768, .f32⟩
  | .hbm, ⟨6, _⟩ => ⟨S1x1024x768, .f32⟩
  | .hbm, ⟨7, _⟩ => ⟨S_, .f32⟩
  | .hbm, ⟨8, _⟩ => ⟨S1x1024x768, .f32⟩
  | .hbm, ⟨9, _⟩ => ⟨S1x1024x768, .f32⟩
  | .hbm, ⟨10, _⟩ => ⟨S1x1024x768, .f32⟩
  | .hbm, ⟨11, _⟩ => ⟨S_, .f32⟩
  | .hbm, ⟨12, _⟩ => ⟨S1x1024x768, .f32⟩
  | .hbm, ⟨13, _⟩ => ⟨S1x1024x768, .f32⟩
  | .hbm, ⟨14, _⟩ => ⟨S1x1024x768, .f32⟩
  | .hbm, ⟨15, _⟩ => ⟨S_, .f32⟩
  | .hbm, ⟨16, _⟩ => ⟨S1x1024x768, .f32⟩
  | .hbm, ⟨17, _⟩ => ⟨S1x1024x768, .f32⟩
  | .hbm, ⟨18, _⟩ => ⟨S1x1024x768, .f32⟩
  | .hbm, ⟨19, _⟩ => ⟨S_, .f32⟩
  | .hbm, ⟨20, _⟩ => ⟨S1x1024x768, .f32⟩
  | .hbm, ⟨21, _⟩ => ⟨S1x1024x768, .f32⟩
  | .hbm, ⟨22, _⟩ => ⟨S_, .f32⟩
  | .hbm, ⟨23, _⟩ => ⟨S1x1024x768, .f32⟩
  | .hbm, ⟨24, _⟩ => ⟨S1x1024x768, .f32⟩
  | .hbm, ⟨25, _⟩ => ⟨S1x1024x768, .f32⟩
  | .hbm, ⟨26, _⟩ => ⟨S_, .f32⟩
  | .hbm, ⟨27, _⟩ => ⟨S1x1024x768, .f32⟩
  | .hbm, ⟨28, _⟩ => ⟨S1x1024x768, .f32⟩
  | .hbm, ⟨29, _⟩ => ⟨S1x1024x768, .f32⟩
  | .hbm, ⟨30, _⟩ => ⟨S_, .f32⟩
  | .hbm, ⟨31, _⟩ => ⟨S1x1024x768, .f32⟩
  | .hbm, ⟨32, _⟩ => ⟨S1x1024x768, .f32⟩
  | .hbm, ⟨33, _⟩ => ⟨S1x1024x768, .f32⟩
  | .hbm, ⟨34, _⟩ => ⟨S_, .f32⟩
  | .hbm, ⟨35, _⟩ => ⟨S1x1024x768, .f32⟩
  | .hbm, ⟨36, _⟩ => ⟨S1x1024x768, .f32⟩
  | _, _ => ⟨S1x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S16x1024 : Shape := ⟨2, ![16, 1024]⟩
abbrev S16x6144 : Shape := ⟨2, ![16, 6144]⟩
abbrev S16x768 : Shape := ⟨2, ![16, 768]⟩
abbrev S1024x768 : Shape := ⟨2, ![1024, 768]⟩
abbrev S1x6144 : Shape := ⟨2, ![1, 6144]⟩
abbrev S6144 : Shape := ⟨1, ![6144]⟩

abbrev nBuf : Space → Nat
  | .hbm => 5
  | .vmem => 5
  | .smem => 0
  | _ => 0

abbrev bufTy : (tb : Table) → Fin (tcTables nBuf tb) → BufTy
  | .hbm, ⟨0, _⟩ => ⟨S16x1024, .f32⟩
  | .hbm, ⟨1, _⟩ => ⟨S16x6144, .f32⟩
  | .hbm, ⟨2, _⟩ => ⟨S16x768, .f32⟩
  | .hbm, ⟨3, _⟩ => ⟨S1024x768, .f32⟩
  | .hbm, ⟨4, _⟩ => ⟨S1x6144, .f32⟩
  | .local _ .vmem, ⟨0, _⟩ => ⟨S16x1024, .f32⟩
  | .local _ .vmem, ⟨1, _⟩ => ⟨S16x6144, .f32⟩
  | .local _ .vmem, ⟨2, _⟩ => ⟨S16x768, .f32⟩
  | .local _ .vmem, ⟨3, _⟩ => ⟨S1024x768, .f32⟩
  | .local _ .vmem, ⟨4, _⟩ => ⟨S1x6144, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Reference18Ideal.lean ====
abbrev S16x1024 : Shape := ⟨2, ![16, 1024]⟩
abbrev S16x6144 : Shape := ⟨2, ![16, 6144]⟩
abbrev S16x768 : Shape := ⟨2, ![16, 768]⟩
abbrev S_ : Shape := ⟨0, ![]⟩
abbrev S1024x768 : Shape := ⟨2, ![1024, 768]⟩
abbrev S1x6144 : Shape := ⟨2, ![1, 6144]⟩
abbrev S6144 : Shape := ⟨1, ![6144]⟩
abbrev S768x1024 : Shape := ⟨2, ![768, 1024]⟩

abbrev nBuf : Space → Nat
  | .hbm => 23
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x6144, .f32⟩
  | .hbm, ⟨2, _⟩ => ⟨S16x768, .f32⟩
  | .hbm, ⟨3, _⟩ => ⟨S_, .f32⟩
  | .hbm, ⟨4, _⟩ => ⟨S1024x768, .f32⟩
  | .hbm, ⟨5, _⟩ => ⟨S_, .f32⟩
  | .hbm, ⟨6, _⟩ => ⟨S1x6144, .f32⟩
  | .hbm, ⟨7, _⟩ => ⟨S16x1024, .f32⟩
  | .hbm, ⟨8, _⟩ => ⟨S16x1024, .f32⟩
  | .hbm, ⟨9, _⟩ => ⟨S_, .f32⟩
  | .hbm, ⟨10, _⟩ => ⟨S16x1024, .f32⟩
  | .hbm, ⟨11, _⟩ => ⟨S16x1024, .f32⟩
  | .hbm, ⟨12, _⟩ => ⟨S_, .f32⟩
  | .hbm, ⟨13, _⟩ => ⟨S16x1024, .f32⟩
  | .hbm, ⟨14, _⟩ => ⟨S16x1024, .f32⟩
  | .hbm, ⟨15, _⟩ => ⟨S16x1024, .f32⟩
  | .hbm, ⟨16, _⟩ => ⟨S16x768, .f32⟩
  | .hbm, ⟨17, _⟩ => ⟨S16x6144, .f32⟩
  | .hbm, ⟨18, _⟩ => ⟨S_, .f32⟩
  | .hbm, ⟨19, _⟩ => ⟨S6144, .f32⟩
  | .hbm, ⟨20, _⟩ => ⟨S1x6144, .f32⟩
  | .hbm, ⟨21, _⟩ => ⟨S768x1024, .f32⟩
  | .hbm, ⟨22, _⟩ => ⟨S1024x768, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩

abbrev nD : Nat := 1
abbrev τ : Topo := Topo.v7x

variable {F : FTy → Type} [FloatOps F]
-- ==== Kernel19.lean ====
abbrev S16x1024 : Shape := ⟨2, ![16, 1024]⟩
abbrev S1024x768 : Shape := ⟨2, ![1024, 768]⟩
abbrev S1x768 : Shape := ⟨2, ![1, 768]⟩
abbrev S16x768 : Shape := ⟨2, ![16, 768]⟩

abbrev nBuf : Space → Nat
  | .hbm => 4
  | .vmem => 4
  | .smem => 0
  | _ => 0

abbrev bufTy : (tb : Table) → Fin (tcTables nBuf tb) → BufTy
  | .hbm, ⟨0, _⟩ => ⟨S16x1024, .f32⟩
  | .hbm, ⟨1, _⟩ => ⟨S1024x768, .f32⟩
  | .hbm, ⟨2, _⟩ => ⟨S1x768, .f32⟩
  | .hbm, ⟨3, _⟩ => ⟨S16x768, .f32⟩
  | .local _ .vmem, ⟨0, _⟩ => ⟨S16x1024, .f32⟩
  | .local _ .vmem, ⟨1, _⟩ => ⟨S1024x768, .f32⟩
  | .local _ .vmem, ⟨2, _⟩ => ⟨S1x768, .f32⟩
  | .local _ .vmem, ⟨3, _⟩ => ⟨S16x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Reference19Ideal.lean ====
abbrev S16x1024 : Shape := ⟨2, ![16, 1024]⟩
abbrev S1024x768 : Shape := ⟨2, ![1024, 768]⟩
abbrev S1x768 : Shape := ⟨2, ![1, 768]⟩
abbrev S_ : Shape := ⟨0, ![]⟩
abbrev S16x768 : Shape := ⟨2, ![16, 768]⟩
abbrev S768 : Shape := ⟨1, ![768]⟩

abbrev nBuf : Space → Nat
  | .hbm => 17
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024x768, .f32⟩
  | .hbm, ⟨2, _⟩ => ⟨S1x768, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x768, .f32⟩
  | .hbm, ⟨13, _⟩ => ⟨S768, .f32⟩
  | .hbm, ⟨14, _⟩ => ⟨S1x768, .f32⟩
  | .hbm, ⟨15, _⟩ => ⟨S16x768, .f32⟩
  | .hbm, ⟨16, _⟩ => ⟨S16x768, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel20.lean ====
abbrev S8x408x128 : Shape := ⟨3, ![8, 408, 128]⟩
abbrev S408x128 : Shape := ⟨2, ![408, 128]⟩
abbrev S1x408x128 : Shape := ⟨3, ![1, 408, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x408x128, .f32⟩
  | .hbm, ⟨1, _⟩ => ⟨S408x128, .f32⟩
  | .local _ .vmem, ⟨0, _⟩ => ⟨S8x408x128, .f32⟩
  | .local _ .vmem, ⟨1, _⟩ => ⟨S408x128, .f32⟩
  | _, _ => ⟨S8x408x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x408x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S408x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference20Ideal.lean ====
abbrev S8x408x128 : Shape := ⟨3, ![8, 408, 128]⟩
abbrev S_ : Shape := ⟨0, ![]⟩
abbrev S408x128 : Shape := ⟨2, ![408, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x408x128, .f32⟩
  | .hbm, ⟨1, _⟩ => ⟨S_, .f32⟩
  | .hbm, ⟨2, _⟩ => ⟨S408x128, .f32⟩
  | _, _ => ⟨S8x408x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel21.lean ====
abbrev S2x2048x1024 : Shape := ⟨3, ![2, 2048, 1024]⟩
abbrev S1x1024 : Shape := ⟨2, ![1, 1024]⟩
abbrev S2x1x1024 : Shape := ⟨3, ![2, 1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 11
  | .vmem => 18
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .bf16⟩
  | .hbm, ⟨2, _⟩ => ⟨S2x2048x1024, .f32⟩
  | .hbm, ⟨3, _⟩ => ⟨S1x1024, .f32⟩
  | .hbm, ⟨4, _⟩ => ⟨S1x1024, .f32⟩
  | .hbm, ⟨5, _⟩ => ⟨S2x1x1024, .f32⟩
  | .hbm, ⟨6, _⟩ => ⟨S2x2048x1024, .f32⟩
  | .hbm, ⟨7, _⟩ => ⟨S2x1x1024, .f32⟩
  | .hbm, ⟨8, _⟩ => ⟨S2x1x1024, .f32⟩
  | .hbm, ⟨9, _⟩ => ⟨S1x1024, .f32⟩
  | .hbm, ⟨10, _⟩ => ⟨S1x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .f32⟩
  | .local _ .vmem, ⟨5, _⟩ => ⟨S1x512x1024, .f32⟩
  | .local _ .vmem, ⟨6, _⟩ => ⟨S1x1024, .f32⟩
  | .local _ .vmem, ⟨7, _⟩ => ⟨S1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1024, .f32⟩
  | .local _ .vmem, ⟨17, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== Reference21Ideal.lean ====
abbrev S2x2048x1024 : Shape := ⟨3, ![2, 2048, 1024]⟩
abbrev S1x1024 : Shape := ⟨2, ![1, 1024]⟩
abbrev S2x1x1024 : Shape := ⟨3, ![2, 1, 1024]⟩
abbrev S_ : Shape := ⟨0, ![]⟩
abbrev S2x2048 : Shape := ⟨2, ![2, 2048]⟩
abbrev S2x2048x1 : Shape := ⟨3, ![2, 2048, 1]⟩
abbrev S1024 : Shape := ⟨1, ![1024]⟩
abbrev S1x1x1024 : Shape := ⟨3, ![1, 1, 1024]⟩

abbrev nBuf : Space → Nat
  | .hbm => 65
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .bf16⟩
  | .hbm, ⟨2, _⟩ => ⟨S2x2048x1024, .f32⟩
  | .hbm, ⟨3, _⟩ => ⟨S1x1024, .f32⟩
  | .hbm, ⟨4, _⟩ => ⟨S1x1024, .f32⟩
  | .hbm, ⟨5, _⟩ => ⟨S2x1x1024, .f32⟩
  | .hbm, ⟨6, _⟩ => ⟨S_, .f32⟩
  | .hbm, ⟨7, _⟩ => ⟨S2x2048, .f32⟩
  | .hbm, ⟨8, _⟩ => ⟨S2x2048x1, .f32⟩
  | .hbm, ⟨9, _⟩ => ⟨S_, .f32⟩
  | .hbm, ⟨10, _⟩ => ⟨S2x2048x1, .f32⟩
  | .hbm, ⟨11, _⟩ => ⟨S2x2048x1, .f32⟩
  | .hbm, ⟨12, _⟩ => ⟨S2x2048x1024, .f32⟩
  | .hbm, ⟨13, _⟩ => ⟨S2x2048x1024, .f32⟩
  | .hbm, ⟨14, _⟩ => ⟨S2x2048x1024, .f32⟩
  | .hbm, ⟨15, _⟩ => ⟨S_, .f32⟩
  | .hbm, ⟨16, _⟩ => ⟨S2x2048, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S2x2048x1024, .f32⟩
  | .hbm, ⟨22, _⟩ => ⟨S2x2048x1024, .f32⟩
  | .hbm, ⟨23, _⟩ => ⟨S_, .f32⟩
  | .hbm, ⟨24, _⟩ => ⟨S2x2048x1, .f32⟩
  | .hbm, ⟨25, _⟩ => ⟨S2x2048x1, .f32⟩
  | .hbm, ⟨26, _⟩ => ⟨S2x2048x1, .f32⟩
  | .hbm, ⟨27, _⟩ => ⟨S2x2048x1024, .f32⟩
  | .hbm, ⟨28, _⟩ => ⟨S2x2048x1024, .f32⟩
  | .hbm, ⟨29, _⟩ => ⟨S1024, .f32⟩
  | .hbm, ⟨30, _⟩ => ⟨S1x1x1024, .f32⟩
  | .hbm, ⟨31, _⟩ => ⟨S2x2048x1024, .f32⟩
  | .hbm, ⟨32, _⟩ => ⟨S2x2048x1024, .f32⟩
  | .hbm, ⟨33, _⟩ => ⟨S1024, .f32⟩
  | .hbm, ⟨34, _⟩ => ⟨S1x1x1024, .f32⟩
  | .hbm, ⟨35, _⟩ => ⟨S2x2048x1024, .f32⟩
  | .hbm, ⟨36, _⟩ => ⟨S2x2048x1024, .f32⟩
  | .hbm, ⟨37, _⟩ => ⟨S_, .f32⟩
  | .hbm, ⟨38, _⟩ => ⟨S2x2048x1024, .f32⟩
  | .hbm, ⟨39, _⟩ => ⟨S2x2048x1024, .f32⟩
  | .hbm, ⟨40, _⟩ => ⟨S_, .f32⟩
  | .hbm, ⟨41, _⟩ => ⟨S2x1x1024, .f32⟩
  | .hbm, ⟨42, _⟩ => ⟨S2x1x1024, .f32⟩
  | .hbm, ⟨43, _⟩ => ⟨S2x2048x1024, .f32⟩
  | .hbm, ⟨44, _⟩ => ⟨S2x2048x1024, .f32⟩
  | .hbm, ⟨45, _⟩ => ⟨S2x2048x1024, .f32⟩
  | .hbm, ⟨46, _⟩ => ⟨S2x2048x1024, .f32⟩
  | .hbm, ⟨47, _⟩ => ⟨S2x2048x1024, .f32⟩
  | .hbm, ⟨48, _⟩ => ⟨S_, .f32⟩
  | .hbm, ⟨49, _⟩ => ⟨S2x2048x1024, .f32⟩
  | .hbm, ⟨50, _⟩ => ⟨S2x2048x1024, .f32⟩
  | .hbm, ⟨51, _⟩ => ⟨S2x2048x1024, .f32⟩
  | .hbm, ⟨52, _⟩ => ⟨S_, .f32⟩
  | .hbm, ⟨53, _⟩ => ⟨S1024, .f32⟩
  | .hbm, ⟨54, _⟩ => ⟨S1x1x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S2x2048x1024, .f32⟩
  | .hbm, ⟨59, _⟩ => ⟨S_, .f32⟩
  | .hbm, ⟨60, _⟩ => ⟨S1024, .f32⟩
  | .hbm, ⟨61, _⟩ => ⟨S1x1x1024, .f32⟩
  | .hbm, ⟨62, _⟩ => ⟨S_, .f32⟩
  | .hbm, ⟨63, _⟩ => ⟨S1024, .f32⟩
  | .hbm, ⟨64, _⟩ => ⟨S1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩

abbrev nD : Nat := 1
abbrev τ : Topo := Topo.v7x

variable {F : FTy → Type} [FloatOps F]
-- ==== Kernel22.lean ====
abbrev S2x2048x1024 : Shape := ⟨3, ![2, 2048, 1024]⟩
abbrev S1x1024 : Shape := ⟨2, ![1, 1024]⟩
abbrev S2x1x1024 : Shape := ⟨3, ![2, 1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 15
  | .vmem => 26
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .bf16⟩
  | .hbm, ⟨2, _⟩ => ⟨S2x2048x1024, .f32⟩
  | .hbm, ⟨3, _⟩ => ⟨S1x1024, .f32⟩
  | .hbm, ⟨4, _⟩ => ⟨S1x1024, .f32⟩
  | .hbm, ⟨5, _⟩ => ⟨S2x1x1024, .f32⟩
  | .hbm, ⟨6, _⟩ => ⟨S2x2048x1024, .bf16⟩
  | .hbm, ⟨7, _⟩ => ⟨S2x1x1024, .f32⟩
  | .hbm, ⟨8, _⟩ => ⟨S2x2048x1024, .f32⟩
  | .hbm, ⟨9, _⟩ => ⟨S2x1x1024, .f32⟩
  | .hbm, ⟨10, _⟩ => ⟨S2x1x1024, .f32⟩
  | .hbm, ⟨11, _⟩ => ⟨S1x1024, .f32⟩
  | .hbm, ⟨12, _⟩ => ⟨S1x1024, .f32⟩
  | .hbm, ⟨13, _⟩ => ⟨S2x2048x1024, .bf16⟩
  | .hbm, ⟨14, _⟩ => ⟨S2x1x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .f32⟩
  | .local _ .vmem, ⟨5, _⟩ => ⟨S1x512x1024, .f32⟩
  | .local _ .vmem, ⟨6, _⟩ => ⟨S1x1024, .f32⟩
  | .local _ .vmem, ⟨7, _⟩ => ⟨S1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x512x1024, .bf16⟩
  | .local _ .vmem, ⟨11, _⟩ => ⟨S1x512x1024, .bf16⟩
  | .local _ .vmem, ⟨12, _⟩ => ⟨S1x1x1024, .f32⟩
  | .local _ .vmem, ⟨13, _⟩ => ⟨S1x1x1024, .f32⟩
  | .local _ .vmem, ⟨14, _⟩ => ⟨S1x512x1024, .f32⟩
  | .local _ .vmem, ⟨15, _⟩ => ⟨S1x512x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1024, .f32⟩
  | .local _ .vmem, ⟨21, _⟩ => ⟨S1x1024, .f32⟩
  | .local _ .vmem, ⟨22, _⟩ => ⟨S1x512x1024, .bf16⟩
  | .local _ .vmem, ⟨23, _⟩ => ⟨S1x512x1024, .bf16⟩
  | .local _ .vmem, ⟨24, _⟩ => ⟨S1x1x1024, .f32⟩
  | .local _ .vmem, ⟨25, _⟩ => ⟨S1x1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== Reference22Ideal.lean ====
abbrev S2x2048x1024 : Shape := ⟨3, ![2, 2048, 1024]⟩
abbrev S1x1024 : Shape := ⟨2, ![1, 1024]⟩
abbrev S2x1x1024 : Shape := ⟨3, ![2, 1, 1024]⟩
abbrev S_ : Shape := ⟨0, ![]⟩
abbrev S2x2048 : Shape := ⟨2, ![2, 2048]⟩
abbrev S2x2048x1 : Shape := ⟨3, ![2, 2048, 1]⟩
abbrev S1024 : Shape := ⟨1, ![1024]⟩
abbrev S1x1x1024 : Shape := ⟨3, ![1, 1, 1024]⟩

abbrev nBuf : Space → Nat
  | .hbm => 67
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .bf16⟩
  | .hbm, ⟨2, _⟩ => ⟨S2x2048x1024, .f32⟩
  | .hbm, ⟨3, _⟩ => ⟨S1x1024, .f32⟩
  | .hbm, ⟨4, _⟩ => ⟨S1x1024, .f32⟩
  | .hbm, ⟨5, _⟩ => ⟨S2x1x1024, .f32⟩
  | .hbm, ⟨6, _⟩ => ⟨S2x2048x1024, .bf16⟩
  | .hbm, ⟨7, _⟩ => ⟨S2x1x1024, .f32⟩
  | .hbm, ⟨8, _⟩ => ⟨S_, .f32⟩
  | .hbm, ⟨9, _⟩ => ⟨S2x2048, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S2x2048x1024, .f32⟩
  | .hbm, ⟨15, _⟩ => ⟨S2x2048x1024, .f32⟩
  | .hbm, ⟨16, _⟩ => ⟨S2x2048x1024, .f32⟩
  | .hbm, ⟨17, _⟩ => ⟨S_, .f32⟩
  | .hbm, ⟨18, _⟩ => ⟨S2x2048, .f32⟩
  | .hbm, ⟨19, _⟩ => ⟨S2x2048x1, .f32⟩
  | .hbm, ⟨20, _⟩ => ⟨S_, .f32⟩
  | .hbm, ⟨21, _⟩ => ⟨S2x2048x1, .f32⟩
  | .hbm, ⟨22, _⟩ => ⟨S2x2048x1, .f32⟩
  | .hbm, ⟨23, _⟩ => ⟨S2x2048x1024, .f32⟩
  | .hbm, ⟨24, _⟩ => ⟨S2x2048x1024, .f32⟩
  | .hbm, ⟨25, _⟩ => ⟨S_, .f32⟩
  | .hbm, ⟨26, _⟩ => ⟨S2x2048x1, .f32⟩
  | .hbm, ⟨27, _⟩ => ⟨S2x2048x1, .f32⟩
  | .hbm, ⟨28, _⟩ => ⟨S2x2048x1, .f32⟩
  | .hbm, ⟨29, _⟩ => ⟨S2x2048x1024, .f32⟩
  | .hbm, ⟨30, _⟩ => ⟨S2x2048x1024, .f32⟩
  | .hbm, ⟨31, _⟩ => ⟨S1024, .f32⟩
  | .hbm, ⟨32, _⟩ => ⟨S1x1x1024, .f32⟩
  | .hbm, ⟨33, _⟩ => ⟨S2x2048x1024, .f32⟩
  | .hbm, ⟨34, _⟩ => ⟨S2x2048x1024, .f32⟩
  | .hbm, ⟨35, _⟩ => ⟨S1024, .f32⟩
  | .hbm, ⟨36, _⟩ => ⟨S1x1x1024, .f32⟩
  | .hbm, ⟨37, _⟩ => ⟨S2x2048x1024, .f32⟩
  | .hbm, ⟨38, _⟩ => ⟨S2x2048x1024, .f32⟩
  | .hbm, ⟨39, _⟩ => ⟨S_, .f32⟩
  | .hbm, ⟨40, _⟩ => ⟨S2x2048x1024, .f32⟩
  | .hbm, ⟨41, _⟩ => ⟨S2x2048x1024, .f32⟩
  | .hbm, ⟨42, _⟩ => ⟨S_, .f32⟩
  | .hbm, ⟨43, _⟩ => ⟨S2x1x1024, .f32⟩
  | .hbm, ⟨44, _⟩ => ⟨S2x1x1024, .f32⟩
  | .hbm, ⟨45, _⟩ => ⟨S2x2048x1024, .f32⟩
  | .hbm, ⟨46, _⟩ => ⟨S2x2048x1024, .f32⟩
  | .hbm, ⟨47, _⟩ => ⟨S2x2048x1024, .f32⟩
  | .hbm, ⟨48, _⟩ => ⟨S2x2048x1024, .f32⟩
  | .hbm, ⟨49, _⟩ => ⟨S2x2048x1024, .f32⟩
  | .hbm, ⟨50, _⟩ => ⟨S_, .f32⟩
  | .hbm, ⟨51, _⟩ => ⟨S2x2048x1024, .f32⟩
  | .hbm, ⟨52, _⟩ => ⟨S2x2048x1024, .f32⟩
  | .hbm, ⟨53, _⟩ => ⟨S2x2048x1024, .f32⟩
  | .hbm, ⟨54, _⟩ => ⟨S_, .f32⟩
  | .hbm, ⟨55, _⟩ => ⟨S1024, .f32⟩
  | .hbm, ⟨56, _⟩ => ⟨S1x1x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S2x2048x1024, .f32⟩
  | .hbm, ⟨61, _⟩ => ⟨S_, .f32⟩
  | .hbm, ⟨62, _⟩ => ⟨S1024, .f32⟩
  | .hbm, ⟨63, _⟩ => ⟨S1x1x1024, .f32⟩
  | .hbm, ⟨64, _⟩ => ⟨S_, .f32⟩
  | .hbm, ⟨65, _⟩ => ⟨S1024, .f32⟩
  | .hbm, ⟨66, _⟩ => ⟨S1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_cst_10 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]
-- ==== Kernel23.lean ====
abbrev S2x2048x1024 : Shape := ⟨3, ![2, 2048, 1024]⟩
abbrev S2x1x1024 : Shape := ⟨3, ![2, 1, 1024]⟩
abbrev S1x1024 : Shape := ⟨2, ![1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S_ : Shape := ⟨0, ![]⟩

abbrev nBuf : Space → Nat
  | .hbm => 18
  | .vmem => 21
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .bf16⟩
  | .hbm, ⟨2, _⟩ => ⟨S2x1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S2x2048x1024, .f32⟩
  | .hbm, ⟨8, _⟩ => ⟨S1x1024, .f32⟩
  | .hbm, ⟨9, _⟩ => ⟨S2x2048x1024, .f32⟩
  | .hbm, ⟨10, _⟩ => ⟨S2x2048x1024, .bf16⟩
  | .hbm, ⟨11, _⟩ => ⟨S2x1x1024, .f32⟩
  | .hbm, ⟨12, _⟩ => ⟨S1x1024, .f32⟩
  | .hbm, ⟨13, _⟩ => ⟨S1x1024, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .bf16⟩
  | .local _ .vmem, ⟨16, _⟩ => ⟨S1x512x1024, .bf16⟩
  | .local _ .vmem, ⟨17, _⟩ => ⟨S1x1x1024, .f32⟩
  | .local _ .vmem, ⟨18, _⟩ => ⟨S1x1x1024, .f32⟩
  | .local _ .vmem, ⟨19, _⟩ => ⟨S1x1024, .f32⟩
  | .local _ .vmem, ⟨20, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_cst : Ref sig .tc := ⟨.hbm, 14, rfl⟩
abbrev main_v1 : Ref sig .tc := ⟨.hbm, 15, rfl⟩
abbrev main_cst_0 : Ref sig .tc := ⟨.hbm, 16, rfl⟩
abbrev main_v2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== Reference23Ideal.lean ====
abbrev S2x2048x1024 : Shape := ⟨3, ![2, 2048, 1024]⟩
abbrev S2x1x1024 : Shape := ⟨3, ![2, 1, 1024]⟩
abbrev S1x1024 : Shape := ⟨2, ![1, 1024]⟩
abbrev S_ : Shape := ⟨0, ![]⟩
abbrev S2x2048 : Shape := ⟨2, ![2, 2048]⟩
abbrev S2x2048x1 : Shape := ⟨3, ![2, 2048, 1]⟩
abbrev S1024 : Shape := ⟨1, ![1024]⟩
abbrev S1x1x1024 : Shape := ⟨3, ![1, 1, 1024]⟩

abbrev nBuf : Space → Nat
  | .hbm => 116
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .bf16⟩
  | .hbm, ⟨2, _⟩ => ⟨S2x1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S2x2048x1024, .f32⟩
  | .hbm, ⟨8, _⟩ => ⟨S_, .f32⟩
  | .hbm, ⟨9, _⟩ => ⟨S2x2048, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S2x2048x1024, .f32⟩
  | .hbm, ⟨15, _⟩ => ⟨S2x2048x1024, .f32⟩
  | .hbm, ⟨16, _⟩ => ⟨S2x2048x1024, .f32⟩
  | .hbm, ⟨17, _⟩ => ⟨S_, .f32⟩
  | .hbm, ⟨18, _⟩ => ⟨S2x2048, .f32⟩
  | .hbm, ⟨19, _⟩ => ⟨S2x2048x1, .f32⟩
  | .hbm, ⟨20, _⟩ => ⟨S_, .f32⟩
  | .hbm, ⟨21, _⟩ => ⟨S2x2048x1, .f32⟩
  | .hbm, ⟨22, _⟩ => ⟨S2x2048x1, .f32⟩
  | .hbm, ⟨23, _⟩ => ⟨S2x2048x1024, .f32⟩
  | .hbm, ⟨24, _⟩ => ⟨S2x2048x1024, .f32⟩
  | .hbm, ⟨25, _⟩ => ⟨S_, .f32⟩
  | .hbm, ⟨26, _⟩ => ⟨S2x2048x1, .f32⟩
  | .hbm, ⟨27, _⟩ => ⟨S2x2048x1, .f32⟩
  | .hbm, ⟨28, _⟩ => ⟨S2x2048x1, .f32⟩
  | .hbm, ⟨29, _⟩ => ⟨S2x2048x1024, .f32⟩
  | .hbm, ⟨30, _⟩ => ⟨S2x2048x1024, .f32⟩
  | .hbm, ⟨31, _⟩ => ⟨S1024, .f32⟩
  | .hbm, ⟨32, _⟩ => ⟨S1x1x1024, .f32⟩
  | .hbm, ⟨33, _⟩ => ⟨S2x2048x1024, .f32⟩
  | .hbm, ⟨34, _⟩ => ⟨S2x2048x1024, .f32⟩
  | .hbm, ⟨35, _⟩ => ⟨S1024, .f32⟩
  | .hbm, ⟨36, _⟩ => ⟨S1x1x1024, .f32⟩
  | .hbm, ⟨37, _⟩ => ⟨S2x2048x1024, .f32⟩
  | .hbm, ⟨38, _⟩ => ⟨S2x2048x1024, .f32⟩
  | .hbm, ⟨39, _⟩ => ⟨S_, .f32⟩
  | .hbm, ⟨40, _⟩ => ⟨S2x2048x1024, .f32⟩
  | .hbm, ⟨41, _⟩ => ⟨S2x2048x1024, .f32⟩
  | .hbm, ⟨42, _⟩ => ⟨S_, .f32⟩
  | .hbm, ⟨43, _⟩ => ⟨S2x1x1024, .f32⟩
  | .hbm, ⟨44, _⟩ => ⟨S2x1x1024, .f32⟩
  | .hbm, ⟨45, _⟩ => ⟨S2x2048x1024, .f32⟩
  | .hbm, ⟨46, _⟩ => ⟨S2x2048x1024, .f32⟩
  | .hbm, ⟨47, _⟩ => ⟨S2x2048x1024, .f32⟩
  | .hbm, ⟨48, _⟩ => ⟨S2x2048x1024, .f32⟩
  | .hbm, ⟨49, _⟩ => ⟨S_, .f32⟩
  | .hbm, ⟨50, _⟩ => ⟨S2x2048, .f32⟩
  | .hbm, ⟨51, _⟩ => ⟨S2x2048x1, .f32⟩
  | .hbm, ⟨52, _⟩ => ⟨S_, .f32⟩
  | .hbm, ⟨53, _⟩ => ⟨S2x2048x1, .f32⟩
  | .hbm, ⟨54, _⟩ => ⟨S2x2048x1, .f32⟩
  | .hbm, ⟨55, _⟩ => ⟨S2x2048x1024, .f32⟩
  | .hbm, ⟨56, _⟩ => ⟨S2x2048x1024, .f32⟩
  | .hbm, ⟨57, _⟩ => ⟨S2x2048x1024, .f32⟩
  | .hbm, ⟨58, _⟩ => ⟨S_, .f32⟩
  | .hbm, ⟨59, _⟩ => ⟨S2x2048, .f32⟩
  | .hbm, ⟨60, _⟩ => ⟨S2x2048x1, .f32⟩
  | .hbm, ⟨61, _⟩ => ⟨S_, .f32⟩
  | .hbm, ⟨62, _⟩ => ⟨S2x2048x1, .f32⟩
  | .hbm, ⟨63, _⟩ => ⟨S2x2048x1, .f32⟩
  | .hbm, ⟨64, _⟩ => ⟨S2x2048x1024, .f32⟩
  | .hbm, ⟨65, _⟩ => ⟨S2x2048x1024, .f32⟩
  | .hbm, ⟨66, _⟩ => ⟨S_, .f32⟩
  | .hbm, ⟨67, _⟩ => ⟨S2x2048x1, .f32⟩
  | .hbm, ⟨68, _⟩ => ⟨S2x2048x1, .f32⟩
  | .hbm, ⟨69, _⟩ => ⟨S2x2048x1, .f32⟩
  | .hbm, ⟨70, _⟩ => ⟨S2x2048x1024, .f32⟩
  | .hbm, ⟨71, _⟩ => ⟨S2x2048x1024, .f32⟩
  | .hbm, ⟨72, _⟩ => ⟨S1024, .f32⟩
  | .hbm, ⟨73, _⟩ => ⟨S1x1x1024, .f32⟩
  | .hbm, ⟨74, _⟩ => ⟨S2x2048x1024, .f32⟩
  | .hbm, ⟨75, _⟩ => ⟨S2x2048x1024, .f32⟩
  | .hbm, ⟨76, _⟩ => ⟨S1024, .f32⟩
  | .hbm, ⟨77, _⟩ => ⟨S1x1x1024, .f32⟩
  | .hbm, ⟨78, _⟩ => ⟨S2x2048x1024, .f32⟩
  | .hbm, ⟨79, _⟩ => ⟨S2x2048x1024, .f32⟩
  | .hbm, ⟨80, _⟩ => ⟨S2x2048x1024, .f32⟩
  | .hbm, ⟨81, _⟩ => ⟨S2x2048x1024, .f32⟩
  | .hbm, ⟨82, _⟩ => ⟨S_, .f32⟩
  | .hbm, ⟨83, _⟩ => ⟨S2x2048x1024, .f32⟩
  | .hbm, ⟨84, _⟩ => ⟨S2x2048x1024, .f32⟩
  | .hbm, ⟨85, _⟩ => ⟨S_, .f32⟩
  | .hbm, ⟨86, _⟩ => ⟨S2x2048, .f32⟩
  | .hbm, ⟨87, _⟩ => ⟨S_, .f32⟩
  | .hbm, ⟨88, _⟩ => ⟨S2x2048, .f32⟩
  | .hbm, ⟨89, _⟩ => ⟨S2x2048, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S2x2048, .f32⟩
  | .hbm, ⟨98, _⟩ => ⟨S_, .f32⟩
  | .hbm, ⟨99, _⟩ => ⟨S2x2048, .f32⟩
  | .hbm, ⟨100, _⟩ => ⟨S2x2048, .f32⟩
  | .hbm, ⟨101, _⟩ => ⟨S2x2048x1024, .f32⟩
  | .hbm, ⟨102, _⟩ => ⟨S2x2048x1024, .f32⟩
  | .hbm, ⟨103, _⟩ => ⟨S_, .f32⟩
  | .hbm, ⟨104, _⟩ => ⟨S1024, .f32⟩
  | .hbm, ⟨105, _⟩ => ⟨S1x1x1024, .f32⟩
  | .hbm, ⟨106, _⟩ => ⟨S_, .f32⟩
  | .hbm, ⟨107, _⟩ => ⟨S1024, .f32⟩
  | .hbm, ⟨108, _⟩ => ⟨S1x1024, .f32⟩
  | .hbm, ⟨109, _⟩ => ⟨S2x2048x1024, .f32⟩
  | .hbm, ⟨110, _⟩ => ⟨S_, .f32⟩
  | .hbm, ⟨111, _⟩ => ⟨S1024, .f32⟩
  | .hbm, ⟨112, _⟩ => ⟨S1x1x1024, .f32⟩
  | .hbm, ⟨113, _⟩ => ⟨S_, .f32⟩
  | .hbm, ⟨114, _⟩ => ⟨S1024, .f32⟩
  | .hbm, ⟨115, _⟩ => ⟨S1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_10 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_11 : Ref sig .tc := ⟨.hbm, 82, rfl⟩
abbrev main_v62 : Ref sig .tc := ⟨.hbm, 83, rfl⟩
abbrev main_v63 : Ref sig .tc := ⟨.hbm, 84, rfl⟩
abbrev main_cst_12 : Ref sig .tc := ⟨.hbm, 85, rfl⟩
abbrev main_v64 : Ref sig .tc := ⟨.hbm, 86, rfl⟩
abbrev main_cst_13 : Ref sig .tc := ⟨.hbm, 87, rfl⟩
abbrev main_v65 : Ref sig .tc := ⟨.hbm, 88, rfl⟩
abbrev main_v66 : Ref sig .tc := ⟨.hbm, 89, rfl⟩
abbrev main_cst_14 : Ref sig .tc := ⟨.hbm, 90, rfl⟩
abbrev main_v67 : Ref sig .tc := ⟨.hbm, 91, rfl⟩
abbrev main_cst_15 : Ref sig .tc := ⟨.hbm, 92, rfl⟩
abbrev main_v68 : Ref sig .tc := ⟨.hbm, 93, rfl⟩
abbrev main_cst_16 : Ref sig .tc := ⟨.hbm, 94, rfl⟩
abbrev main_cst_17 : Ref sig .tc := ⟨.hbm, 95, rfl⟩
abbrev main_v69 : Ref sig .tc := ⟨.hbm, 96, rfl⟩
abbrev main_v70 : Ref sig .tc := ⟨.hbm, 97, rfl⟩
abbrev main_cst_18 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_19 : Ref sig .tc := ⟨.hbm, 103, rfl⟩
abbrev main_v75 : Ref sig .tc := ⟨.hbm, 104, rfl⟩
abbrev main_v76 : Ref sig .tc := ⟨.hbm, 105, rfl⟩
abbrev main_cst_20 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_21 : Ref sig .tc := ⟨.hbm, 110, rfl⟩
abbrev main_v80 : Ref sig .tc := ⟨.hbm, 111, rfl⟩
abbrev main_v81 : Ref sig .tc := ⟨.hbm, 112, rfl⟩
abbrev main_cst_22 : Ref sig .tc := ⟨.hbm, 113, rfl⟩
abbrev main_v82 : Ref sig .tc := ⟨.hbm, 114, rfl⟩
abbrev main_v83 : Ref sig .tc := ⟨.hbm, 115, rfl⟩

abbrev nD : Nat := 1
abbrev τ : Topo := Topo.v7x

variable {F : FTy → Type} [FloatOps F]
-- ==== Proof.Chunk.lean ====
/-
  One chunk of the gated linear attention's backward pass, for one sequence and one head, as functions of a row of the
  chunk and a channel: what the chunk's gradients of `k` and `v` are, and what it hands to the chunk before it.
-/
module

public import Idealize.ShloMosaic.Lib.Pointwise

@[expose] public section

noncomputable section

namespace Cert.Chunk

open Idealize.ShloMosaic

/-- A chunk's array at one head: 64 rows of 128 channels. -/
abbrev Rows := Fin 64 → Fin 128 → EReal

/-- The log decays summed up to and including row `t`. -/
def cum (l : Rows) (t : Fin 64) (d : Fin 128) : EReal := ∑ s : Fin 64, if s.val ≤ t.val then l s d else 0

/-- The log decays summed over the whole chunk. -/
def tot (l : Rows) (d : Fin 128) : EReal := ∑ s : Fin 64, l s d

/-- The query times the decay since the chunk's start. -/
def qdec (q b : Rows) (t : Fin 64) (d : Fin 128) : EReal := q t d * Ideal.exp (b t d)

/-- The attention weight of row `t` for a later row `s`. -/
def attn (q k b : Rows) (s t : Fin 64) : EReal :=
  ∑ d : Fin 128, qdec q b s d * (k t d * Ideal.exp (0 - b t d))

/-- The gradient of `v`: through the state the chunk hands on, and through the attention of the rows from `t` on. -/
def gradV (q k g b : Rows) (w : Fin 128 → EReal) (S : Fin 128 → Fin 128 → EReal) (t : Fin 64) (e : Fin 128) : EReal :=
  (∑ d : Fin 128, S d e * (k t d * Ideal.exp (w d - b t d)))
    + ∑ s : Fin 64, if t.val ≤ s.val then g s e * attn q k b s t else 0

/-- The gradient of `k`: through the state the chunk hands on, and through the attention of the rows from `t` on. -/
def gradK (q v g b : Rows) (w : Fin 128 → EReal) (S : Fin 128 → Fin 128 → EReal) (t : Fin 64) (d : Fin 128) : EReal :=
  (∑ e : Fin 128, S d e * v t e) * Ideal.exp (w d - b t d)
    + (∑ s : Fin 64, if t.val ≤ s.val then (∑ e : Fin 128, g s e * v t e) * qdec q b s d else 0) * Ideal.exp (0 - b t d)

/-- The gradient of the state the chunk starts from. -/
def gradS (q g b : Rows) (w : Fin 128 → EReal) (S : Fin 128 → Fin 128 → EReal) (d e : Fin 128) : EReal :=
  S d e * Ideal.exp (w d) + ∑ s : Fin 64, g s e * qdec q b s d

/-- Channel `d` of head `h` among the 512 channels of four heads. -/
def lane (h : Fin 4) (d : Fin 128) : Fin 512 :=
  match h with
  | 0 => ⟨d.val, by omega⟩
  | 1 => ⟨128 + d.val, by omega⟩
  | 2 => ⟨256 + d.val, by omega⟩
  | 3 => ⟨384 + d.val, by omega⟩

theorem lane_val (h : Fin 4) (d : Fin 128) : (lane h d).val = 128 * h.val + d.val := by
  fin_cases h <;> simp [lane]

/-- Every channel is some head's. -/
theorem lane_surj (j : Fin 512) : ∃ h d, j = lane h d :=
  ⟨⟨j.val / 128, by omega⟩, ⟨j.val % 128, by omega⟩, Fin.ext (by rw [lane_val]; dsimp only; omega)⟩

/-- What the three-way split of a factor that isn't `⊤` gives back when a mask of zeros and ones multiplies it. -/
theorem split_mask (p : Prop) [Decidable p] (x : EReal) (hx : x ≠ ⊤) :
    (if p then (1 : EReal) else 0) * x
      + ((if p then (1 : EReal) else 0) * (x - x) + (if p then (1 : EReal) else 0) * (x - x - (x - x))) = if p then x else 0 := by
  by_cases h : p
  · simp only [if_pos h, one_mul]
    induction x with
    | bot => rw [EReal.bot_add]
    | top => exact absurd rfl hx
    | coe r => norm_cast; simp
  · simp only [if_neg h, zero_mul, add_zero]

/-- The causal comparison, of the program's words. -/
theorem sge_of (s t : Fin 64) :
    IntOp.cmpi CmpIPredicate.sge (BitVec.ofNat 32 s.val) (BitVec.ofNat 32 t.val) = if t.val ≤ s.val then 1#1 else 0#1 := by
  revert s t
  decide +kernel

theorem select_sge (s t : Fin 64) (x y : EReal) :
    Scalar.select (IntOp.cmpi CmpIPredicate.sge (BitVec.ofNat 32 s.val) (BitVec.ofNat 32 t.val)) x y = if t.val ≤ s.val then x else y := by
  rw [sge_of]
  split <;> rfl

/-- The log decay a gate's input gives, as a sixteenth of the logarithm of its sigmoid. -/
def decay (z : EReal) : EReal :=
  (0 - (max (0 - z) 0 + Ideal.log (1 + Ideal.exp (0 - max (0 - z) (-(0 - z)))))) * Ideal.ofBits FTy.f32 1031798784#32

theorem sixteenth : Ideal.ofBits FTy.f32 1031798784#32 = (((1 : ℝ) / 16 : ℝ) : EReal) := by
  simp [Ideal.ofBits, Ideal.ieee, -EReal.coe_mul]; norm_num

theorem sixteen : Ideal.ofBits FTy.f32 1098907648#32 = ((16 : ℝ) : EReal) := by
  simp [Ideal.ofBits, Ideal.ieee, -EReal.coe_mul]; norm_num

theorem exp_nonneg (x : EReal) : 0 ≤ Ideal.exp x := by
  induction x with
  | bot => exact le_refl _
  | top => exact le_top
  | coe r => exact EReal.coe_nonneg.mpr (Real.exp_pos r).le

theorem log_nonneg {x : EReal} (h : 1 ≤ x) : 0 ≤ Ideal.log x := by
  induction x with
  | bot => exact absurd (le_bot_iff.mp h) (EReal.coe_ne_bot 1)
  | top => exact le_top
  | coe r =>
    have hr : (1 : ℝ) ≤ r := by exact_mod_cast h
    show 0 ≤ (if r ≤ 0 then (⊥ : EReal) else (Real.log r : EReal))
    rw [if_neg (by linarith)]
    exact EReal.coe_nonneg.mpr (Real.log_nonneg hr)

/-- A log decay isn't positive. -/
theorem decay_ne_top (z : EReal) : decay z ≠ ⊤ := by
  have h : 0 ≤ max (0 - z) 0 + Ideal.log (1 + Ideal.exp (0 - max (0 - z) (-(0 - z)))) :=
    add_nonneg (le_max_right _ _) (log_nonneg (le_add_of_nonneg_right (exp_nonneg _)))
  unfold decay
  rw [sixteenth, zero_sub, EReal.neg_mul, Ne, EReal.neg_eq_top_iff]
  exact ne_of_gt (lt_of_lt_of_le EReal.bot_lt_zero (mul_nonneg h (EReal.coe_nonneg.mpr (by norm_num))))

end Cert.Chunk

end
-- ==== Proof.RecKer.lean ====
/-
  What the kernel's body computes for one chunk, head by head and sequence by sequence: the gradients of `k` and `v` and
  the state handed on are those of `Cert.Chunk`, at the blocks the body reads.
-/
module

public import proofs.«01_k».proof.Proof.Gen.KernelIdeal.Skeleton
public import proofs.«01_k».proof.Proof.Chunk
public import Idealize.ShloMosaic.Lib.Pointwise

@[expose] public section

set_option maxRecDepth 16384

noncomputable section

namespace Cert.KernelIdeal.Heads

open Idealize.ShloMosaic Idealize.ShloMosaic.TcCoe
open Cert.KernelIdeal Cert.KernelIdeal.Gen Cert.Chunk

/-- Head `h` of a block of four heads. -/
def cols (X : FVec Ideal S64x512 .f32) (h : Fin 4) : Rows := fun t d => X (ix2 t (lane h d))

/-- Head `h` of the query's block, at the attention's scale. -/
def scaled (X : FVec Ideal S64x512 .f32) (h : Fin 4) : Rows := fun t d => X (ix2 t (lane h d)) * Ideal.ofBits FTy.f32 1040187392#32

/-- A head's state, which the kernel holds transposed. -/
def state (S : Vec Ideal S1x128x128 .f32) (d e : Fin 128) : EReal := S (ix3 0 e d)

theorem constant_zero (d : Shape) (i : d.Idx) : (constant d .f32 0x00000000#32 : FVec Ideal d .f32) i = (0 : EReal) := Ideal.ofBits_zero_f32

/-- The causal mask as a matrix of zeros and ones. -/
theorem tri_at (t s : Fin 64) : k0_pay23 (F := Ideal) (ix2 t s) = if s.val ≤ t.val then (1 : EReal) else 0 := by
  pointwise [k0_pay23, k0_pay22]
  rw [sge_of]
  split
  · show ((((BitVec.setWidth 32 (1#1)).toInt : ℤ) : ℝ) : EReal) = 1
    norm_num
  · show ((((BitVec.setWidth 32 (0#1)).toInt : ℤ) : ℝ) : EReal) = 0
    norm_num

/-- The sums of the log decays the first sequence takes with a masked product. -/
theorem cum_at (l : FVec Ideal S64x512 .f32) (hl : ∀ i, l i ≠ (⊤ : EReal)) (h : Fin 4) :
    cols (k0_pay43 (F := Ideal) (k0_pay23 (F := Ideal)) l) h = cum (cols l h) := by
  funext t d
  unfold cols cum
  beta_reduce
  generalize lane h d = j
  pointwise [k0_pay43, tri_at]
  rw [← Finset.sum_add_distrib, ← Finset.sum_add_distrib]
  exact Finset.sum_congr rfl fun s _ => split_mask _ _ (hl _)

/-- The sums of the log decays the second sequence takes, the same way. -/
theorem cum_at' (x y : FVec Ideal S64x512 .f32) (hl : ∀ i, k0_pay42 (F := Ideal) x y i ≠ (⊤ : EReal)) (h : Fin 4) :
    cols (k0_pay44 (F := Ideal) (k0_pay23 (F := Ideal)) x y) h = cum (cols (k0_pay42 (F := Ideal) x y) h) :=
  cum_at (k0_pay42 (F := Ideal) x y) hl h

/-- The gate's input at a row and a channel. -/
def gate (sm : Fin 64 → Fin 128 → EReal) (w : Vec Ideal S128x512 .f32) (bg : Vec Ideal S1x512 .f32) (t : Fin 64) (j : Fin 512) : EReal :=
  (∑ k : Fin 128, sm t k * w (ix2 k j)) + bg (ix2 0 j)

/-- The log decays of the first sequence's block. -/
theorem decay_at (x : Vec Ideal S1x64x128 .f32) (w : Vec Ideal S128x512 .f32) (bg : Vec Ideal S1x512 .f32) (t : Fin 64) (j : Fin 512) :
    k0_pay30 (F := Ideal) (k0_pay24 (F := Ideal) x w bg) (Scalar.ofBits .f32 0x00000000#32) (ix2 t j) = decay (gate (fun t k => x (ix3 0 t k)) w bg t j) := by
  pointwise [k0_pay30, k0_pay29, k0_pay28, k0_pay27, k0_pay26, k0_pay25, k0_pay24, k0_pay20, decay, gate]
  rfl

/-- The log decays of the second sequence's block. -/
theorem decay_at' (x : Vec Ideal S1x64x128 .f32) (w : Vec Ideal S128x512 .f32) (bg : Vec Ideal S1x512 .f32) (t : Fin 64) (j : Fin 512) :
    k0_pay42 (F := Ideal) (k0_pay31 (F := Ideal) (k0_pay21 (F := Ideal) x) w bg) (k0_pay32 (F := Ideal) (k0_pay21 (F := Ideal) x) w bg) (ix2 t j)
      = decay (gate (fun t k => x (ix3 0 t k)) w bg t j) := by
  pointwise [k0_pay42, k0_pay41, k0_pay40, k0_pay39, k0_pay38, k0_pay37, k0_pay36, k0_pay35, k0_pay34, k0_pay33, k0_pay32, k0_pay31, k0_pay21, decay, gate]
  rfl

/-- Four heads laid side by side. -/
theorem catV_0 (a b c d : FVec Ideal S64x128 .f32) (t : Fin 64) (h : Fin 4) (e : Fin 128) :
    (k0_pay347 (F := Ideal) a b c d) (ix2 t (lane h e)) = (match h with | 0 => d | 1 => c | 2 => b | 3 => a : FVec Ideal S64x128 .f32) (ix2 t e) := by
  have he := e.isLt
  fin_cases h <;> dsimp only [lane] <;> pointwise [k0_pay347] <;> split_ifs <;> first | omega | simp

/-- Four heads laid side by side. -/
theorem catV_1 (a b c d : FVec Ideal S64x128 .f32) (t : Fin 64) (h : Fin 4) (e : Fin 128) :
    (k0_pay346 (F := Ideal) c d (k0_pay345 (F := Ideal) a b)) (ix2 t (lane h e)) = (match h with | 0 => d | 1 => c | 2 => b | 3 => a : FVec Ideal S64x128 .f32) (ix2 t e) := by
  have he := e.isLt
  fin_cases h <;> dsimp only [lane] <;> pointwise [k0_pay346, k0_pay345] <;> split_ifs <;> first | omega | simp

/-- Four heads laid side by side. -/
theorem catK_0 (a b c d : FVec Ideal S64x128 .f32) (t : Fin 64) (h : Fin 4) (e : Fin 128) :
    (k0_pay351 (F := Ideal) d (k0_pay349 (F := Ideal) a b) (Scalar.ofBits .f32 0x00000000#32) (k0_pay350 (F := Ideal) c)) (ix2 t (lane h e)) = (match h with | 0 => d | 1 => c | 2 => b | 3 => a : FVec Ideal S64x128 .f32) (ix2 t e) := by
  have he := e.isLt
  fin_cases h <;> dsimp only [lane] <;> pointwise [k0_pay351, k0_pay350, k0_pay349] <;> split_ifs <;> first | omega | simp

/-- Four heads laid side by side. -/
theorem catK_1 (a b c d : FVec Ideal S64x128 .f32) (t : Fin 64) (h : Fin 4) (e : Fin 128) :
    (k0_pay348 (F := Ideal) a b c d) (ix2 t (lane h e)) = (match h with | 0 => d | 1 => c | 2 => b | 3 => a : FVec Ideal S64x128 .f32) (ix2 t e) := by
  have he := e.isLt
  fin_cases h <;> dsimp only [lane] <;> pointwise [k0_pay348] <;> split_ifs <;> first | omega | simp

/-- Sequence 0, head 0: the gradient of `v`. -/
theorem gradV_0_0 (q k g l b : FVec Ideal S64x512 .f32) (S : Vec Ideal S1x128x128 .f32) (t : Fin 64) (e : Fin 128) :
    (k0_pay266 (F := Ideal) (k0_pay104 (F := Ideal) k0_pay22 (k0_pay45 (F := Ideal) k) (k0_pay61 (F := Ideal) b) (k0_pay79 (F := Ideal) q b)) (k0_pay165 (F := Ideal) g) (k0_pay216 (F := Ideal) (k0_pay127 (F := Ideal) (k0_pay45 (F := Ideal) k) (k0_pay61 (F := Ideal) b) (k0_pay69 (F := Ideal) l)) (k0_pay153 (F := Ideal) S))) (ix2 t e)
      = gradV (scaled q 0) (cols k 0) (cols g 0) (cols b 0) (tot (cols l 0)) (state S) t e := by
  pointwise [k0_pay22, k0_pay45, k0_pay61, k0_pay69, k0_pay77, k0_pay78, k0_pay79, k0_pay102, k0_pay103, k0_pay104, k0_pay126, k0_pay127, k0_pay153, k0_pay165, k0_pay214, k0_pay216, k0_pay266]
  simp only [select_sge, gradV, attn, qdec, tot, cols, scaled, state, lane, constant_zero, zero_add]

/-- Sequence 0, head 1: the gradient of `v`. -/
theorem gradV_0_1 (q k g l b : FVec Ideal S64x512 .f32) (S : Vec Ideal S1x128x128 .f32) (t : Fin 64) (e : Fin 128) :
    (k0_pay264 (F := Ideal) (k0_pay107 (F := Ideal) k0_pay22 (k0_pay46 (F := Ideal) k) (k0_pay62 (F := Ideal) b) (k0_pay82 (F := Ideal) q b)) (k0_pay166 (F := Ideal) g) (k0_pay210 (F := Ideal) (k0_pay130 (F := Ideal) (k0_pay46 (F := Ideal) k) (k0_pay62 (F := Ideal) b) (k0_pay128 (F := Ideal) (k0_pay70 (F := Ideal) l))) (k0_pay154 (F := Ideal) S))) (ix2 t e)
      = gradV (scaled q 1) (cols k 1) (cols g 1) (cols b 1) (tot (cols l 1)) (state S) t e := by
  pointwise [k0_pay22, k0_pay46, k0_pay62, k0_pay70, k0_pay80, k0_pay81, k0_pay82, k0_pay105, k0_pay106, k0_pay107, k0_pay128, k0_pay129, k0_pay130, k0_pay154, k0_pay166, k0_pay208, k0_pay210, k0_pay264]
  simp only [select_sge, gradV, attn, qdec, tot, cols, scaled, state, lane, constant_zero, zero_add]

/-- Sequence 0, head 2: the gradient of `v`. -/
theorem gradV_0_2 (q k g l b : FVec Ideal S64x512 .f32) (S : Vec Ideal S1x128x128 .f32) (t : Fin 64) (e : Fin 128) :
    (k0_pay262 (F := Ideal) (k0_pay110 (F := Ideal) k0_pay22 (k0_pay86 (F := Ideal) (k0_pay63 (F := Ideal) b) (k0_pay83 (F := Ideal) q)) (k0_pay109 (F := Ideal) (k0_pay47 (F := Ideal) k) (k0_pay63 (F := Ideal) b))) (k0_pay167 (F := Ideal) g) (k0_pay203 (F := Ideal) (k0_pay132 (F := Ideal) (k0_pay47 (F := Ideal) k) (k0_pay63 (F := Ideal) b) (k0_pay71 (F := Ideal) l)) (k0_pay155 (F := Ideal) S))) (ix2 t e)
      = gradV (scaled q 2) (cols k 2) (cols g 2) (cols b 2) (tot (cols l 2)) (state S) t e := by
  pointwise [k0_pay22, k0_pay47, k0_pay63, k0_pay71, k0_pay83, k0_pay84, k0_pay85, k0_pay86, k0_pay108, k0_pay109, k0_pay110, k0_pay131, k0_pay132, k0_pay155, k0_pay167, k0_pay201, k0_pay203, k0_pay262]
  simp only [select_sge, gradV, attn, qdec, tot, cols, scaled, state, lane, constant_zero, zero_add]

/-- Sequence 0, head 3: the gradient of `v`. -/
theorem gradV_0_3 (q k g l b : FVec Ideal S64x512 .f32) (S : Vec Ideal S1x128x128 .f32) (t : Fin 64) (e : Fin 128) :
    (k0_pay260 (F := Ideal) (k0_pay113 (F := Ideal) k0_pay22 (k0_pay48 (F := Ideal) k) (k0_pay64 (F := Ideal) b) (k0_pay89 (F := Ideal) q (k0_pay64 (F := Ideal) b))) (k0_pay168 (F := Ideal) g) (k0_pay197 (F := Ideal) (k0_pay134 (F := Ideal) (k0_pay48 (F := Ideal) k) (k0_pay64 (F := Ideal) b) (k0_pay72 (F := Ideal) l)) (k0_pay156 (F := Ideal) S))) (ix2 t e)
      = gradV (scaled q 3) (cols k 3) (cols g 3) (cols b 3) (tot (cols l 3)) (state S) t e := by
  pointwise [k0_pay22, k0_pay48, k0_pay64, k0_pay72, k0_pay87, k0_pay88, k0_pay89, k0_pay111, k0_pay112, k0_pay113, k0_pay133, k0_pay134, k0_pay156, k0_pay168, k0_pay195, k0_pay197, k0_pay260]
  simp only [select_sge, gradV, attn, qdec, tot, cols, scaled, state, lane, constant_zero, zero_add]

/-- Sequence 1, head 0: the gradient of `v`. -/
theorem gradV_1_0 (q k g l b : FVec Ideal S64x512 .f32) (S : Vec Ideal S1x128x128 .f32) (t : Fin 64) (e : Fin 128) :
    (k0_pay258 (F := Ideal) (k0_pay116 (F := Ideal) k0_pay22 (k0_pay49 (F := Ideal) k) (k0_pay65 (F := Ideal) b) (k0_pay92 (F := Ideal) q (k0_pay65 (F := Ideal) b))) (k0_pay161 (F := Ideal) g) (k0_pay191 (F := Ideal) (k0_pay136 (F := Ideal) (k0_pay49 (F := Ideal) k) (k0_pay65 (F := Ideal) b) (k0_pay73 (F := Ideal) l)) (k0_pay157 (F := Ideal) S))) (ix2 t e)
      = gradV (scaled q 0) (cols k 0) (cols g 0) (cols b 0) (tot (cols l 0)) (state S) t e := by
  pointwise [k0_pay22, k0_pay49, k0_pay65, k0_pay73, k0_pay90, k0_pay91, k0_pay92, k0_pay114, k0_pay115, k0_pay116, k0_pay135, k0_pay136, k0_pay157, k0_pay161, k0_pay189, k0_pay191, k0_pay258]
  simp only [select_sge, gradV, attn, qdec, tot, cols, scaled, state, lane, constant_zero, zero_add]

/-- Sequence 1, head 1: the gradient of `v`. -/
theorem gradV_1_1 (q k g l b : FVec Ideal S64x512 .f32) (S : Vec Ideal S1x128x128 .f32) (t : Fin 64) (e : Fin 128) :
    (k0_pay256 (F := Ideal) (k0_pay119 (F := Ideal) k0_pay22 (k0_pay50 (F := Ideal) k) (k0_pay66 (F := Ideal) b) (k0_pay95 (F := Ideal) q (k0_pay66 (F := Ideal) b))) (k0_pay162 (F := Ideal) g) (k0_pay185 (F := Ideal) (k0_pay138 (F := Ideal) (k0_pay50 (F := Ideal) k) (k0_pay66 (F := Ideal) b) (k0_pay74 (F := Ideal) l)) (k0_pay158 (F := Ideal) S))) (ix2 t e)
      = gradV (scaled q 1) (cols k 1) (cols g 1) (cols b 1) (tot (cols l 1)) (state S) t e := by
  pointwise [k0_pay22, k0_pay50, k0_pay66, k0_pay74, k0_pay93, k0_pay94, k0_pay95, k0_pay117, k0_pay118, k0_pay119, k0_pay137, k0_pay138, k0_pay158, k0_pay162, k0_pay183, k0_pay185, k0_pay256]
  simp only [select_sge, gradV, attn, qdec, tot, cols, scaled, state, lane, constant_zero, zero_add]

/-- Sequence 1, head 2: the gradient of `v`. -/
theorem gradV_1_2 (q k g l b : FVec Ideal S64x512 .f32) (S : Vec Ideal S1x128x128 .f32) (t : Fin 64) (e : Fin 128) :
    (k0_pay254 (F := Ideal) (k0_pay122 (F := Ideal) k0_pay22 (k0_pay51 (F := Ideal) k) (k0_pay67 (F := Ideal) b) (k0_pay98 (F := Ideal) q (k0_pay67 (F := Ideal) b))) (k0_pay163 (F := Ideal) g) (k0_pay178 (F := Ideal) (k0_pay140 (F := Ideal) (k0_pay51 (F := Ideal) k) (k0_pay67 (F := Ideal) b) (k0_pay75 (F := Ideal) l)) S) (constant S128x64 .f32 0x00000000#32)) (ix2 t e)
      = gradV (scaled q 2) (cols k 2) (cols g 2) (cols b 2) (tot (cols l 2)) (state S) t e := by
  pointwise [k0_pay22, k0_pay51, k0_pay67, k0_pay75, k0_pay96, k0_pay97, k0_pay98, k0_pay120, k0_pay121, k0_pay122, k0_pay139, k0_pay140, k0_pay159, k0_pay163, k0_pay176, k0_pay178, k0_pay254]
  simp only [select_sge, gradV, attn, qdec, tot, cols, scaled, state, lane, constant_zero, zero_add]

/-- Sequence 1, head 3: the gradient of `v`. -/
theorem gradV_1_3 (q k g l b : FVec Ideal S64x512 .f32) (S : Vec Ideal S1x128x128 .f32) (t : Fin 64) (e : Fin 128) :
    (k0_pay252 (F := Ideal) (k0_pay125 (F := Ideal) k0_pay22 (k0_pay52 (F := Ideal) k) (k0_pay68 (F := Ideal) b) (k0_pay101 (F := Ideal) q (k0_pay68 (F := Ideal) b))) (k0_pay164 (F := Ideal) g) (k0_pay172 (F := Ideal) (k0_pay142 (F := Ideal) (k0_pay52 (F := Ideal) k) (k0_pay68 (F := Ideal) b) (k0_pay76 (F := Ideal) l)) S)) (ix2 t e)
      = gradV (scaled q 3) (cols k 3) (cols g 3) (cols b 3) (tot (cols l 3)) (state S) t e := by
  pointwise [k0_pay22, k0_pay52, k0_pay68, k0_pay76, k0_pay99, k0_pay100, k0_pay101, k0_pay123, k0_pay124, k0_pay125, k0_pay141, k0_pay142, k0_pay160, k0_pay164, k0_pay170, k0_pay172, k0_pay252]
  simp only [select_sge, gradV, attn, qdec, tot, cols, scaled, state, lane, constant_zero, zero_add]

/-- Sequence 0, head 0: the gradient of `k`. -/
theorem gradK_0_0 (q v g l b : FVec Ideal S64x512 .f32) (S : Vec Ideal S1x128x128 .f32) (t : Fin 64) (e : Fin 128) :
    (k0_pay323 (F := Ideal) k0_pay22 (k0_pay79 (F := Ideal) q b) (k0_pay102 (F := Ideal) (k0_pay61 (F := Ideal) b)) (k0_pay248 (F := Ideal) (k0_pay126 (F := Ideal) (k0_pay61 (F := Ideal) b) (k0_pay69 (F := Ideal) l)) (k0_pay215 (F := Ideal) (k0_pay53 (F := Ideal) v) (k0_pay153 (F := Ideal) S))) (k0_pay267 (F := Ideal) (k0_pay53 (F := Ideal) v) (k0_pay165 (F := Ideal) g))) (ix2 t e)
      = gradK (scaled q 0) (cols v 0) (cols g 0) (cols b 0) (tot (cols l 0)) (state S) t e := by
  pointwise [k0_pay22, k0_pay53, k0_pay61, k0_pay69, k0_pay77, k0_pay78, k0_pay79, k0_pay102, k0_pay126, k0_pay153, k0_pay165, k0_pay214, k0_pay215, k0_pay248, k0_pay267, k0_pay320, k0_pay321, k0_pay323]
  simp only [select_sge, gradK, attn, qdec, tot, cols, scaled, state, lane, constant_zero, zero_add]

/-- Sequence 0, head 1: the gradient of `k`. -/
theorem gradK_0_1 (q v g l b : FVec Ideal S64x512 .f32) (S : Vec Ideal S1x128x128 .f32) (t : Fin 64) (e : Fin 128) :
    (k0_pay318 (F := Ideal) (k0_pay82 (F := Ideal) q b) (k0_pay105 (F := Ideal) (k0_pay62 (F := Ideal) b)) (k0_pay244 (F := Ideal) (k0_pay129 (F := Ideal) (k0_pay62 (F := Ideal) b) (k0_pay128 (F := Ideal) (k0_pay70 (F := Ideal) l))) (k0_pay209 (F := Ideal) (k0_pay54 (F := Ideal) v) (k0_pay154 (F := Ideal) S))) (k0_pay315 (F := Ideal) k0_pay22 (k0_pay265 (F := Ideal) (k0_pay54 (F := Ideal) v) (k0_pay166 (F := Ideal) g)))) (ix2 t e)
      = gradK (scaled q 1) (cols v 1) (cols g 1) (cols b 1) (tot (cols l 1)) (state S) t e := by
  pointwise [k0_pay22, k0_pay54, k0_pay62, k0_pay70, k0_pay80, k0_pay81, k0_pay82, k0_pay105, k0_pay128, k0_pay129, k0_pay154, k0_pay166, k0_pay208, k0_pay209, k0_pay244, k0_pay265, k0_pay315, k0_pay316, k0_pay318]
  simp only [select_sge, gradK, attn, qdec, tot, cols, scaled, state, lane, constant_zero, zero_add]

/-- Sequence 0, head 2: the gradient of `k`. -/
theorem gradK_0_2 (q v g l b : FVec Ideal S64x512 .f32) (S : Vec Ideal S1x128x128 .f32) (t : Fin 64) (e : Fin 128) :
    (k0_pay313 (F := Ideal) k0_pay22 (k0_pay86 (F := Ideal) (k0_pay63 (F := Ideal) b) (k0_pay83 (F := Ideal) q)) (k0_pay108 (F := Ideal) (k0_pay63 (F := Ideal) b)) (k0_pay240 (F := Ideal) (k0_pay131 (F := Ideal) (k0_pay63 (F := Ideal) b) (k0_pay71 (F := Ideal) l)) (k0_pay202 (F := Ideal) (k0_pay55 (F := Ideal) v) (k0_pay155 (F := Ideal) S))) (k0_pay263 (F := Ideal) (k0_pay55 (F := Ideal) v) (k0_pay167 (F := Ideal) g))) (ix2 t e)
      = gradK (scaled q 2) (cols v 2) (cols g 2) (cols b 2) (tot (cols l 2)) (state S) t e := by
  pointwise [k0_pay22, k0_pay55, k0_pay63, k0_pay71, k0_pay83, k0_pay84, k0_pay85, k0_pay86, k0_pay108, k0_pay131, k0_pay155, k0_pay167, k0_pay201, k0_pay202, k0_pay240, k0_pay263, k0_pay310, k0_pay311, k0_pay313]
  simp only [select_sge, gradK, attn, qdec, tot, cols, scaled, state, lane, constant_zero, zero_add]

/-- Sequence 0, head 3: the gradient of `k`. -/
theorem gradK_0_3 (q v g l b : FVec Ideal S64x512 .f32) (S : Vec Ideal S1x128x128 .f32) (t : Fin 64) (e : Fin 128) :
    (k0_pay308 (F := Ideal) k0_pay22 (k0_pay89 (F := Ideal) q (k0_pay64 (F := Ideal) b)) (k0_pay111 (F := Ideal) (k0_pay64 (F := Ideal) b)) (k0_pay236 (F := Ideal) (k0_pay133 (F := Ideal) (k0_pay64 (F := Ideal) b) (k0_pay72 (F := Ideal) l)) (k0_pay196 (F := Ideal) (k0_pay56 (F := Ideal) v) (k0_pay156 (F := Ideal) S))) (k0_pay261 (F := Ideal) (k0_pay56 (F := Ideal) v) (k0_pay168 (F := Ideal) g))) (ix2 t e)
      = gradK (scaled q 3) (cols v 3) (cols g 3) (cols b 3) (tot (cols l 3)) (state S) t e := by
  pointwise [k0_pay22, k0_pay56, k0_pay64, k0_pay72, k0_pay87, k0_pay88, k0_pay89, k0_pay111, k0_pay133, k0_pay156, k0_pay168, k0_pay195, k0_pay196, k0_pay236, k0_pay261, k0_pay305, k0_pay306, k0_pay308]
  simp only [select_sge, gradK, attn, qdec, tot, cols, scaled, state, lane, constant_zero, zero_add]

/-- Sequence 1, head 0: the gradient of `k`. -/
theorem gradK_1_0 (q v g l b : FVec Ideal S64x512 .f32) (S : Vec Ideal S1x128x128 .f32) (t : Fin 64) (e : Fin 128) :
    (k0_pay303 (F := Ideal) k0_pay22 (k0_pay92 (F := Ideal) q (k0_pay65 (F := Ideal) b)) (k0_pay114 (F := Ideal) (k0_pay65 (F := Ideal) b)) (k0_pay232 (F := Ideal) (k0_pay135 (F := Ideal) (k0_pay65 (F := Ideal) b) (k0_pay73 (F := Ideal) l)) (k0_pay190 (F := Ideal) (k0_pay57 (F := Ideal) v) (k0_pay157 (F := Ideal) S))) (k0_pay259 (F := Ideal) (k0_pay57 (F := Ideal) v) (k0_pay161 (F := Ideal) g))) (ix2 t e)
      = gradK (scaled q 0) (cols v 0) (cols g 0) (cols b 0) (tot (cols l 0)) (state S) t e := by
  pointwise [k0_pay22, k0_pay57, k0_pay65, k0_pay73, k0_pay90, k0_pay91, k0_pay92, k0_pay114, k0_pay135, k0_pay157, k0_pay161, k0_pay189, k0_pay190, k0_pay232, k0_pay259, k0_pay300, k0_pay301, k0_pay303]
  simp only [select_sge, gradK, attn, qdec, tot, cols, scaled, state, lane, constant_zero, zero_add]

/-- Sequence 1, head 1: the gradient of `k`. -/
theorem gradK_1_1 (q v g l b : FVec Ideal S64x512 .f32) (S : Vec Ideal S1x128x128 .f32) (t : Fin 64) (e : Fin 128) :
    (k0_pay298 (F := Ideal) (k0_pay117 (F := Ideal) (k0_pay66 (F := Ideal) b)) (k0_pay227 (F := Ideal) (k0_pay137 (F := Ideal) (k0_pay66 (F := Ideal) b) (k0_pay74 (F := Ideal) l)) (k0_pay184 (F := Ideal) (k0_pay58 (F := Ideal) v) (k0_pay158 (F := Ideal) S))) (k0_pay295 (F := Ideal) k0_pay22 (k0_pay95 (F := Ideal) q (k0_pay66 (F := Ideal) b)) (k0_pay257 (F := Ideal) (k0_pay58 (F := Ideal) v) (k0_pay162 (F := Ideal) g)))) (ix2 t e)
      = gradK (scaled q 1) (cols v 1) (cols g 1) (cols b 1) (tot (cols l 1)) (state S) t e := by
  pointwise [k0_pay22, k0_pay58, k0_pay66, k0_pay74, k0_pay93, k0_pay94, k0_pay95, k0_pay117, k0_pay137, k0_pay158, k0_pay162, k0_pay183, k0_pay184, k0_pay227, k0_pay257, k0_pay294, k0_pay295, k0_pay298]
  simp only [select_sge, gradK, attn, qdec, tot, cols, scaled, state, lane, constant_zero, zero_add]

/-- Sequence 1, head 2: the gradient of `k`. -/
theorem gradK_1_2 (q v g l b : FVec Ideal S64x512 .f32) (S : Vec Ideal S1x128x128 .f32) (t : Fin 64) (e : Fin 128) :
    (k0_pay292 (F := Ideal) k0_pay22 (k0_pay98 (F := Ideal) q (k0_pay67 (F := Ideal) b)) (k0_pay120 (F := Ideal) (k0_pay67 (F := Ideal) b)) (k0_pay223 (F := Ideal) (k0_pay139 (F := Ideal) (k0_pay67 (F := Ideal) b) (k0_pay75 (F := Ideal) l)) (k0_pay177 (F := Ideal) (k0_pay59 (F := Ideal) v) S)) (k0_pay255 (F := Ideal) (k0_pay59 (F := Ideal) v) (k0_pay163 (F := Ideal) g))) (ix2 t e)
      = gradK (scaled q 2) (cols v 2) (cols g 2) (cols b 2) (tot (cols l 2)) (state S) t e := by
  pointwise [k0_pay22, k0_pay59, k0_pay67, k0_pay75, k0_pay96, k0_pay97, k0_pay98, k0_pay120, k0_pay139, k0_pay159, k0_pay163, k0_pay176, k0_pay177, k0_pay223, k0_pay255, k0_pay289, k0_pay290, k0_pay292]
  simp only [select_sge, gradK, attn, qdec, tot, cols, scaled, state, lane, constant_zero, zero_add]

/-- Sequence 1, head 3: the gradient of `k`. -/
theorem gradK_1_3 (q v g l b : FVec Ideal S64x512 .f32) (S : Vec Ideal S1x128x128 .f32) (t : Fin 64) (e : Fin 128) :
    (k0_pay287 (F := Ideal) k0_pay22 (k0_pay101 (F := Ideal) q (k0_pay68 (F := Ideal) b)) (k0_pay123 (F := Ideal) (k0_pay68 (F := Ideal) b)) (k0_pay219 (F := Ideal) (k0_pay141 (F := Ideal) (k0_pay68 (F := Ideal) b) (k0_pay76 (F := Ideal) l)) (k0_pay171 (F := Ideal) (k0_pay60 (F := Ideal) v) S)) (k0_pay253 (F := Ideal) (k0_pay60 (F := Ideal) v) (k0_pay164 (F := Ideal) g))) (ix2 t e)
      = gradK (scaled q 3) (cols v 3) (cols g 3) (cols b 3) (tot (cols l 3)) (state S) t e := by
  pointwise [k0_pay22, k0_pay60, k0_pay68, k0_pay76, k0_pay99, k0_pay100, k0_pay101, k0_pay123, k0_pay141, k0_pay160, k0_pay164, k0_pay170, k0_pay171, k0_pay219, k0_pay253, k0_pay284, k0_pay285, k0_pay287]
  simp only [select_sge, gradK, attn, qdec, tot, cols, scaled, state, lane, constant_zero, zero_add]

/-- Sequence 0, head 0: the state handed to the chunk before. -/
theorem gradS_0_0 (q g l b : FVec Ideal S64x512 .f32) (S : Vec Ideal S1x128x128 .f32) (d e : Fin 128) :
    (k0_pay282 (F := Ideal) (k0_pay79 (F := Ideal) q b) (k0_pay165 (F := Ideal) g) (k0_pay217 (F := Ideal) (k0_pay143 (F := Ideal) (k0_pay69 (F := Ideal) l)) (k0_pay153 (F := Ideal) S))) (ix2 d e)
      = gradS (scaled q 0) (cols g 0) (cols b 0) (tot (cols l 0)) (state S) e d := by
  pointwise [k0_pay61, k0_pay69, k0_pay77, k0_pay78, k0_pay79, k0_pay143, k0_pay153, k0_pay165, k0_pay213, k0_pay217, k0_pay282]
  simp only [select_sge, gradS, attn, qdec, tot, cols, scaled, state, lane, constant_zero, zero_add]

/-- Sequence 0, head 1: the state handed to the chunk before. -/
theorem gradS_0_1 (q g l b : FVec Ideal S64x512 .f32) (S : Vec Ideal S1x128x128 .f32) (d e : Fin 128) :
    (k0_pay280 (F := Ideal) (k0_pay82 (F := Ideal) q b) (k0_pay166 (F := Ideal) g) (k0_pay211 (F := Ideal) (k0_pay144 (F := Ideal) (k0_pay70 (F := Ideal) l)) (k0_pay154 (F := Ideal) S))) (ix2 d e)
      = gradS (scaled q 1) (cols g 1) (cols b 1) (tot (cols l 1)) (state S) e d := by
  pointwise [k0_pay62, k0_pay70, k0_pay80, k0_pay81, k0_pay82, k0_pay144, k0_pay154, k0_pay166, k0_pay207, k0_pay211, k0_pay280]
  simp only [select_sge, gradS, attn, qdec, tot, cols, scaled, state, lane, constant_zero, zero_add]

/-- Sequence 0, head 2: the state handed to the chunk before. -/
theorem gradS_0_2 (q g l b : FVec Ideal S64x512 .f32) (S : Vec Ideal S1x128x128 .f32) (d e : Fin 128) :
    (k0_pay278 (F := Ideal) (k0_pay86 (F := Ideal) (k0_pay63 (F := Ideal) b) (k0_pay83 (F := Ideal) q)) (k0_pay167 (F := Ideal) g) (k0_pay205 (F := Ideal) (k0_pay145 (F := Ideal) (k0_pay71 (F := Ideal) l)) (k0_pay200 (F := Ideal) (k0_pay155 (F := Ideal) S)))) (ix2 d e)
      = gradS (scaled q 2) (cols g 2) (cols b 2) (tot (cols l 2)) (state S) e d := by
  pointwise [k0_pay63, k0_pay71, k0_pay83, k0_pay84, k0_pay85, k0_pay86, k0_pay145, k0_pay155, k0_pay167, k0_pay200, k0_pay205, k0_pay278]
  simp only [select_sge, gradS, attn, qdec, tot, cols, scaled, state, lane, constant_zero, zero_add]

/-- Sequence 0, head 3: the state handed to the chunk before. -/
theorem gradS_0_3 (q g l b : FVec Ideal S64x512 .f32) (S : Vec Ideal S1x128x128 .f32) (d e : Fin 128) :
    (k0_pay276 (F := Ideal) (k0_pay89 (F := Ideal) q (k0_pay64 (F := Ideal) b)) (k0_pay168 (F := Ideal) g) (k0_pay198 (F := Ideal) (k0_pay146 (F := Ideal) (k0_pay72 (F := Ideal) l)) (k0_pay156 (F := Ideal) S))) (ix2 d e)
      = gradS (scaled q 3) (cols g 3) (cols b 3) (tot (cols l 3)) (state S) e d := by
  pointwise [k0_pay64, k0_pay72, k0_pay87, k0_pay88, k0_pay89, k0_pay146, k0_pay156, k0_pay168, k0_pay194, k0_pay198, k0_pay276]
  simp only [select_sge, gradS, attn, qdec, tot, cols, scaled, state, lane, constant_zero, zero_add]

/-- Sequence 1, head 0: the state handed to the chunk before. -/
theorem gradS_1_0 (q g l b : FVec Ideal S64x512 .f32) (S : Vec Ideal S1x128x128 .f32) (d e : Fin 128) :
    (k0_pay274 (F := Ideal) (k0_pay92 (F := Ideal) q (k0_pay65 (F := Ideal) b)) (k0_pay161 (F := Ideal) g) (k0_pay192 (F := Ideal) (k0_pay147 (F := Ideal) (k0_pay73 (F := Ideal) l)) (k0_pay157 (F := Ideal) S))) (ix2 d e)
      = gradS (scaled q 0) (cols g 0) (cols b 0) (tot (cols l 0)) (state S) e d := by
  pointwise [k0_pay65, k0_pay73, k0_pay90, k0_pay91, k0_pay92, k0_pay147, k0_pay157, k0_pay161, k0_pay188, k0_pay192, k0_pay274]
  simp only [select_sge, gradS, attn, qdec, tot, cols, scaled, state, lane, constant_zero, zero_add]

/-- Sequence 1, head 1: the state handed to the chunk before. -/
theorem gradS_1_1 (q g l b : FVec Ideal S64x512 .f32) (S : Vec Ideal S1x128x128 .f32) (d e : Fin 128) :
    (k0_pay272 (F := Ideal) (k0_pay95 (F := Ideal) q (k0_pay66 (F := Ideal) b)) (k0_pay162 (F := Ideal) g) (k0_pay186 (F := Ideal) (k0_pay148 (F := Ideal) (k0_pay74 (F := Ideal) l)) (k0_pay158 (F := Ideal) S))) (ix2 d e)
      = gradS (scaled q 1) (cols g 1) (cols b 1) (tot (cols l 1)) (state S) e d := by
  pointwise [k0_pay66, k0_pay74, k0_pay93, k0_pay94, k0_pay95, k0_pay148, k0_pay158, k0_pay162, k0_pay182, k0_pay186, k0_pay272]
  simp only [select_sge, gradS, attn, qdec, tot, cols, scaled, state, lane, constant_zero, zero_add]

/-- Sequence 1, head 2: the state handed to the chunk before. -/
theorem gradS_1_2 (q g l b : FVec Ideal S64x512 .f32) (S : Vec Ideal S1x128x128 .f32) (d e : Fin 128) :
    (k0_pay270 (F := Ideal) (k0_pay98 (F := Ideal) q (k0_pay67 (F := Ideal) b)) (k0_pay163 (F := Ideal) g) (k0_pay180 (F := Ideal) (k0_pay149 (F := Ideal) (k0_pay75 (F := Ideal) l)) (k0_pay175 (F := Ideal) S))) (ix2 d e)
      = gradS (scaled q 2) (cols g 2) (cols b 2) (tot (cols l 2)) (state S) e d := by
  pointwise [k0_pay67, k0_pay75, k0_pay96, k0_pay97, k0_pay98, k0_pay149, k0_pay159, k0_pay163, k0_pay175, k0_pay180, k0_pay270]
  simp only [select_sge, gradS, attn, qdec, tot, cols, scaled, state, lane, constant_zero, zero_add]

/-- Sequence 1, head 3: the state handed to the chunk before. -/
theorem gradS_1_3 (q g l b : FVec Ideal S64x512 .f32) (S : Vec Ideal S1x128x128 .f32) (d e : Fin 128) :
    (k0_pay268 (F := Ideal) (k0_pay101 (F := Ideal) q (k0_pay68 (F := Ideal) b)) (k0_pay164 (F := Ideal) g) (k0_pay173 (F := Ideal) (k0_pay150 (F := Ideal) (k0_pay76 (F := Ideal) l)) S)) (ix2 d e)
      = gradS (scaled q 3) (cols g 3) (cols b 3) (tot (cols l 3)) (state S) e d := by
  pointwise [k0_pay68, k0_pay76, k0_pay99, k0_pay100, k0_pay101, k0_pay150, k0_pay160, k0_pay164, k0_pay169, k0_pay173, k0_pay268]
  simp only [select_sge, gradS, attn, qdec, tot, cols, scaled, state, lane, constant_zero, zero_add]

end Cert.KernelIdeal.Heads
end
-- ==== Proof.RecBlk.lean ====
/-
  The kernel's body from what it loads: for one sequence of the batch, the chunk's gradients of `k` and `v`, four heads side by
  side, and each head's state handed to the chunk before, are those of `Cert.Chunk` at the loaded blocks.
-/
module

public import proofs.«01_k».proof.Proof.RecKer
public import Idealize.ShloMosaic.Lib.Pointwise

@[expose] public section

set_option maxRecDepth 16384

noncomputable section

namespace Cert.KernelIdeal.Blocks

open Idealize.ShloMosaic Idealize.ShloMosaic.TcCoe
open Cert.KernelIdeal Cert.KernelIdeal.Gen Cert.Chunk Cert.KernelIdeal.Heads

/-- Head `h` of a loaded block of one sequence. -/
def row (X : Vec Ideal S1x64x512 .f32) (h : Fin 4) : Rows := fun t d => X (ix3 0 t (lane h d))

/-- Head `h` of the loaded queries, at the attention's scale. -/
def qrow (X : Vec Ideal S1x64x512 .f32) (h : Fin 4) : Rows := fun t d => X (ix3 0 t (lane h d)) * Ideal.ofBits FTy.f32 1040187392#32

/-- Head `h` of the log decays that the gate makes of its loaded inputs. -/
def lrow (s : Vec Ideal S1x64x128 .f32) (w : Vec Ideal S128x512 .f32) (bg : Vec Ideal S1x512 .f32) (h : Fin 4) : Rows :=
  fun t d => decay (gate (fun t k => s (ix3 0 t k)) w bg t (lane h d))

/-- One of four. -/
def pick (a b c d : Vec Ideal S1x128x128 .f32) (h : Fin 4) : Vec Ideal S1x128x128 .f32 := match h with | 0 => a | 1 => b | 2 => c | 3 => d

theorem q_0 (X : Vec Ideal S1x64x512 .f32) (h : Fin 4) : scaled (k0_pay14 (F := Ideal) X) h = qrow X h := by
  funext t d
  unfold scaled qrow
  generalize lane h d = j
  pointwise [k0_pay14]

theorem k_0 (X : Vec Ideal S1x64x512 .f32) (h : Fin 4) : cols (k0_pay16 (F := Ideal) X) h = row X h := by
  funext t d
  unfold cols row
  generalize lane h d = j
  pointwise [k0_pay16]

theorem v_0 (X : Vec Ideal S1x64x512 .f32) (h : Fin 4) : cols (k0_pay18 (F := Ideal) X) h = row X h := by
  funext t d
  unfold cols row
  generalize lane h d = j
  pointwise [k0_pay18]

theorem g_0 (X : Vec Ideal S1x64x512 .f32) (h : Fin 4) : cols (k0_pay151 (F := Ideal) X) h = row X h := by
  funext t d
  unfold cols row
  generalize lane h d = j
  pointwise [k0_pay151]

theorem q_1 (X : Vec Ideal S1x64x512 .f32) (h : Fin 4) : scaled (k0_pay15 (F := Ideal) X) h = qrow X h := by
  funext t d
  unfold scaled qrow
  generalize lane h d = j
  pointwise [k0_pay15]

theorem k_1 (X : Vec Ideal S1x64x512 .f32) (h : Fin 4) : cols (k0_pay17 (F := Ideal) X) h = row X h := by
  funext t d
  unfold cols row
  generalize lane h d = j
  pointwise [k0_pay17]

theorem v_1 (X : Vec Ideal S1x64x512 .f32) (h : Fin 4) : cols (k0_pay19 (F := Ideal) X) h = row X h := by
  funext t d
  unfold cols row
  generalize lane h d = j
  pointwise [k0_pay19]

theorem g_1 (X : Vec Ideal S1x64x512 .f32) (h : Fin 4) : cols (k0_pay152 (F := Ideal) X) h = row X h := by
  funext t d
  unfold cols row
  generalize lane h d = j
  pointwise [k0_pay152]

theorem l_0 (s : Vec Ideal S1x64x128 .f32) (w : Vec Ideal S128x512 .f32) (bg : Vec Ideal S1x512 .f32) (h : Fin 4) :
    cols (k0_pay30 (F := Ideal) (k0_pay24 (F := Ideal) s w bg) (Scalar.ofBits .f32 0x00000000#32)) h = lrow s w bg h := by
  funext t d
  exact decay_at s w bg t (lane h d)

theorem b_0 (s : Vec Ideal S1x64x128 .f32) (w : Vec Ideal S128x512 .f32) (bg : Vec Ideal S1x512 .f32) (h : Fin 4) :
    cols (k0_pay43 (F := Ideal) (k0_pay23 (F := Ideal)) (k0_pay30 (F := Ideal) (k0_pay24 (F := Ideal) s w bg) (Scalar.ofBits .f32 0x00000000#32))) h = cum (lrow s w bg h) := by
  refine (cum_at _ (fun i => ?_) h).trans (congrArg cum (l_0 s w bg h))
  obtain ⟨t, j, rfl⟩ : ∃ t j, i = ix2 t j := ⟨i 0, i 1, by funext a; fin_cases a <;> rfl⟩
  rw [decay_at]
  exact decay_ne_top _

theorem l_1 (s : Vec Ideal S1x64x128 .f32) (w : Vec Ideal S128x512 .f32) (bg : Vec Ideal S1x512 .f32) (h : Fin 4) :
    cols (k0_pay42 (F := Ideal) (k0_pay31 (F := Ideal) (k0_pay21 (F := Ideal) s) w bg) (k0_pay32 (F := Ideal) (k0_pay21 (F := Ideal) s) w bg)) h = lrow s w bg h := by
  funext t d
  exact decay_at' s w bg t (lane h d)

theorem b_1 (s : Vec Ideal S1x64x128 .f32) (w : Vec Ideal S128x512 .f32) (bg : Vec Ideal S1x512 .f32) (h : Fin 4) :
    cols (k0_pay44 (F := Ideal) (k0_pay23 (F := Ideal)) (k0_pay31 (F := Ideal) (k0_pay21 (F := Ideal) s) w bg) (k0_pay32 (F := Ideal) (k0_pay21 (F := Ideal) s) w bg)) h = cum (lrow s w bg h) := by
  refine (cum_at' _ _ (fun i => ?_) h).trans (congrArg cum (l_1 s w bg h))
  obtain ⟨t, j, rfl⟩ : ∃ t j, i = ix2 t j := ⟨i 0, i 1, by funext a; fin_cases a <;> rfl⟩
  rw [decay_at']
  exact decay_ne_top _

/-- Sequence 0: the gradient of `k`. -/
theorem blockK_0 (q v g : Vec Ideal S1x64x512 .f32) (s : Vec Ideal S1x64x128 .f32) (w : Vec Ideal S128x512 .f32)
    (bg : Vec Ideal S1x512 .f32) (S0 S1 S2 S3 : Vec Ideal S1x128x128 .f32) (t : Fin 64) (h : Fin 4) (e : Fin 128) :
    (k0_pay351 (F := Ideal) (k0_pay323 (F := Ideal) k0_pay22 (k0_pay79 (F := Ideal) (k0_pay14 (F := Ideal) q) (k0_pay43 (F := Ideal) (k0_pay23 (F := Ideal)) (k0_pay30 (F := Ideal) (k0_pay24 (F := Ideal) s w bg) (Scalar.ofBits .f32 0x00000000#32)))) (k0_pay102 (F := Ideal) (k0_pay61 (F := Ideal) (k0_pay43 (F := Ideal) (k0_pay23 (F := Ideal)) (k0_pay30 (F := Ideal) (k0_pay24 (F := Ideal) s w bg) (Scalar.ofBits .f32 0x00000000#32))))) (k0_pay248 (F := Ideal) (k0_pay126 (F := Ideal) (k0_pay61 (F := Ideal) (k0_pay43 (F := Ideal) (k0_pay23 (F := Ideal)) (k0_pay30 (F := Ideal) (k0_pay24 (F := Ideal) s w bg) (Scalar.ofBits .f32 0x00000000#32)))) (k0_pay69 (F := Ideal) (k0_pay30 (F := Ideal) (k0_pay24 (F := Ideal) s w bg) (Scalar.ofBits .f32 0x00000000#32)))) (k0_pay215 (F := Ideal) (k0_pay53 (F := Ideal) (k0_pay18 (F := Ideal) v)) (k0_pay153 (F := Ideal) S0))) (k0_pay267 (F := Ideal) (k0_pay53 (F := Ideal) (k0_pay18 (F := Ideal) v)) (k0_pay165 (F := Ideal) (k0_pay151 (F := Ideal) g)))) (k0_pay349 (F := Ideal) (k0_pay308 (F := Ideal) k0_pay22 (k0_pay89 (F := Ideal) (k0_pay14 (F := Ideal) q) (k0_pay64 (F := Ideal) (k0_pay43 (F := Ideal) (k0_pay23 (F := Ideal)) (k0_pay30 (F := Ideal) (k0_pay24 (F := Ideal) s w bg) (Scalar.ofBits .f32 0x00000000#32))))) (k0_pay111 (F := Ideal) (k0_pay64 (F := Ideal) (k0_pay43 (F := Ideal) (k0_pay23 (F := Ideal)) (k0_pay30 (F := Ideal) (k0_pay24 (F := Ideal) s w bg) (Scalar.ofBits .f32 0x00000000#32))))) (k0_pay236 (F := Ideal) (k0_pay133 (F := Ideal) (k0_pay64 (F := Ideal) (k0_pay43 (F := Ideal) (k0_pay23 (F := Ideal)) (k0_pay30 (F := Ideal) (k0_pay24 (F := Ideal) s w bg) (Scalar.ofBits .f32 0x00000000#32)))) (k0_pay72 (F := Ideal) (k0_pay30 (F := Ideal) (k0_pay24 (F := Ideal) s w bg) (Scalar.ofBits .f32 0x00000000#32)))) (k0_pay196 (F := Ideal) (k0_pay56 (F := Ideal) (k0_pay18 (F := Ideal) v)) (k0_pay156 (F := Ideal) S3))) (k0_pay261 (F := Ideal) (k0_pay56 (F := Ideal) (k0_pay18 (F := Ideal) v)) (k0_pay168 (F := Ideal) (k0_pay151 (F := Ideal) g)))) (k0_pay313 (F := Ideal) k0_pay22 (k0_pay86 (F := Ideal) (k0_pay63 (F := Ideal) (k0_pay43 (F := Ideal) (k0_pay23 (F := Ideal)) (k0_pay30 (F := Ideal) (k0_pay24 (F := Ideal) s w bg) (Scalar.ofBits .f32 0x00000000#32)))) (k0_pay83 (F := Ideal) (k0_pay14 (F := Ideal) q))) (k0_pay108 (F := Ideal) (k0_pay63 (F := Ideal) (k0_pay43 (F := Ideal) (k0_pay23 (F := Ideal)) (k0_pay30 (F := Ideal) (k0_pay24 (F := Ideal) s w bg) (Scalar.ofBits .f32 0x00000000#32))))) (k0_pay240 (F := Ideal) (k0_pay131 (F := Ideal) (k0_pay63 (F := Ideal) (k0_pay43 (F := Ideal) (k0_pay23 (F := Ideal)) (k0_pay30 (F := Ideal) (k0_pay24 (F := Ideal) s w bg) (Scalar.ofBits .f32 0x00000000#32)))) (k0_pay71 (F := Ideal) (k0_pay30 (F := Ideal) (k0_pay24 (F := Ideal) s w bg) (Scalar.ofBits .f32 0x00000000#32)))) (k0_pay202 (F := Ideal) (k0_pay55 (F := Ideal) (k0_pay18 (F := Ideal) v)) (k0_pay155 (F := Ideal) S2))) (k0_pay263 (F := Ideal) (k0_pay55 (F := Ideal) (k0_pay18 (F := Ideal) v)) (k0_pay167 (F := Ideal) (k0_pay151 (F := Ideal) g))))) (Scalar.ofBits .f32 0x00000000#32) (k0_pay350 (F := Ideal) (k0_pay318 (F := Ideal) (k0_pay82 (F := Ideal) (k0_pay14 (F := Ideal) q) (k0_pay43 (F := Ideal) (k0_pay23 (F := Ideal)) (k0_pay30 (F := Ideal) (k0_pay24 (F := Ideal) s w bg) (Scalar.ofBits .f32 0x00000000#32)))) (k0_pay105 (F := Ideal) (k0_pay62 (F := Ideal) (k0_pay43 (F := Ideal) (k0_pay23 (F := Ideal)) (k0_pay30 (F := Ideal) (k0_pay24 (F := Ideal) s w bg) (Scalar.ofBits .f32 0x00000000#32))))) (k0_pay244 (F := Ideal) (k0_pay129 (F := Ideal) (k0_pay62 (F := Ideal) (k0_pay43 (F := Ideal) (k0_pay23 (F := Ideal)) (k0_pay30 (F := Ideal) (k0_pay24 (F := Ideal) s w bg) (Scalar.ofBits .f32 0x00000000#32)))) (k0_pay128 (F := Ideal) (k0_pay70 (F := Ideal) (k0_pay30 (F := Ideal) (k0_pay24 (F := Ideal) s w bg) (Scalar.ofBits .f32 0x00000000#32))))) (k0_pay209 (F := Ideal) (k0_pay54 (F := Ideal) (k0_pay18 (F := Ideal) v)) (k0_pay154 (F := Ideal) S1))) (k0_pay315 (F := Ideal) k0_pay22 (k0_pay265 (F := Ideal) (k0_pay54 (F := Ideal) (k0_pay18 (F := Ideal) v)) (k0_pay166 (F := Ideal) (k0_pay151 (F := Ideal) g))))))) (ix2 t (lane h e))
      = gradK (qrow q h) (row v h) (row g h) (cum (lrow s w bg h)) (tot (lrow s w bg h)) (state (pick S0 S1 S2 S3 h)) t e := by
  rw [catK_0]
  fin_cases h
  · refine (gradK_0_0 _ _ _ _ _ _ _ _).trans ?_
    simp only [q_0, k_0, v_0, g_0, l_0, b_0]; rfl
  · refine (gradK_0_1 _ _ _ _ _ _ _ _).trans ?_
    simp only [q_0, k_0, v_0, g_0, l_0, b_0]; rfl
  · refine (gradK_0_2 _ _ _ _ _ _ _ _).trans ?_
    simp only [q_0, k_0, v_0, g_0, l_0, b_0]; rfl
  · refine (gradK_0_3 _ _ _ _ _ _ _ _).trans ?_
    simp only [q_0, k_0, v_0, g_0, l_0, b_0]; rfl

/-- Sequence 1: the gradient of `k`. -/
theorem blockK_1 (q v g : Vec Ideal S1x64x512 .f32) (s : Vec Ideal S1x64x128 .f32) (w : Vec Ideal S128x512 .f32)
    (bg : Vec Ideal S1x512 .f32) (S0 S1 S2 S3 : Vec Ideal S1x128x128 .f32) (t : Fin 64) (h : Fin 4) (e : Fin 128) :
    (k0_pay348 (F := Ideal) (k0_pay287 (F := Ideal) k0_pay22 (k0_pay101 (F := Ideal) (k0_pay15 (F := Ideal) q) (k0_pay68 (F := Ideal) (k0_pay44 (F := Ideal) (k0_pay23 (F := Ideal)) (k0_pay31 (F := Ideal) (k0_pay21 (F := Ideal) s) w bg) (k0_pay32 (F := Ideal) (k0_pay21 (F := Ideal) s) w bg)))) (k0_pay123 (F := Ideal) (k0_pay68 (F := Ideal) (k0_pay44 (F := Ideal) (k0_pay23 (F := Ideal)) (k0_pay31 (F := Ideal) (k0_pay21 (F := Ideal) s) w bg) (k0_pay32 (F := Ideal) (k0_pay21 (F := Ideal) s) w bg)))) (k0_pay219 (F := Ideal) (k0_pay141 (F := Ideal) (k0_pay68 (F := Ideal) (k0_pay44 (F := Ideal) (k0_pay23 (F := Ideal)) (k0_pay31 (F := Ideal) (k0_pay21 (F := Ideal) s) w bg) (k0_pay32 (F := Ideal) (k0_pay21 (F := Ideal) s) w bg))) (k0_pay76 (F := Ideal) (k0_pay42 (F := Ideal) (k0_pay31 (F := Ideal) (k0_pay21 (F := Ideal) s) w bg) (k0_pay32 (F := Ideal) (k0_pay21 (F := Ideal) s) w bg)))) (k0_pay171 (F := Ideal) (k0_pay60 (F := Ideal) (k0_pay19 (F := Ideal) v)) S3)) (k0_pay253 (F := Ideal) (k0_pay60 (F := Ideal) (k0_pay19 (F := Ideal) v)) (k0_pay164 (F := Ideal) (k0_pay152 (F := Ideal) g)))) (k0_pay292 (F := Ideal) k0_pay22 (k0_pay98 (F := Ideal) (k0_pay15 (F := Ideal) q) (k0_pay67 (F := Ideal) (k0_pay44 (F := Ideal) (k0_pay23 (F := Ideal)) (k0_pay31 (F := Ideal) (k0_pay21 (F := Ideal) s) w bg) (k0_pay32 (F := Ideal) (k0_pay21 (F := Ideal) s) w bg)))) (k0_pay120 (F := Ideal) (k0_pay67 (F := Ideal) (k0_pay44 (F := Ideal) (k0_pay23 (F := Ideal)) (k0_pay31 (F := Ideal) (k0_pay21 (F := Ideal) s) w bg) (k0_pay32 (F := Ideal) (k0_pay21 (F := Ideal) s) w bg)))) (k0_pay223 (F := Ideal) (k0_pay139 (F := Ideal) (k0_pay67 (F := Ideal) (k0_pay44 (F := Ideal) (k0_pay23 (F := Ideal)) (k0_pay31 (F := Ideal) (k0_pay21 (F := Ideal) s) w bg) (k0_pay32 (F := Ideal) (k0_pay21 (F := Ideal) s) w bg))) (k0_pay75 (F := Ideal) (k0_pay42 (F := Ideal) (k0_pay31 (F := Ideal) (k0_pay21 (F := Ideal) s) w bg) (k0_pay32 (F := Ideal) (k0_pay21 (F := Ideal) s) w bg)))) (k0_pay177 (F := Ideal) (k0_pay59 (F := Ideal) (k0_pay19 (F := Ideal) v)) S2)) (k0_pay255 (F := Ideal) (k0_pay59 (F := Ideal) (k0_pay19 (F := Ideal) v)) (k0_pay163 (F := Ideal) (k0_pay152 (F := Ideal) g)))) (k0_pay298 (F := Ideal) (k0_pay117 (F := Ideal) (k0_pay66 (F := Ideal) (k0_pay44 (F := Ideal) (k0_pay23 (F := Ideal)) (k0_pay31 (F := Ideal) (k0_pay21 (F := Ideal) s) w bg) (k0_pay32 (F := Ideal) (k0_pay21 (F := Ideal) s) w bg)))) (k0_pay227 (F := Ideal) (k0_pay137 (F := Ideal) (k0_pay66 (F := Ideal) (k0_pay44 (F := Ideal) (k0_pay23 (F := Ideal)) (k0_pay31 (F := Ideal) (k0_pay21 (F := Ideal) s) w bg) (k0_pay32 (F := Ideal) (k0_pay21 (F := Ideal) s) w bg))) (k0_pay74 (F := Ideal) (k0_pay42 (F := Ideal) (k0_pay31 (F := Ideal) (k0_pay21 (F := Ideal) s) w bg) (k0_pay32 (F := Ideal) (k0_pay21 (F := Ideal) s) w bg)))) (k0_pay184 (F := Ideal) (k0_pay58 (F := Ideal) (k0_pay19 (F := Ideal) v)) (k0_pay158 (F := Ideal) S1))) (k0_pay295 (F := Ideal) k0_pay22 (k0_pay95 (F := Ideal) (k0_pay15 (F := Ideal) q) (k0_pay66 (F := Ideal) (k0_pay44 (F := Ideal) (k0_pay23 (F := Ideal)) (k0_pay31 (F := Ideal) (k0_pay21 (F := Ideal) s) w bg) (k0_pay32 (F := Ideal) (k0_pay21 (F := Ideal) s) w bg)))) (k0_pay257 (F := Ideal) (k0_pay58 (F := Ideal) (k0_pay19 (F := Ideal) v)) (k0_pay162 (F := Ideal) (k0_pay152 (F := Ideal) g))))) (k0_pay303 (F := Ideal) k0_pay22 (k0_pay92 (F := Ideal) (k0_pay15 (F := Ideal) q) (k0_pay65 (F := Ideal) (k0_pay44 (F := Ideal) (k0_pay23 (F := Ideal)) (k0_pay31 (F := Ideal) (k0_pay21 (F := Ideal) s) w bg) (k0_pay32 (F := Ideal) (k0_pay21 (F := Ideal) s) w bg)))) (k0_pay114 (F := Ideal) (k0_pay65 (F := Ideal) (k0_pay44 (F := Ideal) (k0_pay23 (F := Ideal)) (k0_pay31 (F := Ideal) (k0_pay21 (F := Ideal) s) w bg) (k0_pay32 (F := Ideal) (k0_pay21 (F := Ideal) s) w bg)))) (k0_pay232 (F := Ideal) (k0_pay135 (F := Ideal) (k0_pay65 (F := Ideal) (k0_pay44 (F := Ideal) (k0_pay23 (F := Ideal)) (k0_pay31 (F := Ideal) (k0_pay21 (F := Ideal) s) w bg) (k0_pay32 (F := Ideal) (k0_pay21 (F := Ideal) s) w bg))) (k0_pay73 (F := Ideal) (k0_pay42 (F := Ideal) (k0_pay31 (F := Ideal) (k0_pay21 (F := Ideal) s) w bg) (k0_pay32 (F := Ideal) (k0_pay21 (F := Ideal) s) w bg)))) (k0_pay190 (F := Ideal) (k0_pay57 (F := Ideal) (k0_pay19 (F := Ideal) v)) (k0_pay157 (F := Ideal) S0))) (k0_pay259 (F := Ideal) (k0_pay57 (F := Ideal) (k0_pay19 (F := Ideal) v)) (k0_pay161 (F := Ideal) (k0_pay152 (F := Ideal) g))))) (ix2 t (lane h e))
      = gradK (qrow q h) (row v h) (row g h) (cum (lrow s w bg h)) (tot (lrow s w bg h)) (state (pick S0 S1 S2 S3 h)) t e := by
  rw [catK_1]
  fin_cases h
  · refine (gradK_1_0 _ _ _ _ _ _ _ _).trans ?_
    simp only [q_1, k_1, v_1, g_1, l_1, b_1]; rfl
  · refine (gradK_1_1 _ _ _ _ _ _ _ _).trans ?_
    simp only [q_1, k_1, v_1, g_1, l_1, b_1]; rfl
  · refine (gradK_1_2 _ _ _ _ _ _ _ _).trans ?_
    simp only [q_1, k_1, v_1, g_1, l_1, b_1]; rfl
  · refine (gradK_1_3 _ _ _ _ _ _ _ _).trans ?_
    simp only [q_1, k_1, v_1, g_1, l_1, b_1]; rfl

/-- Sequence 0: the gradient of `v`. -/
theorem blockV_0 (q k g : Vec Ideal S1x64x512 .f32) (s : Vec Ideal S1x64x128 .f32) (w : Vec Ideal S128x512 .f32)
    (bg : Vec Ideal S1x512 .f32) (S0 S1 S2 S3 : Vec Ideal S1x128x128 .f32) (t : Fin 64) (h : Fin 4) (e : Fin 128) :
    (k0_pay347 (F := Ideal) (k0_pay260 (F := Ideal) (k0_pay113 (F := Ideal) k0_pay22 (k0_pay48 (F := Ideal) (k0_pay16 (F := Ideal) k)) (k0_pay64 (F := Ideal) (k0_pay43 (F := Ideal) (k0_pay23 (F := Ideal)) (k0_pay30 (F := Ideal) (k0_pay24 (F := Ideal) s w bg) (Scalar.ofBits .f32 0x00000000#32)))) (k0_pay89 (F := Ideal) (k0_pay14 (F := Ideal) q) (k0_pay64 (F := Ideal) (k0_pay43 (F := Ideal) (k0_pay23 (F := Ideal)) (k0_pay30 (F := Ideal) (k0_pay24 (F := Ideal) s w bg) (Scalar.ofBits .f32 0x00000000#32)))))) (k0_pay168 (F := Ideal) (k0_pay151 (F := Ideal) g)) (k0_pay197 (F := Ideal) (k0_pay134 (F := Ideal) (k0_pay48 (F := Ideal) (k0_pay16 (F := Ideal) k)) (k0_pay64 (F := Ideal) (k0_pay43 (F := Ideal) (k0_pay23 (F := Ideal)) (k0_pay30 (F := Ideal) (k0_pay24 (F := Ideal) s w bg) (Scalar.ofBits .f32 0x00000000#32)))) (k0_pay72 (F := Ideal) (k0_pay30 (F := Ideal) (k0_pay24 (F := Ideal) s w bg) (Scalar.ofBits .f32 0x00000000#32)))) (k0_pay156 (F := Ideal) S3))) (k0_pay262 (F := Ideal) (k0_pay110 (F := Ideal) k0_pay22 (k0_pay86 (F := Ideal) (k0_pay63 (F := Ideal) (k0_pay43 (F := Ideal) (k0_pay23 (F := Ideal)) (k0_pay30 (F := Ideal) (k0_pay24 (F := Ideal) s w bg) (Scalar.ofBits .f32 0x00000000#32)))) (k0_pay83 (F := Ideal) (k0_pay14 (F := Ideal) q))) (k0_pay109 (F := Ideal) (k0_pay47 (F := Ideal) (k0_pay16 (F := Ideal) k)) (k0_pay63 (F := Ideal) (k0_pay43 (F := Ideal) (k0_pay23 (F := Ideal)) (k0_pay30 (F := Ideal) (k0_pay24 (F := Ideal) s w bg) (Scalar.ofBits .f32 0x00000000#32)))))) (k0_pay167 (F := Ideal) (k0_pay151 (F := Ideal) g)) (k0_pay203 (F := Ideal) (k0_pay132 (F := Ideal) (k0_pay47 (F := Ideal) (k0_pay16 (F := Ideal) k)) (k0_pay63 (F := Ideal) (k0_pay43 (F := Ideal) (k0_pay23 (F := Ideal)) (k0_pay30 (F := Ideal) (k0_pay24 (F := Ideal) s w bg) (Scalar.ofBits .f32 0x00000000#32)))) (k0_pay71 (F := Ideal) (k0_pay30 (F := Ideal) (k0_pay24 (F := Ideal) s w bg) (Scalar.ofBits .f32 0x00000000#32)))) (k0_pay155 (F := Ideal) S2))) (k0_pay264 (F := Ideal) (k0_pay107 (F := Ideal) k0_pay22 (k0_pay46 (F := Ideal) (k0_pay16 (F := Ideal) k)) (k0_pay62 (F := Ideal) (k0_pay43 (F := Ideal) (k0_pay23 (F := Ideal)) (k0_pay30 (F := Ideal) (k0_pay24 (F := Ideal) s w bg) (Scalar.ofBits .f32 0x00000000#32)))) (k0_pay82 (F := Ideal) (k0_pay14 (F := Ideal) q) (k0_pay43 (F := Ideal) (k0_pay23 (F := Ideal)) (k0_pay30 (F := Ideal) (k0_pay24 (F := Ideal) s w bg) (Scalar.ofBits .f32 0x00000000#32))))) (k0_pay166 (F := Ideal) (k0_pay151 (F := Ideal) g)) (k0_pay210 (F := Ideal) (k0_pay130 (F := Ideal) (k0_pay46 (F := Ideal) (k0_pay16 (F := Ideal) k)) (k0_pay62 (F := Ideal) (k0_pay43 (F := Ideal) (k0_pay23 (F := Ideal)) (k0_pay30 (F := Ideal) (k0_pay24 (F := Ideal) s w bg) (Scalar.ofBits .f32 0x00000000#32)))) (k0_pay128 (F := Ideal) (k0_pay70 (F := Ideal) (k0_pay30 (F := Ideal) (k0_pay24 (F := Ideal) s w bg) (Scalar.ofBits .f32 0x00000000#32))))) (k0_pay154 (F := Ideal) S1))) (k0_pay266 (F := Ideal) (k0_pay104 (F := Ideal) k0_pay22 (k0_pay45 (F := Ideal) (k0_pay16 (F := Ideal) k)) (k0_pay61 (F := Ideal) (k0_pay43 (F := Ideal) (k0_pay23 (F := Ideal)) (k0_pay30 (F := Ideal) (k0_pay24 (F := Ideal) s w bg) (Scalar.ofBits .f32 0x00000000#32)))) (k0_pay79 (F := Ideal) (k0_pay14 (F := Ideal) q) (k0_pay43 (F := Ideal) (k0_pay23 (F := Ideal)) (k0_pay30 (F := Ideal) (k0_pay24 (F := Ideal) s w bg) (Scalar.ofBits .f32 0x00000000#32))))) (k0_pay165 (F := Ideal) (k0_pay151 (F := Ideal) g)) (k0_pay216 (F := Ideal) (k0_pay127 (F := Ideal) (k0_pay45 (F := Ideal) (k0_pay16 (F := Ideal) k)) (k0_pay61 (F := Ideal) (k0_pay43 (F := Ideal) (k0_pay23 (F := Ideal)) (k0_pay30 (F := Ideal) (k0_pay24 (F := Ideal) s w bg) (Scalar.ofBits .f32 0x00000000#32)))) (k0_pay69 (F := Ideal) (k0_pay30 (F := Ideal) (k0_pay24 (F := Ideal) s w bg) (Scalar.ofBits .f32 0x00000000#32)))) (k0_pay153 (F := Ideal) S0)))) (ix2 t (lane h e))
      = gradV (qrow q h) (row k h) (row g h) (cum (lrow s w bg h)) (tot (lrow s w bg h)) (state (pick S0 S1 S2 S3 h)) t e := by
  rw [catV_0]
  fin_cases h
  · refine (gradV_0_0 _ _ _ _ _ _ _ _).trans ?_
    simp only [q_0, k_0, v_0, g_0, l_0, b_0]; rfl
  · refine (gradV_0_1 _ _ _ _ _ _ _ _).trans ?_
    simp only [q_0, k_0, v_0, g_0, l_0, b_0]; rfl
  · refine (gradV_0_2 _ _ _ _ _ _ _ _).trans ?_
    simp only [q_0, k_0, v_0, g_0, l_0, b_0]; rfl
  · refine (gradV_0_3 _ _ _ _ _ _ _ _).trans ?_
    simp only [q_0, k_0, v_0, g_0, l_0, b_0]; rfl

/-- Sequence 1: the gradient of `v`. -/
theorem blockV_1 (q k g : Vec Ideal S1x64x512 .f32) (s : Vec Ideal S1x64x128 .f32) (w : Vec Ideal S128x512 .f32)
    (bg : Vec Ideal S1x512 .f32) (S0 S1 S2 S3 : Vec Ideal S1x128x128 .f32) (t : Fin 64) (h : Fin 4) (e : Fin 128) :
    (k0_pay346 (F := Ideal) (k0_pay256 (F := Ideal) (k0_pay119 (F := Ideal) k0_pay22 (k0_pay50 (F := Ideal) (k0_pay17 (F := Ideal) k)) (k0_pay66 (F := Ideal) (k0_pay44 (F := Ideal) (k0_pay23 (F := Ideal)) (k0_pay31 (F := Ideal) (k0_pay21 (F := Ideal) s) w bg) (k0_pay32 (F := Ideal) (k0_pay21 (F := Ideal) s) w bg))) (k0_pay95 (F := Ideal) (k0_pay15 (F := Ideal) q) (k0_pay66 (F := Ideal) (k0_pay44 (F := Ideal) (k0_pay23 (F := Ideal)) (k0_pay31 (F := Ideal) (k0_pay21 (F := Ideal) s) w bg) (k0_pay32 (F := Ideal) (k0_pay21 (F := Ideal) s) w bg))))) (k0_pay162 (F := Ideal) (k0_pay152 (F := Ideal) g)) (k0_pay185 (F := Ideal) (k0_pay138 (F := Ideal) (k0_pay50 (F := Ideal) (k0_pay17 (F := Ideal) k)) (k0_pay66 (F := Ideal) (k0_pay44 (F := Ideal) (k0_pay23 (F := Ideal)) (k0_pay31 (F := Ideal) (k0_pay21 (F := Ideal) s) w bg) (k0_pay32 (F := Ideal) (k0_pay21 (F := Ideal) s) w bg))) (k0_pay74 (F := Ideal) (k0_pay42 (F := Ideal) (k0_pay31 (F := Ideal) (k0_pay21 (F := Ideal) s) w bg) (k0_pay32 (F := Ideal) (k0_pay21 (F := Ideal) s) w bg)))) (k0_pay158 (F := Ideal) S1))) (k0_pay258 (F := Ideal) (k0_pay116 (F := Ideal) k0_pay22 (k0_pay49 (F := Ideal) (k0_pay17 (F := Ideal) k)) (k0_pay65 (F := Ideal) (k0_pay44 (F := Ideal) (k0_pay23 (F := Ideal)) (k0_pay31 (F := Ideal) (k0_pay21 (F := Ideal) s) w bg) (k0_pay32 (F := Ideal) (k0_pay21 (F := Ideal) s) w bg))) (k0_pay92 (F := Ideal) (k0_pay15 (F := Ideal) q) (k0_pay65 (F := Ideal) (k0_pay44 (F := Ideal) (k0_pay23 (F := Ideal)) (k0_pay31 (F := Ideal) (k0_pay21 (F := Ideal) s) w bg) (k0_pay32 (F := Ideal) (k0_pay21 (F := Ideal) s) w bg))))) (k0_pay161 (F := Ideal) (k0_pay152 (F := Ideal) g)) (k0_pay191 (F := Ideal) (k0_pay136 (F := Ideal) (k0_pay49 (F := Ideal) (k0_pay17 (F := Ideal) k)) (k0_pay65 (F := Ideal) (k0_pay44 (F := Ideal) (k0_pay23 (F := Ideal)) (k0_pay31 (F := Ideal) (k0_pay21 (F := Ideal) s) w bg) (k0_pay32 (F := Ideal) (k0_pay21 (F := Ideal) s) w bg))) (k0_pay73 (F := Ideal) (k0_pay42 (F := Ideal) (k0_pay31 (F := Ideal) (k0_pay21 (F := Ideal) s) w bg) (k0_pay32 (F := Ideal) (k0_pay21 (F := Ideal) s) w bg)))) (k0_pay157 (F := Ideal) S0))) (k0_pay345 (F := Ideal) (k0_pay252 (F := Ideal) (k0_pay125 (F := Ideal) k0_pay22 (k0_pay52 (F := Ideal) (k0_pay17 (F := Ideal) k)) (k0_pay68 (F := Ideal) (k0_pay44 (F := Ideal) (k0_pay23 (F := Ideal)) (k0_pay31 (F := Ideal) (k0_pay21 (F := Ideal) s) w bg) (k0_pay32 (F := Ideal) (k0_pay21 (F := Ideal) s) w bg))) (k0_pay101 (F := Ideal) (k0_pay15 (F := Ideal) q) (k0_pay68 (F := Ideal) (k0_pay44 (F := Ideal) (k0_pay23 (F := Ideal)) (k0_pay31 (F := Ideal) (k0_pay21 (F := Ideal) s) w bg) (k0_pay32 (F := Ideal) (k0_pay21 (F := Ideal) s) w bg))))) (k0_pay164 (F := Ideal) (k0_pay152 (F := Ideal) g)) (k0_pay172 (F := Ideal) (k0_pay142 (F := Ideal) (k0_pay52 (F := Ideal) (k0_pay17 (F := Ideal) k)) (k0_pay68 (F := Ideal) (k0_pay44 (F := Ideal) (k0_pay23 (F := Ideal)) (k0_pay31 (F := Ideal) (k0_pay21 (F := Ideal) s) w bg) (k0_pay32 (F := Ideal) (k0_pay21 (F := Ideal) s) w bg))) (k0_pay76 (F := Ideal) (k0_pay42 (F := Ideal) (k0_pay31 (F := Ideal) (k0_pay21 (F := Ideal) s) w bg) (k0_pay32 (F := Ideal) (k0_pay21 (F := Ideal) s) w bg)))) S3)) (k0_pay254 (F := Ideal) (k0_pay122 (F := Ideal) k0_pay22 (k0_pay51 (F := Ideal) (k0_pay17 (F := Ideal) k)) (k0_pay67 (F := Ideal) (k0_pay44 (F := Ideal) (k0_pay23 (F := Ideal)) (k0_pay31 (F := Ideal) (k0_pay21 (F := Ideal) s) w bg) (k0_pay32 (F := Ideal) (k0_pay21 (F := Ideal) s) w bg))) (k0_pay98 (F := Ideal) (k0_pay15 (F := Ideal) q) (k0_pay67 (F := Ideal) (k0_pay44 (F := Ideal) (k0_pay23 (F := Ideal)) (k0_pay31 (F := Ideal) (k0_pay21 (F := Ideal) s) w bg) (k0_pay32 (F := Ideal) (k0_pay21 (F := Ideal) s) w bg))))) (k0_pay163 (F := Ideal) (k0_pay152 (F := Ideal) g)) (k0_pay178 (F := Ideal) (k0_pay140 (F := Ideal) (k0_pay51 (F := Ideal) (k0_pay17 (F := Ideal) k)) (k0_pay67 (F := Ideal) (k0_pay44 (F := Ideal) (k0_pay23 (F := Ideal)) (k0_pay31 (F := Ideal) (k0_pay21 (F := Ideal) s) w bg) (k0_pay32 (F := Ideal) (k0_pay21 (F := Ideal) s) w bg))) (k0_pay75 (F := Ideal) (k0_pay42 (F := Ideal) (k0_pay31 (F := Ideal) (k0_pay21 (F := Ideal) s) w bg) (k0_pay32 (F := Ideal) (k0_pay21 (F := Ideal) s) w bg)))) S2) (constant S128x64 .f32 0x00000000#32)))) (ix2 t (lane h e))
      = gradV (qrow q h) (row k h) (row g h) (cum (lrow s w bg h)) (tot (lrow s w bg h)) (state (pick S0 S1 S2 S3 h)) t e := by
  rw [catV_1]
  fin_cases h
  · refine (gradV_1_0 _ _ _ _ _ _ _ _).trans ?_
    simp only [q_1, k_1, v_1, g_1, l_1, b_1]; rfl
  · refine (gradV_1_1 _ _ _ _ _ _ _ _).trans ?_
    simp only [q_1, k_1, v_1, g_1, l_1, b_1]; rfl
  · refine (gradV_1_2 _ _ _ _ _ _ _ _).trans ?_
    simp only [q_1, k_1, v_1, g_1, l_1, b_1]; rfl
  · refine (gradV_1_3 _ _ _ _ _ _ _ _).trans ?_
    simp only [q_1, k_1, v_1, g_1, l_1, b_1]; rfl

/-- Sequence 0, head 0: the state handed on. -/
theorem blockS_0_0 (q g : Vec Ideal S1x64x512 .f32) (s : Vec Ideal S1x64x128 .f32) (w : Vec Ideal S128x512 .f32)
    (bg : Vec Ideal S1x512 .f32) (S0 : Vec Ideal S1x128x128 .f32) (d e : Fin 128) :
    (k0_pay282 (F := Ideal) (k0_pay79 (F := Ideal) (k0_pay14 (F := Ideal) q) (k0_pay43 (F := Ideal) (k0_pay23 (F := Ideal)) (k0_pay30 (F := Ideal) (k0_pay24 (F := Ideal) s w bg) (Scalar.ofBits .f32 0x00000000#32)))) (k0_pay165 (F := Ideal) (k0_pay151 (F := Ideal) g)) (k0_pay217 (F := Ideal) (k0_pay143 (F := Ideal) (k0_pay69 (F := Ideal) (k0_pay30 (F := Ideal) (k0_pay24 (F := Ideal) s w bg) (Scalar.ofBits .f32 0x00000000#32)))) (k0_pay153 (F := Ideal) S0))) (ix2 e d)
      = gradS (qrow q 0) (row g 0) (cum (lrow s w bg 0)) (tot (lrow s w bg 0)) (state S0) d e := by
  refine (gradS_0_0 _ _ _ _ _ _ _).trans ?_
  simp only [q_0, g_0, l_0, b_0]

/-- Sequence 0, head 1: the state handed on. -/
theorem blockS_0_1 (q g : Vec Ideal S1x64x512 .f32) (s : Vec Ideal S1x64x128 .f32) (w : Vec Ideal S128x512 .f32)
    (bg : Vec Ideal S1x512 .f32) (S1 : Vec Ideal S1x128x128 .f32) (d e : Fin 128) :
    (k0_pay280 (F := Ideal) (k0_pay82 (F := Ideal) (k0_pay14 (F := Ideal) q) (k0_pay43 (F := Ideal) (k0_pay23 (F := Ideal)) (k0_pay30 (F := Ideal) (k0_pay24 (F := Ideal) s w bg) (Scalar.ofBits .f32 0x00000000#32)))) (k0_pay166 (F := Ideal) (k0_pay151 (F := Ideal) g)) (k0_pay211 (F := Ideal) (k0_pay144 (F := Ideal) (k0_pay70 (F := Ideal) (k0_pay30 (F := Ideal) (k0_pay24 (F := Ideal) s w bg) (Scalar.ofBits .f32 0x00000000#32)))) (k0_pay154 (F := Ideal) S1))) (ix2 e d)
      = gradS (qrow q 1) (row g 1) (cum (lrow s w bg 1)) (tot (lrow s w bg 1)) (state S1) d e := by
  refine (gradS_0_1 _ _ _ _ _ _ _).trans ?_
  simp only [q_0, g_0, l_0, b_0]

/-- Sequence 0, head 2: the state handed on. -/
theorem blockS_0_2 (q g : Vec Ideal S1x64x512 .f32) (s : Vec Ideal S1x64x128 .f32) (w : Vec Ideal S128x512 .f32)
    (bg : Vec Ideal S1x512 .f32) (S2 : Vec Ideal S1x128x128 .f32) (d e : Fin 128) :
    (k0_pay278 (F := Ideal) (k0_pay86 (F := Ideal) (k0_pay63 (F := Ideal) (k0_pay43 (F := Ideal) (k0_pay23 (F := Ideal)) (k0_pay30 (F := Ideal) (k0_pay24 (F := Ideal) s w bg) (Scalar.ofBits .f32 0x00000000#32)))) (k0_pay83 (F := Ideal) (k0_pay14 (F := Ideal) q))) (k0_pay167 (F := Ideal) (k0_pay151 (F := Ideal) g)) (k0_pay205 (F := Ideal) (k0_pay145 (F := Ideal) (k0_pay71 (F := Ideal) (k0_pay30 (F := Ideal) (k0_pay24 (F := Ideal) s w bg) (Scalar.ofBits .f32 0x00000000#32)))) (k0_pay200 (F := Ideal) (k0_pay155 (F := Ideal) S2)))) (ix2 e d)
      = gradS (qrow q 2) (row g 2) (cum (lrow s w bg 2)) (tot (lrow s w bg 2)) (state S2) d e := by
  refine (gradS_0_2 _ _ _ _ _ _ _).trans ?_
  simp only [q_0, g_0, l_0, b_0]

/-- Sequence 0, head 3: the state handed on. -/
theorem blockS_0_3 (q g : Vec Ideal S1x64x512 .f32) (s : Vec Ideal S1x64x128 .f32) (w : Vec Ideal S128x512 .f32)
    (bg : Vec Ideal S1x512 .f32) (S3 : Vec Ideal S1x128x128 .f32) (d e : Fin 128) :
    (k0_pay276 (F := Ideal) (k0_pay89 (F := Ideal) (k0_pay14 (F := Ideal) q) (k0_pay64 (F := Ideal) (k0_pay43 (F := Ideal) (k0_pay23 (F := Ideal)) (k0_pay30 (F := Ideal) (k0_pay24 (F := Ideal) s w bg) (Scalar.ofBits .f32 0x00000000#32))))) (k0_pay168 (F := Ideal) (k0_pay151 (F := Ideal) g)) (k0_pay198 (F := Ideal) (k0_pay146 (F := Ideal) (k0_pay72 (F := Ideal) (k0_pay30 (F := Ideal) (k0_pay24 (F := Ideal) s w bg) (Scalar.ofBits .f32 0x00000000#32)))) (k0_pay156 (F := Ideal) S3))) (ix2 e d)
      = gradS (qrow q 3) (row g 3) (cum (lrow s w bg 3)) (tot (lrow s w bg 3)) (state S3) d e := by
  refine (gradS_0_3 _ _ _ _ _ _ _).trans ?_
  simp only [q_0, g_0, l_0, b_0]

/-- Sequence 1, head 0: the state handed on. -/
theorem blockS_1_0 (q g : Vec Ideal S1x64x512 .f32) (s : Vec Ideal S1x64x128 .f32) (w : Vec Ideal S128x512 .f32)
    (bg : Vec Ideal S1x512 .f32) (S0 : Vec Ideal S1x128x128 .f32) (d e : Fin 128) :
    (k0_pay274 (F := Ideal) (k0_pay92 (F := Ideal) (k0_pay15 (F := Ideal) q) (k0_pay65 (F := Ideal) (k0_pay44 (F := Ideal) (k0_pay23 (F := Ideal)) (k0_pay31 (F := Ideal) (k0_pay21 (F := Ideal) s) w bg) (k0_pay32 (F := Ideal) (k0_pay21 (F := Ideal) s) w bg)))) (k0_pay161 (F := Ideal) (k0_pay152 (F := Ideal) g)) (k0_pay192 (F := Ideal) (k0_pay147 (F := Ideal) (k0_pay73 (F := Ideal) (k0_pay42 (F := Ideal) (k0_pay31 (F := Ideal) (k0_pay21 (F := Ideal) s) w bg) (k0_pay32 (F := Ideal) (k0_pay21 (F := Ideal) s) w bg)))) (k0_pay157 (F := Ideal) S0))) (ix2 e d)
      = gradS (qrow q 0) (row g 0) (cum (lrow s w bg 0)) (tot (lrow s w bg 0)) (state S0) d e := by
  refine (gradS_1_0 _ _ _ _ _ _ _).trans ?_
  simp only [q_1, g_1, l_1, b_1]

/-- Sequence 1, head 1: the state handed on. -/
theorem blockS_1_1 (q g : Vec Ideal S1x64x512 .f32) (s : Vec Ideal S1x64x128 .f32) (w : Vec Ideal S128x512 .f32)
    (bg : Vec Ideal S1x512 .f32) (S1 : Vec Ideal S1x128x128 .f32) (d e : Fin 128) :
    (k0_pay272 (F := Ideal) (k0_pay95 (F := Ideal) (k0_pay15 (F := Ideal) q) (k0_pay66 (F := Ideal) (k0_pay44 (F := Ideal) (k0_pay23 (F := Ideal)) (k0_pay31 (F := Ideal) (k0_pay21 (F := Ideal) s) w bg) (k0_pay32 (F := Ideal) (k0_pay21 (F := Ideal) s) w bg)))) (k0_pay162 (F := Ideal) (k0_pay152 (F := Ideal) g)) (k0_pay186 (F := Ideal) (k0_pay148 (F := Ideal) (k0_pay74 (F := Ideal) (k0_pay42 (F := Ideal) (k0_pay31 (F := Ideal) (k0_pay21 (F := Ideal) s) w bg) (k0_pay32 (F := Ideal) (k0_pay21 (F := Ideal) s) w bg)))) (k0_pay158 (F := Ideal) S1))) (ix2 e d)
      = gradS (qrow q 1) (row g 1) (cum (lrow s w bg 1)) (tot (lrow s w bg 1)) (state S1) d e := by
  refine (gradS_1_1 _ _ _ _ _ _ _).trans ?_
  simp only [q_1, g_1, l_1, b_1]

/-- Sequence 1, head 2: the state handed on. -/
theorem blockS_1_2 (q g : Vec Ideal S1x64x512 .f32) (s : Vec Ideal S1x64x128 .f32) (w : Vec Ideal S128x512 .f32)
    (bg : Vec Ideal S1x512 .f32) (S2 : Vec Ideal S1x128x128 .f32) (d e : Fin 128) :
    (k0_pay270 (F := Ideal) (k0_pay98 (F := Ideal) (k0_pay15 (F := Ideal) q) (k0_pay67 (F := Ideal) (k0_pay44 (F := Ideal) (k0_pay23 (F := Ideal)) (k0_pay31 (F := Ideal) (k0_pay21 (F := Ideal) s) w bg) (k0_pay32 (F := Ideal) (k0_pay21 (F := Ideal) s) w bg)))) (k0_pay163 (F := Ideal) (k0_pay152 (F := Ideal) g)) (k0_pay180 (F := Ideal) (k0_pay149 (F := Ideal) (k0_pay75 (F := Ideal) (k0_pay42 (F := Ideal) (k0_pay31 (F := Ideal) (k0_pay21 (F := Ideal) s) w bg) (k0_pay32 (F := Ideal) (k0_pay21 (F := Ideal) s) w bg)))) (k0_pay175 (F := Ideal) S2))) (ix2 e d)
      = gradS (qrow q 2) (row g 2) (cum (lrow s w bg 2)) (tot (lrow s w bg 2)) (state S2) d e := by
  refine (gradS_1_2 _ _ _ _ _ _ _).trans ?_
  simp only [q_1, g_1, l_1, b_1]

/-- Sequence 1, head 3: the state handed on. -/
theorem blockS_1_3 (q g : Vec Ideal S1x64x512 .f32) (s : Vec Ideal S1x64x128 .f32) (w : Vec Ideal S128x512 .f32)
    (bg : Vec Ideal S1x512 .f32) (S3 : Vec Ideal S1x128x128 .f32) (d e : Fin 128) :
    (k0_pay268 (F := Ideal) (k0_pay101 (F := Ideal) (k0_pay15 (F := Ideal) q) (k0_pay68 (F := Ideal) (k0_pay44 (F := Ideal) (k0_pay23 (F := Ideal)) (k0_pay31 (F := Ideal) (k0_pay21 (F := Ideal) s) w bg) (k0_pay32 (F := Ideal) (k0_pay21 (F := Ideal) s) w bg)))) (k0_pay164 (F := Ideal) (k0_pay152 (F := Ideal) g)) (k0_pay173 (F := Ideal) (k0_pay150 (F := Ideal) (k0_pay76 (F := Ideal) (k0_pay42 (F := Ideal) (k0_pay31 (F := Ideal) (k0_pay21 (F := Ideal) s) w bg) (k0_pay32 (F := Ideal) (k0_pay21 (F := Ideal) s) w bg)))) S3)) (ix2 e d)
      = gradS (qrow q 3) (row g 3) (cum (lrow s w bg 3)) (tot (lrow s w bg 3)) (state S3) d e := by
  refine (gradS_1_3 _ _ _ _ _ _ _).trans ?_
  simp only [q_1, g_1, l_1, b_1]

end Cert.KernelIdeal.Blocks
end
-- ==== Proof.ChunkSeq.lean ====
/-
  The backward pass of the gated linear attention over a whole sequence: what a chunk reads of the arrays, the states handed
  from the last chunk to the first, and the gradients of `k` and `v` each chunk makes.
-/
module

public import proofs.«01_k».proof.Proof.Chunk

@[expose] public section

noncomputable section

namespace Cert.Chunk

open Idealize.ShloMosaic

/-- Row `t` of chunk `p`. -/
def pos (p : Fin 32) (t : Fin 64) : Fin 2048 := ⟨64 * p.val + t.val, by omega⟩

/-- The chunk that step `n` of the backward pass works on: the last one first. -/
def back (n : ℕ) : Fin 32 := ⟨31 - n, by omega⟩

variable (P : Fin 2 → Fin 2048 → Fin 4224 → EReal) (W : Fin 128 → Fin 512 → EReal) (B : Fin 512 → EReal)
  (G : Fin 2 → Fin 2048 → Fin 512 → EReal)

/-- The queries of chunk `p`, at the attention's scale. -/
def qs (p : Fin 32) (b : Fin 2) (h : Fin 4) : Rows :=
  fun t d => P b (pos p t) ⟨2048 + (lane h d).val, by omega⟩ * Ideal.ofBits FTy.f32 1040187392#32

/-- The keys of chunk `p`. -/
def ks (p : Fin 32) (b : Fin 2) (h : Fin 4) : Rows := fun t d => P b (pos p t) ⟨2560 + (lane h d).val, by omega⟩

/-- The values of chunk `p`. -/
def vs (p : Fin 32) (b : Fin 2) (h : Fin 4) : Rows := fun t d => P b (pos p t) ⟨3072 + (lane h d).val, by omega⟩

/-- The log decays of chunk `p`. -/
def ls (p : Fin 32) (b : Fin 2) (h : Fin 4) : Rows :=
  fun t d => decay ((∑ k : Fin 128, P b (pos p t) ⟨4096 + k.val, by omega⟩ * W k (lane h d)) + B (lane h d))

/-- The cotangents of chunk `p`. -/
def gs (p : Fin 32) (b : Fin 2) (h : Fin 4) : Rows := fun t d => G b (pos p t) (lane h d)

/-- The gradient of the state that step `n` starts from. -/
def dS : ℕ → Fin 2 → Fin 4 → Fin 128 → Fin 128 → EReal
  | 0 => fun _ _ _ _ => 0
  | n + 1 => fun b h => gradS (qs P (back n) b h) (gs G (back n) b h) (cum (ls P W B (back n) b h)) (tot (ls P W B (back n) b h)) (dS n b h)

/-- The gradient of `k` that step `n` makes. -/
def dK (n : ℕ) (b : Fin 2) (h : Fin 4) : Rows :=
  gradK (qs P (back n) b h) (vs P (back n) b h) (gs G (back n) b h) (cum (ls P W B (back n) b h)) (tot (ls P W B (back n) b h)) (dS P W B G n b h)

/-- The gradient of `v` that step `n` makes. -/
def dV (n : ℕ) (b : Fin 2) (h : Fin 4) : Rows :=
  gradV (qs P (back n) b h) (ks P (back n) b h) (gs G (back n) b h) (cum (ls P W B (back n) b h)) (tot (ls P W B (back n) b h)) (dS P W B G n b h)

/-- An array of all the chunks' rows, from what each step of the backward pass makes. -/
def whole (D : ℕ → Fin 2 → Fin 4 → Rows) (b : Fin 2) (r : Fin 2048) (j : Fin 512) : EReal :=
  D (31 - r.val / 64) b ⟨j.val / 128, by omega⟩ ⟨r.val % 64, by omega⟩ ⟨j.val % 128, by omega⟩

/-- `whole` at a row of a chunk and a channel of a head. -/
theorem whole_at (D : ℕ → Fin 2 → Fin 4 → Rows) (n : ℕ) (hn : n < 32) (b : Fin 2) (t : Fin 64) (h : Fin 4) (d : Fin 128) :
    whole D b (pos (back n) t) (lane h d) = D n b h t d := by
  have hl := lane_val h d
  have e1 : 31 - (pos (back n) t).val / 64 = n := by simp only [pos, back]; omega
  have e2 : (⟨(pos (back n) t).val % 64, by omega⟩ : Fin 64) = t := by apply Fin.ext; simp only [pos, back]; omega
  have e3 : (⟨(lane h d).val / 128, by omega⟩ : Fin 4) = h := by apply Fin.ext; simp only; omega
  have e4 : (⟨(lane h d).val % 128, by omega⟩ : Fin 128) = d := by apply Fin.ext; simp only; omega
  unfold whole
  rw [e1, e2, e3, e4]

/-- `gradS` of equal rows. -/
theorem gradS_congr {q q' g g' l l' : Rows} {S S' : Fin 128 → Fin 128 → EReal} (hq : q = q') (hg : g = g') (hl : l = l') (hS : S = S')
    (d e : Fin 128) : gradS q g (cum l) (tot l) S d e = gradS q' g' (cum l') (tot l') S' d e := by
  subst hq hg hl hS; rfl

/-- `gradK` of equal rows. -/
theorem gradK_congr {q q' v v' g g' l l' : Rows} {S S' : Fin 128 → Fin 128 → EReal} (hq : q = q') (hv : v = v') (hg : g = g') (hl : l = l')
    (hS : S = S') (t : Fin 64) (d : Fin 128) : gradK q v g (cum l) (tot l) S t d = gradK q' v' g' (cum l') (tot l') S' t d := by
  subst hq hv hg hl hS; rfl

/-- `gradV` of equal rows. -/
theorem gradV_congr {q q' k k' g g' l l' : Rows} {S S' : Fin 128 → Fin 128 → EReal} (hq : q = q') (hk : k = k') (hg : g = g') (hl : l = l')
    (hS : S = S') (t : Fin 64) (d : Fin 128) : gradV q k g (cum l) (tot l) S t d = gradV q' k' g' (cum l') (tot l') S' t d := by
  subst hq hk hg hl hS; rfl

end Cert.Chunk
end
-- ==== Proof.RecPts.lean ====
/-
  The kernel's grid, point by point: after point `n` the kernel's scratch holds the gradients of the state that step `n + 1` of the
  backward pass starts from, and the blocks it writes are the gradients of `k` and `v` of step `n`.
-/
module

public import proofs.«01_k».proof.Proof.Gen.KernelIdeal.Frame
public import proofs.«01_k».proof.Proof.RecBlk
public import proofs.«01_k».proof.Proof.ChunkSeq
public import Idealize.ShloMosaic.Lib.Pipeline.ValueKit
public import Idealize.ShloMosaic.Lib.Pointwise
public import Idealize.ShloMosaic.Lib.Pipeline.ReadBack

@[expose] public section

set_option maxRecDepth 16384

noncomputable section

namespace Cert.KernelIdeal.Points

open Idealize.ShloMosaic Idealize.ShloMosaic.TcCoe Idealize.SL.Sem
open Idealize.ShloMosaic.Pipeline (Dat)
open Cert.KernelIdeal Cert.KernelIdeal.Gen Cert.Chunk Cert.KernelIdeal.Blocks Cert.KernelIdeal.Heads

variable (m : (ℓ : Loc nD τ sig) → Buf (Elt Ideal) ℓ) (c : Dev nD)

/-- The projections, entry by entry. -/
def P (b : Fin 2) (r : Fin 2048) (j : Fin 4224) : EReal := m ((c : Thread nD τ).loc main_arg0) (ix3 b r j)

/-- The gate's matrix. -/
def W (k : Fin 128) (j : Fin 512) : EReal := m ((c : Thread nD τ).loc main_arg1) (ix2 k j)

/-- The gate's bias. -/
def B (j : Fin 512) : EReal := m ((c : Thread nD τ).loc main_arg2) (ix2 0 j)

/-- The cotangents. -/
def G (b : Fin 2) (r : Fin 2048) (j : Fin 512) : EReal := m ((c : Thread nD τ).loc main_arg4) (ix3 b r j)

/-- The blocks' places in their arrays, at every point of the grid. -/
theorem idx : ∀ t : Fin cfg0.N, win0_0.index t = ![0, 31 - t.val, 4] ∧ win0_1.index t = ![0, 31 - t.val, 5] ∧ win0_2.index t = ![0, 31 - t.val, 6]
    ∧ win0_3.index t = ![0, 31 - t.val, 32] ∧ win0_4.index t = ![0, 0] ∧ win0_5.index t = ![0, 0] ∧ win0_7.index t = ![0, 31 - t.val, 0]
    ∧ win0_10.index t = ![0, 31 - t.val, 0] ∧ win0_11.index t = ![0, 31 - t.val, 0] :=
  (by decide +kernel : ∀ t : Fin grid0.N, _)

theorem pos_back (t : ℕ) (ht : t < 32) (r : Fin 64) (h : 64 * (31 - t) + r.val < 2048) : (⟨64 * (31 - t) + r.val, h⟩ : Fin 2048) = pos (back t) r := by
  apply Fin.ext; simp only [pos, back]

theorem x0_at (t : Fin cfg0.N) (b : Fin 2) (r : Fin 64) (j : Fin 512) :
    X0_0 m c t (ix3 b r j) = P m c b (pos (back t.val) r) ⟨2048 + j.val, by omega⟩ := by
  unfold X0_0 Pipeline.Window.fill P pos back
  rw [dif_pos (moved0_0 t _)]
  blk_point [iblk, V, idx t]

theorem x1_at (t : Fin cfg0.N) (b : Fin 2) (r : Fin 64) (j : Fin 512) :
    X0_1 m c t (ix3 b r j) = P m c b (pos (back t.val) r) ⟨2560 + j.val, by omega⟩ := by
  unfold X0_1 Pipeline.Window.fill P pos back
  rw [dif_pos (moved0_1 t _)]
  blk_point [iblk, V, idx t]

theorem x2_at (t : Fin cfg0.N) (b : Fin 2) (r : Fin 64) (j : Fin 512) :
    X0_2 m c t (ix3 b r j) = P m c b (pos (back t.val) r) ⟨3072 + j.val, by omega⟩ := by
  unfold X0_2 Pipeline.Window.fill P pos back
  rw [dif_pos (moved0_2 t _)]
  blk_point [iblk, V, idx t]

theorem x3_at (t : Fin cfg0.N) (b : Fin 2) (r : Fin 64) (j : Fin 128) :
    iblk m c 3 t (ix3 b r j) = P m c b (pos (back t.val) r) ⟨4096 + j.val, by omega⟩ := by
  unfold P pos back
  blk_point [iblk, V, idx t]

theorem x4_at (t : Fin cfg0.N) (k : Fin 128) (j : Fin 512) : iblk m c 4 t (ix2 k j) = W m c k j := by
  unfold W
  blk_point [iblk, V, idx t]

theorem x5_at (t : Fin cfg0.N) (j : Fin 512) : iblk m c 5 t (ix2 0 j) = B m c j := by
  unfold B
  blk_point [iblk, V, idx t]

theorem x7_at (t : Fin cfg0.N) (b : Fin 2) (r : Fin 64) (j : Fin 512) :
    iblk m c 7 t (ix3 b r j) = G m c b (pos (back t.val) r) j := by
  unfold G pos back
  blk_point [iblk, V, idx t]

/-- A block's rows of `q`, from the window that holds them. -/
theorem q_of (t : Fin cfg0.N) (b : Fin 2) (h : Fin 4) {X : FVec Ideal S1x64x512 .f32} (hX : ∀ (r : Fin 64) (j : Fin 512), X (ix3 0 r j) = X0_0 m c t (ix3 b r j)) :
    qrow X h = qs (P m c) (back t.val) b h := by
  funext r d
  refine congrArg (· * _) ?_
  rw [hX, x0_at]

/-- A block's rows of `k`. -/
theorem k_of (t : Fin cfg0.N) (b : Fin 2) (h : Fin 4) {X : FVec Ideal S1x64x512 .f32} (hX : ∀ (r : Fin 64) (j : Fin 512), X (ix3 0 r j) = X0_1 m c t (ix3 b r j)) :
    row X h = ks (P m c) (back t.val) b h := by
  funext r d
  show X _ = P m c _ _ _
  rw [hX, x1_at]

/-- A block's rows of `v`. -/
theorem v_of (t : Fin cfg0.N) (b : Fin 2) (h : Fin 4) {X : FVec Ideal S1x64x512 .f32} (hX : ∀ (r : Fin 64) (j : Fin 512), X (ix3 0 r j) = X0_2 m c t (ix3 b r j)) :
    row X h = vs (P m c) (back t.val) b h := by
  funext r d
  show X _ = P m c _ _ _
  rw [hX, x2_at]

/-- A block's rows of the cotangent. -/
theorem g_of (t : Fin cfg0.N) (b : Fin 2) (h : Fin 4) {X : FVec Ideal S1x64x512 .f32} (hX : ∀ (r : Fin 64) (j : Fin 512), X (ix3 0 r j) = iblk m c 7 t (ix3 b r j)) :
    row X h = gs (G m c) (back t.val) b h := by
  funext r d
  show X _ = G m c _ _ _
  rw [hX, x7_at]

/-- A block's log decays. -/
theorem l_of (t : Fin cfg0.N) (b : Fin 2) (h : Fin 4) {s : FVec Ideal S1x64x128 .f32} {w : FVec Ideal S128x512 .f32} {bg : FVec Ideal S1x512 .f32}
    (hs : ∀ (r : Fin 64) (j : Fin 128), s (ix3 0 r j) = iblk m c 3 t (ix3 b r j)) (hw : ∀ (k : Fin 128) (j : Fin 512), w (ix2 k j) = iblk m c 4 t (ix2 k j))
    (hb : ∀ j : Fin 512, bg (ix2 0 j) = iblk m c 5 t (ix2 0 j)) :
    lrow s w bg h = ls (P m c) (W m c) (B m c) (back t.val) b h := by
  funext r d
  unfold lrow ls gate
  simp only [hs, hw, hb, x3_at, x4_at m c t, x5_at m c t]

/-- A block of the scratch that is a slice of `S`. -/
theorem s_of {X : FVec Ideal S1x128x128 .f32} {S : Fin 128 → Fin 128 → EReal} (hX : ∀ e d : Fin 128, X (ix3 0 e d) = S d e) : state X = S := by
  funext d e
  exact hX e d

/-- A row of the scratch is one pair of a batch and a head. -/
theorem pair_of (b : Fin 2) (g : Fin 4) (y : ℕ) (b' : Fin 2) (g' : Fin 4) (hy : y < 1) (h : 4 * b.val + g.val = (4 * b'.val + g'.val) + y) : b = b' ∧ g = g' :=
  ⟨Fin.ext (by omega), Fin.ext (by omega)⟩

/-- An entry of a block of the scratch. -/
theorem scr_ix (x : S1x128x128.Idx) (e d : Fin 128) (h1 : e.val = (x 1).val) (h2 : d.val = (x 2).val) : x = ix3 0 e d := by
  funext a
  fin_cases a
  exacts [Subsingleton.elim (α := Fin 1) _ _, Fin.ext h1.symm, Fin.ext h2.symm]

/-- An entry of a block of the results. -/
theorem out_ix (x : S1x64x512.Idx) (r : Fin 64) (j : Fin 512) (h1 : r.val = (x 1).val) (h2 : j.val = (x 2).val) : x = ix3 0 r j := by
  funext a
  fin_cases a
  exacts [Subsingleton.elim (α := Fin 1) _ _, Fin.ext h1.symm, Fin.ext h2.symm]

/-- Stores that the later ones cover are not seen. -/
theorem canon_drop {s : Shape} {e : EltTy} (L' : List (View.Piece (Elt Ideal) s e)) : ∀ (L : List (View.Piece (Elt Ideal) s e)) (y : s.Idx)
    (_ : ∃ p ∈ L, y ∈ p.1.set), View.canon (L ++ L') y = View.canon L y
  | [], _, h => by obtain ⟨p, hp, _⟩ := h; exact absurd hp List.not_mem_nil
  | p :: L, y, h => by
    by_cases hm : y ∈ p.1.set
    · obtain ⟨x, rfl⟩ := p.1.exists_idx_of_mem hm
      exact (View.canon_cons_emb p.1 p.2 (L ++ L') x).trans (View.canon_cons_emb p.1 p.2 L x).symm
    · refine (View.canon_cons_of_not_mem p (L ++ L') hm).trans ((canon_drop L' L y ?_).trans (View.canon_cons_of_not_mem p L hm).symm)
      obtain ⟨q, hq, hy⟩ := h
      rcases List.mem_cons.mp hq with rfl | hq
      · exact absurd hy hm
      · exact ⟨q, hq, hy⟩

theorem pick_0 (a b c d : FVec Ideal S1x128x128 .f32) : pick a b c d 0 = a := rfl
theorem pick_1 (a b c d : FVec Ideal S1x128x128 .f32) : pick a b c d 1 = b := rfl
theorem pick_2 (a b c d : FVec Ideal S1x128x128 .f32) : pick a b c d 2 = c := rfl
theorem pick_3 (a b c d : FVec Ideal S1x128x128 .f32) : pick a b c d 3 = d := rfl

/-- A batch of the results. -/
theorem batch_of (b : Fin 2) (y : ℕ) (b' : Fin 2) (hy : y < 1) (h : b.val = b'.val + y) : b = b' := Fin.ext (by omega)

theorem store_366 (v : FVec Ideal S128x128 .f32) (e d : Fin 128) : k0_pay366 (F := Ideal) v (ix3 0 e d) = v (ix2 e d) := by pointwise [k0_pay366]

theorem store_367 (v : FVec Ideal S128x128 .f32) (e d : Fin 128) : k0_pay367 (F := Ideal) v (ix3 0 e d) = v (ix2 e d) := by pointwise [k0_pay367]

theorem store_368 (v : FVec Ideal S128x128 .f32) (e d : Fin 128) : k0_pay368 (F := Ideal) v (ix3 0 e d) = v (ix2 e d) := by pointwise [k0_pay368]

theorem store_369 (v : FVec Ideal S128x128 .f32) (e d : Fin 128) : k0_pay369 (F := Ideal) v (ix3 0 e d) = v (ix2 e d) := by pointwise [k0_pay369]

theorem store_376 (v : FVec Ideal S128x128 .f32) (e d : Fin 128) : k0_pay376 (F := Ideal) v (ix3 0 e d) = v (ix2 e d) := by pointwise [k0_pay376]

theorem store_377 (v : FVec Ideal S128x128 .f32) (e d : Fin 128) : k0_pay377 (F := Ideal) v (ix3 0 e d) = v (ix2 e d) := by pointwise [k0_pay377]

theorem store_378 (v : FVec Ideal S128x128 .f32) (e d : Fin 128) : k0_pay378 (F := Ideal) v (ix3 0 e d) = v (ix2 e d) := by pointwise [k0_pay378]

theorem store_379 (v : FVec Ideal S128x128 .f32) (e d : Fin 128) : k0_pay379 (F := Ideal) v (ix3 0 e d) = v (ix2 e d) := by pointwise [k0_pay379]

theorem store_363 (v : FVec Ideal S64x512 .f32) (r : Fin 64) (j : Fin 512) : k0_pay363 (F := Ideal) (k0_pay360 v) (ix3 0 r j) = v (ix2 r j) := by
  pointwise [k0_pay363, k0_pay360]

theorem store_364 (v : FVec Ideal S64x512 .f32) (r : Fin 64) (j : Fin 512) : k0_pay364 (F := Ideal) (k0_pay361 v) (ix3 0 r j) = v (ix2 r j) := by
  pointwise [k0_pay364, k0_pay361]

theorem store_373 (v : FVec Ideal S64x512 .f32) (r : Fin 64) (j : Fin 512) : k0_pay373 (F := Ideal) (k0_pay370 v) (ix3 0 r j) = v (ix2 r j) := by
  pointwise [k0_pay373, k0_pay370]

theorem store_374 (v : FVec Ideal S64x512 .f32) (r : Fin 64) (j : Fin 512) : k0_pay374 (F := Ideal) (k0_pay371 v) (ix3 0 r j) = v (ix2 r j) := by
  pointwise [k0_pay374, k0_pay371]

/-- The scratch after the first point. -/
theorem scratch_A (t : Fin cfg0.N) (h : t.val % 32 = 0) (b : Fin 2) (g : Fin 4) (d e : Fin 128) :
    (outsAt0 m c t.val t.isLt).2.2.2.2.2.2 (ix3 ⟨4 * b.val + g.val, by omega⟩ e d) =
      gradS (qs (P m c) (back t.val) b g) (gs (G m c) (back t.val) b g) (cum (ls (P m c) (W m c) (B m c) (back t.val) b g)) (tot (ls (P m c) (W m c) (B m c) (back t.val) b g)) (fun _ _ => 0) d e := by
  rw [outsAt0_A m c t h]
  frame_out
  clear h
  refine (canon_drop [_] [_, _, _, _, _, _, _, _] _ (View.cover_of_tiled_head _ _ _ (by rfl) _)).trans ?_
  canon_tiles x h
  · obtain ⟨rfl, rfl⟩ := pair_of b g _ 1 3 x0_lt h0
    obtain rfl := scr_ix x e d h1 h2
    exact (store_379 _ e d).trans ((blockS_1_3 _ _ _ _ _ _ d e).trans (gradS_congr (q_of m c t 1 3 (fun _ _ => by pointwise)) (g_of m c t 1 3 (fun _ _ => by pointwise))
      (l_of m c t 1 3 (fun _ _ => by pointwise) (fun _ _ => by pointwise) (fun _ => by pointwise)) (s_of fun _ _ => (congrFun (View.readCov_fill _ _ _ _ _ (by decide)) _).trans (by pointwise [k0_pay5])) d e))
  · obtain ⟨rfl, rfl⟩ := pair_of b g _ 1 2 x0_lt h0
    obtain rfl := scr_ix x e d h1 h2
    exact (store_378 _ e d).trans ((blockS_1_2 _ _ _ _ _ _ d e).trans (gradS_congr (q_of m c t 1 2 (fun _ _ => by pointwise)) (g_of m c t 1 2 (fun _ _ => by pointwise))
      (l_of m c t 1 2 (fun _ _ => by pointwise) (fun _ _ => by pointwise) (fun _ => by pointwise)) (s_of fun _ _ => (congrFun (View.readCov_fill _ _ _ _ _ (by decide)) _).trans (by pointwise [k0_pay5])) d e))
  · obtain ⟨rfl, rfl⟩ := pair_of b g _ 1 1 x0_lt h0
    obtain rfl := scr_ix x e d h1 h2
    exact (store_377 _ e d).trans ((blockS_1_1 _ _ _ _ _ _ d e).trans (gradS_congr (q_of m c t 1 1 (fun _ _ => by pointwise)) (g_of m c t 1 1 (fun _ _ => by pointwise))
      (l_of m c t 1 1 (fun _ _ => by pointwise) (fun _ _ => by pointwise) (fun _ => by pointwise)) (s_of fun _ _ => (congrFun (View.readCov_fill _ _ _ _ _ (by decide)) _).trans (by pointwise [k0_pay5])) d e))
  · obtain ⟨rfl, rfl⟩ := pair_of b g _ 1 0 x0_lt h0
    obtain rfl := scr_ix x e d h1 h2
    exact (store_376 _ e d).trans ((blockS_1_0 _ _ _ _ _ _ d e).trans (gradS_congr (q_of m c t 1 0 (fun _ _ => by pointwise)) (g_of m c t 1 0 (fun _ _ => by pointwise))
      (l_of m c t 1 0 (fun _ _ => by pointwise) (fun _ _ => by pointwise) (fun _ => by pointwise)) (s_of fun _ _ => (congrFun (View.readCov_fill _ _ _ _ _ (by decide)) _).trans (by pointwise [k0_pay5])) d e))
  · obtain ⟨rfl, rfl⟩ := pair_of b g _ 0 3 x0_lt h0
    obtain rfl := scr_ix x e d h1 h2
    exact (store_369 _ e d).trans ((blockS_0_3 _ _ _ _ _ _ d e).trans (gradS_congr (q_of m c t 0 3 (fun _ _ => by pointwise)) (g_of m c t 0 3 (fun _ _ => by pointwise))
      (l_of m c t 0 3 (fun _ _ => by pointwise) (fun _ _ => by pointwise) (fun _ => by pointwise)) (s_of fun _ _ => (congrFun (View.readCov_fill _ _ _ _ _ (by decide)) _).trans (by pointwise [k0_pay5])) d e))
  · obtain ⟨rfl, rfl⟩ := pair_of b g _ 0 2 x0_lt h0
    obtain rfl := scr_ix x e d h1 h2
    exact (store_368 _ e d).trans ((blockS_0_2 _ _ _ _ _ _ d e).trans (gradS_congr (q_of m c t 0 2 (fun _ _ => by pointwise)) (g_of m c t 0 2 (fun _ _ => by pointwise))
      (l_of m c t 0 2 (fun _ _ => by pointwise) (fun _ _ => by pointwise) (fun _ => by pointwise)) (s_of fun _ _ => (congrFun (View.readCov_fill _ _ _ _ _ (by decide)) _).trans (by pointwise [k0_pay5])) d e))
  · obtain ⟨rfl, rfl⟩ := pair_of b g _ 0 1 x0_lt h0
    obtain rfl := scr_ix x e d h1 h2
    exact (store_367 _ e d).trans ((blockS_0_1 _ _ _ _ _ _ d e).trans (gradS_congr (q_of m c t 0 1 (fun _ _ => by pointwise)) (g_of m c t 0 1 (fun _ _ => by pointwise))
      (l_of m c t 0 1 (fun _ _ => by pointwise) (fun _ _ => by pointwise) (fun _ => by pointwise)) (s_of fun _ _ => (congrFun (View.readCov_fill _ _ _ _ _ (by decide)) _).trans (by pointwise [k0_pay5])) d e))
  · obtain ⟨rfl, rfl⟩ := pair_of b g _ 0 0 x0_lt (h0.trans (Nat.zero_add _).symm)
    obtain rfl := scr_ix x e d h1 h2
    exact (store_366 _ e d).trans ((blockS_0_0 _ _ _ _ _ _ d e).trans (gradS_congr (q_of m c t 0 0 (fun _ _ => by pointwise)) (g_of m c t 0 0 (fun _ _ => by pointwise))
      (l_of m c t 0 0 (fun _ _ => by pointwise) (fun _ _ => by pointwise) (fun _ => by pointwise)) (s_of fun _ _ => (congrFun (View.readCov_fill _ _ _ _ _ (by decide)) _).trans (by pointwise [k0_pay5])) d e))

/-- The block of the gradient of `k` that the first point writes. -/
theorem blockK_A (t : Fin cfg0.N) (h : t.val % 32 = 0) (b : Fin 2) (g : Fin 4) (r : Fin 64) (d : Fin 128) :
    (outsAt0 m c t.val t.isLt).2.1 (ix3 b r (lane g d)) =
      gradK (qs (P m c) (back t.val) b g) (vs (P m c) (back t.val) b g) (gs (G m c) (back t.val) b g) (cum (ls (P m c) (W m c) (B m c) (back t.val) b g)) (tot (ls (P m c) (W m c) (B m c) (back t.val) b g)) (fun _ _ => 0) r d := by
  rw [outsAt0_A m c t h]
  frame_out
  clear h
  canon_tiles x h
  · obtain rfl := batch_of b _ 1 x0_lt h0
    obtain rfl := out_ix x r (lane g d) h1 h2
    refine (store_373 _ r (lane g d)).trans ((blockK_1 _ _ _ _ _ _ _ _ _ _ r g d).trans (gradK_congr (q_of m c t 1 g (fun _ _ => by pointwise)) (v_of m c t 1 g (fun _ _ => by pointwise))
      (g_of m c t 1 g (fun _ _ => by pointwise)) (l_of m c t 1 g (fun _ _ => by pointwise) (fun _ _ => by pointwise) (fun _ => by pointwise)) ?_ r d))
    fin_cases g
    · refine (congrArg state (pick_0 _ _ _ _)).trans ?_; exact (s_of fun _ _ => (congrFun (View.readCov_fill _ _ _ _ _ (by decide)) _).trans (by pointwise [k0_pay5]))
    · refine (congrArg state (pick_1 _ _ _ _)).trans ?_; exact (s_of fun _ _ => (congrFun (View.readCov_fill _ _ _ _ _ (by decide)) _).trans (by pointwise [k0_pay5]))
    · refine (congrArg state (pick_2 _ _ _ _)).trans ?_; exact (s_of fun _ _ => (congrFun (View.readCov_fill _ _ _ _ _ (by decide)) _).trans (by pointwise [k0_pay5]))
    · refine (congrArg state (pick_3 _ _ _ _)).trans ?_; exact (s_of fun _ _ => (congrFun (View.readCov_fill _ _ _ _ _ (by decide)) _).trans (by pointwise [k0_pay5]))
  · obtain rfl := batch_of b _ 0 x0_lt (h0.trans (Nat.zero_add _).symm)
    obtain rfl := out_ix x r (lane g d) h1 h2
    refine (store_363 _ r (lane g d)).trans ((blockK_0 _ _ _ _ _ _ _ _ _ _ r g d).trans (gradK_congr (q_of m c t 0 g (fun _ _ => by pointwise)) (v_of m c t 0 g (fun _ _ => by pointwise))
      (g_of m c t 0 g (fun _ _ => by pointwise)) (l_of m c t 0 g (fun _ _ => by pointwise) (fun _ _ => by pointwise) (fun _ => by pointwise)) ?_ r d))
    fin_cases g
    · refine (congrArg state (pick_0 _ _ _ _)).trans ?_; exact (s_of fun _ _ => (congrFun (View.readCov_fill _ _ _ _ _ (by decide)) _).trans (by pointwise [k0_pay5]))
    · refine (congrArg state (pick_1 _ _ _ _)).trans ?_; exact (s_of fun _ _ => (congrFun (View.readCov_fill _ _ _ _ _ (by decide)) _).trans (by pointwise [k0_pay5]))
    · refine (congrArg state (pick_2 _ _ _ _)).trans ?_; exact (s_of fun _ _ => (congrFun (View.readCov_fill _ _ _ _ _ (by decide)) _).trans (by pointwise [k0_pay5]))
    · refine (congrArg state (pick_3 _ _ _ _)).trans ?_; exact (s_of fun _ _ => (congrFun (View.readCov_fill _ _ _ _ _ (by decide)) _).trans (by pointwise [k0_pay5]))

/-- The block of the gradient of `v` that the first point writes. -/
theorem blockV_A (t : Fin cfg0.N) (h : t.val % 32 = 0) (b : Fin 2) (g : Fin 4) (r : Fin 64) (d : Fin 128) :
    (outsAt0 m c t.val t.isLt).2.2.1 (ix3 b r (lane g d)) =
      gradV (qs (P m c) (back t.val) b g) (ks (P m c) (back t.val) b g) (gs (G m c) (back t.val) b g) (cum (ls (P m c) (W m c) (B m c) (back t.val) b g)) (tot (ls (P m c) (W m c) (B m c) (back t.val) b g)) (fun _ _ => 0) r d := by
  rw [outsAt0_A m c t h]
  frame_out
  clear h
  canon_tiles x h
  · obtain rfl := batch_of b _ 1 x0_lt h0
    obtain rfl := out_ix x r (lane g d) h1 h2
    refine (store_374 _ r (lane g d)).trans ((blockV_1 _ _ _ _ _ _ _ _ _ _ r g d).trans (gradV_congr (q_of m c t 1 g (fun _ _ => by pointwise)) (k_of m c t 1 g (fun _ _ => by pointwise))
      (g_of m c t 1 g (fun _ _ => by pointwise)) (l_of m c t 1 g (fun _ _ => by pointwise) (fun _ _ => by pointwise) (fun _ => by pointwise)) ?_ r d))
    fin_cases g
    · refine (congrArg state (pick_0 _ _ _ _)).trans ?_; exact (s_of fun _ _ => (congrFun (View.readCov_fill _ _ _ _ _ (by decide)) _).trans (by pointwise [k0_pay5]))
    · refine (congrArg state (pick_1 _ _ _ _)).trans ?_; exact (s_of fun _ _ => (congrFun (View.readCov_fill _ _ _ _ _ (by decide)) _).trans (by pointwise [k0_pay5]))
    · refine (congrArg state (pick_2 _ _ _ _)).trans ?_; exact (s_of fun _ _ => (congrFun (View.readCov_fill _ _ _ _ _ (by decide)) _).trans (by pointwise [k0_pay5]))
    · refine (congrArg state (pick_3 _ _ _ _)).trans ?_; exact (s_of fun _ _ => (congrFun (View.readCov_fill _ _ _ _ _ (by decide)) _).trans (by pointwise [k0_pay5]))
  · obtain rfl := batch_of b _ 0 x0_lt (h0.trans (Nat.zero_add _).symm)
    obtain rfl := out_ix x r (lane g d) h1 h2
    refine (store_364 _ r (lane g d)).trans ((blockV_0 _ _ _ _ _ _ _ _ _ _ r g d).trans (gradV_congr (q_of m c t 0 g (fun _ _ => by pointwise)) (k_of m c t 0 g (fun _ _ => by pointwise))
      (g_of m c t 0 g (fun _ _ => by pointwise)) (l_of m c t 0 g (fun _ _ => by pointwise) (fun _ _ => by pointwise) (fun _ => by pointwise)) ?_ r d))
    fin_cases g
    · refine (congrArg state (pick_0 _ _ _ _)).trans ?_; exact (s_of fun _ _ => (congrFun (View.readCov_fill _ _ _ _ _ (by decide)) _).trans (by pointwise [k0_pay5]))
    · refine (congrArg state (pick_1 _ _ _ _)).trans ?_; exact (s_of fun _ _ => (congrFun (View.readCov_fill _ _ _ _ _ (by decide)) _).trans (by pointwise [k0_pay5]))
    · refine (congrArg state (pick_2 _ _ _ _)).trans ?_; exact (s_of fun _ _ => (congrFun (View.readCov_fill _ _ _ _ _ (by decide)) _).trans (by pointwise [k0_pay5]))
    · refine (congrArg state (pick_3 _ _ _ _)).trans ?_; exact (s_of fun _ _ => (congrFun (View.readCov_fill _ _ _ _ _ (by decide)) _).trans (by pointwise [k0_pay5]))

/-- The scratch after the later points. -/
theorem scratch_B (t : Fin cfg0.N) (h : ¬ t.val % 32 = 0) (b : Fin 2) (g : Fin 4) (d e : Fin 128) :
    (outsAt0 m c t.val t.isLt).2.2.2.2.2.2 (ix3 ⟨4 * b.val + g.val, by omega⟩ e d) =
      gradS (qs (P m c) (back t.val) b g) (gs (G m c) (back t.val) b g) (cum (ls (P m c) (W m c) (B m c) (back t.val) b g)) (tot (ls (P m c) (W m c) (B m c) (back t.val) b g)) (fun d e => (outsAt0 m c (t.val - 1) (by omega)).2.2.2.2.2.2 (ix3 ⟨4 * b.val + g.val, by omega⟩ e d)) d e := by
  rw [outsAt0_B m c t h]
  frame_out
  clear h
  canon_tiles x h
  · obtain ⟨rfl, rfl⟩ := pair_of b g _ 1 3 x0_lt h0
    obtain rfl := scr_ix x e d h1 h2
    exact (store_379 _ e d).trans ((blockS_1_3 _ _ _ _ _ _ d e).trans (gradS_congr (q_of m c t 1 3 (fun _ _ => by pointwise)) (g_of m c t 1 3 (fun _ _ => by pointwise))
      (l_of m c t 1 3 (fun _ _ => by pointwise) (fun _ _ => by pointwise) (fun _ => by pointwise)) (s_of fun _ _ => by pointwise; exact congrFun (Memref.IsWhole.read_unread _ _) _) d e))
  · obtain ⟨rfl, rfl⟩ := pair_of b g _ 1 2 x0_lt h0
    obtain rfl := scr_ix x e d h1 h2
    exact (store_378 _ e d).trans ((blockS_1_2 _ _ _ _ _ _ d e).trans (gradS_congr (q_of m c t 1 2 (fun _ _ => by pointwise)) (g_of m c t 1 2 (fun _ _ => by pointwise))
      (l_of m c t 1 2 (fun _ _ => by pointwise) (fun _ _ => by pointwise) (fun _ => by pointwise)) (s_of fun _ _ => by pointwise; exact congrFun (Memref.IsWhole.read_unread _ _) _) d e))
  · obtain ⟨rfl, rfl⟩ := pair_of b g _ 1 1 x0_lt h0
    obtain rfl := scr_ix x e d h1 h2
    exact (store_377 _ e d).trans ((blockS_1_1 _ _ _ _ _ _ d e).trans (gradS_congr (q_of m c t 1 1 (fun _ _ => by pointwise)) (g_of m c t 1 1 (fun _ _ => by pointwise))
      (l_of m c t 1 1 (fun _ _ => by pointwise) (fun _ _ => by pointwise) (fun _ => by pointwise)) (s_of fun _ _ => by pointwise; exact congrFun (Memref.IsWhole.read_unread _ _) _) d e))
  · obtain ⟨rfl, rfl⟩ := pair_of b g _ 1 0 x0_lt h0
    obtain rfl := scr_ix x e d h1 h2
    exact (store_376 _ e d).trans ((blockS_1_0 _ _ _ _ _ _ d e).trans (gradS_congr (q_of m c t 1 0 (fun _ _ => by pointwise)) (g_of m c t 1 0 (fun _ _ => by pointwise))
      (l_of m c t 1 0 (fun _ _ => by pointwise) (fun _ _ => by pointwise) (fun _ => by pointwise)) (s_of fun _ _ => by pointwise; exact congrFun (Memref.IsWhole.read_unread _ _) _) d e))
  · obtain ⟨rfl, rfl⟩ := pair_of b g _ 0 3 x0_lt h0
    obtain rfl := scr_ix x e d h1 h2
    exact (store_369 _ e d).trans ((blockS_0_3 _ _ _ _ _ _ d e).trans (gradS_congr (q_of m c t 0 3 (fun _ _ => by pointwise)) (g_of m c t 0 3 (fun _ _ => by pointwise))
      (l_of m c t 0 3 (fun _ _ => by pointwise) (fun _ _ => by pointwise) (fun _ => by pointwise)) (s_of fun _ _ => by pointwise; exact congrFun (Memref.IsWhole.read_unread _ _) _) d e))
  · obtain ⟨rfl, rfl⟩ := pair_of b g _ 0 2 x0_lt h0
    obtain rfl := scr_ix x e d h1 h2
    exact (store_368 _ e d).trans ((blockS_0_2 _ _ _ _ _ _ d e).trans (gradS_congr (q_of m c t 0 2 (fun _ _ => by pointwise)) (g_of m c t 0 2 (fun _ _ => by pointwise))
      (l_of m c t 0 2 (fun _ _ => by pointwise) (fun _ _ => by pointwise) (fun _ => by pointwise)) (s_of fun _ _ => by pointwise; exact congrFun (Memref.IsWhole.read_unread _ _) _) d e))
  · obtain ⟨rfl, rfl⟩ := pair_of b g _ 0 1 x0_lt h0
    obtain rfl := scr_ix x e d h1 h2
    exact (store_367 _ e d).trans ((blockS_0_1 _ _ _ _ _ _ d e).trans (gradS_congr (q_of m c t 0 1 (fun _ _ => by pointwise)) (g_of m c t 0 1 (fun _ _ => by pointwise))
      (l_of m c t 0 1 (fun _ _ => by pointwise) (fun _ _ => by pointwise) (fun _ => by pointwise)) (s_of fun _ _ => by pointwise; exact congrFun (Memref.IsWhole.read_unread _ _) _) d e))
  · obtain ⟨rfl, rfl⟩ := pair_of b g _ 0 0 x0_lt (h0.trans (Nat.zero_add _).symm)
    obtain rfl := scr_ix x e d h1 h2
    exact (store_366 _ e d).trans ((blockS_0_0 _ _ _ _ _ _ d e).trans (gradS_congr (q_of m c t 0 0 (fun _ _ => by pointwise)) (g_of m c t 0 0 (fun _ _ => by pointwise))
      (l_of m c t 0 0 (fun _ _ => by pointwise) (fun _ _ => by pointwise) (fun _ => by pointwise)) (s_of fun _ _ => by pointwise; exact congrFun (Memref.IsWhole.read_unread _ _) _) d e))

/-- The block of the gradient of `k` that the later points write. -/
theorem blockK_B (t : Fin cfg0.N) (h : ¬ t.val % 32 = 0) (b : Fin 2) (g : Fin 4) (r : Fin 64) (d : Fin 128) :
    (outsAt0 m c t.val t.isLt).2.1 (ix3 b r (lane g d)) =
      gradK (qs (P m c) (back t.val) b g) (vs (P m c) (back t.val) b g) (gs (G m c) (back t.val) b g) (cum (ls (P m c) (W m c) (B m c) (back t.val) b g)) (tot (ls (P m c) (W m c) (B m c) (back t.val) b g)) (fun d e => (outsAt0 m c (t.val - 1) (by omega)).2.2.2.2.2.2 (ix3 ⟨4 * b.val + g.val, by omega⟩ e d)) r d := by
  rw [outsAt0_B m c t h]
  frame_out
  clear h
  canon_tiles x h
  · obtain rfl := batch_of b _ 1 x0_lt h0
    obtain rfl := out_ix x r (lane g d) h1 h2
    refine (store_373 _ r (lane g d)).trans ((blockK_1 _ _ _ _ _ _ _ _ _ _ r g d).trans (gradK_congr (q_of m c t 1 g (fun _ _ => by pointwise)) (v_of m c t 1 g (fun _ _ => by pointwise))
      (g_of m c t 1 g (fun _ _ => by pointwise)) (l_of m c t 1 g (fun _ _ => by pointwise) (fun _ _ => by pointwise) (fun _ => by pointwise)) ?_ r d))
    fin_cases g
    · refine (congrArg state (pick_0 _ _ _ _)).trans ?_; exact (s_of fun _ _ => by pointwise; exact congrFun (Memref.IsWhole.read_unread _ _) _)
    · refine (congrArg state (pick_1 _ _ _ _)).trans ?_; exact (s_of fun _ _ => by pointwise; exact congrFun (Memref.IsWhole.read_unread _ _) _)
    · refine (congrArg state (pick_2 _ _ _ _)).trans ?_; exact (s_of fun _ _ => by pointwise; exact congrFun (Memref.IsWhole.read_unread _ _) _)
    · refine (congrArg state (pick_3 _ _ _ _)).trans ?_; exact (s_of fun _ _ => by pointwise; exact congrFun (Memref.IsWhole.read_unread _ _) _)
  · obtain rfl := batch_of b _ 0 x0_lt (h0.trans (Nat.zero_add _).symm)
    obtain rfl := out_ix x r (lane g d) h1 h2
    refine (store_363 _ r (lane g d)).trans ((blockK_0 _ _ _ _ _ _ _ _ _ _ r g d).trans (gradK_congr (q_of m c t 0 g (fun _ _ => by pointwise)) (v_of m c t 0 g (fun _ _ => by pointwise))
      (g_of m c t 0 g (fun _ _ => by pointwise)) (l_of m c t 0 g (fun _ _ => by pointwise) (fun _ _ => by pointwise) (fun _ => by pointwise)) ?_ r d))
    fin_cases g
    · refine (congrArg state (pick_0 _ _ _ _)).trans ?_; exact (s_of fun _ _ => by pointwise; exact congrFun (Memref.IsWhole.read_unread _ _) _)
    · refine (congrArg state (pick_1 _ _ _ _)).trans ?_; exact (s_of fun _ _ => by pointwise; exact congrFun (Memref.IsWhole.read_unread _ _) _)
    · refine (congrArg state (pick_2 _ _ _ _)).trans ?_; exact (s_of fun _ _ => by pointwise; exact congrFun (Memref.IsWhole.read_unread _ _) _)
    · refine (congrArg state (pick_3 _ _ _ _)).trans ?_; exact (s_of fun _ _ => by pointwise; exact congrFun (Memref.IsWhole.read_unread _ _) _)

/-- The block of the gradient of `v` that the later points write. -/
theorem blockV_B (t : Fin cfg0.N) (h : ¬ t.val % 32 = 0) (b : Fin 2) (g : Fin 4) (r : Fin 64) (d : Fin 128) :
    (outsAt0 m c t.val t.isLt).2.2.1 (ix3 b r (lane g d)) =
      gradV (qs (P m c) (back t.val) b g) (ks (P m c) (back t.val) b g) (gs (G m c) (back t.val) b g) (cum (ls (P m c) (W m c) (B m c) (back t.val) b g)) (tot (ls (P m c) (W m c) (B m c) (back t.val) b g)) (fun d e => (outsAt0 m c (t.val - 1) (by omega)).2.2.2.2.2.2 (ix3 ⟨4 * b.val + g.val, by omega⟩ e d)) r d := by
  rw [outsAt0_B m c t h]
  frame_out
  clear h
  canon_tiles x h
  · obtain rfl := batch_of b _ 1 x0_lt h0
    obtain rfl := out_ix x r (lane g d) h1 h2
    refine (store_374 _ r (lane g d)).trans ((blockV_1 _ _ _ _ _ _ _ _ _ _ r g d).trans (gradV_congr (q_of m c t 1 g (fun _ _ => by pointwise)) (k_of m c t 1 g (fun _ _ => by pointwise))
      (g_of m c t 1 g (fun _ _ => by pointwise)) (l_of m c t 1 g (fun _ _ => by pointwise) (fun _ _ => by pointwise) (fun _ => by pointwise)) ?_ r d))
    fin_cases g
    · refine (congrArg state (pick_0 _ _ _ _)).trans ?_; exact (s_of fun _ _ => by pointwise; exact congrFun (Memref.IsWhole.read_unread _ _) _)
    · refine (congrArg state (pick_1 _ _ _ _)).trans ?_; exact (s_of fun _ _ => by pointwise; exact congrFun (Memref.IsWhole.read_unread _ _) _)
    · refine (congrArg state (pick_2 _ _ _ _)).trans ?_; exact (s_of fun _ _ => by pointwise; exact congrFun (Memref.IsWhole.read_unread _ _) _)
    · refine (congrArg state (pick_3 _ _ _ _)).trans ?_; exact (s_of fun _ _ => by pointwise; exact congrFun (Memref.IsWhole.read_unread _ _) _)
  · obtain rfl := batch_of b _ 0 x0_lt (h0.trans (Nat.zero_add _).symm)
    obtain rfl := out_ix x r (lane g d) h1 h2
    refine (store_364 _ r (lane g d)).trans ((blockV_0 _ _ _ _ _ _ _ _ _ _ r g d).trans (gradV_congr (q_of m c t 0 g (fun _ _ => by pointwise)) (k_of m c t 0 g (fun _ _ => by pointwise))
      (g_of m c t 0 g (fun _ _ => by pointwise)) (l_of m c t 0 g (fun _ _ => by pointwise) (fun _ _ => by pointwise) (fun _ => by pointwise)) ?_ r d))
    fin_cases g
    · refine (congrArg state (pick_0 _ _ _ _)).trans ?_; exact (s_of fun _ _ => by pointwise; exact congrFun (Memref.IsWhole.read_unread _ _) _)
    · refine (congrArg state (pick_1 _ _ _ _)).trans ?_; exact (s_of fun _ _ => by pointwise; exact congrFun (Memref.IsWhole.read_unread _ _) _)
    · refine (congrArg state (pick_2 _ _ _ _)).trans ?_; exact (s_of fun _ _ => by pointwise; exact congrFun (Memref.IsWhole.read_unread _ _) _)
    · refine (congrArg state (pick_3 _ _ _ _)).trans ?_; exact (s_of fun _ _ => by pointwise; exact congrFun (Memref.IsWhole.read_unread _ _) _)

/-- The grid has 32 points. -/
theorem cfg_N : cfg0.N = 32 := (by decide +kernel : grid0.N = 32)

/-- The scratch after point `n`: the gradients of the state that the next step starts from. -/
theorem scratch : ∀ (n : ℕ) (hn : n < cfg0.N) (b : Fin 2) (g : Fin 4) (d e : Fin 128),
    (outsAt0 m c n hn).2.2.2.2.2.2 (ix3 ⟨4 * b.val + g.val, by omega⟩ e d) = dS (P m c) (W m c) (B m c) (G m c) (n + 1) b g d e
  | 0, hn, b, g, d, e => scratch_A m c ⟨0, hn⟩ rfl b g d e
  | n + 1, hn, b, g, d, e => by
    have hN := cfg_N
    refine (scratch_B m c ⟨n + 1, hn⟩ (by show ¬ (n + 1) % 32 = 0; omega) b g d e).trans ?_
    refine gradS_congr rfl rfl rfl ?_ d e
    funext d e
    exact scratch n (by omega) b g d e

/-- The block of the gradient of `k` that point `n` writes. -/
theorem blockK : ∀ (n : ℕ) (hn : n < cfg0.N) (b : Fin 2) (g : Fin 4) (r : Fin 64) (d : Fin 128),
    (outsAt0 m c n hn).2.1 (ix3 b r (lane g d)) = dK (P m c) (W m c) (B m c) (G m c) n b g r d
  | 0, hn, b, g, r, d => blockK_A m c ⟨0, hn⟩ rfl b g r d
  | n + 1, hn, b, g, r, d => by
    have hN := cfg_N
    refine (blockK_B m c ⟨n + 1, hn⟩ (by show ¬ (n + 1) % 32 = 0; omega) b g r d).trans ?_
    refine gradK_congr rfl rfl rfl rfl ?_ r d
    funext d e
    exact scratch m c n (by omega) b g d e

/-- The block of the gradient of `v` that point `n` writes. -/
theorem blockV : ∀ (n : ℕ) (hn : n < cfg0.N) (b : Fin 2) (g : Fin 4) (r : Fin 64) (d : Fin 128),
    (outsAt0 m c n hn).2.2.1 (ix3 b r (lane g d)) = dV (P m c) (W m c) (B m c) (G m c) n b g r d
  | 0, hn, b, g, r, d => blockV_A m c ⟨0, hn⟩ rfl b g r d
  | n + 1, hn, b, g, r, d => by
    have hN := cfg_N
    refine (blockV_B m c ⟨n + 1, hn⟩ (by show ¬ (n + 1) % 32 = 0; omega) b g r d).trans ?_
    refine gradV_congr rfl rfl rfl rfl ?_ r d
    funext d e
    exact scratch m c n (by omega) b g d e

/-- The result that holds the gradient of `k`, as one function of its index. -/
def resK : S2x2048x512.Idx → EReal := fun y => whole (dK (P m c) (W m c) (B m c) (G m c)) (y 0) (y 1) (y 2)

/-- The result that holds the gradient of `v`, as one function of its index. -/
def resV : S2x2048x512.Idx → EReal := fun y => whole (dV (P m c) (W m c) (B m c) (G m c)) (y 0) (y 1) (y 2)

/-- After all the points, the result's array holds that. -/
theorem final_K : (dats m 0 c).arrAt 10 (cfgs 0).N = resK m c := by
  refine (dats m 0 c).arrAt_eq_of_covers 10 _ (by decide +kernel) fun t hf y => ?_
  blk_simp
  rw [after0_10]
  idx_vars y
  obtain ⟨g, d, rfl⟩ := lane_surj y2
  have hN : t.val < 32 := lt_of_lt_of_eq t.isLt cfg_N
  refine (blockK m c t.val t.isLt y0 g y1 d).trans ((whole_at _ t.val hN y0 y1 g d).symm.trans (congrArg (resK m c) (a₁ := ix3 y0 (pos (back t.val) y1) (lane g d)) ?_))
  unfold pos back
  blk_ext [idx t]

/-- After all the points, the result's array holds that. -/
theorem final_V : (dats m 0 c).arrAt 11 (cfgs 0).N = resV m c := by
  refine (dats m 0 c).arrAt_eq_of_covers 11 _ (by decide +kernel) fun t hf y => ?_
  blk_simp
  rw [after0_11]
  idx_vars y
  obtain ⟨g, d, rfl⟩ := lane_surj y2
  have hN : t.val < 32 := lt_of_lt_of_eq t.isLt cfg_N
  refine (blockV m c t.val t.isLt y0 g y1 d).trans ((whole_at _ t.val hN y0 y1 g d).symm.trans (congrArg (resV m c) (a₁ := ix3 y0 (pos (back t.val) y1) (lane g d)) ?_))
  unfold pos back
  blk_ext [idx t]

end Cert.KernelIdeal.Points
end
-- ==== Proof.RefRun.lean ====
/-
The plain recurrence's loop: what a run of it leaves, as one trip's step (Gen/ReferenceIdeal/Step.lean) iterated 32 times from the
state that the operations before the loop make.
-/
module

public import proofs.«01_k».proof.Proof.Gen.ReferenceIdeal.Run
public import proofs.«01_k».proof.Proof.Gen.ReferenceIdeal.Step

@[expose] public section

set_option maxRecDepth 16384

noncomputable section

namespace Cert.ReferenceIdeal.Trips

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step

variable {F : FTy → Type} [FloatOps F]

/-- The buffers before trip `n` hold state `s`: the carried arrays, the loop's constants, the causal mask and the trip's number. -/
structure Hold (V : Valuation τ sig (Elt F)) (s : State F) (n : ℕ) : Prop where
  num : V (Proc.devRef .tc main_v35_6) = constantI S_ 32 (BitVec.ofNat 32 n)
  mask : V (Proc.devRef .tc main_v35_5) = K_main_v19 (F := F)
  grad : V (Proc.devRef .tc main_v35_7) = s.main_v35_7
  dk : V (Proc.devRef .tc main_v35_8) = s.main_v35_8
  dv : V (Proc.devRef .tc main_v35_9) = s.main_v35_9
  ct : V (Proc.devRef .tc main_v35_0) = s.main_v35_0
  q : V (Proc.devRef .tc main_v35_1) = s.main_v35_1
  k : V (Proc.devRef .tc main_v35_2) = s.main_v35_2
  v : V (Proc.devRef .tc main_v35_3) = s.main_v35_3
  la : V (Proc.devRef .tc main_v35_4) = s.main_v35_4

section
variable {V : Valuation τ sig (Elt F)} {s : State F} {n : ℕ}

/-- The chunk that trip `n` reads. -/
theorem chunk (h : Hold V s n) : res_main_while0b_v45 V = b3 n s := by
  unfold res_main_while0b_v45; rw [h.num]; rfl

/-- The chunk of keys. -/
theorem keys (h : Hold V s n) : res_main_while0b_v51_2 V = b36 n s := by
  unfold res_main_while0b_v51_2; rw [chunk h, h.k]; rfl

/-- The chunk of values. -/
theorem values (h : Hold V s n) : res_main_while0b_v51_3 V = b37 n s := by
  unfold res_main_while0b_v51_3; rw [chunk h, h.v]; rfl

/-- The gradient of the state after the chunk. -/
theorem carried (h : Hold V s n) : res_main_while0b_v51_5 V = b39 n s := by
  unfold res_main_while0b_v51_5; rw [h.grad]; rfl

/-- The chunk of cotangents. -/
theorem cotangents (h : Hold V s n) : res_main_while0b_v51_6 V = b40 n s := by
  unfold res_main_while0b_v51_6; rw [chunk h, h.ct]; rfl

/-- The running sums of the chunk's log decays. -/
theorem sums (h : Hold V s n) : res_main_while0b_v52 V = b43 n s := by
  unfold res_main_while0b_v52; rw [chunk h, h.la]; rfl

/-- The decayed queries. -/
theorem queries (h : Hold V s n) : res_main_while0b_v54 V = b45 n s := by
  unfold res_main_while0b_v54; rw [chunk h, sums h, h.q]; rfl

/-- The growth of the keys. -/
theorem growth (h : Hold V s n) : res_main_while0b_v56 V = b47 n s := by
  unfold res_main_while0b_v56; rw [sums h]; rfl

/-- The causal mask over the heads. -/
theorem causal (h : Hold V s n) : res_main_while0b_v59_1 V = b52 n s := by
  unfold res_main_while0b_v59_1; rw [h.mask]; rfl

/-- What is left of a key at the chunk's end. -/
theorem rest (h : Hold V s n) : res_main_while0b_v63 V = b58 n s := by
  unfold res_main_while0b_v63; rw [sums h]; rfl

/-- A trip turns state `s` into its step. -/
theorem hold_step (h : Hold V s n) : Hold (STEP V) (step n s) (n + 1) where
  num := by
    rw [STEP_main_v35_6]; unfold Value.step_main_v35_6; rw [h.num]; funext i
    show BitVec.ofNat 32 n + 1#32 = BitVec.ofNat 32 (n + 1)
    simp only [BitVec.ofNat_add]
  mask := (STEP_main_v35_5 V).trans h.mask
  grad := by
    rw [STEP_main_v35_7]; unfold Value.step_main_v35_7
    rw [carried h, sums h, cotangents h, queries h]; rfl
  dk := by
    rw [STEP_main_v35_8]; unfold Value.step_main_v35_8
    rw [chunk h, h.dk, carried h, values h, rest h, causal h, cotangents h, queries h, growth h]; rfl
  dv := by
    rw [STEP_main_v35_9]; unfold Value.step_main_v35_9
    rw [chunk h, h.dv, carried h, keys h, rest h, causal h, cotangents h, queries h, growth h]; rfl
  ct := (STEP_main_v35_0 V).trans h.ct
  q := (STEP_main_v35_1 V).trans h.q
  k := (STEP_main_v35_2 V).trans h.k
  v := (STEP_main_v35_3 V).trans h.v
  la := (STEP_main_v35_4 V).trans h.la

end

variable (m : (ℓ : Loc nD τ sig) → Buf (Elt F) ℓ) (c : Dev nD)

/-- The state that the operations before the loop make of the arguments. -/
def start : State F :=
  init (m ((c.tc : Thread nD τ).loc main_arg0)) (m ((c.tc : Thread nD τ).loc main_arg1)) (m ((c.tc : Thread nD τ).loc main_arg2))
    (m ((c.tc : Thread nD τ).loc main_arg4))

/-- The states before the trips. -/
def at_ : ℕ → State F
  | 0 => start m c
  | n + 1 => step n (at_ n)

set_option maxRecDepth 65536 in
set_option maxHeartbeats 1000000 in
/-- The first trip starts from `start`. -/
theorem hold_start : Hold (entryContents preI m c) (start m c) 0 := by
  constructor <;> (simp only [entryContents, afterL_cons, afterL_nil]; after_reads_simp) <;> rfl

/-- Before trip `n` the buffers hold state `n`. -/
theorem hold_at : ∀ n, Hold (STEP^[n] (entryContents preI m c)) (at_ m c n) n
  | 0 => hold_start m c
  | n + 1 => by rw [Function.iterate_succ_apply']; exact hold_step (hold_at n)

/-- The gradient of the keys that a run leaves. -/
theorem out_dk : out_main_v41 (STEP^[32] (entryContents preI m c)) = R_main_v41 (at_ m c 32) := by
  unfold out_main_v41; rw [(hold_at m c 32).dk]; rfl

/-- The gradient of the values that a run leaves. -/
theorem out_dv : out_main_v43 (STEP^[32] (entryContents preI m c)) = R_main_v43 (at_ m c 32) := by
  unfold out_main_v43; rw [(hold_at m c 32).dv]; rfl

end Cert.ReferenceIdeal.Trips

end
-- ==== Proof.RecRef.lean ====
/-
  The plain recurrence, trip by trip: what a trip computes from the state's gradients and its chunk of the arguments, entry by entry.
-/
module

public import proofs.«01_k».proof.Proof.RefRun
public import proofs.«01_k».proof.Proof.ChunkSeq
public import Idealize.ShloMosaic.Lib.Pipeline.ValueKit
public import Idealize.ShloMosaic.Lib.Pointwise
public import Idealize.ShloMosaic.Lib.WordCmp
public import Idealize.ShloMosaic.Lib.Tactic.WordOmega

@[expose] public section

set_option maxRecDepth 16384

noncomputable section

namespace Cert.ReferenceIdeal.Chunks

open Idealize.ShloMosaic Cert.ReferenceIdeal Cert.ReferenceIdeal.Gen Cert.ReferenceIdeal.Step Cert.Chunk

/-! ## The sum along a chunk -/

/-- The window the sum runs over. -/
abbrev Win : Shape := ⟨4, ![1, 1, 64, 1]⟩

/-- The window has 64 places. -/
theorem win_numel : Win.numel = 64 := by decide +kernel

/-- A place of the window is its row. -/
theorem win_row : ∀ n : Fin Win.numel, (Win.rowMajor.symm n 2).val = n.val := by decide +kernel

/-- A fold of additions is a sum. -/
theorem foldl_sum {n : ℕ} (f : Fin n → EReal) : (List.finRange n).foldl (fun r i => r + f i) 0 = ∑ i, f i := by
  rw [Fin.sum_univ_def, List.sum_eq_foldl, List.foldl_map]

/-- The sum over a window that ends at row `t` is the sum over the rows up to `t`. -/
theorem window_sum (f : Fin 64 → EReal) (t : Fin 64) :
    (∑ n : Fin 64, if h : 63 ≤ t.val + n.val then f ⟨t.val + n.val - 63, by omega⟩ else 0) = ∑ s : Fin 64, if s.val ≤ t.val then f s else 0 := by
  rw [← Finset.sum_filter]
  refine (Finset.sum_subset (Finset.filter_subset (fun n : Fin 64 => 63 ≤ t.val + n.val) Finset.univ) ?_).symm.trans ?_
  · intro n _ hn
    have : ¬ 63 ≤ t.val + n.val := by simpa using hn
    rw [dif_neg this]
  · refine Finset.sum_nbij' (fun n => if h : 63 ≤ t.val + n.val then ⟨t.val + n.val - 63, by omega⟩ else 0)
      (fun s => if h : s.val ≤ t.val then ⟨s.val + 63 - t.val, by omega⟩ else 0) ?_ ?_ ?_ ?_ ?_
    · intro n hn
      have h : 63 ≤ t.val + n.val := by simpa using hn
      simp only [Finset.mem_filter, Finset.mem_univ, true_and, dif_pos h]
      omega
    · intro s hs
      have h : s.val ≤ t.val := by simpa using hs
      simp only [Finset.mem_filter, Finset.mem_univ, true_and, dif_pos h]
      omega
    · intro n hn
      have h : 63 ≤ t.val + n.val := by simpa using hn
      have h' : t.val + n.val - 63 ≤ t.val := by omega
      apply Fin.ext
      simp only [dif_pos h, dif_pos h']
      omega
    · intro s hs
      have h : s.val ≤ t.val := by simpa using hs
      have h' : 63 ≤ t.val + (s.val + 63 - t.val) := by omega
      apply Fin.ext
      simp only [dif_pos h, dif_pos h']
      omega
    · intro n hn
      have h : 63 ≤ t.val + n.val := by simpa using hn
      simp only [dif_pos h]

/-- The host sums the log decays from the chunk's start. -/
theorem b43_at (j : ℕ) (s : State Ideal) (b : Fin 2) (h : Fin 4) (t : Fin 64) (d : Fin 128) :
    b43 j s (ix4 b h t d) = cum (fun t d => b38 j s (ix4 b h t d)) t d := by
  have hz : b42 j s (Shape.Idx.first h_S_) = 0 := by
    generalize Shape.Idx.first h_S_ = i
    pointwise [b42, b41]
  unfold b43 Host.reduceWindowAdd
  rw [hz]
  unfold cum
  refine Eq.trans ?_ (window_sum (fun s' => b38 j s (ix4 b h s' d)) t)
  show Ideal.hostReduceWindowAdd _ _ _ _ _ _ _ _ = _
  unfold Ideal.hostReduceWindowAdd Host.reduceWindow
  refine (foldl_sum (n := Win.numel) _).trans ?_
  rw [← Equiv.sum_comp (finCongr win_numel).symm]
  refine Finset.sum_congr rfl fun n _ => ?_
  have hw : (Win.rowMajor.symm ((finCongr win_numel).symm n) 2).val = n.val := win_row _
  have hw0 : (Win.rowMajor.symm ((finCongr win_numel).symm n) 0).val < 1 := (Win.rowMajor.symm ((finCongr win_numel).symm n) 0).isLt
  have hw1 : (Win.rowMajor.symm ((finCongr win_numel).symm n) 1).val < 1 := (Win.rowMajor.symm ((finCongr win_numel).symm n) 1).isLt
  have hw3 : (Win.rowMajor.symm ((finCongr win_numel).symm n) 3).val < 1 := (Win.rowMajor.symm ((finCongr win_numel).symm n) 3).isLt
  split
  · next hin =>
    have h2 := (hin 2).1
    change 63 ≤ t.val * 1 + (Win.rowMajor.symm ((finCongr win_numel).symm n) 2).val at h2
    rw [dif_pos (by omega)]
    refine congrArg (b38 j s) (funext fun a => Fin.ext ?_)
    match a with
    | ⟨0, _⟩ => show b.val * 1 + (Win.rowMajor.symm ((finCongr win_numel).symm n) 0).val - 0 = b.val; omega
    | ⟨1, _⟩ => show h.val * 1 + (Win.rowMajor.symm ((finCongr win_numel).symm n) 1).val - 0 = h.val; omega
    | ⟨2, _⟩ => show t.val * 1 + (Win.rowMajor.symm ((finCongr win_numel).symm n) 2).val - 63 = t.val + n.val - 63; omega
    | ⟨3, _⟩ => show d.val * 1 + (Win.rowMajor.symm ((finCongr win_numel).symm n) 3).val - 0 = d.val; omega
  · next hin =>
    rw [dif_neg]
    intro hle
    refine hin fun a => ?_
    match a with
    | ⟨0, _⟩ =>
      show 0 ≤ b.val * 1 + (Win.rowMajor.symm ((finCongr win_numel).symm n) 0).val ∧ b.val * 1 + (Win.rowMajor.symm ((finCongr win_numel).symm n) 0).val - 0 < 2
      omega
    | ⟨1, _⟩ =>
      show 0 ≤ h.val * 1 + (Win.rowMajor.symm ((finCongr win_numel).symm n) 1).val ∧ h.val * 1 + (Win.rowMajor.symm ((finCongr win_numel).symm n) 1).val - 0 < 4
      omega
    | ⟨2, _⟩ =>
      show 63 ≤ t.val * 1 + (Win.rowMajor.symm ((finCongr win_numel).symm n) 2).val ∧ t.val * 1 + (Win.rowMajor.symm ((finCongr win_numel).symm n) 2).val - 63 < 64
      omega
    | ⟨3, _⟩ =>
      show 0 ≤ d.val * 1 + (Win.rowMajor.symm ((finCongr win_numel).symm n) 3).val ∧ d.val * 1 + (Win.rowMajor.symm ((finCongr win_numel).symm n) 3).val - 0 < 128
      omega

/-! ## The chunk that a trip reads and writes -/

/-- The chunk's number, as the program's word. -/
theorem b3_toInt (j : ℕ) (hj : j < 32) (s : State Ideal) (i : S_.Idx) : (b3 j s i).toInt = ((31 - j : ℕ) : ℤ) := by
  pointwise [b3, b2, b1, b0]
  interval_cases j <;> rfl

/-- A slice of one chunk. -/
theorem slice_at (x : S32x2x4x64x128.Idx → EReal) (start : Fin 5 → ℤ) (j : ℕ) (hs : start 0 = ((31 - j : ℕ) : ℤ)) (h1 : start 1 = 0) (h2 : start 2 = 0)
    (h3 : start 3 = 0) (h4 : start 4 = 0) (hf : S32x2x4x64x128.Slices (fun _ => 0) S1x2x4x64x128) (b : Fin 2) (h : Fin 4) (t : Fin 64) (d : Fin 128) :
    Host.dynamicSlice S1x2x4x64x128 x start hf (ix5 0 b h t d) = x (ix5 (back j) b h t d) := by
  have e0 : Host.clampedStart S32x2x4x64x128 S1x2x4x64x128 hf.1 start 0 = 31 - j := Host.clampedStart_of_le hf.1 start 0 _ hs (by show 31 - j + 1 ≤ 32; omega)
  have e1 : Host.clampedStart S32x2x4x64x128 S1x2x4x64x128 hf.1 start 1 = 0 := Host.clampedStart_of_le hf.1 start 1 0 h1 (by show 0 + 2 ≤ 2; omega)
  have e2 : Host.clampedStart S32x2x4x64x128 S1x2x4x64x128 hf.1 start 2 = 0 := Host.clampedStart_of_le hf.1 start 2 0 h2 (by show 0 + 4 ≤ 4; omega)
  have e3 : Host.clampedStart S32x2x4x64x128 S1x2x4x64x128 hf.1 start 3 = 0 := Host.clampedStart_of_le hf.1 start 3 0 h3 (by show 0 + 64 ≤ 64; omega)
  have e4 : Host.clampedStart S32x2x4x64x128 S1x2x4x64x128 hf.1 start 4 = 0 := Host.clampedStart_of_le hf.1 start 4 0 h4 (by show 0 + 128 ≤ 128; omega)
  refine (Host.dynamicSlice_apply x start hf (ix5 0 b h t d)).trans (congrArg x (funext fun a => Fin.ext ?_))
  match a with
  | ⟨0, _⟩ => exact congrArg (· + 0) e0
  | ⟨1, _⟩ => exact (congrArg (· + b.val) e1).trans (Nat.zero_add _)
  | ⟨2, _⟩ => exact (congrArg (· + h.val) e2).trans (Nat.zero_add _)
  | ⟨3, _⟩ => exact (congrArg (· + t.val) e3).trans (Nat.zero_add _)
  | ⟨4, _⟩ => exact (congrArg (· + d.val) e4).trans (Nat.zero_add _)

/-- An array one of whose chunks is written. -/
theorem update_at (x : S32x2x4x64x128.Idx → EReal) (u : S1x2x4x64x128.Idx → EReal) (start : Fin 5 → ℤ) (j : ℕ) (hs : start 0 = ((31 - j : ℕ) : ℤ)) (h1 : start 1 = 0)
    (h2 : start 2 = 0) (h3 : start 3 = 0) (h4 : start 4 = 0) (hf : S32x2x4x64x128.Slices (fun _ => 0) S1x2x4x64x128) (p : Fin 32) (b : Fin 2) (h : Fin 4)
    (t : Fin 64) (d : Fin 128) :
    Host.dynamicUpdateSlice x u start hf (ix5 p b h t d) = if p = back j then u (ix5 0 b h t d) else x (ix5 p b h t d) := by
  have e0 : Host.clampedStart S32x2x4x64x128 S1x2x4x64x128 hf.1 start 0 = 31 - j := Host.clampedStart_of_le hf.1 start 0 _ hs (by show 31 - j + 1 ≤ 32; omega)
  have e1 : Host.clampedStart S32x2x4x64x128 S1x2x4x64x128 hf.1 start 1 = 0 := Host.clampedStart_of_le hf.1 start 1 0 h1 (by show 0 + 2 ≤ 2; omega)
  have e2 : Host.clampedStart S32x2x4x64x128 S1x2x4x64x128 hf.1 start 2 = 0 := Host.clampedStart_of_le hf.1 start 2 0 h2 (by show 0 + 4 ≤ 4; omega)
  have e3 : Host.clampedStart S32x2x4x64x128 S1x2x4x64x128 hf.1 start 3 = 0 := Host.clampedStart_of_le hf.1 start 3 0 h3 (by show 0 + 64 ≤ 64; omega)
  have e4 : Host.clampedStart S32x2x4x64x128 S1x2x4x64x128 hf.1 start 4 = 0 := Host.clampedStart_of_le hf.1 start 4 0 h4 (by show 0 + 128 ≤ 128; omega)
  refine (Host.dynamicUpdateSlice_apply x u start hf (ix5 p b h t d)).trans ?_
  split
  · next hin =>
    have hp := hin 0
    rw [e0] at hp
    change 31 - j ≤ p.val ∧ p.val < 31 - j + 1 at hp
    rw [if_pos (Fin.ext (by show p.val = 31 - j; omega))]
    refine congrArg u (funext fun a => Fin.ext ?_)
    match a with
    | ⟨0, _⟩ => show p.val - Host.clampedStart S32x2x4x64x128 S1x2x4x64x128 hf.1 start 0 = 0; omega
    | ⟨1, _⟩ => show b.val - Host.clampedStart S32x2x4x64x128 S1x2x4x64x128 hf.1 start 1 = b.val; omega
    | ⟨2, _⟩ => show h.val - Host.clampedStart S32x2x4x64x128 S1x2x4x64x128 hf.1 start 2 = h.val; omega
    | ⟨3, _⟩ => show t.val - Host.clampedStart S32x2x4x64x128 S1x2x4x64x128 hf.1 start 3 = t.val; omega
    | ⟨4, _⟩ => show d.val - Host.clampedStart S32x2x4x64x128 S1x2x4x64x128 hf.1 start 4 = d.val; omega
  · next hin =>
    rw [if_neg]
    intro hp
    have hp' : p.val = 31 - j := congrArg Fin.val hp
    refine hin fun a => ?_
    match a with
    | ⟨0, _⟩ =>
      show Host.clampedStart S32x2x4x64x128 S1x2x4x64x128 hf.1 start 0 ≤ p.val ∧ p.val < Host.clampedStart S32x2x4x64x128 S1x2x4x64x128 hf.1 start 0 + 1
      omega
    | ⟨1, _⟩ =>
      show Host.clampedStart S32x2x4x64x128 S1x2x4x64x128 hf.1 start 1 ≤ b.val ∧ b.val < Host.clampedStart S32x2x4x64x128 S1x2x4x64x128 hf.1 start 1 + 2
      omega
    | ⟨2, _⟩ =>
      show Host.clampedStart S32x2x4x64x128 S1x2x4x64x128 hf.1 start 2 ≤ h.val ∧ h.val < Host.clampedStart S32x2x4x64x128 S1x2x4x64x128 hf.1 start 2 + 4
      omega
    | ⟨3, _⟩ =>
      show Host.clampedStart S32x2x4x64x128 S1x2x4x64x128 hf.1 start 3 ≤ t.val ∧ t.val < Host.clampedStart S32x2x4x64x128 S1x2x4x64x128 hf.1 start 3 + 64
      omega
    | ⟨4, _⟩ =>
      show Host.clampedStart S32x2x4x64x128 S1x2x4x64x128 hf.1 start 4 ≤ d.val ∧ d.val < Host.clampedStart S32x2x4x64x128 S1x2x4x64x128 hf.1 start 4 + 128
      omega

/-- The trip's chunk of the cotangent. -/
theorem b9_at (j : ℕ) (hj : j < 32) (s : State Ideal) (b : Fin 2) (h : Fin 4) (t : Fin 64) (d : Fin 128) :
    b9 j s (ix4 b h t d) = s.main_v35_0 (ix5 (back j) b h t d) := by
  have e : b9 j s (ix4 b h t d) = b8 j s (ix5 0 b h t d) := by pointwise [b9]
  refine e.trans ?_
  unfold b8
  exact slice_at _ _ j (b3_toInt j hj s (Shape.Idx.first h_S_)) (by rfl) (by rfl) (by rfl) (by rfl) _ b h t d

/-- The trip's chunk of `q` times its scale. -/
theorem b15_at (j : ℕ) (hj : j < 32) (s : State Ideal) (b : Fin 2) (h : Fin 4) (t : Fin 64) (d : Fin 128) :
    b15 j s (ix4 b h t d) = s.main_v35_1 (ix5 (back j) b h t d) := by
  have e : b15 j s (ix4 b h t d) = b14 j s (ix5 0 b h t d) := by pointwise [b15]
  refine e.trans ?_
  unfold b14
  exact slice_at _ _ j (b3_toInt j hj s (Shape.Idx.first h_S_)) (by rfl) (by rfl) (by rfl) (by rfl) _ b h t d

/-- The trip's chunk of `k`. -/
theorem b21_at (j : ℕ) (hj : j < 32) (s : State Ideal) (b : Fin 2) (h : Fin 4) (t : Fin 64) (d : Fin 128) :
    b21 j s (ix4 b h t d) = s.main_v35_2 (ix5 (back j) b h t d) := by
  have e : b21 j s (ix4 b h t d) = b20 j s (ix5 0 b h t d) := by pointwise [b21]
  refine e.trans ?_
  unfold b20
  exact slice_at _ _ j (b3_toInt j hj s (Shape.Idx.first h_S_)) (by rfl) (by rfl) (by rfl) (by rfl) _ b h t d

/-- The trip's chunk of `v`. -/
theorem b27_at (j : ℕ) (hj : j < 32) (s : State Ideal) (b : Fin 2) (h : Fin 4) (t : Fin 64) (d : Fin 128) :
    b27 j s (ix4 b h t d) = s.main_v35_3 (ix5 (back j) b h t d) := by
  have e : b27 j s (ix4 b h t d) = b26 j s (ix5 0 b h t d) := by pointwise [b27]
  refine e.trans ?_
  unfold b26
  exact slice_at _ _ j (b3_toInt j hj s (Shape.Idx.first h_S_)) (by rfl) (by rfl) (by rfl) (by rfl) _ b h t d

/-- The trip's chunk of the log decays. -/
theorem b33_at (j : ℕ) (hj : j < 32) (s : State Ideal) (b : Fin 2) (h : Fin 4) (t : Fin 64) (d : Fin 128) :
    b33 j s (ix4 b h t d) = s.main_v35_4 (ix5 (back j) b h t d) := by
  have e : b33 j s (ix4 b h t d) = b32 j s (ix5 0 b h t d) := by pointwise [b33]
  refine e.trans ?_
  unfold b32
  exact slice_at _ _ j (b3_toInt j hj s (Shape.Idx.first h_S_)) (by rfl) (by rfl) (by rfl) (by rfl) _ b h t d

/-- The causal mask. -/
theorem mask_at (s t : Fin 64) : (K_main_v19 (F := Ideal)) (ix2 s t) = if t.val ≤ s.val then 1#1 else 0#1 := by
  pointwise [K_main_v19, K_main_call1_v5, K_main_call1_c_0, K_main_call1_v4, K_main_call1_v3, K_main_call1_v2, K_main_call1_v1, K_main_call1_c, K_main_call1_v0, K_main_v18, K_main_c]
  rw [show IntOp.addi (BitVec.ofNat 32 s.val) 0#32 = BitVec.ofNat 32 s.val from BitVec.add_zero _, sge_of]
  split <;> rfl

/-- A difference from zero. -/
theorem neg_eq (x : EReal) : -x = 0 - x := (zero_sub x).symm

/-- A choice by a bit. -/
theorem sel_ite (p : Prop) [Decidable p] (x y : EReal) : Scalar.select (if p then 1#1 else 0#1) x y = if p then x else y := by
  by_cases hp : p <;> simp [hp, Scalar.select]

/-- The state's gradient after a trip. -/
theorem b77_at (j : ℕ) (s : State Ideal) (b : Fin 2) (h : Fin 4) (d e : Fin 128) :
    b77 j s (ix4 b h d e) = gradS (fun t d => b35 j s (ix4 b h t d)) (fun t d => b40 j s (ix4 b h t d)) (fun t d => b43 j s (ix4 b h t d))
      (fun d => b43 j s (ix4 b h 63 d)) (fun d e => s.main_v35_7 (ix4 b h d e)) d e := by
  pointwise [b77, b69, b68, b63, b62, b61, b60, b76, b75, b45, b44, b39, gradS, qdec]
  rfl

/-- The trip's gradient of `v`. -/
theorem b73_at (j : ℕ) (s : State Ideal) (b : Fin 2) (h : Fin 4) (t : Fin 64) (e : Fin 128) :
    b73 j s (ix4 b h t e) = gradV (fun t d => b35 j s (ix4 b h t d)) (fun t d => b36 j s (ix4 b h t d)) (fun t d => b40 j s (ix4 b h t d)) (fun t d => b43 j s (ix4 b h t d))
      (fun d => b43 j s (ix4 b h 63 d)) (fun d e => s.main_v35_7 (ix4 b h d e)) t e := by
  pointwise [b73, b65, b64, b59, b58, b57, b56, b55, b72, b71, b54, b53, b52, b51, b50, b49, b48, b47, b46, b45, b44, b39, b34, gradV, attn, qdec]
  simp only [id, mask_at, sel_ite, neg_eq]

/-- The trip's gradient of `k`. -/
theorem b83_at (j : ℕ) (s : State Ideal) (b : Fin 2) (h : Fin 4) (t : Fin 64) (d : Fin 128) :
    b83 j s (ix4 b h t d) = gradK (fun t d => b35 j s (ix4 b h t d)) (fun t d => b37 j s (ix4 b h t d)) (fun t d => b40 j s (ix4 b h t d)) (fun t d => b43 j s (ix4 b h t d))
      (fun d => b43 j s (ix4 b h 63 d)) (fun d e => s.main_v35_7 (ix4 b h d e)) t d := by
  pointwise [b83, b82, b81, b80, b79, b78, b74, b70, b67, b66, b58, b57, b56, b55, b52, b47, b46, b45, b44, b39, b34, gradK, qdec]
  simp only [id, mask_at, sel_ite, neg_eq]

/-- The stack of the gradients of `k` after a trip. -/
theorem b89_at (j : ℕ) (hj : j < 32) (s : State Ideal) (p : Fin 32) (b : Fin 2) (h : Fin 4) (t : Fin 64) (d : Fin 128) :
    b89 j s (ix5 p b h t d) = if p = back j then b83 j s (ix4 b h t d) else s.main_v35_8 (ix5 p b h t d) := by
  unfold b89
  refine (update_at _ _ _ j (b3_toInt j hj s (Shape.Idx.first h_S_)) (by rfl) (by rfl) (by rfl) (by rfl) _ p b h t d).trans ?_
  pointwise [b84]

/-- The stack of the gradients of `v` after a trip. -/
theorem b95_at (j : ℕ) (hj : j < 32) (s : State Ideal) (p : Fin 32) (b : Fin 2) (h : Fin 4) (t : Fin 64) (d : Fin 128) :
    b95 j s (ix5 p b h t d) = if p = back j then b73 j s (ix4 b h t d) else s.main_v35_9 (ix5 p b h t d) := by
  unfold b95
  refine (update_at _ _ _ j (b3_toInt j hj s (Shape.Idx.first h_S_)) (by rfl) (by rfl) (by rfl) (by rfl) _ p b h t d).trans ?_
  pointwise [b90]

variable (x0 : (⟨S2x2048x4224, .f32⟩ : BufTy).Contents (Elt Ideal)) (x1 : (⟨S128x512, .f32⟩ : BufTy).Contents (Elt Ideal))
  (x2 : (⟨S1x512, .f32⟩ : BufTy).Contents (Elt Ideal)) (x4 : (⟨S2x2048x512, .f32⟩ : BufTy).Contents (Elt Ideal))

/-- A row of a chunk. -/
theorem row_eq (p : Fin 32) (t : Fin 64) (hr : p.val * 64 + t.val < 2048) : (⟨p.val * 64 + t.val, hr⟩ : Fin 2048) = pos p t :=
  Fin.ext (by simp only [pos]; omega)

/-- Column `o` onwards of a row, by heads. -/
theorem col_eq {n : ℕ} (o : ℕ) (h : Fin 4) (d : Fin 128) (h1 : o + (h.val * 128 + d.val) < n) (h2 : o + (lane h d).val < n) :
    (⟨o + (h.val * 128 + d.val), h1⟩ : Fin n) = ⟨o + (lane h d).val, h2⟩ :=
  Fin.ext (by have := lane_val h d; simp only; omega)

/-- A channel of a head. -/
theorem lane_eq (h : Fin 4) (d : Fin 128) (hl : h.val * 128 + d.val < 512) : (⟨h.val * 128 + d.val, hl⟩ : Fin 512) = lane h d :=
  Fin.ext (by have := lane_val h d; simp only; omega)

/-- The cotangents' chunks. -/
theorem A31_at (p : Fin 32) (b : Fin 2) (h : Fin 4) (t : Fin 64) (d : Fin 128) :
    A_main_v31 x0 x1 x2 x4 (ix5 p b h t d) = gs (fun b r j => x4 (ix3 b r j)) p b h t d := by
  pointwise [A_main_v31, A_main_v30, A_main_v17, gs]
  rw [row_eq, lane_eq]

/-- The queries' chunks. -/
theorem A23_at (p : Fin 32) (b : Fin 2) (h : Fin 4) (t : Fin 64) (d : Fin 128) :
    A_main_v23 x0 x1 x2 x4 (ix5 p b h t d) = qs (fun b r j => x0 (ix3 b r j)) p b h t d := by
  have hl := lane_val h d
  pointwise [A_main_v23, A_main_v22, A_main_v21, A_main_v1, A_main_v0, qs, K_main_v20, K_main_cst_0]
  rw [row_eq, col_eq 2048 h d _ (by omega)]

/-- The keys' chunks. -/
theorem A25_at (p : Fin 32) (b : Fin 2) (h : Fin 4) (t : Fin 64) (d : Fin 128) :
    A_main_v25 x0 x1 x2 x4 (ix5 p b h t d) = ks (fun b r j => x0 (ix3 b r j)) p b h t d := by
  have hl := lane_val h d
  pointwise [A_main_v25, A_main_v24, A_main_v3, A_main_v2, ks]
  rw [row_eq, col_eq 2560 h d _ (by omega)]

/-- The values' chunks. -/
theorem A27_at (p : Fin 32) (b : Fin 2) (h : Fin 4) (t : Fin 64) (d : Fin 128) :
    A_main_v27 x0 x1 x2 x4 (ix5 p b h t d) = vs (fun b r j => x0 (ix3 b r j)) p b h t d := by
  have hl := lane_val h d
  pointwise [A_main_v27, A_main_v26, A_main_v5, A_main_v4, vs]
  rw [row_eq, col_eq 3072 h d _ (by omega)]

/-- The logarithm of the sigmoid over sixteen, as softplus is written on the host. -/
theorem decay_eq (z : EReal) :
    Ideal.div (-if -z ≠ -z then -z else max (-z) 0 + Ideal.log1p (Ideal.exp (-FloatOps.absf (F := Ideal) (φ := .f32) (-z)))) (Ideal.ofBits FTy.f32 1098907648#32)
      = decay z := by
  rw [if_neg (by simp), sixteen, Ideal.div_coe (by norm_num)]
  unfold decay
  rw [sixteenth]
  simp only [zero_sub]
  rfl

/-- The log decays, row by row. -/
theorem A15_at (b : Fin 2) (r : Fin 2048) (j : Fin 512) :
    A_main_v15 x0 x1 x2 x4 (ix3 b r j) = decay ((∑ k : Fin 128, x0 (ix3 b r ⟨4096 + k.val, by omega⟩) * x1 (ix2 k j)) + x2 (ix2 0 j)) := by
  refine Eq.trans ?_ (decay_eq _)
  pointwise [A_main_v15, K_main_v14, K_main_cst, A_main_v13, A_main_v12, A_main_call0_v11, A_main_call0_v10, A_main_call0_v9, A_main_call0_v8, A_main_call0_v7, A_main_call0_v6,
    A_main_call0_v4, A_main_call0_v3, A_main_call0_v1, A_main_v11, A_main_v10, A_main_v9, A_main_v8, A_main_v7, A_main_v6, K_main_call0_cst, K_main_call0_v0, K_main_call0_v2,
    K_main_call0_v5]

/-- The log decays' chunks. -/
theorem A29_at (p : Fin 32) (b : Fin 2) (h : Fin 4) (t : Fin 64) (d : Fin 128) :
    A_main_v29 x0 x1 x2 x4 (ix5 p b h t d) = ls (fun b r j => x0 (ix3 b r j)) (fun k j => x1 (ix2 k j)) (fun j => x2 (ix2 0 j)) p b h t d := by
  have e : A_main_v29 x0 x1 x2 x4 (ix5 p b h t d) = A_main_v15 x0 x1 x2 x4 (ix3 b (pos p t) (lane h d)) := by
    pointwise [A_main_v29, A_main_v28, A_main_v16]
    rw [row_eq, lane_eq]
  rw [e, A15_at]
  rfl

/-- An index of a stack of chunks, from a row and a channel. -/
theorem stack_ix (b : Fin 2) (p : Fin 32) (t : Fin 64) (h : Fin 4) (d : Fin 128) (h0 : (pos p t).val / 64 < 32) (h2 : (lane h d).val / 128 < 4)
    (h3 : (pos p t).val % 64 < 64) (h4 : (lane h d).val % 128 < 128) :
    ix5 (⟨(pos p t).val / 64, h0⟩ : Fin 32) b (⟨(lane h d).val / 128, h2⟩ : Fin 4) (⟨(pos p t).val % 64, h3⟩ : Fin 64) (⟨(lane h d).val % 128, h4⟩ : Fin 128)
      = ix5 p b h t d := by
  have hl := lane_val h d
  have e1 : (⟨(pos p t).val / 64, h0⟩ : Fin 32) = p := Fin.ext (by simp only [pos]; omega)
  have e2 : (⟨(lane h d).val / 128, h2⟩ : Fin 4) = h := Fin.ext (by simp only; omega)
  have e3 : (⟨(pos p t).val % 64, h3⟩ : Fin 64) = t := Fin.ext (by simp only [pos]; omega)
  have e4 : (⟨(lane h d).val % 128, h4⟩ : Fin 128) = d := Fin.ext (by simp only; omega)
  rw [e1, e2, e3, e4]

/-- The first result, from the stack. -/
theorem R41_at (s : State Ideal) (b : Fin 2) (p : Fin 32) (t : Fin 64) (h : Fin 4) (d : Fin 128) :
    R_main_v41 s (ix3 b (pos p t) (lane h d)) = s.main_v35_8 (ix5 p b h t d) := by
  pointwise [R_main_v41]
  exact congrArg s.main_v35_8 (stack_ix b p t h d _ _ _ _)

/-- The second result, from the stack. -/
theorem R43_at (s : State Ideal) (b : Fin 2) (p : Fin 32) (t : Fin 64) (h : Fin 4) (d : Fin 128) :
    R_main_v43 s (ix3 b (pos p t) (lane h d)) = s.main_v35_9 (ix5 p b h t d) := by
  pointwise [R_main_v43]
  exact congrArg s.main_v35_9 (stack_ix b p t h d _ _ _ _)

/-! ## The states before the trips -/

/-- The sum of the log decays up to a chunk's last row is their sum over the chunk. -/
theorem cum_last (l : Rows) : (fun d => cum l 63 d) = tot l := by
  funext d
  unfold cum tot
  exact Finset.sum_congr rfl fun s _ => if_pos (by have := s.isLt; show s.val ≤ 63; omega)

/-- What a trip reads of state `s`: its chunk of each argument. -/
structure Reads (s : State Ideal) : Prop where
  ct : s.main_v35_0 = A_main_v31 x0 x1 x2 x4
  q : s.main_v35_1 = A_main_v23 x0 x1 x2 x4
  k : s.main_v35_2 = A_main_v25 x0 x1 x2 x4
  v : s.main_v35_3 = A_main_v27 x0 x1 x2 x4
  la : s.main_v35_4 = A_main_v29 x0 x1 x2 x4

/-- A trip leaves what the trips read as it was. -/
theorem reads_step {s : State Ideal} (n : ℕ) (r : Reads x0 x1 x2 x4 s) : Reads x0 x1 x2 x4 (step n s) :=
  ⟨r.ct, r.q, r.k, r.v, r.la⟩

section
variable {x0 x1 x2 x4} {s : State Ideal} (r : Reads x0 x1 x2 x4 s) (n : ℕ) (hn : n < 32) (b : Fin 2) (h : Fin 4)

include r hn

/-- The trip's chunk of the queries. -/
theorem row_q : (fun t d => b35 n s (ix4 b h t d)) = qs (fun b r j => x0 (ix3 b r j)) (back n) b h := by
  funext t d
  rw [b35_id, b15_at n hn, r.q, A23_at]

/-- The trip's chunk of the keys. -/
theorem row_k : (fun t d => b36 n s (ix4 b h t d)) = ks (fun b r j => x0 (ix3 b r j)) (back n) b h := by
  funext t d
  rw [b36_id, b21_at n hn, r.k, A25_at]

/-- The trip's chunk of the values. -/
theorem row_v : (fun t d => b37 n s (ix4 b h t d)) = vs (fun b r j => x0 (ix3 b r j)) (back n) b h := by
  funext t d
  rw [b37_id, b27_at n hn, r.v, A27_at]

/-- The trip's chunk of the cotangents. -/
theorem row_g : (fun t d => b40 n s (ix4 b h t d)) = gs (fun b r j => x4 (ix3 b r j)) (back n) b h := by
  funext t d
  rw [b40_id, b9_at n hn, r.ct, A31_at]

/-- The trip's sums of the log decays. -/
theorem row_b : (fun t d => b43 n s (ix4 b h t d)) = cum (ls (fun b r j => x0 (ix3 b r j)) (fun k j => x1 (ix2 k j)) (fun j => x2 (ix2 0 j)) (back n) b h) := by
  have e : (fun t d => b38 n s (ix4 b h t d)) = ls (fun b r j => x0 (ix3 b r j)) (fun k j => x1 (ix2 k j)) (fun j => x2 (ix2 0 j)) (back n) b h := by
    funext t d
    rw [b38_id, b33_at n hn, r.la, A29_at]
  funext t d
  rw [b43_at, e]

/-- The trip's whole sums of the log decays. -/
theorem row_w : (fun d => b43 n s (ix4 b h 63 d)) = tot (ls (fun b r j => x0 (ix3 b r j)) (fun k j => x1 (ix2 k j)) (fun j => x2 (ix2 0 j)) (back n) b h) := by
  rw [← cum_last, ← row_b r n hn b h]

/-- The gradient of the state that a trip hands on. -/
theorem trip_S (S : Fin 128 → Fin 128 → EReal) (hS : (fun d e => s.main_v35_7 (ix4 b h d e)) = S) (d e : Fin 128) :
    b77 n s (ix4 b h d e) = gradS (qs (fun b r j => x0 (ix3 b r j)) (back n) b h) (gs (fun b r j => x4 (ix3 b r j)) (back n) b h)
      (cum (ls (fun b r j => x0 (ix3 b r j)) (fun k j => x1 (ix2 k j)) (fun j => x2 (ix2 0 j)) (back n) b h))
      (tot (ls (fun b r j => x0 (ix3 b r j)) (fun k j => x1 (ix2 k j)) (fun j => x2 (ix2 0 j)) (back n) b h)) S d e := by
  rw [b77_at, row_q r n hn, row_g r n hn, row_b r n hn, row_w r n hn, hS]

/-- The gradient of `k` that a trip makes. -/
theorem trip_K (S : Fin 128 → Fin 128 → EReal) (hS : (fun d e => s.main_v35_7 (ix4 b h d e)) = S) (t : Fin 64) (d : Fin 128) :
    b83 n s (ix4 b h t d) = gradK (qs (fun b r j => x0 (ix3 b r j)) (back n) b h) (vs (fun b r j => x0 (ix3 b r j)) (back n) b h)
      (gs (fun b r j => x4 (ix3 b r j)) (back n) b h)
      (cum (ls (fun b r j => x0 (ix3 b r j)) (fun k j => x1 (ix2 k j)) (fun j => x2 (ix2 0 j)) (back n) b h))
      (tot (ls (fun b r j => x0 (ix3 b r j)) (fun k j => x1 (ix2 k j)) (fun j => x2 (ix2 0 j)) (back n) b h)) S t d := by
  rw [b83_at, row_q r n hn, row_v r n hn, row_g r n hn, row_b r n hn, row_w r n hn, hS]

/-- The gradient of `v` that a trip makes. -/
theorem trip_V (S : Fin 128 → Fin 128 → EReal) (hS : (fun d e => s.main_v35_7 (ix4 b h d e)) = S) (t : Fin 64) (e : Fin 128) :
    b73 n s (ix4 b h t e) = gradV (qs (fun b r j => x0 (ix3 b r j)) (back n) b h) (ks (fun b r j => x0 (ix3 b r j)) (back n) b h)
      (gs (fun b r j => x4 (ix3 b r j)) (back n) b h)
      (cum (ls (fun b r j => x0 (ix3 b r j)) (fun k j => x1 (ix2 k j)) (fun j => x2 (ix2 0 j)) (back n) b h))
      (tot (ls (fun b r j => x0 (ix3 b r j)) (fun k j => x1 (ix2 k j)) (fun j => x2 (ix2 0 j)) (back n) b h)) S t e := by
  rw [b73_at, row_q r n hn, row_k r n hn, row_g r n hn, row_b r n hn, row_w r n hn, hS]

end

end Cert.ReferenceIdeal.Chunks
end
-- ==== Proof.Rec.lean ====
/-
  The recurrence's gradients: the kernel's two results and the plain recurrence's are the same arrays.
-/
module

public import proofs.«01_k».proof.Defs
public import proofs.«01_k».proof.Proof.RecPts
public import proofs.«01_k».proof.Proof.RecRef
public import Idealize.ShloMosaic.Lib.Claim

@[expose] public section

set_option maxRecDepth 16384

noncomputable section

namespace Cert.ReferenceIdeal.Chunks

open Idealize.ShloMosaic Idealize.ShloMosaic.TcCoe Idealize.SL.Sem Cert.ReferenceIdeal Cert.ReferenceIdeal.Gen Cert.ReferenceIdeal.Step Cert.ReferenceIdeal.Trips Cert.Chunk

variable (m : (ℓ : Loc nD τ sig) → Buf (Elt Ideal) ℓ) (c : Dev nD)

/-- The projections, entry by entry. -/
def P (b : Fin 2) (r : Fin 2048) (j : Fin 4224) : EReal := m ((c.tc : Thread nD τ).loc main_arg0) (ix3 b r j)

/-- The gate's matrix. -/
def W (k : Fin 128) (j : Fin 512) : EReal := m ((c.tc : Thread nD τ).loc main_arg1) (ix2 k j)

/-- The gate's bias. -/
def B (j : Fin 512) : EReal := m ((c.tc : Thread nD τ).loc main_arg2) (ix2 0 j)

/-- The cotangents. -/
def G (b : Fin 2) (r : Fin 2048) (j : Fin 512) : EReal := m ((c.tc : Thread nD τ).loc main_arg4) (ix3 b r j)

/-- Every trip reads its chunks of the arguments. -/
theorem reads : ∀ n, Reads (m ((c.tc : Thread nD τ).loc main_arg0)) (m ((c.tc : Thread nD τ).loc main_arg1)) (m ((c.tc : Thread nD τ).loc main_arg2))
    (m ((c.tc : Thread nD τ).loc main_arg4)) (at_ m c n)
  | 0 => ⟨rfl, rfl, rfl, rfl, rfl⟩
  | n + 1 => reads_step _ _ _ _ n (reads n)

/-- The state's gradients before trip `n`. -/
theorem state_at : ∀ (n : ℕ) (_ : n ≤ 32) (b : Fin 2) (h : Fin 4), (fun d e => (at_ m c n).main_v35_7 (ix4 b h d e)) = dS (P m c) (W m c) (B m c) (G m c) n b h
  | 0, _, b, h => by
    funext d e
    show (K_main_v32 (F := Ideal)) (ix4 b h d e) = 0
    pointwise [K_main_v32, K_main_cst_1]
  | n + 1, hn, b, h => by
    funext d e
    exact (congrFun (Step.step_main_v35_7 n (at_ m c n)) _).trans (trip_S (reads m c n) n (by omega) b h _ (state_at n (by omega) b h) d e)

/-- The stack of the gradients of `k` before trip `n`: the chunks of the trips so far. -/
theorem stackK_at : ∀ (n : ℕ) (_ : n ≤ 32) (i : ℕ) (_ : i < n) (b : Fin 2) (h : Fin 4) (t : Fin 64) (d : Fin 128),
    (at_ m c n).main_v35_8 (ix5 (back i) b h t d) = dK (P m c) (W m c) (B m c) (G m c) i b h t d
  | n + 1, hn, i, hi, b, h, t, d => by
    refine (congrFun (Step.step_main_v35_8 n (at_ m c n)) _).trans ((b89_at n (by omega) _ _ b h t d).trans ?_)
    by_cases hin : i = n
    · subst hin
      rw [if_pos rfl]
      exact trip_K (reads m c i) i (by omega) b h _ (state_at m c i (by omega) b h) t d
    · rw [if_neg (fun hb => hin (by have := congrArg Fin.val hb; simp only [back] at this; omega))]
      exact stackK_at n (by omega) i (by omega) b h t d

/-- The stack of the gradients of `v` before trip `n`: the chunks of the trips so far. -/
theorem stackV_at : ∀ (n : ℕ) (_ : n ≤ 32) (i : ℕ) (_ : i < n) (b : Fin 2) (h : Fin 4) (t : Fin 64) (d : Fin 128),
    (at_ m c n).main_v35_9 (ix5 (back i) b h t d) = dV (P m c) (W m c) (B m c) (G m c) i b h t d
  | n + 1, hn, i, hi, b, h, t, d => by
    refine (congrFun (Step.step_main_v35_9 n (at_ m c n)) _).trans ((b95_at n (by omega) _ _ b h t d).trans ?_)
    by_cases hin : i = n
    · subst hin
      rw [if_pos rfl]
      exact trip_V (reads m c i) i (by omega) b h _ (state_at m c i (by omega) b h) t d
    · rw [if_neg (fun hb => hin (by have := congrArg Fin.val hb; simp only [back] at this; omega))]
      exact stackV_at n (by omega) i (by omega) b h t d

/-- Every row is some chunk's. -/
theorem row_surj (r : Fin 2048) : ∃ (n : ℕ) (t : Fin 64), n < 32 ∧ r = pos (back n) t :=
  ⟨31 - r.val / 64, ⟨r.val % 64, by omega⟩, by omega, Fin.ext (by simp only [pos, back]; omega)⟩

/-- The plain recurrence's first result. -/
theorem result_K (b : Fin 2) (r : Fin 2048) (j : Fin 512) :
    R_main_v41 (at_ m c 32) (ix3 b r j) = whole (dK (P m c) (W m c) (B m c) (G m c)) b r j := by
  obtain ⟨n, t, hn, rfl⟩ := row_surj r
  obtain ⟨h, d, rfl⟩ := lane_surj j
  rw [R41_at, whole_at _ n hn, stackK_at m c 32 (by omega) n hn]

/-- The plain recurrence's second result. -/
theorem result_V (b : Fin 2) (r : Fin 2048) (j : Fin 512) :
    R_main_v43 (at_ m c 32) (ix3 b r j) = whole (dV (P m c) (W m c) (B m c) (G m c)) b r j := by
  obtain ⟨n, t, hn, rfl⟩ := row_surj r
  obtain ⟨h, d, rfl⟩ := lane_surj j
  rw [R43_at, whole_at _ n hn, stackV_at m c 32 (by omega) n hn]

end Cert.ReferenceIdeal.Chunks

namespace Cert.KernelIdeal.Recurrence

open Idealize.ShloMosaic Idealize.ShloMosaic.TcCoe Idealize.SL.Sem Cert.KernelIdeal Cert.Chunk

/-- The projections, the gate's matrix and bias and the cotangents are equal, entry by entry, where the arguments are. -/
theorem same_args (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Chunks.P m' c = Points.P m c ∧ Cert.ReferenceIdeal.Chunks.W m' c = Points.W m c ∧ Cert.ReferenceIdeal.Chunks.B m' c = Points.B m c
      ∧ Cert.ReferenceIdeal.Chunks.G m' c = Points.G m c :=
  ⟨funext fun b => funext fun r => funext fun j => congrFun h0 (ix3 b r j), funext fun k => funext fun j => congrFun h1 (ix2 k j),
    funext fun j => congrFun h2 (ix2 0 j), funext fun b => funext fun r => funext fun j => congrFun h4 (ix3 b r j)⟩

/-- The kernel's run: its two results hold the gradients, its arguments what they held. -/
theorem run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread nD τ).loc main_v0_1) = Points.resK m c ∧ r.2.mem ((c.tc : Thread nD τ).loc main_v0_2) = Points.resV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  θ_run_mono (θ_run_and (Gen.run_main m g) (Gen.unchanged m g))
    fun r h c => ⟨((h.1 c).1 10).trans (Points.final_K m c), ((h.1 c).1 11).trans (Points.final_V m c), h.2 c⟩

/-- The kernel and the plain recurrence return equal gradients of `k` and of `v`. -/
theorem algebraic : Cert.algebraic_KernelIdeal_ReferenceIdeal := by
  intro m g m' g' _ hagree
  refine ⟨Points.resK m, Points.resV m, run m g, θ_run_mono (Cert.ReferenceIdeal.Value.run m' g') fun r h c => ⟨?_, ?_, (h c).2.2⟩⟩
  · obtain ⟨h0, h1, h2, -, h4, -⟩ := hagree c
    obtain ⟨e0, e1, e2, e4⟩ := same_args m m' c h0 h1 h2 h4
    refine (h c).1.trans ((Cert.ReferenceIdeal.Trips.out_dk m' c).trans ?_)
    funext y
    idx_vars y
    refine (Cert.ReferenceIdeal.Chunks.result_K m' c y0 y1 y2).trans ?_
    rw [e0, e1, e2, e4]
    rfl
  · obtain ⟨h0, h1, h2, -, h4, -⟩ := hagree c
    obtain ⟨e0, e1, e2, e4⟩ := same_args m m' c h0 h1 h2 h4
    refine (h c).2.1.trans ((Cert.ReferenceIdeal.Trips.out_dv m' c).trans ?_)
    funext y
    idx_vars y
    refine (Cert.ReferenceIdeal.Chunks.result_V m' c y0 y1 y2).trans ?_
    rw [e0, e1, e2, e4]
    rfl

end Cert.KernelIdeal.Recurrence

end
-- ==== Proof.FfnMath.lean ====
/-
  The gradient of the gated feed-forward's middle, entry by entry: a causal convolution of three rows with a bias, whose first half
  of columns gates the second half, before the down projection. From the convolution's input `up`, the gradient `dy` of the
  projection's result, the projection's weight `wd`, the convolution's weight `cw` and bias `cb`.
-/
module

public import Idealize.ShloMosaic.Lib.Pointwise

@[expose] public section

noncomputable section

namespace Cert.FeedForward

open Idealize.ShloMosaic

/-- The arrays the gradient is computed from. -/
structure Args where
  up : Fin 2 → Fin 2048 → Fin 5632 → EReal
  dy : Fin 2 → Fin 2048 → Fin 1024 → EReal
  wd : Fin 2816 → Fin 1024 → EReal
  cw : Fin 3 → Fin 5632 → EReal
  cb : Fin 5632 → EReal

/-- The row `s` places before row `r`; outside of the sequence there are zeros. -/
def back (f : Fin 2048 → EReal) (s r : ℕ) : EReal := if h : s ≤ r ∧ r - s < 2048 then f ⟨r - s, h.2⟩ else 0

/-- The gate's column for a column of the feed-forward. -/
def gcol (i : Fin 2816) : Fin 5632 := ⟨i.val, by omega⟩

/-- The gated value's column for a column of the feed-forward. -/
def vcol (i : Fin 2816) : Fin 5632 := ⟨2816 + i.val, by omega⟩

/-- The convolution with its bias. -/
def pre (a : Args) (b : Fin 2) (r : ℕ) (c : Fin 5632) : EReal :=
  back (a.up b · c) 0 r * a.cw 2 c + back (a.up b · c) 1 r * a.cw 1 c + back (a.up b · c) 2 r * a.cw 0 c + a.cb c

/-- The gradient of the gated activation, which the down projection hands back; after the sequence there are zeros. -/
def da (a : Args) (b : Fin 2) (r : ℕ) (i : Fin 2816) : EReal := if h : r < 2048 then ∑ k : Fin 1024, a.dy b ⟨r, h⟩ k * a.wd i k else 0

/-- The gradient of the gate's pre-activation. -/
def dgate (a : Args) (b : Fin 2) (r : ℕ) (i : Fin 2816) : EReal :=
  da a b r i * pre a b r (vcol i) *
    (Ideal.logistic (pre a b r (gcol i)) + pre a b r (gcol i) * Ideal.logistic (pre a b r (gcol i)) * (1 - Ideal.logistic (pre a b r (gcol i))))

/-- The gradient of the gated value. -/
def dval (a : Args) (b : Fin 2) (r : ℕ) (i : Fin 2816) : EReal :=
  da a b r i * (pre a b r (gcol i) * Ideal.logistic (pre a b r (gcol i)))

/-- The gradient of the convolution's result. -/
def du (a : Args) (b : Fin 2) (r : ℕ) (c : Fin 5632) : EReal :=
  if h : c.val < 2816 then dgate a b r ⟨c.val, h⟩ else dval a b r ⟨c.val - 2816, by omega⟩

/-- The gradient of the convolution's input. -/
def dup (a : Args) (b : Fin 2) (r : ℕ) (c : Fin 5632) : EReal :=
  du a b r c * a.cw 2 c + du a b (r + 1) c * a.cw 1 c + du a b (r + 2) c * a.cw 0 c

/-- The gradient of the convolution's bias. -/
def dbias (a : Args) (c : Fin 5632) : EReal := ∑ b : Fin 2, ∑ r : Fin 2048, du a b r.val c

/-- The gradient of the convolution's weight for the row `s` places back. -/
def dweight (a : Args) (s : ℕ) (c : Fin 5632) : EReal := ∑ b : Fin 2, ∑ r : Fin 2048, du a b r.val c * back (a.up b · c) s r.val

/-- After the sequence nothing is handed back. -/
theorem du_after (a : Args) (b : Fin 2) (r : ℕ) (c : Fin 5632) (h : ¬ r < 2048) : du a b r c = 0 := by
  unfold du dgate dval da
  simp [h]

theorem du_gcol (a : Args) (b : Fin 2) (r : ℕ) (i : Fin 2816) : du a b r (gcol i) = dgate a b r i := dif_pos i.isLt

theorem du_vcol (a : Args) (b : Fin 2) (r : ℕ) (i : Fin 2816) : du a b r (vcol i) = dval a b r i := by
  have hn : ¬ (vcol i).val < 2816 := by show ¬ 2816 + i.val < 2816; omega
  refine (dif_neg hn).trans (congrArg (dval a b r) (Fin.ext ?_))
  show 2816 + i.val - 2816 = i.val
  omega

/-- The plain column of column `c` of group `j`: a group holds 256 gate columns and the 256 value columns that they gate. -/
def col (j : Fin 11) (c : Fin 512) : Fin 5632 :=
  if h : c.val < 256 then gcol ⟨256 * j.val + c.val, by omega⟩ else vcol ⟨256 * j.val + (c.val - 256), by omega⟩

/-- The plain column of a column in groups. -/
def plain (c : Fin 5632) : Fin 5632 := ⟨c.val / 256 % 2 * 2816 + c.val / 512 * 256 + c.val % 256, by omega⟩

/-- A sum over a sequence is the sum over its two halves. -/
theorem sum_halves (f : ℕ → EReal) : ∑ r : Fin 2048, f r.val = ∑ x : Fin 1024, f x.val + ∑ x : Fin 1024, f (1024 + x.val) :=
  (Fin.sum_univ_add (a := 1024) (b := 1024) fun r => f r.val)

/-- What four visits, two sequences of two halves, add to zero. -/
theorem four_visits (f : Fin 2 → ℕ → EReal) :
    0 + (∑ x : Fin 1024, f 0 x.val) + (∑ x : Fin 1024, f 0 (1024 + x.val)) + (∑ x : Fin 1024, f 1 x.val) + (∑ x : Fin 1024, f 1 (1024 + x.val))
      = ∑ b : Fin 2, ∑ r : Fin 2048, f b r.val := by
  rw [Fin.sum_univ_two, sum_halves, sum_halves, zero_add, add_assoc, add_assoc]

/-- A finite extended real. -/
def Real' (x : EReal) : Prop := ∃ r : ℝ, x = r

theorem real_mul {x y : EReal} (hx : Real' x) (hy : Real' y) : Real' (x * y) := by
  obtain ⟨r, rfl⟩ := hx
  obtain ⟨s, rfl⟩ := hy
  exact ⟨r * s, (EReal.coe_mul r s).symm⟩

theorem real_add {x y : EReal} (hx : Real' x) (hy : Real' y) : Real' (x + y) := by
  obtain ⟨r, rfl⟩ := hx
  obtain ⟨s, rfl⟩ := hy
  exact ⟨r + s, (EReal.coe_add r s).symm⟩

theorem real_sum {n : ℕ} (f : Fin n → EReal) (h : ∀ i, Real' (f i)) : Real' (∑ i, f i) :=
  Finset.sum_induction f Real' (fun _ _ => real_add) ⟨0, rfl⟩ fun i _ => h i

/-- All the arrays are finite. -/
structure Finite (a : Args) : Prop where
  up : ∀ b r c, Real' (a.up b r c)
  dy : ∀ b r k, Real' (a.dy b r k)
  wd : ∀ i k, Real' (a.wd i k)
  cw : ∀ k c, Real' (a.cw k c)
  cb : ∀ c, Real' (a.cb c)

theorem Finite.back {a : Args} (h : Finite a) (b : Fin 2) (s r : ℕ) (c : Fin 5632) : Real' (back (a.up b · c) s r) := by
  unfold FeedForward.back
  split
  · exact h.up _ _ _
  · exact ⟨0, rfl⟩

theorem Finite.pre {a : Args} (h : Finite a) (b : Fin 2) (r : ℕ) (c : Fin 5632) : Real' (pre a b r c) :=
  real_add (real_add (real_add (real_mul (h.back _ _ _ _) (h.cw _ _)) (real_mul (h.back _ _ _ _) (h.cw _ _))) (real_mul (h.back _ _ _ _) (h.cw _ _))) (h.cb _)

theorem Finite.da {a : Args} (h : Finite a) (b : Fin 2) (r : ℕ) (i : Fin 2816) : Real' (da a b r i) := by
  unfold FeedForward.da
  split
  · exact real_sum _ fun k => real_mul (h.dy _ _ _) (h.wd _ _)
  · exact ⟨0, rfl⟩

/-- On finite arrays the gate's gradient is the one that the product rule gives, one term for each factor. -/
theorem dgate_product {a : Args} (h : Finite a) (b : Fin 2) (r : ℕ) (i : Fin 2816) :
    dgate a b r i = da a b r i * pre a b r (vcol i) * Ideal.logistic (pre a b r (gcol i))
      + pre a b r (gcol i) * (da a b r i * pre a b r (vcol i)) * (Ideal.logistic (pre a b r (gcol i)) * (1 - Ideal.logistic (pre a b r (gcol i)))) := by
  unfold dgate
  obtain ⟨d, hd⟩ := h.da b r i
  obtain ⟨g, hg⟩ := h.pre b r (gcol i)
  obtain ⟨v, hv⟩ := h.pre b r (vcol i)
  rw [hd, hg, hv, Ideal.logistic_coe]
  norm_cast
  ring

end Cert.FeedForward

end
-- ==== Proof.FfnKer.lean ====
/-
  What the body of the gated feed-forward's gradient computes at one grid point, entry by entry: the rows it convolves, the
  gradient of the pre-activation on the tile's rows and its halo's, the gradient of the input, and the sums over the tile's rows.
-/
module

public import proofs.«01_k».proof.Proof.Gen.Kernel2Ideal.Skeleton
public import proofs.«01_k».proof.Proof.FfnMath
public import Idealize.ShloMosaic.Lib.Pointwise

@[expose] public section

set_option maxRecDepth 16384

noncomputable section

namespace Cert.Kernel2Ideal.Body

open Idealize.ShloMosaic Idealize.ShloMosaic.TcCoe
open Cert.Kernel2Ideal Cert.Kernel2Ideal.Gen Cert.FeedForward

theorem constant_zero (d : Shape) (i : d.Idx) : (constant d .f32 0x00000000#32 : FVec Ideal d .f32) i = (0 : EReal) := Ideal.ofBits_zero_f32

/-- What the body loads at group `j`, sequence `b`, half `t`: the tile of the convolution's input with eight rows before and after
    it, the tile of the projection's gradient with sixteen rows after it, and the group's columns of the weights. The rows
    before the sequence and after it are left open. -/
structure Loaded (a : Args) (j : Fin 11) (b t : Fin 2) (p : Vec Ideal S1x8x512 .f32) (x : Vec Ideal S1x1024x512 .f32) (n : Vec Ideal S1x8x512 .f32)
    (y : Vec Ideal S1x1024x1024 .bf16) (y' : Vec Ideal S1x16x1024 .bf16) (w : Vec Ideal S256x1024 .bf16)
    (c0 c1 c2 bias : Vec Ideal S1x512 .f32) : Prop where
  tile : ∀ (q : Fin 1024) (c : Fin 512), x (ix3 0 q c) = a.up b ⟨1024 * t.val + q.val, by omega⟩ (col j c)
  before : ∀ (q : Fin 8) (c : Fin 512), t.val = 1 → p (ix3 0 q c) = a.up b ⟨1016 + q.val, by omega⟩ (col j c)
  after : ∀ (q : Fin 8) (c : Fin 512), t.val = 0 → n (ix3 0 q c) = a.up b ⟨1024 + q.val, by omega⟩ (col j c)
  grad : ∀ (q : Fin 1024) (k : Fin 1024), y (ix3 0 q k) = a.dy b ⟨1024 * t.val + q.val, by omega⟩ k
  gradAfter : ∀ (q : Fin 16) (k : Fin 1024), t.val = 0 → y' (ix3 0 q k) = a.dy b ⟨1024 + q.val, by omega⟩ k
  weight : ∀ (e : Fin 256) (k : Fin 1024), w (ix2 e k) = a.wd ⟨256 * j.val + e.val, by omega⟩ k
  conv0 : ∀ c : Fin 512, c0 (ix2 0 c) = a.cw 0 (col j c)
  conv1 : ∀ c : Fin 512, c1 (ix2 0 c) = a.cw 1 (col j c)
  conv2 : ∀ c : Fin 512, c2 (ix2 0 c) = a.cw 2 (col j c)
  shift : ∀ c : Fin 512, bias (ix2 0 c) = a.cb (col j c)

section
variable {a : Args} {j : Fin 11} {b t : Fin 2} {p : Vec Ideal S1x8x512 .f32} {x : Vec Ideal S1x1024x512 .f32} {n : Vec Ideal S1x8x512 .f32}
  {y : Vec Ideal S1x1024x1024 .bf16} {y' : Vec Ideal S1x16x1024 .bf16} {w : Vec Ideal S256x1024 .bf16} {c0 c1 c2 bias : Vec Ideal S1x512 .f32}

theorem back_of (f : Fin 2048 → EReal) (s r m : ℕ) (h : m < 2048) (e : r = m + s) : back f s r = f ⟨m, h⟩ := by
  subst e
  unfold back
  rw [dif_pos ⟨by omega, by omega⟩]
  congr 1
  exact Fin.ext (by show m + s - s = m; omega)

theorem back_before (f : Fin 2048 → EReal) (s r : ℕ) (h : r < s) : back f s r = 0 := dif_neg fun h' => absurd h'.1 (by omega)

/-- The rows the body convolves: eight before the tile, the tile, eight after it; before the sequence they are zeros. -/
theorem rows_at (L : Loaded a j b t p x n y y' w c0 c1 c2 bias) (i : grid0.Coords) (hi : (i 2).val = t.val) (q : Fin 1040) (c : Fin 512)
    (hq : 1024 * t.val + q.val < 2056) :
    k0_pay5 (F := Ideal) i p x n (ix2 q c) = back (a.up b · (col j c)) 8 (1024 * t.val + q.val) := by
  pointwise [k0_pay5]
  rw [hi]
  have ht : t = 0 ∨ t = 1 := by fin_cases t <;> simp
  split
  · rename_i h
    rcases ht with rfl | rfl
    · rw [back_before _ _ _ (by simpa using h)]
      exact if_pos rfl
    · rw [back_of _ 8 _ (1016 + q.val) (by omega) (by show 1024 * 1 + q.val = _; omega)]
      exact (if_neg (by decide)).trans (L.before _ _ rfl)
  · split
    · rw [L.tile, back_of _ 8 _ (1024 * t.val + (q.val - 8)) (by omega) (by omega)]
    · have h0 : t.val = 0 := by omega
      rw [L.after _ _ h0, back_of _ 8 _ (1024 + (q.val - 8 - 1024)) (by omega) (by omega)]

theorem back_shift (f : Fin 2048 → EReal) (r m s k : ℕ) (h : m + s = r + k) : back f k m = back f s r := by
  unfold back
  have e : ∀ h1 h2, f ⟨m - k, h1⟩ = f ⟨r - s, h2⟩ := fun h1 h2 => congrArg f (Fin.ext (by show m - k = r - s; omega))
  split_ifs with h1 h2 h2
  · exact e _ _
  · omega
  · omega
  · rfl

/-- The convolution with its bias on the tile's rows and the eight after it. -/
theorem pre_at (L : Loaded a j b t p x n y y' w c0 c1 c2 bias) (i : grid0.Coords) (hi : (i 2).val = t.val) (q : Fin 1032) (c : Fin 512)
    (hq : 1024 * t.val + q.val < 2048) :
    k0_pay6 (F := Ideal) i p x n c2 c1 c0 (ix2 q c) + bias (ix2 0 c) = pre a b (1024 * t.val + q.val) (col j c) := by
  pointwise [k0_pay6]
  rw [rows_at L i hi _ _ (by show 1024 * t.val + (8 + q.val) < 2056; omega), rows_at L i hi _ _ (by show 1024 * t.val + (8 + q.val + 1040 - 1) % 1040 < 2056; omega),
    rows_at L i hi _ _ (by show 1024 * t.val + (8 + q.val + 1040 - 2) % 1040 < 2056; omega), L.conv0, L.conv1, L.conv2, L.shift,
    back_shift _ (1024 * t.val + q.val) _ 0 8 (by show 1024 * t.val + (8 + q.val) + 0 = _; omega),
    back_shift _ (1024 * t.val + q.val) _ 1 8 (by show 1024 * t.val + (8 + q.val + 1040 - 1) % 1040 + 1 = _; omega),
    back_shift _ (1024 * t.val + q.val) _ 2 8 (by show 1024 * t.val + (8 + q.val + 1040 - 2) % 1040 + 2 = _; omega)]
  rfl

/-- The rows the weight's gradient pairs with the tile: `s` places back. -/
theorem shifted_at (L : Loaded a j b t p x n y y' w c0 c1 c2 bias) (i : grid0.Coords) (hi : (i 2).val = t.val) (s : ℕ) (q : Fin 1024) (m : ℕ) (hm : m < 1040) (c : Fin 512)
    (e : m + s = 8 + q.val) :
    k0_pay5 (F := Ideal) i p x n (ix2 ⟨m, hm⟩ c) = back (a.up b · (col j c)) s (1024 * t.val + q.val) := by
  rw [rows_at L i hi _ _ (by show 1024 * t.val + m < 2056; omega), back_shift _ (1024 * t.val + q.val) _ s 8 (by show 1024 * t.val + m + s = _; omega)]

/-- The comparison of a row's number with the tile's height, of the program's words. -/
theorem slt_rows (q : Fin 1032) : IntOp.cmpi CmpIPredicate.slt (BitVec.ofNat 32 q.val) 1024#32 = if q.val < 1024 then 1#1 else 0#1 := by
  revert q
  decide +kernel

/-- A mask that is one on the tile's rows, and on the rows after it unless the sequence ends there. -/
theorem valid_iff (q t : ℕ) (hq : q < 1032) (ht : t < 2) :
    (IntOp.ori (IntOp.cmpi CmpIPredicate.slt (BitVec.ofNat 32 q) 1024#32) (Scalar.cmpi CmpIPredicate.slt (BitVec.ofNat 32 t) 1#32)) = if 1024 * t + q < 2048 then 1#1 else 0#1 := by
  have e1 : IntOp.cmpi CmpIPredicate.slt (BitVec.ofNat 32 q) 1024#32 = if q < 1024 then 1#1 else 0#1 :=
    (show _ = (if (⟨q, hq⟩ : Fin 1032).val < 1024 then 1#1 else 0#1) from slt_rows ⟨q, hq⟩)
  rw [e1]
  obtain rfl | rfl : t = 0 ∨ t = 1 := by omega
  · rw [if_pos (show 1024 * 0 + q < 2048 by omega)]
    split <;> decide
  · by_cases h : q < 1024
    · rw [if_pos h, if_pos (show 1024 * 1 + q < 2048 by omega)]; decide
    · rw [if_neg h, if_neg (show ¬ 1024 * 1 + q < 2048 by omega)]; decide

/-- The gradient the down projection hands back, on the tile's rows and the eight after it. -/
theorem da_at (L : Loaded a j b t p x n y y' w c0 c1 c2 bias) (q : Fin 1032) (e : Fin 256) (hq : 1024 * t.val + q.val < 2048) :
    (if h : q.val < 1024 then ∑ k : Fin 1024, y (ix3 0 ⟨q.val, h⟩ k) * w (ix2 e k)
      else ∑ k : Fin 1024, y' (ix3 0 ⟨q.val - 1024, by omega⟩ k) * w (ix2 e k)) = da a b (1024 * t.val + q.val) ⟨256 * j.val + e.val, by omega⟩ := by
  unfold da
  rw [dif_pos hq]
  split
  · exact Finset.sum_congr rfl fun k _ => by rw [L.grad, L.weight]
  · have h0 : t.val = 0 := by omega
    refine Finset.sum_congr rfl fun k _ => ?_
    rw [L.gradAfter _ _ h0, L.weight]
    congr 2
    exact Fin.ext (by show 1024 + (q.val - 1024) = 1024 * t.val + q.val; omega)

theorem col_gate (j : Fin 11) (e : Fin 256) (h : e.val < 512) : col j ⟨e.val, h⟩ = gcol ⟨256 * j.val + e.val, by omega⟩ := dif_pos e.isLt

theorem col_value (j : Fin 11) (e : Fin 256) (h : 256 + e.val < 512) : col j ⟨256 + e.val, h⟩ = vcol ⟨256 * j.val + e.val, by omega⟩ := by
  refine (dif_neg (by show ¬ 256 + e.val < 256; omega)).trans (congrArg vcol (Fin.ext ?_))
  show 256 * j.val + (256 + e.val - 256) = 256 * j.val + e.val
  omega

/-- The gradient of the convolution's result, on the tile's rows and the eight after it. -/
theorem du_at (L : Loaded a j b t p x n y y' w c0 c1 c2 bias) (i : grid0.Coords) (hi : (i 2).val = t.val) (q : Fin 1032) (c : Fin 512) :
    k0_pay7 (F := Ideal) (BitVec.ofNat 32 (i 2).val) (k0_pay6 (F := Ideal) i p x n c2 c1 c0) bias y w y' w (ix2 q c) = du a b (1024 * t.val + q.val) (col j c) := by
  rw [hi]
  by_cases hq : 1024 * t.val + q.val < 2048
  · by_cases hc : c.val < 256
    · obtain ⟨e, he, rfl⟩ : ∃ (e : Fin 256) (he : e.val < 512), c = ⟨e.val, he⟩ := ⟨⟨c.val, hc⟩, c.isLt, rfl⟩
      pointwise [k0_pay7]
      rw [valid_iff _ _ q.isLt t.isLt, if_pos hq, da_at L q e hq, pre_at L i hi q _ hq, pre_at L i hi q _ hq, col_gate, col_value, du_gcol]
      rfl
    · obtain ⟨e, he, rfl⟩ : ∃ (e : Fin 256) (he : 256 + e.val < 512), c = ⟨256 + e.val, he⟩ :=
        ⟨⟨c.val - 256, by omega⟩, by show 256 + (c.val - 256) < 512; omega, Fin.ext (by show c.val = 256 + (c.val - 256); omega)⟩
      pointwise [k0_pay7]
      rw [valid_iff _ _ q.isLt t.isLt, if_pos hq]
      rw [da_at L q e hq, pre_at L i hi q _ hq, col_gate, col_value, du_vcol]
      rfl
  · rw [du_after _ _ _ _ hq]
    by_cases hc : c.val < 256
    · obtain ⟨e, he, rfl⟩ : ∃ (e : Fin 256) (he : e.val < 512), c = ⟨e.val, he⟩ := ⟨⟨c.val, hc⟩, c.isLt, rfl⟩
      pointwise [k0_pay7]
      rw [valid_iff _ _ q.isLt t.isLt, if_neg hq]
      rfl
    · obtain ⟨e, he, rfl⟩ : ∃ (e : Fin 256) (he : 256 + e.val < 512), c = ⟨256 + e.val, he⟩ :=
        ⟨⟨c.val - 256, by omega⟩, by show 256 + (c.val - 256) < 512; omega, Fin.ext (by show c.val = 256 + (c.val - 256); omega)⟩
      pointwise [k0_pay7]
      rw [valid_iff _ _ q.isLt t.isLt, if_neg hq]
      rfl

/-- The gradient of the convolution's result as the body holds it, on the tile's rows and the eight after it. -/
def Grad (a : Args) (j : Fin 11) (b t : Fin 2) (D : FVec Ideal S1032x512 .f32) : Prop :=
  ∀ (q : Fin 1032) (c : Fin 512), D (ix2 q c) = du a b (1024 * t.val + q.val) (col j c)

theorem grad_of (L : Loaded a j b t p x n y y' w c0 c1 c2 bias) (i : grid0.Coords) (hi : (i 2).val = t.val) :
    Grad a j b t (k0_pay7 (F := Ideal) (BitVec.ofNat 32 (i 2).val) (k0_pay6 (F := Ideal) i p x n c2 c1 c0) bias y w y' w) := fun q c => du_at L i hi q c

/-- The gradient of the convolution's input on the tile's rows. -/
theorem dup_at (L : Loaded a j b t p x n y y' w c0 c1 c2 bias) (i : grid0.Coords) (hi : (i 2).val = t.val) (q : Fin 1024) (c : Fin 512) :
    k0_pay10 (F := Ideal) (k0_pay7 (F := Ideal) (BitVec.ofNat 32 (i 2).val) (k0_pay6 (F := Ideal) i p x n c2 c1 c0) bias y w y' w)
      (k0_pay8 (F := Ideal) (BitVec.ofNat 32 (i 2).val) (k0_pay6 (F := Ideal) i p x n c2 c1 c0) bias y w y' w c2)
      (k0_pay9 (F := Ideal) (BitVec.ofNat 32 (i 2).val) (k0_pay6 (F := Ideal) i p x n c2 c1 c0) bias y w y' w) c1 c0 (ix3 0 q c)
      = dup a b (1024 * t.val + q.val) (col j c) := by
  have hq := q.isLt
  pointwise [k0_pay10, k0_pay8, k0_pay9]
  rw [du_at L i hi, du_at L i hi, du_at L i hi, L.conv0, L.conv1, L.conv2,
    show 1024 * t.val + (⟨(q.val + 1032 - 1031) % 1032, Nat.mod_lt _ (by decide)⟩ : Fin 1032).val = 1024 * t.val + q.val + 1 by
      show 1024 * t.val + (q.val + 1032 - 1031) % 1032 = _; omega,
    show 1024 * t.val + (⟨(q.val + 1032 - 1030) % 1032, Nat.mod_lt _ (by decide)⟩ : Fin 1032).val = 1024 * t.val + q.val + 2 by
      show 1024 * t.val + (q.val + 1032 - 1030) % 1032 = _; omega]
  rfl

/-- The tile's share of the bias's gradient, added to what was there. -/
theorem dbias_at (D : FVec Ideal S1032x512 .f32) (hD : Grad a j b t D) (s : Vec Ideal S1x512 .f32) (c : Fin 512) :
    k0_pay12 (F := Ideal) D s (ix2 0 c) = s (ix2 0 c) + ∑ q : Fin 1024, du a b (1024 * t.val + q.val) (col j c) := by
  pointwise [k0_pay12, k0_pay11]
  exact congrArg (_ + ·) (Finset.sum_congr rfl fun q _ => hD _ _)

/-- The tile's share of the gradient of the weight two rows back, added to what was there. -/
theorem dweight2_at (L : Loaded a j b t p x n y y' w c0 c1 c2 bias) (i : grid0.Coords) (hi : (i 2).val = t.val) (D : FVec Ideal S1032x512 .f32) (hD : Grad a j b t D)
    (s : Vec Ideal S1x512 .f32) (c : Fin 512) :
    k0_pay13 (F := Ideal) (k0_pay5 (F := Ideal) i p x n) D s (ix2 0 c)
      = s (ix2 0 c) + ∑ q : Fin 1024, du a b (1024 * t.val + q.val) (col j c) * back (a.up b · (col j c)) 2 (1024 * t.val + q.val) := by
  pointwise [k0_pay13, k0_pay11]
  refine congrArg (_ + ·) (Finset.sum_congr rfl fun q _ => ?_)
  rw [hD, shifted_at L i hi 2 q _ _ c (by omega)]

/-- The tile's share of the gradient of the weight one row back, added to what was there. -/
theorem dweight1_at (L : Loaded a j b t p x n y y' w c0 c1 c2 bias) (i : grid0.Coords) (hi : (i 2).val = t.val) (D : FVec Ideal S1032x512 .f32) (hD : Grad a j b t D)
    (s : Vec Ideal S1x512 .f32) (c : Fin 512) :
    k0_pay1 (F := Ideal) (k0_pay11 (F := Ideal) D) (k0_pay14 (F := Ideal) (k0_pay5 (F := Ideal) i p x n)) s (ix2 0 c)
      = s (ix2 0 c) + ∑ q : Fin 1024, du a b (1024 * t.val + q.val) (col j c) * back (a.up b · (col j c)) 1 (1024 * t.val + q.val) := by
  pointwise [k0_pay1, k0_pay11, k0_pay14]
  refine congrArg (_ + ·) (Finset.sum_congr rfl fun q _ => ?_)
  rw [hD, shifted_at L i hi 1 q _ _ c (by omega)]

/-- The tile's share of the gradient of the weight of the row itself, added to what was there. -/
theorem dweight0_at (L : Loaded a j b t p x n y y' w c0 c1 c2 bias) (i : grid0.Coords) (hi : (i 2).val = t.val) (D : FVec Ideal S1032x512 .f32) (hD : Grad a j b t D)
    (s : Vec Ideal S1x512 .f32) (c : Fin 512) :
    k0_pay2 (F := Ideal) (k0_pay5 (F := Ideal) i p x n) (k0_pay11 (F := Ideal) D) s (ix2 0 c)
      = s (ix2 0 c) + ∑ q : Fin 1024, du a b (1024 * t.val + q.val) (col j c) * back (a.up b · (col j c)) 0 (1024 * t.val + q.val) := by
  pointwise [k0_pay2, k0_pay11]
  refine congrArg (_ + ·) (Finset.sum_congr rfl fun q _ => ?_)
  rw [hD, shifted_at L i hi 0 q _ _ c (by omega)]

end

end Cert.Kernel2Ideal.Body

end
-- ==== Proof.FfnPts.lean ====
/-
  The grid's points of the gated feed-forward's gradient: a point works on a group of columns, a sequence and a half of it. What it
  loads are entries of the arguments, what it writes are the gradients' entries; the weight's and the bias's gradients are summed over
  the four visits of a group.
-/
module

public import proofs.«01_k».proof.Proof.Gen.Kernel2Ideal.Frame
public import proofs.«01_k».proof.Proof.FfnKer
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Kernel2Ideal.Points

open Idealize.ShloMosaic Idealize.ShloMosaic.TcCoe Idealize.SL.Sem
open Idealize.ShloMosaic.Pipeline (Dat)
open Cert.Kernel2Ideal Cert.Kernel2Ideal.Gen Cert.FeedForward Cert.Kernel2Ideal.Body

variable (m : (ℓ : Loc nD τ sig) → Buf (Elt Ideal) ℓ) (c : Dev nD)

/-- The arguments, entry by entry. -/
def args : Args where
  up b r j := m ((c : Thread nD τ).loc main_arg0) (ix3 b r j)
  dy b r k := m ((c : Thread nD τ).loc main_arg1) (ix3 b r k)
  wd i k := m ((c : Thread nD τ).loc main_arg2) (ix2 i k)
  cw k j := m ((c : Thread nD τ).loc main_arg3) (ix2 k j)
  cb j := m ((c : Thread nD τ).loc main_arg4) (ix2 0 j)

/-- The grid's points: eleven groups of columns, two sequences, two halves of a sequence. -/
theorem coords : ∀ t : Fin cfg0.N, (grid0.coords t 0).val = t.val / 4 ∧ (grid0.coords t 1).val = t.val / 2 % 2 ∧ (grid0.coords t 2).val = t.val % 2 :=
  (by decide +kernel : ∀ t : Fin grid0.N, _)

/-- The blocks a point stages. -/
theorem idx : ∀ t : Fin cfg0.N, win0_0.index t = ![t.val / 2 % 2, t.val % 2, t.val / 4]
    ∧ win0_1.index t = ![t.val / 2 % 2, 127 * (t.val % 2), t.val / 4]
    ∧ win0_2.index t = ![t.val / 2 % 2, 128 + 127 * (t.val % 2), t.val / 4]
    ∧ win0_3.index t = ![t.val / 2 % 2, t.val % 2, 0]
    ∧ win0_4.index t = ![t.val / 2 % 2, 64 + 63 * (t.val % 2), 0]
    ∧ win0_5.index t = ![t.val / 4, 0]
    ∧ win0_6.index t = ![0, t.val / 4]
    ∧ win0_7.index t = ![0, t.val / 4]
    ∧ win0_8.index t = ![t.val / 2 % 2, t.val % 2, t.val / 4]
    ∧ win0_9.index t = ![0, t.val / 4]
    ∧ win0_10.index t = ![0, t.val / 4] :=
  (by decide +kernel : ∀ t : Fin grid0.N, _)

/-- The group a point works on. -/
def grp (t : Fin cfg0.N) : Fin 11 := ⟨t.val / 4, by have := (by decide +kernel : grid0.N = 44); have h := t.isLt; change t.val < grid0.N at h; omega⟩

/-- The sequence a point works on. -/
def sq (t : Fin cfg0.N) : Fin 2 := ⟨t.val / 2 % 2, by omega⟩

/-- The half of the sequence a point works on. -/
def half (t : Fin cfg0.N) : Fin 2 := ⟨t.val % 2, by omega⟩

/-- A group's columns in the plain order. -/
theorem plain_col (j : Fin 11) (c : Fin 512) : plain ⟨512 * j.val + c.val, by omega⟩ = col j c := by
  unfold plain col gcol vcol
  split <;> exact Fin.ext (by dsimp only; omega)

/-- The host pairs the columns of the convolution's input. -/
theorem V_up (b : Fin 2) (r : Fin 2048) (j : Fin 5632) : V m c main_v2 (ix3 b r j) = (args m c).up b r (plain j) := by
  entry_read
  pointwise
  rfl

/-- The host pairs the columns of the convolution's weight. -/
theorem V_cw (k : Fin 3) (j : Fin 5632) : V m c main_v5 (ix2 k j) = (args m c).cw k (plain j) := by
  entry_read
  pointwise
  rfl

/-- The host pairs the columns of the convolution's bias. -/
theorem V_cb (j : Fin 5632) : V m c main_v8 (ix2 0 j) = (args m c).cb (plain j) := by
  entry_read
  pointwise
  rfl

/-- The tile of the convolution's input. -/
theorem x0_at (t : Fin cfg0.N) (q : Fin 1024) (j : Fin 512) :
    iblk m c 0 t (ix3 0 q j) = (args m c).up (sq t) ⟨1024 * (half t).val + q.val, by omega⟩ (col (grp t) j) := by
  rw [← plain_col, ← V_up]
  blk_simp [iblk]
  refine congrArg (V m c main_v2) ?_
  unfold sq half grp
  blk_ext [idx t]

/-- The eight rows before the tile. -/
theorem x1_at (t : Fin cfg0.N) (q : Fin 8) (j : Fin 512) (h : (half t).val = 1) :
    iblk m c 1 t (ix3 0 q j) = (args m c).up (sq t) ⟨1016 + q.val, by omega⟩ (col (grp t) j) := by
  rw [← plain_col, ← V_up]
  blk_simp [iblk]
  refine congrArg (V m c main_v2) ?_
  have h' : t.val % 2 = 1 := h
  unfold sq grp
  blk_ext [idx t, h']

/-- The eight rows after the tile. -/
theorem x2_at (t : Fin cfg0.N) (q : Fin 8) (j : Fin 512) (h : (half t).val = 0) :
    iblk m c 2 t (ix3 0 q j) = (args m c).up (sq t) ⟨1024 + q.val, by omega⟩ (col (grp t) j) := by
  rw [← plain_col, ← V_up]
  blk_simp [iblk]
  refine congrArg (V m c main_v2) ?_
  have h' : t.val % 2 = 0 := h
  unfold sq grp
  blk_ext [idx t, h']

/-- The tile of the incoming gradient. -/
theorem x3_at (t : Fin cfg0.N) (q : Fin 1024) (k : Fin 1024) :
    iblk m c 3 t (ix3 0 q k) = (args m c).dy (sq t) ⟨1024 * (half t).val + q.val, by omega⟩ k := by
  unfold args sq half
  blk_point [iblk, V, idx t]

/-- The sixteen rows of the incoming gradient after the tile. -/
theorem x4_at (t : Fin cfg0.N) (q : Fin 16) (k : Fin 1024) (h : (half t).val = 0) :
    iblk m c 4 t (ix3 0 q k) = (args m c).dy (sq t) ⟨1024 + q.val, by omega⟩ k := by
  have h' : t.val % 2 = 0 := h
  unfold args sq
  blk_point [iblk, V, idx t, h']

/-- The group's rows of the projection's weight. -/
theorem x5_at (t : Fin cfg0.N) (e : Fin 256) (k : Fin 1024) :
    iblk m c 5 t (ix2 e k) = (args m c).wd ⟨256 * (grp t).val + e.val, by omega⟩ k := by
  unfold args grp
  blk_point [iblk, V, idx t]

/-- The group's columns of the convolution's weight. -/
theorem x6_at (t : Fin cfg0.N) (k : Fin 3) (j : Fin 512) : iblk m c 6 t (ix2 k j) = (args m c).cw k (col (grp t) j) := by
  rw [← plain_col, ← V_cw]
  blk_simp [iblk]
  refine congrArg (V m c main_v5) ?_
  unfold grp
  blk_ext [idx t]

/-- The group's columns of the convolution's bias. -/
theorem x7_at (t : Fin cfg0.N) (j : Fin 512) : iblk m c 7 t (ix2 0 j) = (args m c).cb (col (grp t) j) := by
  rw [← plain_col, ← V_cb]
  blk_simp [iblk]
  refine congrArg (V m c main_v8) ?_
  unfold grp
  blk_ext [idx t]

/-- What a point loads are entries of the arguments. -/
theorem loaded (t : Fin cfg0.N) : Loaded (args m c) (grp t) (sq t) (half t) (iblk m c 1 t) (iblk m c 0 t) (iblk m c 2 t) (iblk m c 3 t) (iblk m c 4 t) (iblk m c 5 t)
    (View.ld (iblk m c 6 t) (Rect.unit ![0, 0] ![1, 512] inb_S3x512_S1x512_0_0)) (View.ld (iblk m c 6 t) (Rect.unit ![1, 0] ![1, 512] inb_S3x512_S1x512_1_0))
    (View.ld (iblk m c 6 t) (Rect.unit ![2, 0] ![1, 512] inb_S3x512_S1x512_2_0)) (iblk m c 7 t) where
  tile := x0_at m c t
  before q e h := x1_at m c t q e h
  after q e h := x2_at m c t q e h
  grad := x3_at m c t
  gradAfter q k h := x4_at m c t q k h
  weight := x5_at m c t
  conv0 e := Eq.trans (by pointwise) (x6_at m c t 0 e)
  conv1 e := Eq.trans (by pointwise) (x6_at m c t 1 e)
  conv2 e := Eq.trans (by pointwise) (x6_at m c t 2 e)
  shift := x7_at m c t

/-- A point's place in its sequence. -/
theorem place (t : Fin cfg0.N) : ((grid0.coords t) 2).val = (half t).val := (coords t).2.2

/-- A point's share of the bias's gradient. -/
def biasPart (t : Fin cfg0.N) (j : Fin 512) : EReal := ∑ q : Fin 1024, du (args m c) (sq t) (1024 * (half t).val + q.val) (col (grp t) j)

/-- A point's share of the gradient of the weight for the row `s` places back. -/
def weightPart (t : Fin cfg0.N) (s : ℕ) (j : Fin 512) : EReal :=
  ∑ q : Fin 1024, du (args m c) (sq t) (1024 * (half t).val + q.val) (col (grp t) j) * back ((args m c).up (sq t) · (col (grp t) j)) s (1024 * (half t).val + q.val)

/-- The block of the gradient of the convolution's input that a point writes. -/
theorem block_up (t : Fin cfg0.N) (q : Fin 1024) (j : Fin 512) :
    (outsAt0 m c t.val t.isLt).1 (ix3 0 q j) = dup (args m c) (sq t) (1024 * (half t).val + q.val) (col (grp t) j) := by
  by_cases h : t.val % 4 = 0
  · rw [outsAt0_A m c t h]
    frame_out
    exact dup_at (loaded m c t) _ (place t) q j
  · rw [outsAt0_B m c t h]
    frame_out
    exact dup_at (loaded m c t) _ (place t) q j

/-- The bias's gradient after a group's first visit. -/
theorem bias_A (t : Fin cfg0.N) (h : t.val % 4 = 0) (j : Fin 512) : (outsAt0 m c t.val t.isLt).2.2 (ix2 0 j) = 0 + biasPart m c t j := by
  rw [outsAt0_A m c t h]
  frame_out
  exact (dbias_at _ (grad_of (loaded m c t) _ (place t)) _ j).trans (congrArg (· + _) (by pointwise [k0_pay4]))

/-- The bias's gradient after a group's later visits. -/
theorem bias_B (t : Fin cfg0.N) (h : ¬ t.val % 4 = 0) (j : Fin 512) :
    (outsAt0 m c t.val t.isLt).2.2 (ix2 0 j) = (outsAt0 m c (t.val - 1) (by omega)).2.2 (ix2 0 j) + biasPart m c t j := by
  rw [outsAt0_B m c t h]
  frame_out
  exact dbias_at _ (grad_of (loaded m c t) _ (place t)) _ j

/-- Stores that the later ones cover are not seen. -/
theorem covered {s : Shape} {e : EltTy} (L' : List (View.Piece (Elt Ideal) s e)) : ∀ (L : List (View.Piece (Elt Ideal) s e)) (y : s.Idx)
    (_ : ∃ p ∈ L, y ∈ p.1.set), View.canon (L ++ L') y = View.canon L y
  | [], _, h => by obtain ⟨p, hp, _⟩ := h; exact absurd hp List.not_mem_nil
  | p :: L, y, h => by
    by_cases hm : y ∈ p.1.set
    · obtain ⟨x, rfl⟩ := p.1.exists_idx_of_mem hm
      exact (View.canon_cons_emb p.1 p.2 (L ++ L') x).trans (View.canon_cons_emb p.1 p.2 L x).symm
    · refine (View.canon_cons_of_not_mem p (L ++ L') hm).trans ((covered L' L y ?_).trans (View.canon_cons_of_not_mem p L hm).symm)
      obtain ⟨q, hq, hy⟩ := h
      rcases List.mem_cons.mp hq with rfl | hq
      · exact absurd hy hm
      · exact ⟨q, hq, hy⟩

/-- A row of the weight's gradient. -/
theorem row_ix (x : S1x512.Idx) (j : Fin 512) (h1 : j.val = (x 1).val) : x = ix2 0 j := by
  funext a
  fin_cases a
  exacts [Subsingleton.elim (α := Fin 1) _ _, Fin.ext h1.symm]

/-- The row that a store of one row holds. -/
theorem row_of (k : Fin 3) (n : Fin 3) (y : ℕ) (hy : y < 1) (h : k.val = n.val + y) : k = n := Fin.ext (by omega)

/-- The weight's gradient after a group's later visits. -/
theorem weight_B (t : Fin cfg0.N) (h : ¬ t.val % 4 = 0) (k : Fin 3) (j : Fin 512) :
    (outsAt0 m c t.val t.isLt).2.1 (ix2 k j) = (outsAt0 m c (t.val - 1) (by omega)).2.1 (ix2 k j) + weightPart m c t (2 - k.val) j := by
  rw [outsAt0_B m c t h]
  frame_out
  clear h
  canon_tiles x h
  · obtain rfl := row_of k 2 _ x0_lt h0
    obtain rfl := row_ix x j h1
    exact (dweight0_at (loaded m c t) _ (place t) _ (grad_of (loaded m c t) _ (place t)) _ j).trans (congrArg (· + _) (by pointwise))
  · obtain rfl := row_of k 1 _ x0_lt h0
    obtain rfl := row_ix x j h1
    exact (dweight1_at (loaded m c t) _ (place t) _ (grad_of (loaded m c t) _ (place t)) _ j).trans (congrArg (· + _) (by pointwise))
  · obtain rfl := row_of k 0 _ x0_lt (h0.trans (Nat.zero_add _).symm)
    obtain rfl := row_ix x j h1
    exact (dweight2_at (loaded m c t) _ (place t) _ (grad_of (loaded m c t) _ (place t)) _ j).trans (congrArg (· + _) (by pointwise))

/-- A load of another row skips a row's store. -/
theorem skip_row {n n' : ℕ} (hn : n ≠ n') (inb : ∀ a, (![n, 0] : Fin 2 → ℕ) a + (![1, 512] : Fin 2 → ℕ) a ≤ S3x512.size a)
    (inb' : ∀ a, (![n', 0] : Fin 2 → ℕ) a + (![1, 512] : Fin 2 → ℕ) a ≤ S3x512.size a) (v : FVec Ideal S1x512 .f32) (L : List (View.Piece (Elt Ideal) S3x512 .f32)) (x : S1x512.Idx) :
    View.canon ((⟨Rect.unit ![n, 0] ![1, 512] inb, v⟩ : View.Piece (Elt Ideal) S3x512 .f32) :: L) ((Rect.unit (s := S3x512) ![n', 0] ![1, 512] inb').toLoadRect.idx x)
      = View.canon L ((Rect.unit (s := S3x512) ![n', 0] ![1, 512] inb').toLoadRect.idx x) := by
  refine View.canon_cons_of_not_mem _ _ fun hm => ?_
  have h0 : n ≤ n' + 1 * (x 0).val ∧ n' + 1 * (x 0).val < n + 1 := (Rect.mem_set_unit (inb := inb)).mp hm 0
  have hx : (x 0).val < 1 := (x 0).isLt
  omega

/-- The weight's gradient after a group's first visit. -/
theorem weight_A (t : Fin cfg0.N) (h : t.val % 4 = 0) (k : Fin 3) (j : Fin 512) :
    (outsAt0 m c t.val t.isLt).2.1 (ix2 k j) = 0 + weightPart m c t (2 - k.val) j := by
  rw [outsAt0_A m c t h]
  frame_out
  clear h
  refine (covered [_] [_, _, _] _ (View.cover_of_tiled_head _ _ _ (by rfl) _)).trans ?_
  canon_tiles x h
  · obtain rfl := row_of k 2 _ x0_lt h0
    obtain rfl := row_ix x j h1
    refine (dweight0_at (loaded m c t) _ (place t) _ (grad_of (loaded m c t) _ (place t)) _ j).trans (congrArg (· + _) ?_)
    refine (congrFun (View.readCov_eq_canon' _ _ _) _).trans ?_
    refine (skip_row (by decide) _ _ _ _ _).trans ((skip_row (by decide) _ _ _ _ _).trans ?_)
    rw [View.canon_cons_unit_lit _ _ _ (by decide)]
    pointwise [k0_pay3]
  · obtain rfl := row_of k 1 _ x0_lt h0
    obtain rfl := row_ix x j h1
    refine (dweight1_at (loaded m c t) _ (place t) _ (grad_of (loaded m c t) _ (place t)) _ j).trans (congrArg (· + _) ?_)
    refine (congrFun (View.readCov_eq_canon' _ _ _) _).trans ?_
    refine (skip_row (by decide) _ _ _ _ _).trans ?_
    rw [View.canon_cons_unit_lit _ _ _ (by decide)]
    pointwise [k0_pay3]
  · obtain rfl := row_of k 0 _ x0_lt (h0.trans (Nat.zero_add _).symm)
    obtain rfl := row_ix x j h1
    exact (dweight2_at (loaded m c t) _ (place t) _ (grad_of (loaded m c t) _ (place t)) _ j).trans (congrArg (· + _)
      ((congrFun (View.readCov_fill _ _ _ _ _ (by decide)) _).trans (by pointwise [k0_pay3])))

theorem cfg_N : cfg0.N = 44 := (by decide +kernel : grid0.N = 44)

/-- Visit `i` of group `n`. -/
def visit (n : Fin 11) (i : Fin 4) : Fin cfg0.N := ⟨4 * n.val + i.val, by have := cfg_N; omega⟩

theorem grp_visit (n : Fin 11) (i : Fin 4) : grp (visit n i) = n := Fin.ext (by show (4 * n.val + i.val) / 4 = n.val; omega)

/-- What a visit adds. -/
def part (f : Fin 2 → ℕ → EReal) (t : Fin cfg0.N) : EReal := ∑ q : Fin 1024, f (sq t) (1024 * (half t).val + q.val)

theorem part_at (f : Fin 2 → ℕ → EReal) (n : Fin 11) (i : Fin 4) (b : Fin 2) (o : ℕ) (hb : i.val / 2 = b.val) (ho : 1024 * (i.val % 2) = o) :
    part f (visit n i) = ∑ q : Fin 1024, f b (o + q.val) := by
  have h1 : sq (visit n i) = b := Fin.ext (by show (4 * n.val + i.val) / 2 % 2 = b.val; omega)
  have h2 : 1024 * (half (visit n i)).val = o := by show 1024 * ((4 * n.val + i.val) % 2) = o; omega
  unfold part
  rw [h1, h2]

/-- The four visits of a group add the sums over both sequences. -/
theorem visits_sum (f : Fin 2 → ℕ → EReal) (n : Fin 11) :
    0 + part f (visit n 0) + part f (visit n 1) + part f (visit n 2) + part f (visit n 3) = ∑ b : Fin 2, ∑ r : Fin 2048, f b r.val := by
  rw [part_at f n 0 0 0 rfl rfl, part_at f n 1 0 1024 rfl rfl, part_at f n 2 1 0 rfl rfl, part_at f n 3 1 1024 rfl rfl, ← four_visits f]
  simp only [Nat.zero_add]

/-- The bias's gradient after a group's last visit. -/
theorem bias_end (n : Fin 11) (j : Fin 512) : (outsAt0 m c (visit n 3).val (visit n 3).isLt).2.2 (ix2 0 j) = dbias (args m c) (col n j) := by
  have hp : ∀ i, biasPart m c (visit n i) j = part (fun b r => du (args m c) b r (col n j)) (visit n i) := fun i => by
    unfold biasPart part
    rw [grp_visit]
  have e0 := bias_A m c (visit n 0) (by show (4 * n.val + 0) % 4 = 0; omega) j
  have e1 := bias_B m c (visit n 1) (by show ¬ (4 * n.val + 1) % 4 = 0; omega) j
  have e2 := bias_B m c (visit n 2) (by show ¬ (4 * n.val + 2) % 4 = 0; omega) j
  have e3 := bias_B m c (visit n 3) (by show ¬ (4 * n.val + 3) % 4 = 0; omega) j
  rw [hp] at e0 e1 e2 e3
  refine e3.trans ((congrArg (· + _) (e2.trans (congrArg (· + _) (e1.trans (congrArg (· + _) e0))))).trans (visits_sum _ n))

/-- The weight's gradient after a group's last visit. -/
theorem weight_end (n : Fin 11) (k : Fin 3) (j : Fin 512) :
    (outsAt0 m c (visit n 3).val (visit n 3).isLt).2.1 (ix2 k j) = dweight (args m c) (2 - k.val) (col n j) := by
  have hp : ∀ i, weightPart m c (visit n i) (2 - k.val) j
      = part (fun b r => du (args m c) b r (col n j) * back ((args m c).up b · (col n j)) (2 - k.val) r) (visit n i) := fun i => by
    unfold weightPart part
    rw [grp_visit]
  have e0 := weight_A m c (visit n 0) (by show (4 * n.val + 0) % 4 = 0; omega) k j
  have e1 := weight_B m c (visit n 1) (by show ¬ (4 * n.val + 1) % 4 = 0; omega) k j
  have e2 := weight_B m c (visit n 2) (by show ¬ (4 * n.val + 2) % 4 = 0; omega) k j
  have e3 := weight_B m c (visit n 3) (by show ¬ (4 * n.val + 3) % 4 = 0; omega) k j
  rw [hp] at e0 e1 e2 e3
  refine e3.trans ((congrArg (· + _) (e2.trans (congrArg (· + _) (e1.trans (congrArg (· + _) e0))))).trans (visits_sum _ n))

/-- A point that writes a group's sums back is the group's last visit. -/
theorem last_visit (t : Fin cfg0.N) (h : t.val % 4 = 3) : t = visit (grp t) 3 := Fin.ext (by show t.val = 4 * (t.val / 4) + 3; omega)

/-- The gradient of the convolution's input, columns in groups, as one function of its index. -/
def resU : S2x2048x5632.Idx → EReal := fun y => dup (args m c) (y 0) (y 1).val (plain (y 2))

/-- The gradient of the convolution's weight, columns in groups, as one function of its index. -/
def resW : S3x5632.Idx → EReal := fun y => dweight (args m c) (2 - (y 0).val) (plain (y 1))

/-- The gradient of the convolution's bias, columns in groups, as one function of its index. -/
def resB : S1x5632.Idx → EReal := fun y => dbias (args m c) (plain (y 1))

/-- After all the points, the first result's array holds that. -/
theorem final_U : (dats m 0 c).arrAt 8 (cfgs 0).N = resU m c := by
  refine (dats m 0 c).arrAt_eq_of_covers 8 _ (by decide +kernel) fun t hf y => ?_
  blk_simp
  rw [after0_8]
  idx_vars y
  obtain rfl : y0 = 0 := Subsingleton.elim (α := Fin 1) _ _
  refine (block_up m c t y1 y2).trans ?_
  rw [← plain_col]
  refine congrArg (resU m c) (a₁ := ix3 (sq t) ⟨1024 * (half t).val + y1.val, by omega⟩ ⟨512 * (grp t).val + y2.val, by omega⟩) ?_
  unfold sq half grp
  blk_ext [idx t]

/-- After all the points, the second result's array holds that. -/
theorem final_W : (dats m 0 c).arrAt 9 (cfgs 0).N = resW m c := by
  refine (dats m 0 c).arrAt_eq_of_covers 9 _ (by decide +kernel) fun t hf y => ?_
  blk_simp
  rw [after0_9]
  idx_vars y
  have ht := (flush0_9 t).mp hf
  have e : (outsAt0 m c t.val t.isLt).2.1 (ix2 y0 y1) = dweight (args m c) (2 - y0.val) (col (grp t) y1) := by
    have := weight_end m c (grp t) y0 y1
    rwa [← last_visit t ht] at this
  refine e.trans ?_
  rw [← plain_col]
  refine congrArg (resW m c) (a₁ := ix2 y0 ⟨512 * (grp t).val + y1.val, by omega⟩) ?_
  unfold grp
  blk_ext [idx t]

/-- After all the points, the third result's array holds that. -/
theorem final_B : (dats m 0 c).arrAt 10 (cfgs 0).N = resB m c := by
  refine (dats m 0 c).arrAt_eq_of_covers 10 _ (by decide +kernel) fun t hf y => ?_
  blk_simp
  rw [after0_10]
  idx_vars y
  obtain rfl : y0 = 0 := Subsingleton.elim (α := Fin 1) _ _
  have ht := (flush0_10 t).mp hf
  have e : (outsAt0 m c t.val t.isLt).2.2 (ix2 0 y1) = dbias (args m c) (col (grp t) y1) := by
    have := bias_end m c (grp t) y1
    rwa [← last_visit t ht] at this
  refine e.trans ?_
  rw [← plain_col]
  refine congrArg (resB m c) (a₁ := ix2 0 ⟨512 * (grp t).val + y1.val, by omega⟩) ?_
  unfold grp
  blk_ext [idx t]

end Cert.Kernel2Ideal.Points

end
-- ==== Proof.Sums.lean ====
/-
  A sum of a three-axis array over its first two axes, column by column.
-/
module

public import Idealize.ShloMosaic.Lib.Pipeline.ValueKit
public import Idealize.ShloMosaic.Lib.Pointwise

@[expose] public section

set_option maxRecDepth 16384

noncomputable section

namespace Cert.Sums

open Idealize.ShloMosaic

/-- A sum over two axes at a column. -/
theorem rows_sum {n0 n1 n2 : ℕ} (h : (⟨3, ![n0, n1, n2]⟩ : Shape).ReducesTo [0, 1] ⟨1, ![n2]⟩) (v : (⟨3, ![n0, n1, n2]⟩ : Shape).Idx → EReal) (init : EReal) (j : Fin n2) :
    Ideal.hostReduceAdd h v init (ix1 j) = init + ∑ k0 : Fin n0, ∑ k1 : Fin n1, v (ix3 k0 k1 j) := by
  have hf : ∀ i : (⟨3, ![n0, n1, n2]⟩ : Shape).Idx, h.drop i = ix1 j ↔ ∃ k : Fin n0 × Fin n1, ix3 k.1 k.2 j = i := fun i => by
    constructor
    · intro hd
      have h2 : (i 2).val = j.val := congrArg Fin.val (congrFun hd 0)
      refine ⟨(i 0, i 1), ?_⟩
      funext a
      apply Fin.ext
      match a with
      | ⟨0, _⟩ => rfl
      | ⟨1, _⟩ => rfl
      | ⟨2, _⟩ => exact h2.symm
    · rintro ⟨k, rfl⟩
      funext a
      apply Fin.ext
      match a with
      | ⟨0, _⟩ => rfl
  exact congrArg (init + ·) ((Finset.sum_filter_eq_sum_of_fiber _ (fun k : Fin n0 × Fin n1 => ix3 k.1 k.2 j) (fun _ _ e => Prod.ext (congrFun e 0) (congrFun e 1)) hf v).trans
    (by simp only [Fintype.sum_prod_type]))

end Cert.Sums

end
-- ==== Proof.FfnRef.lean ====
/-
  The plain gradient of the gated feed-forward's middle, entry by entry.
-/
module

public import proofs.«01_k».proof.Proof.Gen.Reference2Ideal.Run
public import proofs.«01_k».proof.Proof.FfnMath
public import proofs.«01_k».proof.Proof.Sums
public import Idealize.ShloMosaic.Lib.IdealHost
public import Idealize.ShloMosaic.Lib.Pointwise

@[expose] public section

set_option maxRecDepth 16384

noncomputable section

namespace Cert.Reference2Ideal.Grad

open Idealize.ShloMosaic Idealize.ShloMosaic.TcCoe Idealize.SL.Sem Cert.Reference2Ideal Cert.Reference2Ideal.Gen Cert.FeedForward Cert.Sums
open Cert.Reference2Ideal.Value

/-- The convolution's input after two rows of zeros. -/
def padded (x : FVec Ideal S2x2048x5632 .f32) : FVec Ideal S2x2050x5632 .f32 :=
  concatenate S2x2050x5632 1 [⟨S2x2x5632, broadcastInDim S2x2x5632 ![] bcast_S_S2x2x5632 (constant S_ .f32 0x00000000#32)⟩, ⟨S2x2048x5632, x⟩]
    concatenates_S2x2x5632_S2x2048x5632_S2x2050x5632_d1

/-- A row of the convolution's weight, for every row of the sequences. -/
def spread (w : FVec Ideal S1x5632 .f32) : FVec Ideal S2x2048x5632 .f32 :=
  broadcastInDim S2x2048x5632 ![0, 1, 2] bcast_S1x1x5632_S2x2048x5632_0_1_2 (broadcastInDim S1x1x5632 ![2] bcast_S5632_S1x1x5632_2 (shapeCast _ w shapeCasts_S1x5632_S5632))

/-- The convolution's weight, row by row. -/
def w0 (cw : FVec Ideal S3x5632 .f32) := spread (extractStridedSlice S1x5632 ![0, 0] cw slices_S3x5632_S1x5632_0_0)
def w1 (cw : FVec Ideal S3x5632 .f32) := spread (extractStridedSlice S1x5632 ![1, 0] cw slices_S3x5632_S1x5632_1_0)
def w2 (cw : FVec Ideal S3x5632 .f32) := spread (extractStridedSlice S1x5632 ![2, 0] cw slices_S3x5632_S1x5632_2_0)
/-- The convolution's input two rows, one row and no row back. -/
def x0 (x : FVec Ideal S2x2048x5632 .f32) := extractStridedSlice S2x2048x5632 ![0, 0, 0] (padded x) slices_S2x2050x5632_S2x2048x5632_0_0_0
def x1 (x : FVec Ideal S2x2048x5632 .f32) := extractStridedSlice S2x2048x5632 ![0, 1, 0] (padded x) slices_S2x2050x5632_S2x2048x5632_0_1_0
def x2 (x : FVec Ideal S2x2048x5632 .f32) := extractStridedSlice S2x2048x5632 ![0, 2, 0] (padded x) slices_S2x2050x5632_S2x2048x5632_0_2_0

/-- The convolution with its bias. -/
def conv (x : FVec Ideal S2x2048x5632 .f32) (cw : FVec Ideal S3x5632 .f32) (cb : FVec Ideal S1x5632 .f32) : FVec Ideal S2x2048x5632 .f32 :=
  addf (addf (addf (addf (broadcastInDim S2x2048x5632 ![] bcast_S_S2x2048x5632 (constant S_ .f32 0x00000000#32)) (mulf (x0 x) (w0 cw))) (mulf (x1 x) (w1 cw))) (mulf (x2 x) (w2 cw)))
    (broadcastInDim S2x2048x5632 ![0, 1, 2] bcast_S1x1x5632_S2x2048x5632_0_1_2 (broadcastInDim S1x1x5632 ![1, 2] bcast_S1x5632_S1x1x5632_1_2 cb))

/-- Ones. -/
def ones : FVec Ideal S2x2048x2816 .f32 := broadcastInDim S2x2048x2816 ![] bcast_S_S2x2048x2816 (constant S_ .f32 0x3F800000#32)

/-- The gate's logistic. -/
def sg (g : FVec Ideal S2x2048x2816 .f32) : FVec Ideal S2x2048x2816 .f32 := Host.divf ones (addf ones (Host.exp (Host.negf g)))

/-- The gate's columns, and the gated value's. -/
def gate (p : FVec Ideal S2x2048x5632 .f32) := extractStridedSlice S2x2048x2816 ![0, 0, 0] p slices_S2x2048x5632_S2x2048x2816_0_0_0
def value (p : FVec Ideal S2x2048x5632 .f32) := extractStridedSlice S2x2048x2816 ![0, 0, 2816] p slices_S2x2048x5632_S2x2048x2816_0_0_2816

/-- The gradient of the gated activation. -/
def act (dy : FVec Ideal S2x2048x1024 .bf16) (w : FVec Ideal S2816x1024 .bf16) : FVec Ideal S2x2048x2816 .f32 :=
  Host.dotGeneral dot_S2x2048x1024_S2816x1024_S2x2048x2816_2_1_01_0_n_n none (extf .f32 dy bitsLt_bf16_f32) (extf .f32 w bitsLt_bf16_f32)

/-- The gradient of the gate, one term for each factor of its product with its logistic. -/
def gateGrad (g v d : FVec Ideal S2x2048x2816 .f32) : FVec Ideal S2x2048x2816 .f32 :=
  addf (mulf (mulf d v) (sg g)) (mulf (mulf g (mulf d v)) (mulf (sg g) (subf ones (sg g))))

/-- The gradient of the gated value. -/
def valueGrad (g d : FVec Ideal S2x2048x2816 .f32) : FVec Ideal S2x2048x2816 .f32 := mulf (mulf g (sg g)) d

/-- The gradient of the convolution's result. -/
def convGrad (p : FVec Ideal S2x2048x5632 .f32) (d : FVec Ideal S2x2048x2816 .f32) : FVec Ideal S2x2048x5632 .f32 :=
  concatenate S2x2048x5632 2 [⟨S2x2048x2816, gateGrad (gate p) (value p) d⟩, ⟨S2x2048x2816, valueGrad (gate p) d⟩] concatenates_S2x2048x2816_S2x2048x2816_S2x2048x5632_d2

/-- A sum over the rows of both sequences. -/
def total (u : FVec Ideal S2x2048x5632 .f32) : FVec Ideal S5632 .f32 :=
  Host.reduceAdd (shapeCast _ (Host.reduceAdd u (constant S_ .f32 0x00000000#32) reducesTo_S2x2048x5632_S5632_d0_1 h_S_) shapeCasts_S5632_S1x1x5632) (constant S_ .f32 0x00000000#32)
    reducesTo_S1x1x5632_S5632_d0_1 h_S_

/-- The two sums that the convolution hands back for a row of its weight: a total in one row. -/
def oneRow (u : FVec Ideal S2x2048x5632 .f32) : FVec Ideal S1x5632 .f32 := broadcastInDim S1x5632 ![1] bcast_S5632_S1x5632_1 (total u)

/-- Zero, to pad with. -/
def zero : FVec Ideal S_ .f32 := constant S_ .f32 0x00000000#32

/-- The gradient of the convolution's weight, from the gradient of its result. -/
def weightGrad (x u : FVec Ideal S2x2048x5632 .f32) : FVec Ideal S3x5632 .f32 :=
  addf (addf (pad S3x5632 ![2, 0] ![0, 0] ![0, 0] (oneRow (mulf (x2 x) u)) zero pads_S1x5632_S3x5632_200_000 h_S_)
    (pad S3x5632 ![1, 0] ![1, 0] ![0, 0] (oneRow (mulf (x1 x) u)) zero pads_S1x5632_S3x5632_110_000 h_S_))
    (pad S3x5632 ![0, 0] ![2, 0] ![0, 0] (oneRow (mulf (x0 x) u)) zero pads_S1x5632_S3x5632_020_000 h_S_)

/-- The gradient of the convolution's input, from the gradient of its result. -/
def inputGrad (cw : FVec Ideal S3x5632 .f32) (u : FVec Ideal S2x2048x5632 .f32) : FVec Ideal S2x2048x5632 .f32 :=
  extractStridedSlice S2x2048x5632 ![0, 2, 0]
    (addf (addf (pad S2x2050x5632 ![0, 2, 0] ![0, 0, 0] ![0, 0, 0] (mulf u (w2 cw)) zero pads_S2x2048x5632_S2x2050x5632_000_200_000 h_S_)
      (pad S2x2050x5632 ![0, 1, 0] ![0, 1, 0] ![0, 0, 0] (mulf u (w1 cw)) zero pads_S2x2048x5632_S2x2050x5632_000_110_000 h_S_))
      (pad S2x2050x5632 ![0, 0, 0] ![0, 2, 0] ![0, 0, 0] (mulf u (w0 cw)) zero pads_S2x2048x5632_S2x2050x5632_000_020_000 h_S_))
    slices_S2x2050x5632_S2x2048x5632_0_2_0

/-- Columns in groups. -/
def grouped1 (v : FVec Ideal S1x5632 .f32) : FVec Ideal S1x5632 .f32 :=
  shapeCast _ (transpose S1x11x2x256 [0, 2, 1, 3] (shapeCast _ v shapeCasts_S1x5632_S1x2x11x256) transposes_S1x2x11x256_S1x11x2x256_0_2_1_3) shapeCasts_S1x11x2x256_S1x5632

/-- Columns in groups. -/
def grouped3 (v : FVec Ideal S3x5632 .f32) : FVec Ideal S3x5632 .f32 :=
  shapeCast _ (transpose S3x11x2x256 [0, 2, 1, 3] (shapeCast _ v shapeCasts_S3x5632_S3x2x11x256) transposes_S3x2x11x256_S3x11x2x256_0_2_1_3) shapeCasts_S3x11x2x256_S3x5632

/-- Columns in groups. -/
def grouped (v : FVec Ideal S2x2048x5632 .f32) : FVec Ideal S2x2048x5632 .f32 :=
  shapeCast _ (transpose S2x2048x11x2x256 [0, 1, 3, 2, 4] (shapeCast _ v shapeCasts_S2x2048x5632_S2x2048x2x11x256) transposes_S2x2048x2x11x256_S2x2048x11x2x256_0_1_3_2_4)
    shapeCasts_S2x2048x11x2x256_S2x2048x5632

theorem grouped1_at (v : FVec Ideal S1x5632 .f32) (j : Fin 5632) : grouped1 v (ix2 0 j) = v (ix2 0 (plain j)) := by
  pointwise [grouped1]
  rfl

theorem grouped3_at (v : FVec Ideal S3x5632 .f32) (k : Fin 3) (j : Fin 5632) : grouped3 v (ix2 k j) = v (ix2 k (plain j)) := by
  pointwise [grouped3]
  rfl

theorem grouped_at (v : FVec Ideal S2x2048x5632 .f32) (b : Fin 2) (r : Fin 2048) (j : Fin 5632) : grouped v (ix3 b r j) = v (ix3 b r (plain j)) := by
  pointwise [grouped]
  rfl

theorem total_at (u : FVec Ideal S2x2048x5632 .f32) (j : Fin 5632) : total u (ix1 j) = ∑ b : Fin 2, ∑ r : Fin 2048, u (ix3 b r j) := by
  pointwise [total]
  refine (rows_sum _ _ _ j).trans ?_
  simp only [zero_add, Fin.sum_univ_one, Fin.isValue]
  pointwise
  refine (rows_sum _ _ _ j).trans ?_
  exact zero_add _

theorem oneRow_at (u : FVec Ideal S2x2048x5632 .f32) (j : Fin 5632) : oneRow u (ix2 0 j) = ∑ b : Fin 2, ∑ r : Fin 2048, u (ix3 b r j) := by
  pointwise [oneRow]
  exact total_at u j

theorem sg_at (g : FVec Ideal S2x2048x2816 .f32) (b : Fin 2) (r : Fin 2048) (j : Fin 2816) : sg g (ix3 b r j) = Ideal.logistic (g (ix3 b r j)) := by
  pointwise [sg, ones]
  rfl

theorem one_at (b : Fin 2) (r : Fin 2048) (j : Fin 2816) : ones (ix3 b r j) = 1 := by
  pointwise [ones]

theorem gate_at (p : FVec Ideal S2x2048x5632 .f32) (b : Fin 2) (r : Fin 2048) (j : Fin 2816) : gate p (ix3 b r j) = p (ix3 b r (gcol j)) := by
  pointwise [gate]
  rfl

theorem value_at (p : FVec Ideal S2x2048x5632 .f32) (b : Fin 2) (r : Fin 2048) (j : Fin 2816) : value p (ix3 b r j) = p (ix3 b r (vcol j)) := by
  pointwise [value]
  rfl

theorem x2_at (x : FVec Ideal S2x2048x5632 .f32) (b : Fin 2) (r : Fin 2048) (j : Fin 5632) : x2 x (ix3 b r j) = back (fun r => x (ix3 b r j)) 0 r.val := by
  pointwise [x2, padded]
  unfold back
  rw [dif_pos ⟨by omega, by omega⟩]
  rfl

theorem x1_at (x : FVec Ideal S2x2048x5632 .f32) (b : Fin 2) (r : Fin 2048) (j : Fin 5632) : x1 x (ix3 b r j) = back (fun r => x (ix3 b r j)) 1 r.val := by
  pointwise [x1, padded]
  unfold back
  split
  · rw [dif_neg (by omega)]
  · rw [dif_pos ⟨by omega, by omega⟩]
    refine congrArg (fun r => x (ix3 b r j)) (Fin.ext ?_)
    dsimp only
    omega

theorem x0_at (x : FVec Ideal S2x2048x5632 .f32) (b : Fin 2) (r : Fin 2048) (j : Fin 5632) : x0 x (ix3 b r j) = back (fun r => x (ix3 b r j)) 2 r.val := by
  pointwise [x0, padded]
  unfold back
  split
  · rw [dif_neg (by omega)]
  · rw [dif_pos ⟨by omega, by omega⟩]

theorem w2_at (cw : FVec Ideal S3x5632 .f32) (b : Fin 2) (r : Fin 2048) (j : Fin 5632) : w2 cw (ix3 b r j) = cw (ix2 2 j) := by pointwise [w2, spread]

theorem w1_at (cw : FVec Ideal S3x5632 .f32) (b : Fin 2) (r : Fin 2048) (j : Fin 5632) : w1 cw (ix3 b r j) = cw (ix2 1 j) := by pointwise [w1, spread]

theorem w0_at (cw : FVec Ideal S3x5632 .f32) (b : Fin 2) (r : Fin 2048) (j : Fin 5632) : w0 cw (ix3 b r j) = cw (ix2 0 j) := by pointwise [w0, spread]

/-- The arrays, entry by entry. -/
def entries (x : FVec Ideal S2x2048x5632 .f32) (dy : FVec Ideal S2x2048x1024 .bf16) (w : FVec Ideal S2816x1024 .bf16) (cw : FVec Ideal S3x5632 .f32) (cb : FVec Ideal S1x5632 .f32) : Args where
  up b r j := x (ix3 b r j)
  dy b r k := dy (ix3 b r k)
  wd i k := w (ix2 i k)
  cw k j := cw (ix2 k j)
  cb j := cb (ix2 0 j)

section
variable (x : FVec Ideal S2x2048x5632 .f32) (dy : FVec Ideal S2x2048x1024 .bf16) (w : FVec Ideal S2816x1024 .bf16) (cw : FVec Ideal S3x5632 .f32) (cb : FVec Ideal S1x5632 .f32)

/-- The convolution's result. -/
theorem conv_at (b : Fin 2) (r : Fin 2048) (j : Fin 5632) : conv x cw cb (ix3 b r j) = pre (entries x dy w cw cb) b r.val j := by
  have h : conv x cw cb (ix3 b r j) = x0 x (ix3 b r j) * w0 cw (ix3 b r j) + x1 x (ix3 b r j) * w1 cw (ix3 b r j) + x2 x (ix3 b r j) * w2 cw (ix3 b r j) + cb (ix2 0 j) := by
    pointwise [conv]
  rw [h, x0_at, x1_at, x2_at, w0_at, w1_at, w2_at]
  refine congrArg (· + _) ?_
  refine (add_comm _ _).trans (((congrArg (_ + ·) (add_comm _ _))).trans (add_assoc _ _ _).symm)

/-- The gradient of the gated activation. -/
theorem act_at (b : Fin 2) (r : Fin 2048) (j : Fin 2816) : act dy w (ix3 b r j) = da (entries x dy w cw cb) b r.val j := by
  pointwise [act]
  unfold da
  rw [dif_pos r.isLt]
  rfl

/-- The gradient of the convolution's result, on finite arrays. -/
theorem convGrad_at (hf : Finite (entries x dy w cw cb)) (b : Fin 2) (r : Fin 2048) (j : Fin 5632) :
    convGrad (conv x cw cb) (act dy w) (ix3 b r j) = du (entries x dy w cw cb) b r.val j := by
  unfold du
  by_cases hj : j.val < 2816
  · have h : convGrad (conv x cw cb) (act dy w) (ix3 b r j) = gateGrad (gate (conv x cw cb)) (value (conv x cw cb)) (act dy w) (ix3 b r ⟨j.val, hj⟩) := by
      pointwise [convGrad]
      rw [dif_pos hj]
    rw [dif_pos hj, h, dgate_product hf]
    have h' : gateGrad (gate (conv x cw cb)) (value (conv x cw cb)) (act dy w) (ix3 b r ⟨j.val, hj⟩)
        = act dy w (ix3 b r ⟨j.val, hj⟩) * value (conv x cw cb) (ix3 b r ⟨j.val, hj⟩) * sg (gate (conv x cw cb)) (ix3 b r ⟨j.val, hj⟩)
          + gate (conv x cw cb) (ix3 b r ⟨j.val, hj⟩) * (act dy w (ix3 b r ⟨j.val, hj⟩) * value (conv x cw cb) (ix3 b r ⟨j.val, hj⟩))
            * (sg (gate (conv x cw cb)) (ix3 b r ⟨j.val, hj⟩) * (ones (ix3 b r ⟨j.val, hj⟩) - sg (gate (conv x cw cb)) (ix3 b r ⟨j.val, hj⟩))) := rfl
    rw [h', sg_at, one_at, gate_at, value_at, conv_at x dy w cw cb, conv_at x dy w cw cb, act_at x dy w cw cb]
  · have h : convGrad (conv x cw cb) (act dy w) (ix3 b r j) = valueGrad (gate (conv x cw cb)) (act dy w) (ix3 b r ⟨j.val - 2816, by omega⟩) := by
      pointwise [convGrad]
      rw [dif_neg hj]
    rw [dif_neg hj, h]
    have h' : valueGrad (gate (conv x cw cb)) (act dy w) (ix3 b r ⟨j.val - 2816, by omega⟩)
        = gate (conv x cw cb) (ix3 b r ⟨j.val - 2816, by omega⟩) * sg (gate (conv x cw cb)) (ix3 b r ⟨j.val - 2816, by omega⟩) * act dy w (ix3 b r ⟨j.val - 2816, by omega⟩) := rfl
    rw [h', sg_at, gate_at, conv_at x dy w cw cb, act_at x dy w cw cb]
    exact mul_comm _ _

/-- The gradient of the convolution's weight. -/
theorem weightGrad_at (hf : Finite (entries x dy w cw cb)) (k : Fin 3) (j : Fin 5632) :
    weightGrad x (convGrad (conv x cw cb) (act dy w)) (ix2 k j) = dweight (entries x dy w cw cb) (2 - k.val) j := by
  have hr : ∀ (s : ℕ) (xs : FVec Ideal S2x2048x5632 .f32) (_ : ∀ b r, xs (ix3 b r j) = back ((entries x dy w cw cb).up b · j) s r.val),
      oneRow (mulf xs (convGrad (conv x cw cb) (act dy w))) (ix2 0 j) = dweight (entries x dy w cw cb) s j := fun s xs hx => by
    refine (oneRow_at _ j).trans (Finset.sum_congr rfl fun b _ => Finset.sum_congr rfl fun r _ => ?_)
    refine (congrArg₂ (· * ·) (hx b r) (convGrad_at x dy w cw cb hf b r j)).trans (mul_comm _ _)
  have h0 := hr 2 (x0 x) fun b r => x0_at x b r j
  have h1 := hr 1 (x1 x) fun b r => x1_at x b r j
  have h2 := hr 0 (x2 x) fun b r => x2_at x b r j
  pointwise [weightGrad, zero]
  fin_cases k
  · refine Eq.trans ?_ h0
    simp
  · refine Eq.trans ?_ h1
    simp
  · refine Eq.trans ?_ h2
    simp

/-- The gradient of the convolution's input. -/
theorem inputGrad_at (hf : Finite (entries x dy w cw cb)) (b : Fin 2) (r : Fin 2048) (j : Fin 5632) :
    inputGrad cw (convGrad (conv x cw cb) (act dy w)) (ix3 b r j) = dup (entries x dy w cw cb) b r.val j := by
  pointwise [inputGrad, zero]
  unfold dup
  rw [convGrad_at x dy w cw cb hf, w2_at]
  refine congrArg₂ (· + ·) (congrArg₂ (· + ·) rfl ?_) ?_
  · split
    · rw [convGrad_at x dy w cw cb hf, w1_at]
      refine congrArg (fun n => du (entries x dy w cw cb) b n j * _) ?_
      dsimp only
      omega
    · rw [du_after _ _ _ _ (by omega), zero_mul]
  · split
    · rw [convGrad_at x dy w cw cb hf, w0_at]
      refine congrArg (fun n => du (entries x dy w cw cb) b n j * _) ?_
      dsimp only
      omega
    · rw [du_after _ _ _ _ (by omega), zero_mul]

end

variable (m : (ℓ : Loc nD τ sig) → Buf (Elt Ideal) ℓ) (c : Dev nD)

/-- The gradient of the convolution's result, of the arguments. -/
def cg : FVec Ideal S2x2048x5632 .f32 :=
  convGrad (conv (m ((c : Thread nD τ).loc main_arg0)) (m ((c : Thread nD τ).loc main_arg3)) (m ((c : Thread nD τ).loc main_arg4)))
    (act (m ((c : Thread nD τ).loc main_arg1)) (m ((c : Thread nD τ).loc main_arg2)))

/-- The third result. -/
theorem out2 : res_main_v86 m c = grouped1 (oneRow (cg m c)) := rfl

/-- The second result. -/
theorem out1 : res_main_v83 m c = grouped3 (weightGrad (m ((c : Thread nD τ).loc main_arg0)) (cg m c)) := rfl

/-- The first result. -/
theorem out0 : res_main_v80 m c = (truncf .bf16 (grouped (inputGrad (m ((c : Thread nD τ).loc main_arg3)) (cg m c))) bitsLt_bf16_f32 : FVec Ideal S2x2048x5632 .bf16) := rfl

/-- The arguments, entry by entry. -/
def args : Args := entries (m ((c : Thread nD τ).loc main_arg0)) (m ((c : Thread nD τ).loc main_arg1)) (m ((c : Thread nD τ).loc main_arg2)) (m ((c : Thread nD τ).loc main_arg3)) (m ((c : Thread nD τ).loc main_arg4))

/-- The third result's entries. -/
theorem res2_at (hf : Finite (args m c)) (j : Fin 5632) :
    res_main_v86 m c (ix2 0 j) = dbias (args m c) (plain j) := by
  rw [out2]
  refine (grouped1_at _ j).trans ((oneRow_at _ _).trans ?_)
  exact Finset.sum_congr rfl fun b _ => Finset.sum_congr rfl fun r _ => convGrad_at _ _ _ _ _ hf b r _

/-- The second result's entries. -/
theorem res1_at (hf : Finite (args m c)) (k : Fin 3) (j : Fin 5632) :
    res_main_v83 m c (ix2 k j) = dweight (args m c) (2 - k.val) (plain j) := by
  rw [out1]
  exact (grouped3_at _ k j).trans (weightGrad_at _ _ _ _ _ hf k _)

/-- The first result's entries. -/
theorem res0_at (hf : Finite (args m c)) (b : Fin 2) (r : Fin 2048) (j : Fin 5632) :
    res_main_v80 m c (ix3 b r j) = dup (args m c) b r.val (plain j) := by
  rw [out0]
  exact (grouped_at _ b r j).trans (inputGrad_at _ _ _ _ _ hf b r _)

end Cert.Reference2Ideal.Grad

end
-- ==== Proof.Ffn.lean ====
/-
  The gated feed-forward's gradients: the kernel's three results and the plain forward's gradients are the same arrays, for
  finite arguments.
-/
module

public import proofs.«01_k».proof.Defs
public import proofs.«01_k».proof.Proof.FfnPts
public import proofs.«01_k».proof.Proof.FfnRef
public import proofs.«01_k».proof.Proof.Gen.Pre_finite2
public import Idealize.ShloMosaic.Lib.Claim

@[expose] public section

set_option maxRecDepth 16384

noncomputable section

namespace Cert.Kernel2Ideal.FeedForward

open Idealize.ShloMosaic Idealize.ShloMosaic.TcCoe Idealize.SL.Sem Cert.Kernel2Ideal Cert.FeedForward

/-- A number whose absolute value is below infinity is real. -/
theorem real_of_lt (x : EReal) (h : Ideal.cmp .olt (max x (-x)) (Ideal.ofBits .f32 0x7F800000#32) = 1#1) : Real' x := by
  have e : Ideal.ofBits .f32 0x7F800000#32 = ⊤ := by simp [Ideal.ofBits, Ideal.ieee]
  rw [e] at h
  induction x with
  | bot => exact absurd h (by simp [Ideal.cmp])
  | top => exact absurd h (by simp [Ideal.cmp])
  | coe r => exact ⟨r, rfl⟩

/-- Arguments that meet the precondition are finite, entry by entry. -/
theorem finite_args (m : (ℓ : Loc Cert.Kernel2Ideal.nD Cert.Kernel2Ideal.τ Cert.Kernel2Ideal.sig) → Buf (Elt Ideal) ℓ) (h : Cert.Pre_Kernel2Ideal_finite2 m)
    (c : Dev Cert.Kernel2Ideal.nD) : Finite (Points.args m c) where
  up b r j := real_of_lt _ (congrFun (h c).1 (ix3 b r j))
  dy b r k := real_of_lt _ (congrFun (h c).2.1 (ix3 b r k))
  wd i k := real_of_lt _ (congrFun (h c).2.2.1 (ix2 i k))
  cw k j := real_of_lt _ (congrFun (h c).2.2.2.1 (ix2 k j))
  cb j := real_of_lt _ (congrFun (h c).2.2.2.2 (ix2 0 j))

/-- The two programs' arguments are the same, entry by entry, where the arrays are. -/
theorem same_args (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
    (h4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) :
    Cert.Reference2Ideal.Grad.args m' c = Points.args m c := by
  have e : Cert.Reference2Ideal.Grad.args m' c = Cert.Reference2Ideal.Grad.entries (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
    rw [← h0, ← h1, ← h2, ← h3, ← h4]
    rfl
  exact e

/-- The kernel's run: its three results hold the gradients, its arguments what they held. -/
theorem run (m : (ℓ : Loc Cert.Kernel2Ideal.nD Cert.Kernel2Ideal.τ Cert.Kernel2Ideal.sig) → Buf (Elt Ideal) ℓ) (g : Dev Cert.Kernel2Ideal.nD → PrngReg) :
    θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
      r.2.mem ((c.tc : Thread nD τ).loc main_v9_0) = Points.resU m c ∧ r.2.mem ((c.tc : Thread nD τ).loc main_v9_1) = Points.resW m c
      ∧ r.2.mem ((c.tc : Thread nD τ).loc main_v9_2) = Points.resB m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  θ_run_mono (θ_run_and (Gen.run_main m g) (Gen.unchanged m g))
    fun r h c => ⟨((h.1 c).1 8).trans (Points.final_U m c), ((h.1 c).1 9).trans (Points.final_W m c), ((h.1 c).1 10).trans (Points.final_B m c), h.2 c⟩

/-- The kernel and the plain forward's gradient return equal arrays, for finite arguments. -/
theorem algebraic : Cert.algebraic_Kernel2Ideal_Reference2Ideal_pre_finite2 := by
  intro m g m' g' hpre hagree
  have hs : ∀ c, Cert.Reference2Ideal.Grad.args m' c = Points.args m c := fun c => by
    obtain ⟨h0, h1, h2, h3, h4⟩ := hagree c
    exact same_args m m' c h0 h1 h2 h3 h4
  have hf : ∀ c, Finite (Cert.Reference2Ideal.Grad.args m' c) := fun c => (hs c).symm ▸ finite_args m hpre c
  refine ⟨Points.resU m, Points.resW m, Points.resB m, run m g, θ_run_mono (Cert.Reference2Ideal.Value.run m' g') fun r h c => ⟨?_, ?_, ?_, (h c).2.2.2⟩⟩
  · refine (h c).1.trans ?_
    funext y
    idx_vars y
    refine (Cert.Reference2Ideal.Grad.res0_at m' c (hf c) y0 y1 y2).trans ?_
    rw [hs c]
    rfl
  · refine (h c).2.1.trans ?_
    funext y
    idx_vars y
    refine (Cert.Reference2Ideal.Grad.res1_at m' c (hf c) y0 y1).trans ?_
    rw [hs c]
    rfl
  · refine (h c).2.2.1.trans ?_
    funext y
    idx_vars y
    obtain rfl : y0 = 0 := Subsingleton.elim (α := Fin 1) _ _
    refine (Cert.Reference2Ideal.Grad.res2_at m' c (hf c) y1).trans ?_
    rw [hs c]
    rfl

end Cert.Kernel2Ideal.FeedForward

end
-- ==== Proof.Mm3.lean ====
/-
  The value of one product of the step: the gradient of the down projection's weight.  The kernel computes it block by block, the first operand transposed times the second;
  the result array is compared with the same product written on the host.
-/
module

public import proofs.«01_k».proof.Defs
public import proofs.«01_k».proof.Proof.Gen.Kernel3Ideal.Frame
public import proofs.«01_k».proof.Proof.Gen.Reference3Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel3Ideal.Product

open Cert.Kernel3Ideal Cert.Kernel3Ideal.Gen

variable (m : (ℓ : Loc nD τ sig) → Buf (Elt Ideal) ℓ)

/-- The product the call computes, element by element: the first operand transposed times the second. -/
def prod (X : FVec Ideal S4096x2816 .bf16) (Y : FVec Ideal S4096x1024 .bf16) : FVec Ideal S2816x1024 .bf16 :=
  fun j => ∑ k : Fin 4096, X (ix2 k (j 0)) * Y (ix2 k (j 1))

/-- Which blocks of the operands a grid point reads, by the block of the result it writes. -/
theorem idx : ∀ t : Fin cfg0.N, win0_0.index t = ![0, win0_2.index t 0] ∧ win0_1.index t = ![0, win0_2.index t 1] :=
  (by decide +kernel : ∀ t : Fin grid0.N, win0_0.index t = ![0, win0_2.index t 0] ∧ win0_1.index t = ![0, win0_2.index t 1])

/-- What the body stores at an index of its block is the product at the place the block has in the array. -/
theorem point (c : Dev nD) (t : Fin cfg0.N) (y) : k0_pay1 (iblk m c 0 t) (iblk m c 1 t) y
    = prod (m ((c : Thread nD τ).loc main_arg0)) (m ((c : Thread nD τ).loc main_arg1)) (((cfg0.win 2).blk t).view.emb y) := by
  pointwise [k0_pay1, prod]
  blk_point [iblk, V, idx t]

/-- The result array after the run is the product of the two arguments. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The kernel and the host product return equal results. -/
theorem algebraic : Cert.algebraic_Kernel3Ideal_Reference3Ideal := by
  pair_intro
  · run_from Cert.Kernel3Ideal.Gen.run_main m g
  · run_from Cert.Reference3Ideal.Value.run m' g'
    rw [final m c]
    funext j
    idx_vars j
    pointwise! [prod]

end Cert.Kernel3Ideal.Product

end
-- ==== Proof.Mm4.lean ====
/-
  The value of one product of the step: the gradient of the feed-forward input.  The kernel computes it block by block, the first operand times the second;
  the result array is compared with the same product written on the host.
-/
module

public import proofs.«01_k».proof.Defs
public import proofs.«01_k».proof.Proof.Gen.Kernel4Ideal.Frame
public import proofs.«01_k».proof.Proof.Gen.Reference4Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel4Ideal.Product

open Cert.Kernel4Ideal Cert.Kernel4Ideal.Gen

variable (m : (ℓ : Loc nD τ sig) → Buf (Elt Ideal) ℓ)

/-- The product the call computes, element by element: the first operand times the second. -/
def prod (X : FVec Ideal S4096x5632 .bf16) (Y : FVec Ideal S5632x1024 .bf16) : FVec Ideal S4096x1024 .bf16 :=
  fun j => ∑ k : Fin 5632, X (ix2 (j 0) k) * Y (ix2 k (j 1))

/-- Which blocks of the operands a grid point reads, by the block of the result it writes. -/
theorem idx : ∀ t : Fin cfg0.N, win0_0.index t = ![win0_2.index t 0, 0] ∧ win0_1.index t = ![0, win0_2.index t 1] :=
  (by decide +kernel : ∀ t : Fin grid0.N, win0_0.index t = ![win0_2.index t 0, 0] ∧ win0_1.index t = ![0, win0_2.index t 1])

/-- What the body stores at an index of its block is the product at the place the block has in the array. -/
theorem point (c : Dev nD) (t : Fin cfg0.N) (y) : k0_pay1 (iblk m c 0 t) (iblk m c 1 t) y
    = prod (m ((c : Thread nD τ).loc main_arg0)) (m ((c : Thread nD τ).loc main_arg1)) (((cfg0.win 2).blk t).view.emb y) := by
  pointwise [k0_pay1, prod]
  blk_point [iblk, V, idx t]

/-- The result array after the run is the product of the two arguments. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The kernel and the host product return equal results. -/
theorem algebraic : Cert.algebraic_Kernel4Ideal_Reference4Ideal := by
  pair_intro
  · run_from Cert.Kernel4Ideal.Gen.run_main m g
  · run_from Cert.Reference4Ideal.Value.run m' g'
    rw [final m c]
    funext j
    idx_vars j
    pointwise! [prod]

end Cert.Kernel4Ideal.Product

end
-- ==== Proof.Mm5.lean ====
/-
  The value of one product of the step: the gradient of the up projection's weight.  The kernel computes it block by block, the first operand transposed times the second;
  the result array is compared with the same product written on the host.
-/
module

public import proofs.«01_k».proof.Defs
public import proofs.«01_k».proof.Proof.Gen.Kernel5Ideal.Frame
public import proofs.«01_k».proof.Proof.Gen.Reference5Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel5Ideal.Product

open Cert.Kernel5Ideal Cert.Kernel5Ideal.Gen

variable (m : (ℓ : Loc nD τ sig) → Buf (Elt Ideal) ℓ)

/-- The product the call computes, element by element: the first operand transposed times the second. -/
def prod (X : FVec Ideal S4096x5632 .bf16) (Y : FVec Ideal S4096x1024 .bf16) : FVec Ideal S5632x1024 .bf16 :=
  fun j => ∑ k : Fin 4096, X (ix2 k (j 0)) * Y (ix2 k (j 1))

/-- Which blocks of the operands a grid point reads, by the block of the result it writes. -/
theorem idx : ∀ t : Fin cfg0.N, win0_0.index t = ![0, win0_2.index t 0] ∧ win0_1.index t = ![0, win0_2.index t 1] :=
  (by decide +kernel : ∀ t : Fin grid0.N, win0_0.index t = ![0, win0_2.index t 0] ∧ win0_1.index t = ![0, win0_2.index t 1])

/-- What the body stores at an index of its block is the product at the place the block has in the array. -/
theorem point (c : Dev nD) (t : Fin cfg0.N) (y) : k0_pay1 (iblk m c 0 t) (iblk m c 1 t) y
    = prod (m ((c : Thread nD τ).loc main_arg0)) (m ((c : Thread nD τ).loc main_arg1)) (((cfg0.win 2).blk t).view.emb y) := by
  pointwise [k0_pay1, prod]
  blk_point [iblk, V, idx t]

/-- The result array after the run is the product of the two arguments. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The kernel and the host product return equal results. -/
theorem algebraic : Cert.algebraic_Kernel5Ideal_Reference5Ideal := by
  pair_intro
  · run_from Cert.Kernel5Ideal.Gen.run_main m g
  · run_from Cert.Reference5Ideal.Value.run m' g'
    rw [final m c]
    funext j
    idx_vars j
    pointwise! [prod]

end Cert.Kernel5Ideal.Product

end
-- ==== Proof.Mm6.lean ====
/-
  The value of one product of the step: the gradient of the mixed output.  The kernel computes it block by block, the first operand times the second transposed;
  the result array is compared with the same product written on the host.
-/
module

public import proofs.«01_k».proof.Defs
public import proofs.«01_k».proof.Proof.Gen.Kernel6Ideal.Frame
public import proofs.«01_k».proof.Proof.Gen.Reference6Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel6Ideal.Product

open Cert.Kernel6Ideal Cert.Kernel6Ideal.Gen

variable (m : (ℓ : Loc nD τ sig) → Buf (Elt Ideal) ℓ)

/-- The product the call computes, element by element: the first operand times the second transposed. -/
def prod (X : FVec Ideal S4096x1024 .bf16) (Y : FVec Ideal S1024x1024 .bf16) : FVec Ideal S4096x1024 .bf16 :=
  fun j => ∑ k : Fin 1024, X (ix2 (j 0) k) * Y (ix2 (j 1) k)

/-- Which blocks of the operands a grid point reads, by the block of the result it writes. -/
theorem idx : ∀ t : Fin cfg0.N, win0_0.index t = ![win0_2.index t 0, 0] ∧ win0_1.index t = ![win0_2.index t 1, 0] :=
  (by decide +kernel : ∀ t : Fin grid0.N, win0_0.index t = ![win0_2.index t 0, 0] ∧ win0_1.index t = ![win0_2.index t 1, 0])

/-- What the body stores at an index of its block is the product at the place the block has in the array. -/
theorem point (c : Dev nD) (t : Fin cfg0.N) (y) : k0_pay1 (iblk m c 0 t) (iblk m c 1 t) y
    = prod (m ((c : Thread nD τ).loc main_arg0)) (m ((c : Thread nD τ).loc main_arg1)) (((cfg0.win 2).blk t).view.emb y) := by
  pointwise [k0_pay1, prod]
  blk_point [iblk, V, idx t]

/-- The result array after the run is the product of the two arguments. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The kernel and the host product return equal results. -/
theorem algebraic : Cert.algebraic_Kernel6Ideal_Reference6Ideal := by
  pair_intro
  · run_from Cert.Kernel6Ideal.Gen.run_main m g
  · run_from Cert.Reference6Ideal.Value.run m' g'
    rw [final m c]
    funext j
    idx_vars j
    pointwise! [prod]

end Cert.Kernel6Ideal.Product

end
-- ==== Proof.Mm7.lean ====
/-
  The value of one product of the step: the gradient of the mixer's output weight.  The kernel computes it block by block, the first operand transposed times the second;
  the result array is compared with the same product written on the host.
-/
module

public import proofs.«01_k».proof.Defs
public import proofs.«01_k».proof.Proof.Gen.Kernel7Ideal.Frame
public import proofs.«01_k».proof.Proof.Gen.Reference7Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel7Ideal.Product

open Cert.Kernel7Ideal Cert.Kernel7Ideal.Gen

variable (m : (ℓ : Loc nD τ sig) → Buf (Elt Ideal) ℓ)

/-- The product the call computes, element by element: the first operand transposed times the second. -/
def prod (X : FVec Ideal S4096x1024 .bf16) (Y : FVec Ideal S4096x1024 .bf16) : FVec Ideal S1024x1024 .bf16 :=
  fun j => ∑ k : Fin 4096, X (ix2 k (j 0)) * Y (ix2 k (j 1))

/-- Which blocks of the operands a grid point reads, by the block of the result it writes. -/
theorem idx : ∀ t : Fin cfg0.N, win0_0.index t = ![0, win0_2.index t 0] ∧ win0_1.index t = ![0, win0_2.index t 1] :=
  (by decide +kernel : ∀ t : Fin grid0.N, win0_0.index t = ![0, win0_2.index t 0] ∧ win0_1.index t = ![0, win0_2.index t 1])

/-- What the body stores at an index of its block is the product at the place the block has in the array. -/
theorem point (c : Dev nD) (t : Fin cfg0.N) (y) : k0_pay1 (iblk m c 0 t) (iblk m c 1 t) y
    = prod (m ((c : Thread nD τ).loc main_arg0)) (m ((c : Thread nD τ).loc main_arg1)) (((cfg0.win 2).blk t).view.emb y) := by
  pointwise [k0_pay1, prod]
  blk_point [iblk, V, idx t]

/-- The result array after the run is the product of the two arguments. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The kernel and the host product return equal results. -/
theorem algebraic : Cert.algebraic_Kernel7Ideal_Reference7Ideal := by
  pair_intro
  · run_from Cert.Kernel7Ideal.Gen.run_main m g
  · run_from Cert.Reference7Ideal.Value.run m' g'
    rw [final m c]
    funext j
    idx_vars j
    pointwise! [prod]

end Cert.Kernel7Ideal.Product

end
-- ==== Proof.Mm8.lean ====
/-
  The value of one product of the step: the gradient of the mixer's input weight.  The kernel computes it block by block, the first operand transposed times the second;
  the result array is compared with the same product written on the host.
-/
module

public import proofs.«01_k».proof.Defs
public import proofs.«01_k».proof.Proof.Gen.Kernel8Ideal.Frame
public import proofs.«01_k».proof.Proof.Gen.Reference8Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel8Ideal.Product

open Cert.Kernel8Ideal Cert.Kernel8Ideal.Gen

variable (m : (ℓ : Loc nD τ sig) → Buf (Elt Ideal) ℓ)

/-- The product the call computes, element by element: the first operand transposed times the second. -/
def prod (X : FVec Ideal S4096x4224 .bf16) (Y : FVec Ideal S4096x1024 .bf16) : FVec Ideal S4224x1024 .bf16 :=
  fun j => ∑ k : Fin 4096, X (ix2 k (j 0)) * Y (ix2 k (j 1))

/-- Which blocks of the operands a grid point reads, by the block of the result it writes. -/
theorem idx : ∀ t : Fin cfg0.N, win0_0.index t = ![0, win0_2.index t 0] ∧ win0_1.index t = ![0, win0_2.index t 1] :=
  (by decide +kernel : ∀ t : Fin grid0.N, win0_0.index t = ![0, win0_2.index t 0] ∧ win0_1.index t = ![0, win0_2.index t 1])

/-- What the body stores at an index of its block is the product at the place the block has in the array. -/
theorem point (c : Dev nD) (t : Fin cfg0.N) (y) : k0_pay1 (iblk m c 0 t) (iblk m c 1 t) y
    = prod (m ((c : Thread nD τ).loc main_arg0)) (m ((c : Thread nD τ).loc main_arg1)) (((cfg0.win 2).blk t).view.emb y) := by
  pointwise [k0_pay1, prod]
  blk_point [iblk, V, idx t]

/-- The result array after the run is the product of the two arguments. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The kernel and the host product return equal results. -/
theorem algebraic : Cert.algebraic_Kernel8Ideal_Reference8Ideal := by
  pair_intro
  · run_from Cert.Kernel8Ideal.Gen.run_main m g
  · run_from Cert.Reference8Ideal.Value.run m' g'
    rw [final m c]
    funext j
    idx_vars j
    pointwise! [prod]

end Cert.Kernel8Ideal.Product

end
-- ==== Proof.Mm9.lean ====
/-
  The value of one product of the step: the gradient of the mixer's input.  The kernel computes it block by block, the first operand times the second;
  the result array is compared with the same product written on the host.
-/
module

public import proofs.«01_k».proof.Defs
public import proofs.«01_k».proof.Proof.Gen.Kernel9Ideal.Frame
public import proofs.«01_k».proof.Proof.Gen.Reference9Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel9Ideal.Product

open Cert.Kernel9Ideal Cert.Kernel9Ideal.Gen

variable (m : (ℓ : Loc nD τ sig) → Buf (Elt Ideal) ℓ)

/-- The product the call computes, element by element: the first operand times the second. -/
def prod (X : FVec Ideal S4096x4224 .bf16) (Y : FVec Ideal S4224x1024 .bf16) : FVec Ideal S4096x1024 .bf16 :=
  fun j => ∑ k : Fin 4224, X (ix2 (j 0) k) * Y (ix2 k (j 1))

/-- Which blocks of the operands a grid point reads, by the block of the result it writes. -/
theorem idx : ∀ t : Fin cfg0.N, win0_0.index t = ![win0_2.index t 0, 0] ∧ win0_1.index t = ![0, win0_2.index t 1] :=
  (by decide +kernel : ∀ t : Fin grid0.N, win0_0.index t = ![win0_2.index t 0, 0] ∧ win0_1.index t = ![0, win0_2.index t 1])

/-- What the body stores at an index of its block is the product at the place the block has in the array. -/
theorem point (c : Dev nD) (t : Fin cfg0.N) (y) : k0_pay1 (iblk m c 0 t) (iblk m c 1 t) y
    = prod (m ((c : Thread nD τ).loc main_arg0)) (m ((c : Thread nD τ).loc main_arg1)) (((cfg0.win 2).blk t).view.emb y) := by
  pointwise [k0_pay1, prod]
  blk_point [iblk, V, idx t]

/-- The result array after the run is the product of the two arguments. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The kernel and the host product return equal results. -/
theorem algebraic : Cert.algebraic_Kernel9Ideal_Reference9Ideal := by
  pair_intro
  · run_from Cert.Kernel9Ideal.Gen.run_main m g
  · run_from Cert.Reference9Ideal.Value.run m' g'
    rw [final m c]
    funext j
    idx_vars j
    pointwise! [prod]

end Cert.Kernel9Ideal.Product

end
-- ==== Proof.Mm10.lean ====
/-
  The value of one product of the step: the mixer's input projection.  The kernel computes it block by block, the first operand times the second transposed;
  the result array is compared with the same product written on the host.
-/
module

public import proofs.«01_k».proof.Defs
public import proofs.«01_k».proof.Proof.Gen.Kernel10Ideal.Frame
public import proofs.«01_k».proof.Proof.Gen.Reference10Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel10Ideal.Product

open Cert.Kernel10Ideal Cert.Kernel10Ideal.Gen

variable (m : (ℓ : Loc nD τ sig) → Buf (Elt Ideal) ℓ)

/-- The product the call computes, element by element: the first operand times the second transposed. -/
def prod (X : FVec Ideal S4096x1024 .bf16) (Y : FVec Ideal S4224x1024 .bf16) : FVec Ideal S4096x4224 .f32 :=
  fun j => ∑ k : Fin 1024, X (ix2 (j 0) k) * Y (ix2 (j 1) k)

/-- Which blocks of the operands a grid point reads, by the block of the result it writes. -/
theorem idx : ∀ t : Fin cfg0.N, win0_0.index t = ![win0_2.index t 0, 0] ∧ win0_1.index t = ![win0_2.index t 1, 0] :=
  (by decide +kernel : ∀ t : Fin grid0.N, win0_0.index t = ![win0_2.index t 0, 0] ∧ win0_1.index t = ![win0_2.index t 1, 0])

/-- What the body stores at an index of its block is the product at the place the block has in the array. -/
theorem point (c : Dev nD) (t : Fin cfg0.N) (y) : k0_pay1 (iblk m c 0 t) (iblk m c 1 t) y
    = prod (m ((c : Thread nD τ).loc main_arg0)) (m ((c : Thread nD τ).loc main_arg1)) (((cfg0.win 2).blk t).view.emb y) := by
  pointwise [k0_pay1, prod]
  blk_point [iblk, V, idx t]

/-- The result array after the run is the product of the two arguments. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The kernel and the host product return equal results. -/
theorem algebraic : Cert.algebraic_Kernel10Ideal_Reference10Ideal := by
  pair_intro
  · run_from Cert.Kernel10Ideal.Gen.run_main m g
  · run_from Cert.Reference10Ideal.Value.run m' g'
    rw [final m c]
    funext j
    idx_vars j
    pointwise! [prod]

end Cert.Kernel10Ideal.Product

end
-- ==== Proof.Mm11.lean ====
/-
  The value of one product of the step: the mixer's output projection.  The kernel computes it block by block, the first operand times the second;
  the result array is compared with the same product written on the host.
-/
module

public import proofs.«01_k».proof.Defs
public import proofs.«01_k».proof.Proof.Gen.Kernel11Ideal.Frame
public import proofs.«01_k».proof.Proof.Gen.Reference11Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel11Ideal.Product

open Cert.Kernel11Ideal Cert.Kernel11Ideal.Gen

variable (m : (ℓ : Loc nD τ sig) → Buf (Elt Ideal) ℓ)

/-- The product the call computes, element by element: the first operand times the second. -/
def prod (X : FVec Ideal S4096x1024 .bf16) (Y : FVec Ideal S1024x1024 .bf16) : FVec Ideal S4096x1024 .bf16 :=
  fun j => ∑ k : Fin 1024, X (ix2 (j 0) k) * Y (ix2 k (j 1))

/-- Which blocks of the operands a grid point reads, by the block of the result it writes. -/
theorem idx : ∀ t : Fin cfg0.N, win0_0.index t = ![win0_2.index t 0, 0] ∧ win0_1.index t = ![0, win0_2.index t 1] :=
  (by decide +kernel : ∀ t : Fin grid0.N, win0_0.index t = ![win0_2.index t 0, 0] ∧ win0_1.index t = ![0, win0_2.index t 1])

/-- What the body stores at an index of its block is the product at the place the block has in the array. -/
theorem point (c : Dev nD) (t : Fin cfg0.N) (y) : k0_pay1 (iblk m c 0 t) (iblk m c 1 t) y
    = prod (m ((c : Thread nD τ).loc main_arg0)) (m ((c : Thread nD τ).loc main_arg1)) (((cfg0.win 2).blk t).view.emb y) := by
  pointwise [k0_pay1, prod]
  blk_point [iblk, V, idx t]

/-- The result array after the run is the product of the two arguments. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The kernel and the host product return equal results. -/
theorem algebraic : Cert.algebraic_Kernel11Ideal_Reference11Ideal := by
  pair_intro
  · run_from Cert.Kernel11Ideal.Gen.run_main m g
  · run_from Cert.Reference11Ideal.Value.run m' g'
    rw [final m c]
    funext j
    idx_vars j
    pointwise! [prod]

end Cert.Kernel11Ideal.Product

end
-- ==== Proof.Mm12.lean ====
/-
  The value of one product of the step: the down projection.  The kernel computes it block by block, the first operand times the second;
  the result array is compared with the same product written on the host.
-/
module

public import proofs.«01_k».proof.Defs
public import proofs.«01_k».proof.Proof.Gen.Kernel12Ideal.Frame
public import proofs.«01_k».proof.Proof.Gen.Reference12Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel12Ideal.Product

open Cert.Kernel12Ideal Cert.Kernel12Ideal.Gen

variable (m : (ℓ : Loc nD τ sig) → Buf (Elt Ideal) ℓ)

/-- The product the call computes, element by element: the first operand times the second. -/
def prod (X : FVec Ideal S4096x2816 .bf16) (Y : FVec Ideal S2816x1024 .bf16) : FVec Ideal S4096x1024 .bf16 :=
  fun j => ∑ k : Fin 2816, X (ix2 (j 0) k) * Y (ix2 k (j 1))

/-- Which blocks of the operands a grid point reads, by the block of the result it writes. -/
theorem idx : ∀ t : Fin cfg0.N, win0_0.index t = ![win0_2.index t 0, 0] ∧ win0_1.index t = ![0, win0_2.index t 1] :=
  (by decide +kernel : ∀ t : Fin grid0.N, win0_0.index t = ![win0_2.index t 0, 0] ∧ win0_1.index t = ![0, win0_2.index t 1])

/-- What the body stores at an index of its block is the product at the place the block has in the array. -/
theorem point (c : Dev nD) (t : Fin cfg0.N) (y) : k0_pay1 (iblk m c 0 t) (iblk m c 1 t) y
    = prod (m ((c : Thread nD τ).loc main_arg0)) (m ((c : Thread nD τ).loc main_arg1)) (((cfg0.win 2).blk t).view.emb y) := by
  pointwise [k0_pay1, prod]
  blk_point [iblk, V, idx t]

/-- The result array after the run is the product of the two arguments. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The kernel and the host product return equal results. -/
theorem algebraic : Cert.algebraic_Kernel12Ideal_Reference12Ideal := by
  pair_intro
  · run_from Cert.Kernel12Ideal.Gen.run_main m g
  · run_from Cert.Reference12Ideal.Value.run m' g'
    rw [final m c]
    funext j
    idx_vars j
    pointwise! [prod]

end Cert.Kernel12Ideal.Product

end
-- ==== Proof.Adam.lean ====
/-
  One step of AdamW, number by number and on whole arrays: the two moments, and the change of the weight.
-/
module

public import Idealize.ShloMosaic.Lib.Pipeline.ValueKit
public import Idealize.ShloMosaic.Lib.Pointwise

@[expose] public section

noncomputable section

namespace Cert.Adam

open Idealize.ShloMosaic

/-- Eight numbers added one after the other. -/
def eight (p : Fin 8 → EReal) : EReal := p 0 + p 1 + p 2 + p 3 + p 4 + p 5 + p 6 + p 7

/-- The new first moment. -/
def first (g m : EReal) : EReal := Ideal.ofBits .f32 0x3F666666#32 * m + Ideal.ofBits .f32 0x3DCCCCCD#32 * g

/-- The new second moment. -/
def second (g v : EReal) : EReal := Ideal.ofBits .f32 0x3F7FBE77#32 * v + Ideal.ofBits .f32 0x3A83126F#32 * (g * g)

/-- The change of the weight. -/
def change (w g m v : EReal) : EReal :=
  Ideal.ofBits .f32 0xBA83126F#32 * (Ideal.div (Ideal.div (first g m) (Ideal.ofBits .f32 0x3F26BD02#32))
    (Ideal.sqrt (Ideal.div (second g v) (Ideal.ofBits .f32 0x3C231ACC#32)) + Ideal.ofBits .f32 0x322BCC77#32) + Ideal.ofBits .f32 0x3C23D70A#32 * w)

/-- The new first moment of every entry of an array. -/
def moment1 {S : Shape} (g m : FVec Ideal S .f32) : FVec Ideal S .f32 := fun j => first (g j) (m j)

/-- The new second moment of every entry of an array. -/
def moment2 {S : Shape} (g v : FVec Ideal S .f32) : FVec Ideal S .f32 := fun j => second (g j) (v j)

/-- The change of every entry of a weight. -/
def delta {S : Shape} (w g m v : FVec Ideal S .f32) : FVec Ideal S .f32 := fun j => change (w j) (g j) (m j) (v j)

/-- A gradient from its eight shares: their sum, row by row. -/
def total {n : Nat} (p : FVec Ideal ⟨3, ![8, n, 1024]⟩ .bf16) : FVec Ideal ⟨2, ![n, 1024]⟩ .f32 :=
  fun j => eight fun d => p (ix3 d (j 0) (j 1))

/-- The same sum, in the shape in which the weights are held. -/
def totals {n : Nat} (p : FVec Ideal ⟨3, ![8, n, 1024]⟩ .bf16) : FVec Ideal ⟨3, ![1, n, 1024]⟩ .f32 :=
  fun j => eight fun d => p (ix3 d (j 1) (j 2))

end Cert.Adam

end
-- ==== Proof.Adam13.lean ====
/-
  The sum of the eight shares of a gradient and the update of its weight, the feed-forward's up projection: block by block, and on whole arrays.
-/
module

public import proofs.«01_k».proof.Defs
public import proofs.«01_k».proof.Proof.Adam
public import proofs.«01_k».proof.Proof.Gen.Kernel13Ideal.Frame
public import proofs.«01_k».proof.Proof.Gen.Reference13Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel13Ideal.Update

open Cert.Kernel13Ideal Cert.Kernel13Ideal.Gen Cert.Adam

variable (m : (ℓ : Loc nD τ sig) → Buf (Elt Ideal) ℓ)

/-- Every window's block at a grid point is the block of rows with the point's number. -/
theorem idx : ∀ t : Fin cfg0.N, win0_0.index t = ![0, t.val, 0] ∧ win0_1.index t = ![0, t.val, 0] ∧ win0_2.index t = ![0, t.val, 0] ∧ win0_3.index t = ![0, t.val, 0] ∧ win0_4.index t = ![t.val, 0] ∧ win0_5.index t = ![0, t.val, 0] ∧ win0_6.index t = ![0, t.val, 0] ∧ win0_7.index t = ![0, t.val, 0] :=
  (by decide +kernel : ∀ t : Fin grid0.N, _)

/-- After all the points, the first result is the sum of the shares. -/
theorem final_0 (c : Dev nD) : (dats m 0 c).arrAt 4 (cfgs 0).N = total (m ((c : Thread nD τ).loc main_arg0)) := by
  refine (dats m 0 c).arrAt_eq_of_covers 4 _ (by decide +kernel) fun t _ y => ?_
  blk_simp
  rw [after0_4]; frame_out
  pointwise [k0_pay1, k0_pay2, k0_pay3, k0_pay4, k0_pay5, k0_pay6, k0_pay7, total, eight]
  blk_point [iblk, V, idx t]

/-- After all the points, the second result is the change of the weight. -/
theorem final_1 (c : Dev nD) : (dats m 0 c).arrAt 5 (cfgs 0).N = delta (m ((c : Thread nD τ).loc main_arg1)) (totals (m ((c : Thread nD τ).loc main_arg0))) (m ((c : Thread nD τ).loc main_arg2)) (m ((c : Thread nD τ).loc main_arg3)) := by
  refine (dats m 0 c).arrAt_eq_of_covers 5 _ (by decide +kernel) fun t _ y => ?_
  blk_simp
  rw [after0_5]; frame_out
  pointwise [k0_pay1, k0_pay2, k0_pay3, k0_pay4, k0_pay5, k0_pay6, k0_pay7, delta, change, first, second, totals, eight]
  blk_point [iblk, V, idx t]

/-- After all the points, the third result is the new first moment. -/
theorem final_2 (c : Dev nD) : (dats m 0 c).arrAt 6 (cfgs 0).N = moment1 (totals (m ((c : Thread nD τ).loc main_arg0))) (m ((c : Thread nD τ).loc main_arg2)) := by
  refine (dats m 0 c).arrAt_eq_of_covers 6 _ (by decide +kernel) fun t _ y => ?_
  blk_simp
  rw [after0_6]; frame_out
  pointwise [k0_pay1, k0_pay2, k0_pay3, k0_pay4, k0_pay5, k0_pay6, k0_pay7, moment1, first, totals, eight]
  blk_point [iblk, V, idx t]

/-- After all the points, the fourth result is the new second moment. -/
theorem final_3 (c : Dev nD) : (dats m 0 c).arrAt 7 (cfgs 0).N = moment2 (totals (m ((c : Thread nD τ).loc main_arg0))) (m ((c : Thread nD τ).loc main_arg3)) := by
  refine (dats m 0 c).arrAt_eq_of_covers 7 _ (by decide +kernel) fun t _ y => ?_
  blk_simp
  rw [after0_7]; frame_out
  pointwise [k0_pay1, k0_pay2, k0_pay3, k0_pay4, k0_pay5, k0_pay6, k0_pay7, moment2, second, totals, eight]
  blk_point [iblk, V, idx t]

/-- The call's run: its results hold the arrays above, its arguments what they held. -/
theorem run (g : Dev Cert.Kernel13Ideal.nD → PrngReg) :
    θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
      r.2.mem ((c.tc : Thread nD τ).loc main_v0_0) = total (m ((c.tc : Thread nD τ).loc main_arg0))
      ∧ r.2.mem ((c.tc : Thread nD τ).loc main_v0_1) = delta (m ((c.tc : Thread nD τ).loc main_arg1)) (totals (m ((c.tc : Thread nD τ).loc main_arg0))) (m ((c.tc : Thread nD τ).loc main_arg2)) (m ((c.tc : Thread nD τ).loc main_arg3))
      ∧ r.2.mem ((c.tc : Thread nD τ).loc main_v0_2) = moment1 (totals (m ((c.tc : Thread nD τ).loc main_arg0))) (m ((c.tc : Thread nD τ).loc main_arg2))
      ∧ r.2.mem ((c.tc : Thread nD τ).loc main_v0_3) = moment2 (totals (m ((c.tc : Thread nD τ).loc main_arg0))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  θ_run_mono (θ_run_and (Gen.run_main m g) (Gen.unchanged m g))
    fun r h c => ⟨((h.1 c).1 4).trans (final_0 m c), ((h.1 c).1 5).trans (final_1 m c), ((h.1 c).1 6).trans (final_2 m c), ((h.1 c).1 7).trans (final_3 m c), h.2 c⟩

/-- The kernel and the update on whole arrays return equal results. -/
theorem algebraic : Cert.algebraic_Kernel13Ideal_Reference13Ideal := by
  intro m g m' g' _ hagree
  refine ⟨fun c => total (m ((c.tc : Thread nD τ).loc main_arg0)), fun c => delta (m ((c.tc : Thread nD τ).loc main_arg1)) (totals (m ((c.tc : Thread nD τ).loc main_arg0))) (m ((c.tc : Thread nD τ).loc main_arg2)) (m ((c.tc : Thread nD τ).loc main_arg3)), fun c => moment1 (totals (m ((c.tc : Thread nD τ).loc main_arg0))) (m ((c.tc : Thread nD τ).loc main_arg2)), fun c => moment2 (totals (m ((c.tc : Thread nD τ).loc main_arg0))) (m ((c.tc : Thread nD τ).loc main_arg3)), run m g,
    θ_run_mono (Cert.Reference13Ideal.Value.run m' g') fun r h c => ⟨?_, ?_, ?_, ?_, (h c).2.2.2.2⟩⟩
  · obtain ⟨h0, h1, h2, h3⟩ := hagree c
    refine (h c).1.trans ?_
    rw [h0]
    funext j
    idx_vars j
    pointwise! [Fin.sum_univ_eight, total, eight]
  · obtain ⟨h0, h1, h2, h3⟩ := hagree c
    refine (h c).2.1.trans ?_
    rw [h0, h1, h2, h3]
    funext j
    idx_vars j
    pointwise! [Fin.sum_univ_eight, delta, change, first, second, totals, eight]
  · obtain ⟨h0, h1, h2, h3⟩ := hagree c
    refine (h c).2.2.1.trans ?_
    rw [h0, h2]
    funext j
    idx_vars j
    pointwise! [Fin.sum_univ_eight, moment1, first, totals, eight]
  · obtain ⟨h0, h1, h2, h3⟩ := hagree c
    refine (h c).2.2.2.1.trans ?_
    rw [h0, h3]
    funext j
    idx_vars j
    pointwise! [Fin.sum_univ_eight, moment2, second, totals, eight]

end Cert.Kernel13Ideal.Update

end
-- ==== Proof.Adam14.lean ====
/-
  The sum of the eight shares of a gradient and the update of its weight, the feed-forward's down projection: block by block, and on whole arrays.
-/
module

public import proofs.«01_k».proof.Defs
public import proofs.«01_k».proof.Proof.Adam
public import proofs.«01_k».proof.Proof.Gen.Kernel14Ideal.Frame
public import proofs.«01_k».proof.Proof.Gen.Reference14Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel14Ideal.Update

open Cert.Kernel14Ideal Cert.Kernel14Ideal.Gen Cert.Adam

variable (m : (ℓ : Loc nD τ sig) → Buf (Elt Ideal) ℓ)

/-- Every window's block at a grid point is the block of rows with the point's number. -/
theorem idx : ∀ t : Fin cfg0.N, win0_0.index t = ![0, t.val, 0] ∧ win0_1.index t = ![0, t.val, 0] ∧ win0_2.index t = ![0, t.val, 0] ∧ win0_3.index t = ![0, t.val, 0] ∧ win0_4.index t = ![t.val, 0] ∧ win0_5.index t = ![0, t.val, 0] ∧ win0_6.index t = ![0, t.val, 0] ∧ win0_7.index t = ![0, t.val, 0] :=
  (by decide +kernel : ∀ t : Fin grid0.N, _)

/-- After all the points, the first result is the sum of the shares. -/
theorem final_0 (c : Dev nD) : (dats m 0 c).arrAt 4 (cfgs 0).N = total (m ((c : Thread nD τ).loc main_arg0)) := by
  refine (dats m 0 c).arrAt_eq_of_covers 4 _ (by decide +kernel) fun t _ y => ?_
  blk_simp
  rw [after0_4]; frame_out
  pointwise [k0_pay1, k0_pay2, k0_pay3, k0_pay4, k0_pay5, k0_pay6, k0_pay7, total, eight]
  blk_point [iblk, V, idx t]

/-- After all the points, the second result is the change of the weight. -/
theorem final_1 (c : Dev nD) : (dats m 0 c).arrAt 5 (cfgs 0).N = delta (m ((c : Thread nD τ).loc main_arg1)) (totals (m ((c : Thread nD τ).loc main_arg0))) (m ((c : Thread nD τ).loc main_arg2)) (m ((c : Thread nD τ).loc main_arg3)) := by
  refine (dats m 0 c).arrAt_eq_of_covers 5 _ (by decide +kernel) fun t _ y => ?_
  blk_simp
  rw [after0_5]; frame_out
  pointwise [k0_pay1, k0_pay2, k0_pay3, k0_pay4, k0_pay5, k0_pay6, k0_pay7, delta, change, first, second, totals, eight]
  blk_point [iblk, V, idx t]

/-- After all the points, the third result is the new first moment. -/
theorem final_2 (c : Dev nD) : (dats m 0 c).arrAt 6 (cfgs 0).N = moment1 (totals (m ((c : Thread nD τ).loc main_arg0))) (m ((c : Thread nD τ).loc main_arg2)) := by
  refine (dats m 0 c).arrAt_eq_of_covers 6 _ (by decide +kernel) fun t _ y => ?_
  blk_simp
  rw [after0_6]; frame_out
  pointwise [k0_pay1, k0_pay2, k0_pay3, k0_pay4, k0_pay5, k0_pay6, k0_pay7, moment1, first, totals, eight]
  blk_point [iblk, V, idx t]

/-- After all the points, the fourth result is the new second moment. -/
theorem final_3 (c : Dev nD) : (dats m 0 c).arrAt 7 (cfgs 0).N = moment2 (totals (m ((c : Thread nD τ).loc main_arg0))) (m ((c : Thread nD τ).loc main_arg3)) := by
  refine (dats m 0 c).arrAt_eq_of_covers 7 _ (by decide +kernel) fun t _ y => ?_
  blk_simp
  rw [after0_7]; frame_out
  pointwise [k0_pay1, k0_pay2, k0_pay3, k0_pay4, k0_pay5, k0_pay6, k0_pay7, moment2, second, totals, eight]
  blk_point [iblk, V, idx t]

/-- The call's run: its results hold the arrays above, its arguments what they held. -/
theorem run (g : Dev Cert.Kernel14Ideal.nD → PrngReg) :
    θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
      r.2.mem ((c.tc : Thread nD τ).loc main_v0_0) = total (m ((c.tc : Thread nD τ).loc main_arg0))
      ∧ r.2.mem ((c.tc : Thread nD τ).loc main_v0_1) = delta (m ((c.tc : Thread nD τ).loc main_arg1)) (totals (m ((c.tc : Thread nD τ).loc main_arg0))) (m ((c.tc : Thread nD τ).loc main_arg2)) (m ((c.tc : Thread nD τ).loc main_arg3))
      ∧ r.2.mem ((c.tc : Thread nD τ).loc main_v0_2) = moment1 (totals (m ((c.tc : Thread nD τ).loc main_arg0))) (m ((c.tc : Thread nD τ).loc main_arg2))
      ∧ r.2.mem ((c.tc : Thread nD τ).loc main_v0_3) = moment2 (totals (m ((c.tc : Thread nD τ).loc main_arg0))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  θ_run_mono (θ_run_and (Gen.run_main m g) (Gen.unchanged m g))
    fun r h c => ⟨((h.1 c).1 4).trans (final_0 m c), ((h.1 c).1 5).trans (final_1 m c), ((h.1 c).1 6).trans (final_2 m c), ((h.1 c).1 7).trans (final_3 m c), h.2 c⟩

/-- The kernel and the update on whole arrays return equal results. -/
theorem algebraic : Cert.algebraic_Kernel14Ideal_Reference14Ideal := by
  intro m g m' g' _ hagree
  refine ⟨fun c => total (m ((c.tc : Thread nD τ).loc main_arg0)), fun c => delta (m ((c.tc : Thread nD τ).loc main_arg1)) (totals (m ((c.tc : Thread nD τ).loc main_arg0))) (m ((c.tc : Thread nD τ).loc main_arg2)) (m ((c.tc : Thread nD τ).loc main_arg3)), fun c => moment1 (totals (m ((c.tc : Thread nD τ).loc main_arg0))) (m ((c.tc : Thread nD τ).loc main_arg2)), fun c => moment2 (totals (m ((c.tc : Thread nD τ).loc main_arg0))) (m ((c.tc : Thread nD τ).loc main_arg3)), run m g,
    θ_run_mono (Cert.Reference14Ideal.Value.run m' g') fun r h c => ⟨?_, ?_, ?_, ?_, (h c).2.2.2.2⟩⟩
  · obtain ⟨h0, h1, h2, h3⟩ := hagree c
    refine (h c).1.trans ?_
    rw [h0]
    funext j
    idx_vars j
    pointwise! [Fin.sum_univ_eight, total, eight]
  · obtain ⟨h0, h1, h2, h3⟩ := hagree c
    refine (h c).2.1.trans ?_
    rw [h0, h1, h2, h3]
    funext j
    idx_vars j
    pointwise! [Fin.sum_univ_eight, delta, change, first, second, totals, eight]
  · obtain ⟨h0, h1, h2, h3⟩ := hagree c
    refine (h c).2.2.1.trans ?_
    rw [h0, h2]
    funext j
    idx_vars j
    pointwise! [Fin.sum_univ_eight, moment1, first, totals, eight]
  · obtain ⟨h0, h1, h2, h3⟩ := hagree c
    refine (h c).2.2.2.1.trans ?_
    rw [h0, h3]
    funext j
    idx_vars j
    pointwise! [Fin.sum_univ_eight, moment2, second, totals, eight]

end Cert.Kernel14Ideal.Update

end
-- ==== Proof.Adam15.lean ====
/-
  The sum of the eight shares of a gradient and the update of its weight, the mixer's input projection: block by block, and on whole arrays.
-/
module

public import proofs.«01_k».proof.Defs
public import proofs.«01_k».proof.Proof.Adam
public import proofs.«01_k».proof.Proof.Gen.Kernel15Ideal.Frame
public import proofs.«01_k».proof.Proof.Gen.Reference15Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel15Ideal.Update

open Cert.Kernel15Ideal Cert.Kernel15Ideal.Gen Cert.Adam

variable (m : (ℓ : Loc nD τ sig) → Buf (Elt Ideal) ℓ)

/-- Every window's block at a grid point is the block of rows with the point's number. -/
theorem idx : ∀ t : Fin cfg0.N, win0_0.index t = ![0, t.val, 0] ∧ win0_1.index t = ![0, t.val, 0] ∧ win0_2.index t = ![0, t.val, 0] ∧ win0_3.index t = ![0, t.val, 0] ∧ win0_4.index t = ![t.val, 0] ∧ win0_5.index t = ![0, t.val, 0] ∧ win0_6.index t = ![0, t.val, 0] ∧ win0_7.index t = ![0, t.val, 0] :=
  (by decide +kernel : ∀ t : Fin grid0.N, _)

/-- After all the points, the first result is the sum of the shares. -/
theorem final_0 (c : Dev nD) : (dats m 0 c).arrAt 4 (cfgs 0).N = total (m ((c : Thread nD τ).loc main_arg0)) := by
  refine (dats m 0 c).arrAt_eq_of_covers 4 _ (by decide +kernel) fun t _ y => ?_
  blk_simp
  rw [after0_4]; frame_out
  pointwise [k0_pay1, k0_pay2, k0_pay3, k0_pay4, k0_pay5, k0_pay6, k0_pay7, total, eight]
  blk_point [iblk, V, idx t]

/-- After all the points, the second result is the change of the weight. -/
theorem final_1 (c : Dev nD) : (dats m 0 c).arrAt 5 (cfgs 0).N = delta (m ((c : Thread nD τ).loc main_arg1)) (totals (m ((c : Thread nD τ).loc main_arg0))) (m ((c : Thread nD τ).loc main_arg2)) (m ((c : Thread nD τ).loc main_arg3)) := by
  refine (dats m 0 c).arrAt_eq_of_covers 5 _ (by decide +kernel) fun t _ y => ?_
  blk_simp
  rw [after0_5]; frame_out
  pointwise [k0_pay1, k0_pay2, k0_pay3, k0_pay4, k0_pay5, k0_pay6, k0_pay7, delta, change, first, second, totals, eight]
  blk_point [iblk, V, idx t]

/-- After all the points, the third result is the new first moment. -/
theorem final_2 (c : Dev nD) : (dats m 0 c).arrAt 6 (cfgs 0).N = moment1 (totals (m ((c : Thread nD τ).loc main_arg0))) (m ((c : Thread nD τ).loc main_arg2)) := by
  refine (dats m 0 c).arrAt_eq_of_covers 6 _ (by decide +kernel) fun t _ y => ?_
  blk_simp
  rw [after0_6]; frame_out
  pointwise [k0_pay1, k0_pay2, k0_pay3, k0_pay4, k0_pay5, k0_pay6, k0_pay7, moment1, first, totals, eight]
  blk_point [iblk, V, idx t]

/-- After all the points, the fourth result is the new second moment. -/
theorem final_3 (c : Dev nD) : (dats m 0 c).arrAt 7 (cfgs 0).N = moment2 (totals (m ((c : Thread nD τ).loc main_arg0))) (m ((c : Thread nD τ).loc main_arg3)) := by
  refine (dats m 0 c).arrAt_eq_of_covers 7 _ (by decide +kernel) fun t _ y => ?_
  blk_simp
  rw [after0_7]; frame_out
  pointwise [k0_pay1, k0_pay2, k0_pay3, k0_pay4, k0_pay5, k0_pay6, k0_pay7, moment2, second, totals, eight]
  blk_point [iblk, V, idx t]

/-- The call's run: its results hold the arrays above, its arguments what they held. -/
theorem run (g : Dev Cert.Kernel15Ideal.nD → PrngReg) :
    θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
      r.2.mem ((c.tc : Thread nD τ).loc main_v0_0) = total (m ((c.tc : Thread nD τ).loc main_arg0))
      ∧ r.2.mem ((c.tc : Thread nD τ).loc main_v0_1) = delta (m ((c.tc : Thread nD τ).loc main_arg1)) (totals (m ((c.tc : Thread nD τ).loc main_arg0))) (m ((c.tc : Thread nD τ).loc main_arg2)) (m ((c.tc : Thread nD τ).loc main_arg3))
      ∧ r.2.mem ((c.tc : Thread nD τ).loc main_v0_2) = moment1 (totals (m ((c.tc : Thread nD τ).loc main_arg0))) (m ((c.tc : Thread nD τ).loc main_arg2))
      ∧ r.2.mem ((c.tc : Thread nD τ).loc main_v0_3) = moment2 (totals (m ((c.tc : Thread nD τ).loc main_arg0))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  θ_run_mono (θ_run_and (Gen.run_main m g) (Gen.unchanged m g))
    fun r h c => ⟨((h.1 c).1 4).trans (final_0 m c), ((h.1 c).1 5).trans (final_1 m c), ((h.1 c).1 6).trans (final_2 m c), ((h.1 c).1 7).trans (final_3 m c), h.2 c⟩

/-- The kernel and the update on whole arrays return equal results. -/
theorem algebraic : Cert.algebraic_Kernel15Ideal_Reference15Ideal := by
  intro m g m' g' _ hagree
  refine ⟨fun c => total (m ((c.tc : Thread nD τ).loc main_arg0)), fun c => delta (m ((c.tc : Thread nD τ).loc main_arg1)) (totals (m ((c.tc : Thread nD τ).loc main_arg0))) (m ((c.tc : Thread nD τ).loc main_arg2)) (m ((c.tc : Thread nD τ).loc main_arg3)), fun c => moment1 (totals (m ((c.tc : Thread nD τ).loc main_arg0))) (m ((c.tc : Thread nD τ).loc main_arg2)), fun c => moment2 (totals (m ((c.tc : Thread nD τ).loc main_arg0))) (m ((c.tc : Thread nD τ).loc main_arg3)), run m g,
    θ_run_mono (Cert.Reference15Ideal.Value.run m' g') fun r h c => ⟨?_, ?_, ?_, ?_, (h c).2.2.2.2⟩⟩
  · obtain ⟨h0, h1, h2, h3⟩ := hagree c
    refine (h c).1.trans ?_
    rw [h0]
    funext j
    idx_vars j
    pointwise! [Fin.sum_univ_eight, total, eight]
  · obtain ⟨h0, h1, h2, h3⟩ := hagree c
    refine (h c).2.1.trans ?_
    rw [h0, h1, h2, h3]
    funext j
    idx_vars j
    pointwise! [Fin.sum_univ_eight, delta, change, first, second, totals, eight]
  · obtain ⟨h0, h1, h2, h3⟩ := hagree c
    refine (h c).2.2.1.trans ?_
    rw [h0, h2]
    funext j
    idx_vars j
    pointwise! [Fin.sum_univ_eight, moment1, first, totals, eight]
  · obtain ⟨h0, h1, h2, h3⟩ := hagree c
    refine (h c).2.2.2.1.trans ?_
    rw [h0, h3]
    funext j
    idx_vars j
    pointwise! [Fin.sum_univ_eight, moment2, second, totals, eight]

end Cert.Kernel15Ideal.Update

end
-- ==== Proof.Adam16.lean ====
/-
  The sum of the eight shares of a gradient and the update of its weight, the mixer's output projection: block by block, and on whole arrays.
-/
module

public import proofs.«01_k».proof.Defs
public import proofs.«01_k».proof.Proof.Adam
public import proofs.«01_k».proof.Proof.Gen.Kernel16Ideal.Frame
public import proofs.«01_k».proof.Proof.Gen.Reference16Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel16Ideal.Update

open Cert.Kernel16Ideal Cert.Kernel16Ideal.Gen Cert.Adam

variable (m : (ℓ : Loc nD τ sig) → Buf (Elt Ideal) ℓ)

/-- Every window's block at a grid point is the block of rows with the point's number. -/
theorem idx : ∀ t : Fin cfg0.N, win0_0.index t = ![0, t.val, 0] ∧ win0_1.index t = ![0, t.val, 0] ∧ win0_2.index t = ![0, t.val, 0] ∧ win0_3.index t = ![0, t.val, 0] ∧ win0_4.index t = ![t.val, 0] ∧ win0_5.index t = ![0, t.val, 0] ∧ win0_6.index t = ![0, t.val, 0] ∧ win0_7.index t = ![0, t.val, 0] :=
  (by decide +kernel : ∀ t : Fin grid0.N, _)

/-- After all the points, the first result is the sum of the shares. -/
theorem final_0 (c : Dev nD) : (dats m 0 c).arrAt 4 (cfgs 0).N = total (m ((c : Thread nD τ).loc main_arg0)) := by
  refine (dats m 0 c).arrAt_eq_of_covers 4 _ (by decide +kernel) fun t _ y => ?_
  blk_simp
  rw [after0_4]; frame_out
  pointwise [k0_pay1, k0_pay2, k0_pay3, k0_pay4, k0_pay5, k0_pay6, k0_pay7, total, eight]
  blk_point [iblk, V, idx t]

/-- After all the points, the second result is the change of the weight. -/
theorem final_1 (c : Dev nD) : (dats m 0 c).arrAt 5 (cfgs 0).N = delta (m ((c : Thread nD τ).loc main_arg1)) (totals (m ((c : Thread nD τ).loc main_arg0))) (m ((c : Thread nD τ).loc main_arg2)) (m ((c : Thread nD τ).loc main_arg3)) := by
  refine (dats m 0 c).arrAt_eq_of_covers 5 _ (by decide +kernel) fun t _ y => ?_
  blk_simp
  rw [after0_5]; frame_out
  pointwise [k0_pay1, k0_pay2, k0_pay3, k0_pay4, k0_pay5, k0_pay6, k0_pay7, delta, change, first, second, totals, eight]
  blk_point [iblk, V, idx t]

/-- After all the points, the third result is the new first moment. -/
theorem final_2 (c : Dev nD) : (dats m 0 c).arrAt 6 (cfgs 0).N = moment1 (totals (m ((c : Thread nD τ).loc main_arg0))) (m ((c : Thread nD τ).loc main_arg2)) := by
  refine (dats m 0 c).arrAt_eq_of_covers 6 _ (by decide +kernel) fun t _ y => ?_
  blk_simp
  rw [after0_6]; frame_out
  pointwise [k0_pay1, k0_pay2, k0_pay3, k0_pay4, k0_pay5, k0_pay6, k0_pay7, moment1, first, totals, eight]
  blk_point [iblk, V, idx t]

/-- After all the points, the fourth result is the new second moment. -/
theorem final_3 (c : Dev nD) : (dats m 0 c).arrAt 7 (cfgs 0).N = moment2 (totals (m ((c : Thread nD τ).loc main_arg0))) (m ((c : Thread nD τ).loc main_arg3)) := by
  refine (dats m 0 c).arrAt_eq_of_covers 7 _ (by decide +kernel) fun t _ y => ?_
  blk_simp
  rw [after0_7]; frame_out
  pointwise [k0_pay1, k0_pay2, k0_pay3, k0_pay4, k0_pay5, k0_pay6, k0_pay7, moment2, second, totals, eight]
  blk_point [iblk, V, idx t]

/-- The call's run: its results hold the arrays above, its arguments what they held. -/
theorem run (g : Dev Cert.Kernel16Ideal.nD → PrngReg) :
    θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
      r.2.mem ((c.tc : Thread nD τ).loc main_v0_0) = total (m ((c.tc : Thread nD τ).loc main_arg0))
      ∧ r.2.mem ((c.tc : Thread nD τ).loc main_v0_1) = delta (m ((c.tc : Thread nD τ).loc main_arg1)) (totals (m ((c.tc : Thread nD τ).loc main_arg0))) (m ((c.tc : Thread nD τ).loc main_arg2)) (m ((c.tc : Thread nD τ).loc main_arg3))
      ∧ r.2.mem ((c.tc : Thread nD τ).loc main_v0_2) = moment1 (totals (m ((c.tc : Thread nD τ).loc main_arg0))) (m ((c.tc : Thread nD τ).loc main_arg2))
      ∧ r.2.mem ((c.tc : Thread nD τ).loc main_v0_3) = moment2 (totals (m ((c.tc : Thread nD τ).loc main_arg0))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  θ_run_mono (θ_run_and (Gen.run_main m g) (Gen.unchanged m g))
    fun r h c => ⟨((h.1 c).1 4).trans (final_0 m c), ((h.1 c).1 5).trans (final_1 m c), ((h.1 c).1 6).trans (final_2 m c), ((h.1 c).1 7).trans (final_3 m c), h.2 c⟩

/-- The kernel and the update on whole arrays return equal results. -/
theorem algebraic : Cert.algebraic_Kernel16Ideal_Reference16Ideal := by
  intro m g m' g' _ hagree
  refine ⟨fun c => total (m ((c.tc : Thread nD τ).loc main_arg0)), fun c => delta (m ((c.tc : Thread nD τ).loc main_arg1)) (totals (m ((c.tc : Thread nD τ).loc main_arg0))) (m ((c.tc : Thread nD τ).loc main_arg2)) (m ((c.tc : Thread nD τ).loc main_arg3)), fun c => moment1 (totals (m ((c.tc : Thread nD τ).loc main_arg0))) (m ((c.tc : Thread nD τ).loc main_arg2)), fun c => moment2 (totals (m ((c.tc : Thread nD τ).loc main_arg0))) (m ((c.tc : Thread nD τ).loc main_arg3)), run m g,
    θ_run_mono (Cert.Reference16Ideal.Value.run m' g') fun r h c => ⟨?_, ?_, ?_, ?_, (h c).2.2.2.2⟩⟩
  · obtain ⟨h0, h1, h2, h3⟩ := hagree c
    refine (h c).1.trans ?_
    rw [h0]
    funext j
    idx_vars j
    pointwise! [Fin.sum_univ_eight, total, eight]
  · obtain ⟨h0, h1, h2, h3⟩ := hagree c
    refine (h c).2.1.trans ?_
    rw [h0, h1, h2, h3]
    funext j
    idx_vars j
    pointwise! [Fin.sum_univ_eight, delta, change, first, second, totals, eight]
  · obtain ⟨h0, h1, h2, h3⟩ := hagree c
    refine (h c).2.2.1.trans ?_
    rw [h0, h2]
    funext j
    idx_vars j
    pointwise! [Fin.sum_univ_eight, moment1, first, totals, eight]
  · obtain ⟨h0, h1, h2, h3⟩ := hagree c
    refine (h c).2.2.2.1.trans ?_
    rw [h0, h3]
    funext j
    idx_vars j
    pointwise! [Fin.sum_univ_eight, moment2, second, totals, eight]

end Cert.Kernel16Ideal.Update

end
-- ==== Proof.Adam17.lean ====
/-
  The update of one weight from its gradient, block by block, and the same update on whole arrays.
-/
module

public import proofs.«01_k».proof.Defs
public import proofs.«01_k».proof.Proof.Adam
public import proofs.«01_k».proof.Proof.Gen.Kernel17Ideal.Frame
public import proofs.«01_k».proof.Proof.Gen.Reference17Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel17Ideal.Update

open Cert.Kernel17Ideal Cert.Kernel17Ideal.Gen Cert.Adam

variable (m : (ℓ : Loc nD τ sig) → Buf (Elt Ideal) ℓ)

/-- Every window's block at a grid point is the block of rows with the point's number. -/
theorem idx : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] :=
  (by decide +kernel : ∀ t : Fin grid0.N, _)

/-- After all the points, the first result is the change of the weight. -/
theorem final_0 (c : Dev nD) : (dats m 0 c).arrAt 4 (cfgs 0).N = delta (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  pointwise [k0_pay1, k0_pay2, k0_pay3, delta, change, first, second]
  blk_point [iblk, V, idx t]

/-- After all the points, the second result is the new first moment. -/
theorem final_1 (c : Dev nD) : (dats m 0 c).arrAt 5 (cfgs 0).N = moment1 (m ((c : Thread nD τ).loc main_arg1)) (m ((c : Thread nD τ).loc main_arg2)) := by
  refine (dats m 0 c).arrAt_eq_of_covers 5 _ (by decide +kernel) fun t _ y => ?_
  blk_simp
  rw [after0_5]; frame_out
  pointwise [k0_pay1, k0_pay2, k0_pay3, moment1, first]
  blk_point [iblk, V, idx t]

/-- After all the points, the third result is the new second moment. -/
theorem final_2 (c : Dev nD) : (dats m 0 c).arrAt 6 (cfgs 0).N = moment2 (m ((c : Thread nD τ).loc main_arg1)) (m ((c : Thread nD τ).loc main_arg3)) := by
  refine (dats m 0 c).arrAt_eq_of_covers 6 _ (by decide +kernel) fun t _ y => ?_
  blk_simp
  rw [after0_6]; frame_out
  pointwise [k0_pay1, k0_pay2, k0_pay3, moment2, second]
  blk_point [iblk, V, idx t]

/-- The call's run: its results hold the arrays above, its arguments what they held. -/
theorem run (g : Dev Cert.Kernel17Ideal.nD → PrngReg) :
    θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
      r.2.mem ((c.tc : Thread nD τ).loc main_v0_0) = delta (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v0_1) = moment1 (m ((c.tc : Thread nD τ).loc main_arg1)) (m ((c.tc : Thread nD τ).loc main_arg2))
      ∧ r.2.mem ((c.tc : Thread nD τ).loc main_v0_2) = moment2 (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  θ_run_mono (θ_run_and (Gen.run_main m g) (Gen.unchanged m g))
    fun r h c => ⟨((h.1 c).1 4).trans (final_0 m c), ((h.1 c).1 5).trans (final_1 m c), ((h.1 c).1 6).trans (final_2 m c), h.2 c⟩

/-- The kernel and the update on whole arrays return equal results. -/
theorem algebraic : Cert.algebraic_Kernel17Ideal_Reference17Ideal := by
  intro m g m' g' _ hagree
  refine ⟨fun c => delta (m ((c.tc : Thread nD τ).loc main_arg0)) (m ((c.tc : Thread nD τ).loc main_arg1)) (m ((c.tc : Thread nD τ).loc main_arg2)) (m ((c.tc : Thread nD τ).loc main_arg3)), fun c => moment1 (m ((c.tc : Thread nD τ).loc main_arg1)) (m ((c.tc : Thread nD τ).loc main_arg2)), fun c => moment2 (m ((c.tc : Thread nD τ).loc main_arg1)) (m ((c.tc : Thread nD τ).loc main_arg3)), run m g,
    θ_run_mono (Cert.Reference17Ideal.Value.run m' g') fun r h c => ⟨?_, ?_, ?_, (h c).2.2.2⟩⟩
  · obtain ⟨h0, h1, h2, h3⟩ := hagree c
    refine (h c).1.trans ?_
    rw [h0, h1, h2, h3]
    funext j
    idx_vars j
    pointwise! [delta, change, first, second]
  · obtain ⟨h0, h1, h2, h3⟩ := hagree c
    refine (h c).2.1.trans ?_
    rw [h1, h2]
    funext j
    idx_vars j
    pointwise! [moment1, first]
  · obtain ⟨h0, h1, h2, h3⟩ := hagree c
    refine (h c).2.2.1.trans ?_
    rw [h1, h3]
    funext j
    idx_vars j
    pointwise! [moment2, second]

end Cert.Kernel17Ideal.Update

end
-- ==== Proof.Ada18.lean ====
/-
  The gradients of the condition's weight and bias: the kernel's one grid point, and the gradient taken on the host.  The first is
  the product of the condition, transposed, with the incoming gradient; the second sums the incoming gradient over the sequences.
-/
module

public import proofs.«01_k».proof.Defs
public import proofs.«01_k».proof.Proof.Gen.Kernel18Ideal.Frame
public import proofs.«01_k».proof.Proof.Gen.Reference18Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel18Ideal.Condition

open Cert.Kernel18Ideal Cert.Kernel18Ideal.Gen

variable (m : (ℓ : Loc nD τ sig) → Buf (Elt Ideal) ℓ)

/-- There is one grid point, and every block is the whole of its array. -/
theorem idx : ∀ t : Fin cfg0.N, win0_0.index t = ![0, 0] ∧ win0_1.index t = ![0, 0] ∧ win0_2.index t = ![0, 0] ∧ win0_3.index t = ![0, 0] ∧ win0_4.index t = ![0, 0] :=
  (by decide +kernel : ∀ t : Fin grid0.N, _)

/-- The gradient of the weight: a sum over the sixteen sequences. -/
def weight (C : FVec Ideal S16x1024 .f32) (G : FVec Ideal S16x768 .f32) : FVec Ideal S1024x768 .f32 :=
  fun j => ∑ b : Fin 16, C (ix2 b (j 0)) * Ideal.logistic (C (ix2 b (j 0))) * G (ix2 b (j 1))

/-- The gradient of the bias: the sum over the sixteen sequences. -/
def bias (G : FVec Ideal S16x6144 .f32) : FVec Ideal S1x6144 .f32 := fun j => ∑ b : Fin 16, G (ix2 b (j 1))

/-- The first result array after the run is the weight's gradient. -/
theorem final_weight (c : Dev nD) : (dats m 0 c).arrAt 3 (cfgs 0).N = weight (m ((c : Thread nD τ).loc main_arg0)) (m ((c : Thread nD τ).loc main_arg2)) := by
  refine (dats m 0 c).arrAt_eq_of_covers 3 _ (by decide +kernel) fun t _ y => ?_
  blk_simp
  rw [after0_3]; frame_out
  pointwise [k0_pay1, weight]
  blk_point [iblk, V, idx t]

/-- The second result array after the run is the bias's gradient. -/
theorem final_bias (c : Dev nD) : (dats m 0 c).arrAt 4 (cfgs 0).N = bias (m ((c : Thread nD τ).loc main_arg1)) := by
  refine (dats m 0 c).arrAt_eq_of_covers 4 _ (by decide +kernel) fun t _ y => ?_
  blk_simp
  rw [after0_4]; frame_out
  pointwise [k0_pay2, bias]
  blk_point [iblk, V, idx t]

/-- The call's run: its results hold the two gradients, its arguments what they held. -/
theorem run (g : Dev nD → PrngReg) :
    θ_run (defs (F := Ideal)) (onTc (τ := τ) (main (F := Ideal))) ⟨m, fun _ => 0, g⟩ (fun r => ∀ c : Dev nD,
      r.2.mem ((c.tc : Thread nD τ).loc main_v0_0) = weight (m ((c.tc : Thread nD τ).loc main_arg0)) (m ((c.tc : Thread nD τ).loc main_arg2))
      ∧ r.2.mem ((c.tc : Thread nD τ).loc main_v0_1) = bias (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  θ_run_mono (θ_run_and (Gen.run_main m g) (Gen.unchanged m g))
    fun r h c => ⟨((h.1 c).1 3).trans (final_weight m c), ((h.1 c).1 4).trans (final_bias m c), h.2 c⟩

/-- The kernel and the gradient on the host return equal results. -/
theorem algebraic : Cert.algebraic_Kernel18Ideal_Reference18Ideal := by
  intro m g m' g' _ hagree
  refine ⟨fun c => weight (m ((c.tc : Thread nD τ).loc main_arg0)) (m ((c.tc : Thread nD τ).loc main_arg2)), fun c => bias (m ((c.tc : Thread nD τ).loc main_arg1)), run m g,
    θ_run_mono (Cert.Reference18Ideal.Value.run m' g') fun r h c => ⟨?_, ?_, (h c).2.2⟩⟩
  · obtain ⟨h0, h1, h2⟩ := hagree c
    refine (h c).1.trans ?_
    rw [h0, h2]
    funext j
    idx_vars j
    pointwise! [weight, Ideal.logistic]
  · obtain ⟨h0, h1, h2⟩ := hagree c
    refine (h c).2.1.trans ?_
    rw [h1]
    funext j
    idx_vars j
    pointwise! [bias]

end Cert.Kernel18Ideal.Condition

end
-- ==== Proof.Ada19.lean ====
/-
  The modulation: the condition's product with its weight, plus the bias, by the kernel's one grid point and on the host.
-/
module

public import proofs.«01_k».proof.Defs
public import proofs.«01_k».proof.Proof.Gen.Kernel19Ideal.Frame
public import proofs.«01_k».proof.Proof.Gen.Reference19Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel19Ideal.Condition

open Cert.Kernel19Ideal Cert.Kernel19Ideal.Gen

variable (m : (ℓ : Loc nD τ sig) → Buf (Elt Ideal) ℓ)

/-- There is one grid point, and every block is the whole of its array. -/
theorem idx : ∀ t : Fin cfg0.N, win0_0.index t = ![0, 0] ∧ win0_1.index t = ![0, 0] ∧ win0_2.index t = ![0, 0] ∧ win0_3.index t = ![0, 0] :=
  (by decide +kernel : ∀ t : Fin grid0.N, _)

/-- The modulation of a sequence: the condition times the weight, plus the bias. -/
def modulation (C : FVec Ideal S16x1024 .f32) (W : FVec Ideal S1024x768 .f32) (b : FVec Ideal S1x768 .f32) : FVec Ideal S16x768 .f32 :=
  fun j => (∑ k : Fin 1024, C (ix2 (j 0) k) * Ideal.logistic (C (ix2 (j 0) k)) * W (ix2 k (j 1))) + b (ix2 0 (j 1))

/-- The result array after the run is the modulation. -/
theorem final (c : Dev nD) : (dats m 0 c).arrAt 3 (cfgs 0).N = modulation (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  pointwise [k0_pay1, modulation]
  blk_point [iblk, V, idx t]

/-- The kernel and the host return equal results. -/
theorem algebraic : Cert.algebraic_Kernel19Ideal_Reference19Ideal := by
  pair_intro
  · run_from Cert.Kernel19Ideal.Gen.run_main m g
  · run_from Cert.Reference19Ideal.Value.run m' g'
    rw [final m c]
    funext j
    idx_vars j
    pointwise! [modulation, Ideal.logistic]

end Cert.Kernel19Ideal.Condition

end
-- ==== Proof.Sum20.lean ====
/-
  The sum of the eight devices' packed small gradients, by the kernel's one grid point and on the host.
-/
module

public import proofs.«01_k».proof.Defs
public import proofs.«01_k».proof.Proof.Adam
public import proofs.«01_k».proof.Proof.Gen.Kernel20Ideal.Frame
public import proofs.«01_k».proof.Proof.Gen.Reference20Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel20Ideal.Sum

open Cert.Kernel20Ideal Cert.Kernel20Ideal.Gen

variable (m : (ℓ : Loc nD τ sig) → Buf (Elt Ideal) ℓ)

/-- There is one grid point, and every block is the whole of its array. -/
theorem idx : ∀ t : Fin cfg0.N, win0_0.index t = ![0, 0, 0] ∧ win0_1.index t = ![0, 0] :=
  (by decide +kernel : ∀ t : Fin grid0.N, _)

/-- The sum of the eight devices' arrays. -/
def total (p : FVec Ideal S8x408x128 .f32) : FVec Ideal S408x128 .f32 := fun j => Adam.eight fun d => p (ix3 d (j 0) (j 1))

/-- The result array after the run is the sum. -/
theorem final (c : Dev nD) : (dats m 0 c).arrAt 1 (cfgs 0).N = total (m ((c : Thread nD τ).loc main_arg0)) := by
  refine (dats m 0 c).arrAt_eq_of_covers 1 _ (by decide +kernel) fun t _ y => ?_
  blk_simp
  rw [after0_1]; frame_out
  pointwise [k0_pay1, total, Adam.eight]
  blk_point [iblk, V, idx t]

/-- The kernel and the sum on the host return equal results. -/
theorem algebraic : Cert.algebraic_Kernel20Ideal_Reference20Ideal := by
  pair_intro
  · run_from Cert.Kernel20Ideal.Gen.run_main m g
  · run_from Cert.Reference20Ideal.Value.run m' g'
    rw [final m c]
    funext j
    idx_vars j
    pointwise! [Fin.sum_univ_eight, total, Adam.eight]

end Cert.Kernel20Ideal.Sum

end
-- ==== Proof.Norm.lean ====
/-
  The gradients of a layer norm's gain and shift, entry by entry. The norm's result is used twice: scaled by a constant, and
  modulated by one plus a scale; `dr` and `dh` are the two uses' gradients, `x` is the norm's input and `sc` the modulation's scale.
-/
module

public import Idealize.ShloMosaic.Lib.Pointwise

@[expose] public section

noncomputable section

namespace Cert.Norm

open Idealize.ShloMosaic

/-- The arrays the gradients are computed from. -/
structure Args where
  dr : Fin 2 → Fin 2048 → Fin 1024 → EReal
  dh : Fin 2 → Fin 2048 → Fin 1024 → EReal
  x : Fin 2 → Fin 2048 → Fin 1024 → EReal
  sc : Fin 2 → Fin 1024 → EReal

/-- The mean of a row. -/
def mean (f : Fin 1024 → EReal) : EReal := Ideal.div (∑ k, f k) (Ideal.ofBits .f32 0x44800000#32)

/-- A row less its mean. -/
def cen (f : Fin 1024 → EReal) (k : Fin 1024) : EReal := f k - mean f

/-- A row normalised. -/
def hat (f : Fin 1024 → EReal) (k : Fin 1024) : EReal :=
  cen f k * Ideal.rsqrt (mean (fun k => cen f k * cen f k) + Ideal.ofBits .f32 0x358637BD#32)

/-- What the two uses pass back to an entry of the norm's result. -/
def into (r h s : EReal) : EReal := Ideal.ofBits .f32 0x3F9837F0#32 * r + h * (1 + s)

/-- The gradient of the norm's result. -/
def dy (a : Args) (b : Fin 2) (r : Fin 2048) (k : Fin 1024) : EReal := into (a.dr b r k) (a.dh b r k) (a.sc b k)

/-- A row's term of the gain's gradient. -/
def gainTerm (a : Args) (k : Fin 1024) (b : Fin 2) (r : Fin 2048) : EReal := dy a b r k * hat (a.x b r) k

/-- A row's term of the shift's gradient. -/
def shiftTerm (a : Args) (k : Fin 1024) (b : Fin 2) (r : Fin 2048) : EReal := dy a b r k

/-- The gain's gradient: the terms of all rows of both sequences. -/
def dgain (a : Args) (k : Fin 1024) : EReal := ∑ b, ∑ r, gainTerm a k b r

/-- The shift's gradient. -/
def dshift (a : Args) (k : Fin 1024) : EReal := ∑ b, ∑ r, shiftTerm a k b r

/-- Row `q` of a sequence's quarter `s`. -/
def row (s : Fin 4) (q : Fin 512) : Fin 2048 := ⟨512 * s.val + q.val, by omega⟩

/-- The terms of a quarter of a sequence. -/
def tile (f : Fin 2 → Fin 2048 → EReal) (b : Fin 2) (s : Fin 4) : EReal := ∑ q, f b (row s q)

/-- A sequence is its four quarters. -/
theorem quarters (f : Fin 2 → Fin 2048 → EReal) (b : Fin 2) : ∑ r, f b r = tile f b 0 + tile f b 1 + tile f b 2 + tile f b 3 := by
  rw [← Fin.sum_univ_four (tile f b)]
  refine (Fintype.sum_equiv (finProdFinEquiv (m := 4) (n := 512)) (fun p => f b (row p.1 p.2)) (fun r : Fin 2048 => f b r) fun p => ?_).symm.trans
    (Fintype.sum_prod_type _)
  refine congrArg (f b) (Fin.ext ?_)
  show 512 * p.1.val + p.2.val = p.2.val + 512 * p.1.val
  omega

/-- The sequence and the quarter of the eight visits' visit `n`. -/
def sq (n : ℕ) : Fin 2 := ⟨n / 4 % 2, by omega⟩
def qt (n : ℕ) : Fin 4 := ⟨n % 4, by omega⟩

/-- What is started from zero and added to at every visit is the whole sum after the eighth. -/
theorem eight_visits {N : ℕ} (hN : N = 8) (f : Fin 2 → Fin 2048 → EReal) (o : (n : ℕ) → n < N → EReal)
    (h0 : ∀ t : Fin N, t.val % 8 = 0 → o t.val t.isLt = 0 + tile f (sq t.val) (qt t.val))
    (hs : ∀ t : Fin N, ¬ t.val % 8 = 0 → o t.val t.isLt = o (t.val - 1) (by omega) + tile f (sq t.val) (qt t.val)) (t : Fin N) (h : t.val % 8 = 7) :
    o t.val t.isLt = ∑ b, ∑ r, f b r := by
  subst hN
  obtain rfl : t = 7 := Fin.ext (show t.val = 7 by omega)
  have e0 := h0 0 rfl
  have e1 := hs 1 (by decide)
  have e2 := hs 2 (by decide)
  have e3 := hs 3 (by decide)
  have e4 := hs 4 (by decide)
  have e5 := hs 5 (by decide)
  have e6 := hs 6 (by decide)
  have e7 := hs 7 (by decide)
  refine (e7.trans (congrArg (· + _) (e6.trans (congrArg (· + _) (e5.trans (congrArg (· + _) (e4.trans (congrArg (· + _) (e3.trans (congrArg (· + _)
    (e2.trans (congrArg (· + _) (e1.trans (congrArg (· + _) e0)))))))))))))).trans ?_
  rw [Fin.sum_univ_two, quarters, quarters, zero_add]
  simp only [← add_assoc]
  rfl

end Cert.Norm

end
-- ==== Proof.NormKer.lean ====
/-
  What a grid point of the layer norm's gradient adds to the gain's and the shift's gradients, from the blocks it loads.
-/
module

public import proofs.«01_k».proof.Proof.Gen.Kernel21Ideal.Skeleton
public import proofs.«01_k».proof.Proof.Norm
public import Idealize.ShloMosaic.Lib.Pipeline.ValueKit
public import Idealize.ShloMosaic.Lib.Pointwise

@[expose] public section

set_option maxRecDepth 16384

noncomputable section

namespace Cert.Kernel21Ideal.Norm

open Idealize.ShloMosaic Idealize.ShloMosaic.TcCoe Idealize.SL.Sem
open Cert.Kernel21Ideal Cert.Kernel21Ideal.Gen Cert.Norm

/-- The gradient of the norm's result. -/
theorem dy_at (H : Vec Ideal S1x512x1024 .bf16) (R : Vec Ideal S1x512x1024 .f32) (S : Vec Ideal S1x1x1024 .f32) (q : Fin 512) (k : Fin 1024) :
    k0_pay12 (F := Ideal) (k0_pay11 (F := Ideal) H) R S (ix2 q k) = into (R (ix3 0 q k)) (H (ix3 0 q k)) (S (ix3 0 0 k)) := by
  pointwise [k0_pay12, k0_pay11, into]

/-- The input's row less its mean. -/
theorem cen_at (X : Vec Ideal S1x512x1024 .f32) (q : Fin 512) (k : Fin 1024) :
    k0_pay7 (F := Ideal) X (ix2 q k) = cen (fun k => X (ix3 0 q k)) k := by
  pointwise [k0_pay7, cen, mean]

/-- The input's row normalised. -/
theorem hat_at (X : Vec Ideal S1x512x1024 .f32) (q : Fin 512) (k : Fin 1024) :
    k0_pay9 (F := Ideal) X (ix2 q k) = hat (fun k => X (ix3 0 q k)) k := by
  have h : k0_pay9 (F := Ideal) X (ix2 q k) = k0_pay7 (F := Ideal) X (ix2 q k)
      * Ideal.rsqrt (mean (fun k => k0_pay7 (F := Ideal) X (ix2 q k) * k0_pay7 (F := Ideal) X (ix2 q k)) + Ideal.ofBits .f32 0x358637BD#32) := by
    pointwise [k0_pay9, k0_pay8, mean]
  rw [h]
  simp only [cen_at]
  rfl

/-- The tile's share of the gain's gradient, added to what was there. -/
theorem gain_at (H : Vec Ideal S1x512x1024 .bf16) (R X : Vec Ideal S1x512x1024 .f32) (S : Vec Ideal S1x1x1024 .f32) (v : Vec Ideal S1x1024 .f32) (j : Fin 1024) :
    k0_pay15 (F := Ideal) (k0_pay9 (F := Ideal) X) (k0_pay11 (F := Ideal) H) R S v (ix2 0 j)
      = v (ix2 0 j) + ∑ q : Fin 512, into (R (ix3 0 q j)) (H (ix3 0 q j)) (S (ix3 0 0 j)) * hat (fun k => X (ix3 0 q k)) j := by
  pointwise [k0_pay15]
  exact congrArg (_ + ·) (Finset.sum_congr rfl fun q _ => congrArg₂ (· * ·) (dy_at _ _ _ _ _) (hat_at _ _ _))

/-- The tile's share of the shift's gradient, added to what was there. -/
theorem shift_at (H : Vec Ideal S1x512x1024 .bf16) (R : Vec Ideal S1x512x1024 .f32) (S : Vec Ideal S1x1x1024 .f32) (v : Vec Ideal S1x1024 .f32) (j : Fin 1024) :
    k0_pay1 (F := Ideal) (k0_pay12 (F := Ideal) (k0_pay11 (F := Ideal) H) R S) v (ix2 0 j)
      = v (ix2 0 j) + ∑ q : Fin 512, into (R (ix3 0 q j)) (H (ix3 0 q j)) (S (ix3 0 0 j)) := by
  pointwise [k0_pay1]
  exact congrArg (_ + ·) (Finset.sum_congr rfl fun q _ => dy_at _ _ _ _ _)

/-- The blocks a point loads: a quarter of a sequence of the incoming gradients and of the norm's input, and the sequence's scale. -/
structure Loaded (a : Args) (b : Fin 2) (s : Fin 4) (R : Vec Ideal S1x512x1024 .f32) (H : Vec Ideal S1x512x1024 .bf16) (X : Vec Ideal S1x512x1024 .f32)
    (S : Vec Ideal S1x1x1024 .f32) : Prop where
  dr (q : Fin 512) (k : Fin 1024) : R (ix3 0 q k) = a.dr b (row s q) k
  dh (q : Fin 512) (k : Fin 1024) : H (ix3 0 q k) = a.dh b (row s q) k
  x (q : Fin 512) (k : Fin 1024) : X (ix3 0 q k) = a.x b (row s q) k
  sc (k : Fin 1024) : S (ix3 0 0 k) = a.sc b k

variable {a : Args} {b : Fin 2} {s : Fin 4} {R X : Vec Ideal S1x512x1024 .f32} {H : Vec Ideal S1x512x1024 .bf16} {S : Vec Ideal S1x1x1024 .f32}

/-- What a point adds to the gain's gradient. -/
theorem gain_part (L : Loaded a b s R H X S) (v : Vec Ideal S1x1024 .f32) (j : Fin 1024) :
    k0_pay15 (F := Ideal) (k0_pay9 (F := Ideal) X) (k0_pay11 (F := Ideal) H) R S v (ix2 0 j) = v (ix2 0 j) + tile (gainTerm a j) b s := by
  refine (gain_at _ _ _ _ _ j).trans (congrArg (_ + ·) (Finset.sum_congr rfl fun q _ => ?_))
  simp only [L.dr, L.dh, L.x, L.sc]
  rfl

/-- What a point adds to the shift's gradient. -/
theorem shift_part (L : Loaded a b s R H X S) (v : Vec Ideal S1x1024 .f32) (j : Fin 1024) :
    k0_pay1 (F := Ideal) (k0_pay12 (F := Ideal) (k0_pay11 (F := Ideal) H) R S) v (ix2 0 j) = v (ix2 0 j) + tile (shiftTerm a j) b s := by
  refine (shift_at _ _ _ _ j).trans (congrArg (_ + ·) (Finset.sum_congr rfl fun q _ => ?_))
  simp only [L.dr, L.dh, L.sc]
  rfl

end Cert.Kernel21Ideal.Norm

end
-- ==== Proof.NormRef.lean ====
/-
  The plain layer norm's gradients by its gain and its shift, entry by entry.
-/
module

public import proofs.«01_k».proof.Proof.Gen.Reference21Ideal.Run
public import proofs.«01_k».proof.Proof.Norm
public import proofs.«01_k».proof.Proof.Sums
public import Idealize.ShloMosaic.Lib.Pipeline.ValueKit
public import Idealize.ShloMosaic.Lib.Pointwise

@[expose] public section

set_option maxRecDepth 16384

noncomputable section

namespace Cert.Reference21Ideal.Norm

open Idealize.ShloMosaic Idealize.ShloMosaic.TcCoe Idealize.SL.Sem
open Cert.Reference21Ideal Cert.Reference21Ideal.Gen Cert.Norm Cert.Sums

/-- The rows' means, for every entry of a row. -/
def means (x : FVec Ideal S2x2048x1024 .f32) : FVec Ideal S2x2048x1 .f32 :=
  Host.divf (broadcastInDim S2x2048x1 ![0, 1] bcast_S2x2048_S2x2048x1_0_1 (Host.reduceAdd x (constant S_ .f32 0x00000000#32) reducesTo_S2x2048x1024_S2x2048_d2 h_S_))
    (broadcastInDim S2x2048x1 ![] bcast_S_S2x2048x1 (constant S_ .f32 0x44800000#32))

/-- The rows less their means. -/
def centred (x : FVec Ideal S2x2048x1024 .f32) : FVec Ideal S2x2048x1024 .f32 :=
  subf x (broadcastInDim S2x2048x1024 ![0, 1, 2] bcast_S2x2048x1_S2x2048x1024_0_1_2 (means x))

/-- The rows normalised. -/
def normed (x : FVec Ideal S2x2048x1024 .f32) : FVec Ideal S2x2048x1024 .f32 :=
  mulf (centred x) (broadcastInDim S2x2048x1024 ![0, 1, 2] bcast_S2x2048x1_S2x2048x1024_0_1_2
    (Host.rsqrt (addf (means (mulf (centred x) (centred x))) (broadcastInDim S2x2048x1 ![] bcast_S_S2x2048x1 (constant S_ .f32 0x358637BD#32)))))

/-- The gradient of the norm's result, from its two uses. -/
def back (dr : FVec Ideal S2x2048x1024 .f32) (dh : FVec Ideal S2x2048x1024 .bf16) (sc : FVec Ideal S2x1x1024 .f32) : FVec Ideal S2x2048x1024 .f32 :=
  addf (mulf (extf .f32 dh bitsLt_bf16_f32) (broadcastInDim S2x2048x1024 ![0, 1, 2] bcast_S2x1x1024_S2x2048x1024_0_1_2
      (addf (broadcastInDim S2x1x1024 ![] bcast_S_S2x1x1024 (constant S_ .f32 0x3F800000#32)) sc)))
    (mulf (broadcastInDim S2x2048x1024 ![] bcast_S_S2x2048x1024 (constant S_ .f32 0x3F9837F0#32)) dr)

/-- The sum over the rows of both sequences. -/
def total (u : FVec Ideal S2x2048x1024 .f32) : FVec Ideal S1024 .f32 :=
  Host.reduceAdd (shapeCast _ (Host.reduceAdd u (constant S_ .f32 0x00000000#32) reducesTo_S2x2048x1024_S1024_d0_1 h_S_) shapeCasts_S1024_S1x1x1024)
    (constant S_ .f32 0x00000000#32) reducesTo_S1x1x1024_S1024_d0_1 h_S_

/-- The same as an array of one row. -/
def oneRow (u : FVec Ideal S2x2048x1024 .f32) : FVec Ideal S1x1024 .f32 := broadcastInDim S1x1024 ![1] bcast_S1024_S1x1024_1 (total u)

/-- The two gradients, of the arrays. -/
def gain (dr : FVec Ideal S2x2048x1024 .f32) (dh : FVec Ideal S2x2048x1024 .bf16) (x : FVec Ideal S2x2048x1024 .f32) (sc : FVec Ideal S2x1x1024 .f32) : FVec Ideal S1x1024 .f32 :=
  oneRow (mulf (normed x) (back dr dh sc))
def shift (dr : FVec Ideal S2x2048x1024 .f32) (dh : FVec Ideal S2x2048x1024 .bf16) (sc : FVec Ideal S2x1x1024 .f32) : FVec Ideal S1x1024 .f32 :=
  oneRow (back dr dh sc)

/-- The arrays, entry by entry. -/
def entries (dr : FVec Ideal S2x2048x1024 .f32) (dh : FVec Ideal S2x2048x1024 .bf16) (x : FVec Ideal S2x2048x1024 .f32) (sc : FVec Ideal S2x1x1024 .f32) : Args where
  dr b r k := dr (ix3 b r k)
  dh b r k := dh (ix3 b r k)
  x b r k := x (ix3 b r k)
  sc b k := sc (ix3 b 0 k)

theorem total_at (u : FVec Ideal S2x2048x1024 .f32) (j : Fin 1024) : total u (ix1 j) = ∑ b : Fin 2, ∑ r : Fin 2048, u (ix3 b r j) := by
  pointwise [total]
  refine (rows_sum _ _ _ j).trans ?_
  simp only [zero_add, Fin.sum_univ_one, Fin.isValue]
  pointwise
  refine (rows_sum _ _ _ j).trans ?_
  exact zero_add _

theorem oneRow_at (u : FVec Ideal S2x2048x1024 .f32) (j : Fin 1024) : oneRow u (ix2 0 j) = ∑ b : Fin 2, ∑ r : Fin 2048, u (ix3 b r j) := by
  pointwise [oneRow]
  exact total_at u j

theorem means_at (x : FVec Ideal S2x2048x1024 .f32) (b : Fin 2) (r : Fin 2048) : means x (ix3 b r 0) = mean fun k => x (ix3 b r k) := by
  pointwise! [means, mean]

theorem centred_at (x : FVec Ideal S2x2048x1024 .f32) (b : Fin 2) (r : Fin 2048) (k : Fin 1024) : centred x (ix3 b r k) = cen (fun k => x (ix3 b r k)) k := by
  pointwise [centred]
  exact congrArg (_ - ·) (means_at x b r)

theorem normed_at (x : FVec Ideal S2x2048x1024 .f32) (b : Fin 2) (r : Fin 2048) (k : Fin 1024) : normed x (ix3 b r k) = hat (fun k => x (ix3 b r k)) k := by
  pointwise [normed]
  rw [centred_at, means_at]
  refine congrArg (fun z => _ * Ideal.rsqrt (mean z + _)) (funext fun k => ?_)
  exact congrArg₂ (· * ·) (centred_at x b r k) (centred_at x b r k)

variable (dr : FVec Ideal S2x2048x1024 .f32) (dh : FVec Ideal S2x2048x1024 .bf16) (x : FVec Ideal S2x2048x1024 .f32) (sc : FVec Ideal S2x1x1024 .f32)

theorem back_at (b : Fin 2) (r : Fin 2048) (k : Fin 1024) : back dr dh sc (ix3 b r k) = dy (entries dr dh x sc) b r k := by
  refine Eq.trans ?_ (add_comm _ _)
  pointwise [back, entries]

/-- The gain's gradient at an entry. -/
theorem gain_at (j : Fin 1024) : gain dr dh x sc (ix2 0 j) = dgain (entries dr dh x sc) j := by
  refine (oneRow_at _ j).trans (Finset.sum_congr rfl fun b _ => Finset.sum_congr rfl fun r _ => ?_)
  exact (congrArg₂ (· * ·) (normed_at x b r j) (back_at dr dh x sc b r j)).trans (mul_comm _ _)

/-- The shift's gradient at an entry. -/
theorem shift_at (j : Fin 1024) : shift dr dh sc (ix2 0 j) = dshift (entries dr dh x sc) j :=
  (oneRow_at _ j).trans (Finset.sum_congr rfl fun b _ => Finset.sum_congr rfl fun r _ => back_at dr dh x sc b r j)

end Cert.Reference21Ideal.Norm

end
-- ==== Proof.Norm21.lean ====
/-
  The first layer norm's gradient: the gradients of its gain and its shift, summed over the grid's eight points, and the plain layer
  norm's.
-/
module

public import proofs.«01_k».proof.Defs
public import proofs.«01_k».proof.Proof.Gen.Kernel21Ideal.Frame
public import proofs.«01_k».proof.Proof.NormKer
public import proofs.«01_k».proof.Proof.NormRef
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel21Ideal.Norm

open Cert.Kernel21Ideal Cert.Kernel21Ideal.Gen Cert.Norm

variable (m : (ℓ : Loc nD τ sig) → Buf (Elt Ideal) ℓ) (c : Dev nD)

/-- The arguments, entry by entry. -/
def args : Args :=
  Cert.Reference21Ideal.Norm.entries (m ((c : Thread nD τ).loc main_arg0)) (m ((c : Thread nD τ).loc main_arg1)) (m ((c : Thread nD τ).loc main_arg2))
    (m ((c : Thread nD τ).loc main_arg5))

/-- The grid's points: two sequences, four quarters of a sequence. -/
theorem points : cfg0.N = 8 := (by decide +kernel : grid0.N = 8)

/-- The blocks a point stages. -/
theorem idx : ∀ t : Fin cfg0.N, win0_0.index t = ![t.val / 4 % 2, t.val % 4, 0]
    ∧ win0_1.index t = ![t.val / 4 % 2, t.val % 4, 0]
    ∧ win0_2.index t = ![t.val / 4 % 2, t.val % 4, 0]
    ∧ win0_5.index t = ![t.val / 4 % 2, 0, 0]
    ∧ win0_9.index t = ![0, 0]
    ∧ win0_10.index t = ![0, 0] :=
  (by decide +kernel : ∀ t : Fin grid0.N, _)

/-- A point loads a quarter of a sequence. -/
theorem loaded (t : Fin cfg0.N) : Loaded (args m c) (sq t.val) (qt t.val) (iblk m c 0 t) (iblk m c 1 t) (iblk m c 2 t) (iblk m c 5 t) := by
  constructor <;> intros <;> unfold args Cert.Reference21Ideal.Norm.entries Norm.sq <;> (try unfold row qt) <;> blk_point [iblk, V, idx t]

/-- The gain's gradient after the first point. -/
theorem gain_first (t : Fin cfg0.N) (h : t.val % 8 = 0) (j : Fin 1024) :
    (outsAt0 m c t.val t.isLt).2.2.2.1 (ix2 0 j) = 0 + tile (gainTerm (args m c) j) (sq t.val) (qt t.val) := by
  rw [outsAt0_A m c t h (by omega)]
  frame_out
  exact (gain_part (loaded m c t) _ j).trans (congrArg (· + _) (by pointwise [k0_pay3]))

/-- The gain's gradient after a later point. -/
theorem gain_later (t : Fin cfg0.N) (h : ¬ t.val % 8 = 0) (j : Fin 1024) :
    (outsAt0 m c t.val t.isLt).2.2.2.1 (ix2 0 j)
      = (outsAt0 m c (t.val - 1) (by omega)).2.2.2.1 (ix2 0 j) + tile (gainTerm (args m c) j) (sq t.val) (qt t.val) := by
  by_cases h1 : t.val % 4 = 0
  · rw [outsAt0_C m c t h h1]
    frame_out
    exact gain_part (loaded m c t) _ j
  · rw [outsAt0_B m c t h h1]
    frame_out
    exact gain_part (loaded m c t) _ j

/-- The shift's gradient after the first point. -/
theorem shift_first (t : Fin cfg0.N) (h : t.val % 8 = 0) (j : Fin 1024) :
    (outsAt0 m c t.val t.isLt).2.2.2.2 (ix2 0 j) = 0 + tile (shiftTerm (args m c) j) (sq t.val) (qt t.val) := by
  rw [outsAt0_A m c t h (by omega)]
  frame_out
  exact (shift_part (loaded m c t) _ j).trans (congrArg (· + _) (by pointwise [k0_pay4]))

/-- The shift's gradient after a later point. -/
theorem shift_later (t : Fin cfg0.N) (h : ¬ t.val % 8 = 0) (j : Fin 1024) :
    (outsAt0 m c t.val t.isLt).2.2.2.2 (ix2 0 j)
      = (outsAt0 m c (t.val - 1) (by omega)).2.2.2.2 (ix2 0 j) + tile (shiftTerm (args m c) j) (sq t.val) (qt t.val) := by
  by_cases h1 : t.val % 4 = 0
  · rw [outsAt0_C m c t h h1]
    frame_out
    exact shift_part (loaded m c t) _ j
  · rw [outsAt0_B m c t h h1]
    frame_out
    exact shift_part (loaded m c t) _ j

/-- The two gradients as functions of their index. -/
def resG : S1x1024.Idx → EReal := fun y => dgain (args m c) (y 1)
def resB : S1x1024.Idx → EReal := fun y => dshift (args m c) (y 1)

/-- The gain's gradient after the run. -/
theorem final_G : (dats m 0 c).arrAt 9 (cfgs 0).N = resG m c := by
  refine (dats m 0 c).arrAt_eq_of_covers 9 _ (by decide +kernel) fun t hf y => ?_
  blk_simp
  rw [after0_9]
  idx_vars y
  obtain rfl : y0 = 0 := Subsingleton.elim (α := Fin 1) _ _
  have ht := (flush0_9 t).mp hf
  refine (eight_visits points (gainTerm (args m c) y1) (fun n h => (outsAt0 m c n h).2.2.2.1 (ix2 0 y1)) (fun t h => gain_first m c t h y1)
    (fun t h => gain_later m c t h y1) t ht).trans ?_
  refine congrArg (resG m c) (a₁ := ix2 0 y1) ?_
  blk_ext [idx t]

/-- The shift's gradient after the run. -/
theorem final_B : (dats m 0 c).arrAt 10 (cfgs 0).N = resB m c := by
  refine (dats m 0 c).arrAt_eq_of_covers 10 _ (by decide +kernel) fun t hf y => ?_
  blk_simp
  rw [after0_10]
  idx_vars y
  obtain rfl : y0 = 0 := Subsingleton.elim (α := Fin 1) _ _
  have ht := (flush0_10 t).mp hf
  refine (eight_visits points (shiftTerm (args m c) y1) (fun n h => (outsAt0 m c n h).2.2.2.2 (ix2 0 y1)) (fun t h => shift_first m c t h y1)
    (fun t h => shift_later m c t h y1) t ht).trans ?_
  refine congrArg (resB m c) (a₁ := ix2 0 y1) ?_
  blk_ext [idx t]

/-- The kernel's run: its two results hold the gradients, its arguments what they held. -/
theorem run (g : Dev nD → PrngReg) :
    θ_run (defs (F := Ideal)) (onTc (τ := τ) (main (F := Ideal))) ⟨m, fun _ => 0, g⟩ (fun r => ∀ c : Dev nD,
      r.2.mem ((c.tc : Thread nD τ).loc main_v0_3) = resG m c ∧ r.2.mem ((c.tc : Thread nD τ).loc main_v0_4) = resB m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  θ_run_mono (θ_run_and (Gen.run_main m g) (Gen.unchanged m g))
    fun r h c => ⟨((h.1 c).1 9).trans (final_G m c), ((h.1 c).1 10).trans (final_B m c), h.2 c⟩

/-- The kernel and the plain layer norm's gradient return equal arrays. -/
theorem algebraic : Cert.algebraic_Kernel21Ideal_Reference21Ideal := by
  intro m g m' g' _ hagree
  refine ⟨resG m, resB m, run m g, θ_run_mono (Cert.Reference21Ideal.Value.run m' g') fun r h c => ⟨?_, ?_, (h c).2.2⟩⟩ <;>
    obtain ⟨h0, h1, h2, _, _, h5⟩ := hagree c
  · refine (h c).1.trans ?_
    rw [h0, h1, h2, h5]
    funext y
    idx_vars y
    obtain rfl : y0 = 0 := Subsingleton.elim (α := Fin 1) _ _
    exact Cert.Reference21Ideal.Norm.gain_at _ _ _ _ y1
  · refine (h c).2.1.trans ?_
    rw [h0, h1, h5]
    funext y
    idx_vars y
    obtain rfl : y0 = 0 := Subsingleton.elim (α := Fin 1) _ _
    exact Cert.Reference21Ideal.Norm.shift_at _ _ (m ((c.tc : Thread nD τ).loc main_arg2)) _ y1

end Cert.Kernel21Ideal.Norm

end
-- ==== Proof.Norm22.lean ====
/-
  The second layer norm's gradient: the gradients of its gain and its shift, summed over the grid's eight points, and the plain layer
  norm's. A point adds what the first norm's adds.
-/
module

public import proofs.«01_k».proof.Defs
public import proofs.«01_k».proof.Proof.Gen.Kernel22Ideal.Frame
public import proofs.«01_k».proof.Proof.NormKer
public import proofs.«01_k».proof.Proof.NormRef
public import proofs.«01_k».proof.Proof.Gen.Reference22Ideal.Run
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel22Ideal.Norm

open Cert.Kernel22Ideal Cert.Kernel22Ideal.Gen Cert.Norm Cert.Kernel21Ideal.Norm

variable (m : (ℓ : Loc nD τ sig) → Buf (Elt Ideal) ℓ) (c : Dev nD)

/-- The arguments, entry by entry. -/
def args : Args :=
  Cert.Reference21Ideal.Norm.entries (m ((c : Thread nD τ).loc main_arg0)) (m ((c : Thread nD τ).loc main_arg1)) (m ((c : Thread nD τ).loc main_arg2))
    (m ((c : Thread nD τ).loc main_arg5))

/-- The grid's points: two sequences, four quarters of a sequence. -/
theorem points : cfg0.N = 8 := (by decide +kernel : grid0.N = 8)

/-- The blocks a point stages. -/
theorem idx : ∀ t : Fin cfg0.N, win0_0.index t = ![t.val / 4 % 2, t.val % 4, 0]
    ∧ win0_1.index t = ![t.val / 4 % 2, t.val % 4, 0]
    ∧ win0_2.index t = ![t.val / 4 % 2, t.val % 4, 0]
    ∧ win0_5.index t = ![t.val / 4 % 2, 0, 0]
    ∧ win0_11.index t = ![0, 0]
    ∧ win0_12.index t = ![0, 0] :=
  (by decide +kernel : ∀ t : Fin grid0.N, _)

/-- A point loads a quarter of a sequence. -/
theorem loaded (t : Fin cfg0.N) : Loaded (args m c) (sq t.val) (qt t.val) (iblk m c 0 t) (iblk m c 1 t) (iblk m c 2 t) (iblk m c 5 t) := by
  constructor <;> intros <;> unfold args Cert.Reference21Ideal.Norm.entries Norm.sq <;> (try unfold row qt) <;> blk_point [iblk, V, idx t]

/-- The gain's gradient after the first point. -/
theorem gain_first (t : Fin cfg0.N) (h : t.val % 8 = 0) (j : Fin 1024) :
    (outsAt0 m c t.val t.isLt).2.2.2.1 (ix2 0 j) = 0 + tile (gainTerm (args m c) j) (sq t.val) (qt t.val) := by
  rw [outsAt0_A m c t h (by omega)]
  frame_out
  exact (gain_part (loaded m c t) _ j).trans (congrArg (· + _) (by pointwise [k0_pay3]))

/-- The gain's gradient after a later point. -/
theorem gain_later (t : Fin cfg0.N) (h : ¬ t.val % 8 = 0) (j : Fin 1024) :
    (outsAt0 m c t.val t.isLt).2.2.2.1 (ix2 0 j)
      = (outsAt0 m c (t.val - 1) (by omega)).2.2.2.1 (ix2 0 j) + tile (gainTerm (args m c) j) (sq t.val) (qt t.val) := by
  by_cases h1 : t.val % 4 = 0
  · rw [outsAt0_C m c t h h1]
    frame_out
    exact gain_part (loaded m c t) _ j
  · rw [outsAt0_B m c t h h1]
    frame_out
    exact gain_part (loaded m c t) _ j

/-- The shift's gradient after the first point. -/
theorem shift_first (t : Fin cfg0.N) (h : t.val % 8 = 0) (j : Fin 1024) :
    (outsAt0 m c t.val t.isLt).2.2.2.2.1 (ix2 0 j) = 0 + tile (shiftTerm (args m c) j) (sq t.val) (qt t.val) := by
  rw [outsAt0_A m c t h (by omega)]
  frame_out
  exact (shift_part (loaded m c t) _ j).trans (congrArg (· + _) (by pointwise [k0_pay4]))

/-- The shift's gradient after a later point. -/
theorem shift_later (t : Fin cfg0.N) (h : ¬ t.val % 8 = 0) (j : Fin 1024) :
    (outsAt0 m c t.val t.isLt).2.2.2.2.1 (ix2 0 j)
      = (outsAt0 m c (t.val - 1) (by omega)).2.2.2.2.1 (ix2 0 j) + tile (shiftTerm (args m c) j) (sq t.val) (qt t.val) := by
  by_cases h1 : t.val % 4 = 0
  · rw [outsAt0_C m c t h h1]
    frame_out
    exact shift_part (loaded m c t) _ j
  · rw [outsAt0_B m c t h h1]
    frame_out
    exact shift_part (loaded m c t) _ j

/-- The two gradients as functions of their index. -/
def resG : S1x1024.Idx → EReal := fun y => dgain (args m c) (y 1)
def resB : S1x1024.Idx → EReal := fun y => dshift (args m c) (y 1)

/-- The gain's gradient after the run. -/
theorem final_G : (dats m 0 c).arrAt 11 (cfgs 0).N = resG m c := by
  refine (dats m 0 c).arrAt_eq_of_covers 11 _ (by decide +kernel) fun t hf y => ?_
  blk_simp
  rw [after0_11]
  idx_vars y
  obtain rfl : y0 = 0 := Subsingleton.elim (α := Fin 1) _ _
  have ht := (flush0_11 t).mp hf
  refine (eight_visits points (gainTerm (args m c) y1) (fun n h => (outsAt0 m c n h).2.2.2.1 (ix2 0 y1)) (fun t h => gain_first m c t h y1)
    (fun t h => gain_later m c t h y1) t ht).trans ?_
  refine congrArg (resG m c) (a₁ := ix2 0 y1) ?_
  blk_ext [idx t]

/-- The shift's gradient after the run. -/
theorem final_B : (dats m 0 c).arrAt 12 (cfgs 0).N = resB m c := by
  refine (dats m 0 c).arrAt_eq_of_covers 12 _ (by decide +kernel) fun t hf y => ?_
  blk_simp
  rw [after0_12]
  idx_vars y
  obtain rfl : y0 = 0 := Subsingleton.elim (α := Fin 1) _ _
  have ht := (flush0_12 t).mp hf
  refine (eight_visits points (shiftTerm (args m c) y1) (fun n h => (outsAt0 m c n h).2.2.2.2.1 (ix2 0 y1)) (fun t h => shift_first m c t h y1)
    (fun t h => shift_later m c t h y1) t ht).trans ?_
  refine congrArg (resB m c) (a₁ := ix2 0 y1) ?_
  blk_ext [idx t]

/-- The kernel's run: its two results hold the gradients, its arguments what they held. -/
theorem run (g : Dev nD → PrngReg) :
    θ_run (defs (F := Ideal)) (onTc (τ := τ) (main (F := Ideal))) ⟨m, fun _ => 0, g⟩ (fun r => ∀ c : Dev nD,
      r.2.mem ((c.tc : Thread nD τ).loc main_v0_3) = resG m c ∧ r.2.mem ((c.tc : Thread nD τ).loc main_v0_4) = resB m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  θ_run_mono (θ_run_and (Gen.run_main m g) (Gen.unchanged m g))
    fun r h c => ⟨((h.1 c).1 11).trans (final_G m c), ((h.1 c).1 12).trans (final_B m c), h.2 c⟩

/-- The kernel and the plain layer norm's gradient return equal arrays. -/
theorem algebraic : Cert.algebraic_Kernel22Ideal_Reference22Ideal := by
  intro m g m' g' _ hagree
  refine ⟨resG m, resB m, run m g, θ_run_mono (Cert.Reference22Ideal.Value.run m' g') fun r h c => ⟨?_, ?_, (h c).2.2⟩⟩ <;>
    obtain ⟨h0, h1, h2, _, _, h5, _, _⟩ := hagree c
  · refine (h c).1.trans ?_
    rw [h0, h1, h2, h5]
    funext y
    idx_vars y
    obtain rfl : y0 = 0 := Subsingleton.elim (α := Fin 1) _ _
    exact Cert.Reference21Ideal.Norm.gain_at _ _ _ _ y1
  · refine (h c).2.1.trans ?_
    rw [h0, h1, h5]
    funext y
    idx_vars y
    obtain rfl : y0 = 0 := Subsingleton.elim (α := Fin 1) _ _
    exact Cert.Reference21Ideal.Norm.shift_at _ _ (m ((c.tc : Thread nD τ).loc main_arg2)) _ y1

end Cert.Kernel22Ideal.Norm

end
-- ==== Proof.Loss.lean ====
/-
  The loss and the gradients of the last layer norm's gain and shift, entry by entry: the first norm's result, scaled by a constant,
  plus the feed-forward's result, gated, is normed again; the loss is half the sum over the rows of the mean square of what
  separates that from the target.
-/
module

public import proofs.«01_k».proof.Proof.Norm
public import Idealize.ShloMosaic.Lib.IdealHost
public import Idealize.ShloMosaic.Lib.Pointwise

@[expose] public section

noncomputable section

namespace Cert.Loss

open Idealize.ShloMosaic Cert.Norm

/-- The arrays the loss is computed from. -/
structure Args where
  r1 : Fin 2 → Fin 2048 → Fin 1024 → EReal
  y : Fin 2 → Fin 2048 → Fin 1024 → EReal
  gt : Fin 2 → Fin 1024 → EReal
  g1 : Fin 1024 → EReal
  b1 : Fin 1024 → EReal
  g2 : Fin 1024 → EReal
  b2 : Fin 1024 → EReal
  tg : Fin 2 → Fin 2048 → Fin 1024 → EReal

/-- A row normed, with gain and shift. -/
def affine (f g b : Fin 1024 → EReal) (k : Fin 1024) : EReal := hat f k * g k + b k

/-- The residual's row: the normed row scaled, and the gated row. -/
def res (f g b gt y : Fin 1024 → EReal) (k : Fin 1024) : EReal := Ideal.ofBits .f32 0x3F9837F0#32 * affine f g b k + (1 + gt k) * y k

/-- The residual's row, of the arrays. -/
def resRow (a : Args) (b : Fin 2) (r : Fin 2048) : Fin 1024 → EReal := res (a.r1 b r) a.g1 a.b1 (a.gt b) (a.y b r)

/-- What separates the result from the target. -/
def err (a : Args) (b : Fin 2) (r : Fin 2048) (k : Fin 1024) : EReal := affine (resRow a b r) a.g2 a.b2 k - a.tg b r k

/-- A row's terms of the three sums. -/
def lossTerm (a : Args) (k : Fin 1024) (b : Fin 2) (r : Fin 2048) : EReal := err a b r k * err a b r k
def shiftTerm (a : Args) (k : Fin 1024) (b : Fin 2) (r : Fin 2048) : EReal := err a b r k * Ideal.ofBits .f32 0x3A800000#32
def gainTerm (a : Args) (k : Fin 1024) (b : Fin 2) (r : Fin 2048) : EReal := shiftTerm a k b r * hat (resRow a b r) k

/-- The sums over all rows, for a column. -/
def squares (a : Args) (k : Fin 1024) : EReal := ∑ b, ∑ r, lossTerm a k b r
def dgain (a : Args) (k : Fin 1024) : EReal := ∑ b, ∑ r, gainTerm a k b r
def dshift (a : Args) (k : Fin 1024) : EReal := ∑ b, ∑ r, shiftTerm a k b r

/-- The loss. -/
def loss (a : Args) : EReal := Ideal.ofBits .f32 0x3A000000#32 * ∑ k, squares a k

/-- The constants: half, two, the row's length, its inverse and half of that. -/
theorem half : Ideal.ofBits .f32 0x3F000000#32 = (((1 : ℝ) / 2 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num
theorem width : Ideal.ofBits .f32 0x44800000#32 = ((1024 : ℝ) : EReal) := by
  simp [Ideal.ofBits, Ideal.ieee, -EReal.coe_mul]; norm_num
theorem perWidth : Ideal.ofBits .f32 0x3A800000#32 = (((1 : ℝ) / 1024 : ℝ) : EReal) := by
  simp [Ideal.ofBits, Ideal.ieee, -EReal.coe_mul]; norm_num
theorem halfPerWidth : Ideal.ofBits .f32 0x3A000000#32 = (((1 : ℝ) / 2048 : ℝ) : EReal) := by
  simp [Ideal.ofBits, Ideal.ieee, -EReal.coe_mul]; norm_num

/-- A positive number times a sum. -/
theorem scale_sum {ι : Type} [Fintype ι] (p : ℝ) (hp : 0 ≤ p) (f : ι → EReal) : (p : EReal) * ∑ i, f i = ∑ i, (p : EReal) * f i := by
  classical
  refine Finset.induction_on (motive := fun s => (p : EReal) * ∑ i ∈ s, f i = ∑ i ∈ s, (p : EReal) * f i) Finset.univ (by simp) fun i s hi e => ?_
  rw [Finset.sum_insert hi, Finset.sum_insert hi, ← e, EReal.left_distrib_of_nonneg_of_ne_top (by exact_mod_cast hp) (EReal.coe_ne_top p)]

/-- The derivative of half the mean square. -/
theorem grad_const (e : EReal) :
    Ideal.div (Ideal.ofBits .f32 0x3F000000#32) (Ideal.ofBits .f32 0x44800000#32) * (Ideal.ofBits .f32 0x40000000#32 * e) = e * Ideal.ofBits .f32 0x3A800000#32 := by
  rw [half, two, width, perWidth, Ideal.div_coe (by norm_num), ← mul_assoc, ← EReal.coe_mul, ← EReal.coe_mul, mul_comm]
  norm_num

/-- Half the sum over the rows of the means is the loss. -/
theorem loss_means (a : Args) :
    Ideal.ofBits .f32 0x3F000000#32 * ∑ b : Fin 2, ∑ r : Fin 2048, Ideal.div (∑ k, err a b r k * err a b r k) (Ideal.ofBits .f32 0x44800000#32) = loss a := by
  have h : ∀ x : EReal, Ideal.div x (Ideal.ofBits .f32 0x44800000#32) = (((1 : ℝ) / 1024 : ℝ) : EReal) * x := fun x => by
    rw [width, Ideal.div_coe (by norm_num), mul_comm]
  have hs : ∑ k, squares a k = ∑ b : Fin 2, ∑ r : Fin 2048, ∑ k, err a b r k * err a b r k := by
    unfold squares lossTerm
    rw [Finset.sum_comm]
    exact Finset.sum_congr rfl fun b _ => Finset.sum_comm
  unfold loss
  simp only [h, ← scale_sum ((1 : ℝ) / 1024) (by norm_num)]
  rw [hs, half, halfPerWidth, ← mul_assoc, ← EReal.coe_mul]
  norm_num

end Cert.Loss

end
-- ==== Proof.LossKer.lean ====
/-
  What a grid point of the loss's call adds to the sum of squares and to the last norm's gradients, from the blocks it loads.
-/
module

public import proofs.«01_k».proof.Proof.Gen.Kernel23Ideal.Skeleton
public import proofs.«01_k».proof.Proof.Loss
public import Idealize.ShloMosaic.Lib.Pipeline.ValueKit
public import Idealize.ShloMosaic.Lib.Pointwise

@[expose] public section

set_option maxRecDepth 16384

noncomputable section

namespace Cert.Kernel23Ideal.Loss

open Idealize.ShloMosaic Idealize.ShloMosaic.TcCoe Idealize.SL.Sem
open Cert.Kernel23Ideal Cert.Kernel23Ideal.Gen Cert.Loss
open Cert.Norm (mean cen hat row tile)

/-- The first norm's result. -/
theorem first_at (X : Vec Ideal S1x512x1024 .f32) (G B : Vec Ideal S1x1024 .f32) (q : Fin 512) (k : Fin 1024) :
    k0_pay8 (F := Ideal) X G B (ix2 q k) = affine (fun k => X (ix3 0 q k)) (fun k => G (ix2 0 k)) (fun k => B (ix2 0 k)) k := by
  pointwise [k0_pay8, affine, hat, cen, mean]

/-- The residual less its mean. -/
theorem cen_at (u v : FVec Ideal S512x1024 .f32) (T : Vec Ideal S1x1x1024 .f32) (q : Fin 512) (k : Fin 1024) :
    k0_pay11 (F := Ideal) u v T (ix2 q k)
      = cen (fun k => Ideal.ofBits .f32 0x3F9837F0#32 * u (ix2 q k) + (1 + T (ix3 0 0 k)) * v (ix2 q k)) k := by
  pointwise [k0_pay11, k0_pay10, cen, mean]

/-- The residual normalised. -/
theorem hat_at (u v : FVec Ideal S512x1024 .f32) (T : Vec Ideal S1x1x1024 .f32) (q : Fin 512) (k : Fin 1024) :
    k0_pay13 (F := Ideal) u v T (ix2 q k)
      = hat (fun k => Ideal.ofBits .f32 0x3F9837F0#32 * u (ix2 q k) + (1 + T (ix3 0 0 k)) * v (ix2 q k)) k := by
  have h : k0_pay13 (F := Ideal) u v T (ix2 q k) = k0_pay11 (F := Ideal) u v T (ix2 q k)
      * Ideal.rsqrt (mean (fun k => k0_pay11 (F := Ideal) u v T (ix2 q k) * k0_pay11 (F := Ideal) u v T (ix2 q k)) + Ideal.ofBits .f32 0x358637BD#32) := by
    pointwise [k0_pay13, k0_pay12, mean]
  rw [h]
  simp only [cen_at]
  rfl

/-- The blocks a point loads: a quarter of a sequence of the rows, the sequence's gate, and the gains and shifts. -/
structure Loaded (a : Args) (b : Fin 2) (s : Fin 4) (X : Vec Ideal S1x512x1024 .f32) (Y : Vec Ideal S1x512x1024 .bf16) (T : Vec Ideal S1x1x1024 .f32)
    (G₁ B₁ G₂ B₂ : Vec Ideal S1x1024 .f32) (W : Vec Ideal S1x512x1024 .f32) : Prop where
  r1 (q : Fin 512) (k : Fin 1024) : X (ix3 0 q k) = a.r1 b (row s q) k
  y (q : Fin 512) (k : Fin 1024) : Y (ix3 0 q k) = a.y b (row s q) k
  gt (k : Fin 1024) : T (ix3 0 0 k) = a.gt b k
  g1 (k : Fin 1024) : G₁ (ix2 0 k) = a.g1 k
  b1 (k : Fin 1024) : B₁ (ix2 0 k) = a.b1 k
  g2 (k : Fin 1024) : G₂ (ix2 0 k) = a.g2 k
  b2 (k : Fin 1024) : B₂ (ix2 0 k) = a.b2 k
  tg (q : Fin 512) (k : Fin 1024) : W (ix3 0 q k) = a.tg b (row s q) k

variable {a : Args} {b : Fin 2} {s : Fin 4} {X W : Vec Ideal S1x512x1024 .f32} {Y : Vec Ideal S1x512x1024 .bf16} {T : Vec Ideal S1x1x1024 .f32}
  {G₁ B₁ G₂ B₂ : Vec Ideal S1x1024 .f32}

/-- The residual normalised, of the arrays. -/
theorem hat_row (L : Loaded a b s X Y T G₁ B₁ G₂ B₂ W) (q : Fin 512) (k : Fin 1024) :
    k0_pay13 (F := Ideal) (k0_pay8 (F := Ideal) X G₁ B₁) (k0_pay9 (F := Ideal) Y) T (ix2 q k) = hat (resRow a b (row s q)) k := by
  refine (hat_at _ _ _ q k).trans (congrArg (hat · k) (funext fun k => ?_))
  have hy : k0_pay9 (F := Ideal) Y (ix2 q k) = Y (ix3 0 q k) := by pointwise [k0_pay9]
  rw [first_at, hy]
  simp only [L.r1, L.y, L.gt, L.g1, L.b1]
  rfl

/-- What separates the result from the target. -/
theorem err_at (L : Loaded a b s X Y T G₁ B₁ G₂ B₂ W) (q : Fin 512) (k : Fin 1024) :
    k0_pay14 (F := Ideal) (k0_pay8 (F := Ideal) X G₁ B₁) (k0_pay9 (F := Ideal) Y) T G₂ B₂ W (ix2 q k) = err a b (row s q) k := by
  pointwise [k0_pay14]
  rw [hat_row L, L.g2, L.b2, L.tg]
  rfl

/-- What a point adds to the sum of squares. -/
theorem loss_part (L : Loaded a b s X Y T G₁ B₁ G₂ B₂ W) (v : Vec Ideal S1x1024 .f32) (j : Fin 1024) :
    k0_pay15 (F := Ideal) (k0_pay8 (F := Ideal) X G₁ B₁) (k0_pay9 (F := Ideal) Y) T G₂ B₂ W v (ix2 0 j) = v (ix2 0 j) + tile (lossTerm a j) b s := by
  pointwise [k0_pay15]
  exact congrArg (_ + ·) (Finset.sum_congr rfl fun q _ => congrArg₂ (· * ·) (err_at L q j) (err_at L q j))

/-- What a point adds to the gain's gradient. -/
theorem gain_part (L : Loaded a b s X Y T G₁ B₁ G₂ B₂ W) (v : Vec Ideal S1x1024 .f32) (j : Fin 1024) :
    k0_pay17 (F := Ideal) (k0_pay13 (F := Ideal) (k0_pay8 (F := Ideal) X G₁ B₁) (k0_pay9 (F := Ideal) Y) T)
      (k0_pay14 (F := Ideal) (k0_pay8 (F := Ideal) X G₁ B₁) (k0_pay9 (F := Ideal) Y) T G₂ B₂ W) v (ix2 0 j) = v (ix2 0 j) + tile (gainTerm a j) b s := by
  pointwise [k0_pay17, k0_pay16]
  exact congrArg (_ + ·) (Finset.sum_congr rfl fun q _ => congrArg₂ (· * ·) (congrArg (· * _) (err_at L q j)) (hat_row L q j))

/-- What a point adds to the shift's gradient. -/
theorem shift_part (L : Loaded a b s X Y T G₁ B₁ G₂ B₂ W) (v : Vec Ideal S1x1024 .f32) (j : Fin 1024) :
    k0_pay18 (F := Ideal) (k0_pay14 (F := Ideal) (k0_pay8 (F := Ideal) X G₁ B₁) (k0_pay9 (F := Ideal) Y) T G₂ B₂ W) v (ix2 0 j)
      = v (ix2 0 j) + tile (shiftTerm a j) b s := by
  pointwise [k0_pay18, k0_pay16]
  exact congrArg (_ + ·) (Finset.sum_congr rfl fun q _ => congrArg (· * _) (err_at L q j))

end Cert.Kernel23Ideal.Loss

end
-- ==== Proof.LossRef.lean ====
/-
  The plain loss and its gradients by the last norm's gain and shift, entry by entry.
-/
module

public import proofs.«01_k».proof.Proof.Gen.Reference23Ideal.Run
public import proofs.«01_k».proof.Proof.Loss
public import proofs.«01_k».proof.Proof.NormRef
public import proofs.«01_k».proof.Proof.Sums
public import Idealize.ShloMosaic.Lib.Pipeline.ValueKit
public import Idealize.ShloMosaic.Lib.Pointwise

@[expose] public section

set_option maxRecDepth 16384

noncomputable section

namespace Cert.Reference23Ideal.Loss

open Idealize.ShloMosaic Idealize.ShloMosaic.TcCoe Idealize.SL.Sem
open Cert.Reference23Ideal Cert.Reference23Ideal.Gen Cert.Loss
open Cert.Norm (mean cen hat)
open Cert.Reference21Ideal.Norm (normed normed_at oneRow oneRow_at)

/-- A row's gain or shift for every row. -/
def rows (g : FVec Ideal S1x1024 .f32) : FVec Ideal S2x2048x1024 .f32 :=
  broadcastInDim S2x2048x1024 ![0, 1, 2] bcast_S1x1x1024_S2x2048x1024_0_1_2
    (broadcastInDim S1x1x1024 ![2] bcast_S1024_S1x1x1024_2 (shapeCast _ g shapeCasts_S1x1024_S1024))

/-- The layer norm. -/
def layerNorm (x : FVec Ideal S2x2048x1024 .f32) (g b : FVec Ideal S1x1024 .f32) : FVec Ideal S2x2048x1024 .f32 :=
  addf (mulf (normed x) (rows g)) (rows b)

/-- The arguments as arrays. -/
structure Arrays where
  r1 : FVec Ideal S2x2048x1024 .f32
  y : FVec Ideal S2x2048x1024 .bf16
  gt : FVec Ideal S2x1x1024 .f32
  g1 : FVec Ideal S1x1024 .f32
  b1 : FVec Ideal S1x1024 .f32
  g2 : FVec Ideal S1x1024 .f32
  b2 : FVec Ideal S1x1024 .f32
  tg : FVec Ideal S2x2048x1024 .f32

/-- The arrays, entry by entry. -/
def Arrays.entries (A : Arrays) : Loss.Args where
  r1 b r k := A.r1 (ix3 b r k)
  y b r k := A.y (ix3 b r k)
  gt b k := A.gt (ix3 b 0 k)
  g1 k := A.g1 (ix2 0 k)
  b1 k := A.b1 (ix2 0 k)
  g2 k := A.g2 (ix2 0 k)
  b2 k := A.b2 (ix2 0 k)
  tg b r k := A.tg (ix3 b r k)

variable (A : Arrays)

/-- The residual. -/
def residual : FVec Ideal S2x2048x1024 .f32 :=
  addf (mulf (broadcastInDim S2x2048x1024 ![] bcast_S_S2x2048x1024 (constant S_ .f32 0x3F9837F0#32)) (layerNorm A.r1 A.g1 A.b1))
    (mulf (broadcastInDim S2x2048x1024 ![0, 1, 2] bcast_S2x1x1024_S2x2048x1024_0_1_2
      (addf (broadcastInDim S2x1x1024 ![] bcast_S_S2x1x1024 (constant S_ .f32 0x3F800000#32)) A.gt)) (extf .f32 A.y bitsLt_bf16_f32))

/-- What separates the result from the target. -/
def diff : FVec Ideal S2x2048x1024 .f32 := subf (layerNorm (residual A) A.g2 A.b2) A.tg

/-- Half the sum of the rows' mean squares. -/
def lossOf : FVec Ideal S_ .f32 :=
  mulf (constant S_ .f32 0x3F000000#32) (Host.reduceAdd
    (Host.divf (Host.reduceAdd (mulf (diff A) (diff A)) (constant S_ .f32 0x00000000#32) reducesTo_S2x2048x1024_S2x2048_d2 h_S_)
      (broadcastInDim S2x2048 ![] bcast_S_S2x2048 (constant S_ .f32 0x44800000#32)))
    (constant S_ .f32 0x00000000#32) reducesTo_S2x2048_S_d0_1 h_S_)

/-- The loss's gradient by the norm's result. -/
def back : FVec Ideal S2x2048x1024 .f32 :=
  mulf (broadcastInDim S2x2048x1024 ![0, 1] bcast_S2x2048_S2x2048x1024_0_1
      (Host.divf (broadcastInDim S2x2048 ![] bcast_S_S2x2048 (mulf (constant S_ .f32 0x3F000000#32) (constant S_ .f32 0x3F800000#32)))
        (broadcastInDim S2x2048 ![] bcast_S_S2x2048 (constant S_ .f32 0x44800000#32))))
    (mulf (broadcastInDim S2x2048x1024 ![] bcast_S_S2x2048x1024 (constant S_ .f32 0x40000000#32)) (diff A))

/-- The two gradients. -/
def gain : FVec Ideal S1x1024 .f32 := oneRow (mulf (normed (residual A)) (back A))
def shift : FVec Ideal S1x1024 .f32 := oneRow (back A)

/-- The arrays of a memory. -/
def arraysOf (m : (ℓ : Loc nD τ sig) → Buf (Elt Ideal) ℓ) (c : Dev nD) : Arrays where
  r1 := m ((c.tc : Thread nD τ).loc main_arg0)
  y := m ((c.tc : Thread nD τ).loc main_arg1)
  gt := m ((c.tc : Thread nD τ).loc main_arg2)
  g1 := m ((c.tc : Thread nD τ).loc main_arg3)
  b1 := m ((c.tc : Thread nD τ).loc main_arg4)
  g2 := m ((c.tc : Thread nD τ).loc main_arg5)
  b2 := m ((c.tc : Thread nD τ).loc main_arg6)
  tg := m ((c.tc : Thread nD τ).loc main_arg7)

/-- What the program returns. -/
theorem returns_loss (m : (ℓ : Loc nD τ sig) → Buf (Elt Ideal) ℓ) (c : Dev nD) : Value.res_main_v68 m c = lossOf (arraysOf m c) := rfl
theorem returns_gain (m : (ℓ : Loc nD τ sig) → Buf (Elt Ideal) ℓ) (c : Dev nD) : Value.res_main_v83 m c = gain (arraysOf m c) := rfl
theorem returns_shift (m : (ℓ : Loc nD τ sig) → Buf (Elt Ideal) ℓ) (c : Dev nD) : Value.res_main_v78 m c = shift (arraysOf m c) := rfl

theorem layerNorm_at (x : FVec Ideal S2x2048x1024 .f32) (g b : FVec Ideal S1x1024 .f32) (s : Fin 2) (r : Fin 2048) (k : Fin 1024) :
    layerNorm x g b (ix3 s r k) = affine (fun k => x (ix3 s r k)) (fun k => g (ix2 0 k)) (fun k => b (ix2 0 k)) k := by
  pointwise [layerNorm, rows]
  rw [normed_at]
  rfl

theorem residual_at (b : Fin 2) (r : Fin 2048) (k : Fin 1024) : residual A (ix3 b r k) = resRow A.entries b r k := by
  pointwise [residual]
  rw [layerNorm_at]
  rfl

theorem diff_at (b : Fin 2) (r : Fin 2048) (k : Fin 1024) : diff A (ix3 b r k) = err A.entries b r k := by
  pointwise [diff]
  rw [layerNorm_at]
  simp only [residual_at]
  rfl

theorem back_at (b : Fin 2) (r : Fin 2048) (k : Fin 1024) : back A (ix3 b r k) = shiftTerm A.entries k b r := by
  pointwise [back]
  rw [diff_at]
  exact grad_const _

/-- The loss. -/
theorem loss_at : lossOf A (fun a => a.elim0) = loss A.entries := by
  refine Eq.trans ?_ (loss_means A.entries)
  pointwise [lossOf]
  simp only [diff_at]

/-- The gain's gradient at an entry. -/
theorem gain_at (j : Fin 1024) : gain A (ix2 0 j) = dgain A.entries j := by
  refine (oneRow_at _ j).trans (Finset.sum_congr rfl fun b _ => Finset.sum_congr rfl fun r _ => ?_)
  refine (congrArg₂ (· * ·) (normed_at (residual A) b r j) (back_at A b r j)).trans ((mul_comm _ _).trans ?_)
  simp only [residual_at]
  rfl

/-- The shift's gradient at an entry. -/
theorem shift_at (j : Fin 1024) : shift A (ix2 0 j) = dshift A.entries j :=
  (oneRow_at _ j).trans (Finset.sum_congr rfl fun b _ => Finset.sum_congr rfl fun r _ => back_at A b r j)

end Cert.Reference23Ideal.Loss

end
-- ==== Proof.Loss23.lean ====
/-
  The loss's call: the sum of squares and the gradients of the last norm's gain and shift, summed over the grid's eight points, and the
  plain loss's.
-/
module

public import proofs.«01_k».proof.Defs
public import proofs.«01_k».proof.Proof.Gen.Kernel23Ideal.Frame
public import proofs.«01_k».proof.Proof.LossKer
public import proofs.«01_k».proof.Proof.LossRef
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel23Ideal.Loss

open Cert.Kernel23Ideal Cert.Kernel23Ideal.Gen Cert.Loss
open Cert.Norm (row tile qt eight_visits)

variable (m : (ℓ : Loc nD τ sig) → Buf (Elt Ideal) ℓ) (c : Dev nD)

/-- The arguments, and the same entry by entry. -/
def arrays : Cert.Reference23Ideal.Loss.Arrays where
  r1 := m ((c : Thread nD τ).loc main_arg0)
  y := m ((c : Thread nD τ).loc main_arg1)
  gt := m ((c : Thread nD τ).loc main_arg2)
  g1 := m ((c : Thread nD τ).loc main_arg3)
  b1 := m ((c : Thread nD τ).loc main_arg4)
  g2 := m ((c : Thread nD τ).loc main_arg5)
  b2 := m ((c : Thread nD τ).loc main_arg6)
  tg := m ((c : Thread nD τ).loc main_arg7)
def args : Loss.Args := (arrays m c).entries

/-- The grid's points: two sequences, four quarters of a sequence. -/
theorem points : cfg0.N = 8 := (by decide +kernel : grid0.N = 8)

/-- The blocks a point stages. -/
theorem idx : ∀ t : Fin cfg0.N, win0_0.index t = ![t.val / 4 % 2, t.val % 4, 0]
    ∧ win0_1.index t = ![t.val / 4 % 2, t.val % 4, 0]
    ∧ win0_2.index t = ![t.val / 4 % 2, 0, 0]
    ∧ win0_3.index t = ![0, 0]
    ∧ win0_4.index t = ![0, 0]
    ∧ win0_5.index t = ![0, 0]
    ∧ win0_6.index t = ![0, 0]
    ∧ win0_7.index t = ![t.val / 4 % 2, t.val % 4, 0]
    ∧ win0_8.index t = ![0, 0]
    ∧ win0_12.index t = ![0, 0]
    ∧ win0_13.index t = ![0, 0] :=
  (by decide +kernel : ∀ t : Fin grid0.N, _)

/-- A point loads a quarter of a sequence. -/
theorem loaded (t : Fin cfg0.N) : Loaded (args m c) (Norm.sq t.val) (qt t.val) (iblk m c 0 t) (iblk m c 1 t) (iblk m c 2 t) (iblk m c 3 t)
    (iblk m c 4 t) (iblk m c 5 t) (iblk m c 6 t) (iblk m c 7 t) := by
  constructor <;> intros <;> unfold args arrays Cert.Reference23Ideal.Loss.Arrays.entries <;> (try unfold Norm.sq) <;> (try unfold row qt) <;>
    blk_point [iblk, V, idx t]

/-- The sums of squares after the first point. -/
theorem squares_first (t : Fin cfg0.N) (h : t.val % 8 = 0) (j : Fin 1024) :
    (outsAt0 m c t.val t.isLt).1 (ix2 0 j) = 0 + tile (lossTerm (args m c) j) (Norm.sq t.val) (qt t.val) := by
  rw [outsAt0_A m c t h (by omega)]
  frame_out
  exact (loss_part (loaded m c t) _ j).trans (congrArg (· + _) (by pointwise [k0_pay4]))

/-- The sums of squares after a later point. -/
theorem squares_later (t : Fin cfg0.N) (h : ¬ t.val % 8 = 0) (j : Fin 1024) :
    (outsAt0 m c t.val t.isLt).1 (ix2 0 j)
      = (outsAt0 m c (t.val - 1) (by omega)).1 (ix2 0 j) + tile (lossTerm (args m c) j) (Norm.sq t.val) (qt t.val) := by
  by_cases h1 : t.val % 4 = 0
  · rw [outsAt0_C m c t h h1]
    frame_out
    exact loss_part (loaded m c t) _ j
  · rw [outsAt0_B m c t h h1]
    frame_out
    exact loss_part (loaded m c t) _ j

/-- The gain's gradient after the first point. -/
theorem gain_first (t : Fin cfg0.N) (h : t.val % 8 = 0) (j : Fin 1024) :
    (outsAt0 m c t.val t.isLt).2.2.2.2.1 (ix2 0 j) = 0 + tile (gainTerm (args m c) j) (Norm.sq t.val) (qt t.val) := by
  rw [outsAt0_A m c t h (by omega)]
  frame_out
  exact (gain_part (loaded m c t) _ j).trans (congrArg (· + _) (by pointwise [k0_pay5]))

/-- The gain's gradient after a later point. -/
theorem gain_later (t : Fin cfg0.N) (h : ¬ t.val % 8 = 0) (j : Fin 1024) :
    (outsAt0 m c t.val t.isLt).2.2.2.2.1 (ix2 0 j)
      = (outsAt0 m c (t.val - 1) (by omega)).2.2.2.2.1 (ix2 0 j) + tile (gainTerm (args m c) j) (Norm.sq t.val) (qt t.val) := by
  by_cases h1 : t.val % 4 = 0
  · rw [outsAt0_C m c t h h1]
    frame_out
    exact gain_part (loaded m c t) _ j
  · rw [outsAt0_B m c t h h1]
    frame_out
    exact gain_part (loaded m c t) _ j

/-- The shift's gradient after the first point. -/
theorem shift_first (t : Fin cfg0.N) (h : t.val % 8 = 0) (j : Fin 1024) :
    (outsAt0 m c t.val t.isLt).2.2.2.2.2 (ix2 0 j) = 0 + tile (shiftTerm (args m c) j) (Norm.sq t.val) (qt t.val) := by
  rw [outsAt0_A m c t h (by omega)]
  frame_out
  exact (shift_part (loaded m c t) _ j).trans (congrArg (· + _) (by pointwise [k0_pay6]))

/-- The shift's gradient after a later point. -/
theorem shift_later (t : Fin cfg0.N) (h : ¬ t.val % 8 = 0) (j : Fin 1024) :
    (outsAt0 m c t.val t.isLt).2.2.2.2.2 (ix2 0 j)
      = (outsAt0 m c (t.val - 1) (by omega)).2.2.2.2.2 (ix2 0 j) + tile (shiftTerm (args m c) j) (Norm.sq t.val) (qt t.val) := by
  by_cases h1 : t.val % 4 = 0
  · rw [outsAt0_C m c t h h1]
    frame_out
    exact shift_part (loaded m c t) _ j
  · rw [outsAt0_B m c t h h1]
    frame_out
    exact shift_part (loaded m c t) _ j

/-- The three arrays as functions of their index. -/
def resS : S1x1024.Idx → EReal := fun y => squares (args m c) (y 1)
def resG : S1x1024.Idx → EReal := fun y => dgain (args m c) (y 1)
def resB : S1x1024.Idx → EReal := fun y => dshift (args m c) (y 1)

/-- The sums of squares after the run. -/
theorem final_squares : (dats m 0 c).arrAt 8 (cfgs 0).N = resS m c := by
  refine (dats m 0 c).arrAt_eq_of_covers 8 _ (by decide +kernel) fun t hf y => ?_
  blk_simp
  rw [after0_8]
  idx_vars y
  obtain rfl : y0 = 0 := Subsingleton.elim (α := Fin 1) _ _
  have ht := (flush0_8 t).mp hf
  refine (eight_visits points (lossTerm (args m c) y1) (fun n h => (outsAt0 m c n h).1 (ix2 0 y1)) (fun t h => squares_first m c t h y1)
    (fun t h => squares_later m c t h y1) t ht).trans ?_
  refine congrArg (resS m c) (a₁ := ix2 0 y1) ?_
  blk_ext [idx t]

/-- The gain's gradient after the run. -/
theorem final_gain : (dats m 0 c).arrAt 12 (cfgs 0).N = resG m c := by
  refine (dats m 0 c).arrAt_eq_of_covers 12 _ (by decide +kernel) fun t hf y => ?_
  blk_simp
  rw [after0_12]
  idx_vars y
  obtain rfl : y0 = 0 := Subsingleton.elim (α := Fin 1) _ _
  have ht := (flush0_12 t).mp hf
  refine (eight_visits points (gainTerm (args m c) y1) (fun n h => (outsAt0 m c n h).2.2.2.2.1 (ix2 0 y1)) (fun t h => gain_first m c t h y1)
    (fun t h => gain_later m c t h y1) t ht).trans ?_
  refine congrArg (resG m c) (a₁ := ix2 0 y1) ?_
  blk_ext [idx t]

/-- The shift's gradient after the run. -/
theorem final_shift : (dats m 0 c).arrAt 13 (cfgs 0).N = resB m c := by
  refine (dats m 0 c).arrAt_eq_of_covers 13 _ (by decide +kernel) fun t hf y => ?_
  blk_simp
  rw [after0_13]
  idx_vars y
  obtain rfl : y0 = 0 := Subsingleton.elim (α := Fin 1) _ _
  have ht := (flush0_13 t).mp hf
  refine (eight_visits points (shiftTerm (args m c) y1) (fun n h => (outsAt0 m c n h).2.2.2.2.2 (ix2 0 y1)) (fun t h => shift_first m c t h y1)
    (fun t h => shift_later m c t h y1) t ht).trans ?_
  refine congrArg (resB m c) (a₁ := ix2 0 y1) ?_
  blk_ext [idx t]

/-- A constant times the sum of an array's entries. -/
def scaled (v : FVec Ideal S1x1024 .f32) : FVec Ideal S_ .f32 :=
  mulf (constant S_ .f32 0x3A000000#32) (Host.reduceAdd v (constant S_ .f32 0x00000000#32) reducesTo_S1x1024_S_d0_1 h_S_)

/-- What follows the call on the host, from any contents. -/
theorem tail_ops (V : Valuation τ sig (Elt Ideal)) :
    StableHlo.after (hostOps1 (F := Ideal)) V (Proc.devRef .tc main_v2) = scaled (V (Proc.devRef .tc main_v0_0)) := by
  after_results
  rfl

/-- What follows the call on the host: the loss is a constant times the sum of the sums of squares. -/
theorem tail : Pipeline.afterTail₀ cfgs (dats m) 0 (V0 m) [hostOps1] c main_v2 = scaled (resS m c) :=
  (tail_ops _).trans (congrArg scaled ((Pipeline.withArrays_arr _ launch0.win.arr_inj c _ _ 8).trans (final_squares m c)))

/-- The same at its only index. -/
theorem scaled_at : scaled (resS m c) (fun a => a.elim0) = loss (args m c) := by
  pointwise [scaled]
  refine congrArg (_ * ·) ?_
  rw [Fin.sum_univ_one]
  rfl

/-- Two memories that agree hold the same arrays. -/
theorem same (m' : (ℓ : Loc Reference23Ideal.nD Reference23Ideal.τ Reference23Ideal.sig) → Buf (Elt Ideal) ℓ)
    (h : (m' ((c.tc : Thread _ _).loc Reference23Ideal.main_arg0) = m ((c.tc : Thread nD τ).loc main_arg0)
      ∧ m' ((c.tc : Thread _ _).loc Reference23Ideal.main_arg1) = m ((c.tc : Thread nD τ).loc main_arg1)
      ∧ m' ((c.tc : Thread _ _).loc Reference23Ideal.main_arg2) = m ((c.tc : Thread nD τ).loc main_arg2)
      ∧ m' ((c.tc : Thread _ _).loc Reference23Ideal.main_arg3) = m ((c.tc : Thread nD τ).loc main_arg3)
      ∧ m' ((c.tc : Thread _ _).loc Reference23Ideal.main_arg4) = m ((c.tc : Thread nD τ).loc main_arg4)
      ∧ m' ((c.tc : Thread _ _).loc Reference23Ideal.main_arg5) = m ((c.tc : Thread nD τ).loc main_arg5)
      ∧ m' ((c.tc : Thread _ _).loc Reference23Ideal.main_arg6) = m ((c.tc : Thread nD τ).loc main_arg6)
      ∧ m' ((c.tc : Thread _ _).loc Reference23Ideal.main_arg7) = m ((c.tc : Thread nD τ).loc main_arg7))) :
    Cert.Reference23Ideal.Loss.arraysOf m' c = arrays m c := by
  obtain ⟨h0, h1, h2, h3, h4, h5, h6, h7⟩ := h
  unfold Cert.Reference23Ideal.Loss.arraysOf arrays
  rw [h0, h1, h2, h3, h4, h5, h6, h7]

/-- The kernel and the plain loss return equal values. -/
theorem algebraic : Cert.algebraic_Kernel23Ideal_Reference23Ideal := by
  pair_intro
  · run_from Cert.Kernel23Ideal.Gen.run_main m g
  · run_from Cert.Reference23Ideal.Value.run m' g'
    · rw [Cert.Reference23Ideal.Loss.returns_loss, same m c m' (hagree c), tail]
      funext y
      obtain rfl : y = fun a => a.elim0 := funext fun a => a.elim0
      refine (Cert.Reference23Ideal.Loss.loss_at _).trans ?_
      exact (scaled_at m c).symm
    · rw [Cert.Reference23Ideal.Loss.returns_gain, same m c m' (hagree c), final_gain]
      funext y
      idx_vars y
      obtain rfl : y0 = 0 := Subsingleton.elim (α := Fin 1) _ _
      exact Cert.Reference23Ideal.Loss.gain_at _ y1
    · rw [Cert.Reference23Ideal.Loss.returns_shift, same m c m' (hagree c), final_shift]
      funext y
      idx_vars y
      obtain rfl : y0 = 0 := Subsingleton.elim (α := Fin 1) _ _
      exact Cert.Reference23Ideal.Loss.shift_at _ y1

end Cert.Kernel23Ideal.Loss

end
-- ==== Proof.lean ====
/-
  The proof of `Cert.Claim`: the frames of every printed program, and for each call of the step taken here the value claim
  proved in a module of its own.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Step
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Reference13Ideal.Run
public import proofs.«01_k».proof.Proof.Gen.Kernel14.Frame
public import proofs.«01_k».proof.Proof.Gen.Kernel14Ideal.Frame
public import proofs.«01_k».proof.Proof.Gen.Reference14Ideal.Run
public import proofs.«01_k».proof.Proof.Gen.Kernel15.Frame
public import proofs.«01_k».proof.Proof.Gen.Kernel15Ideal.Frame
public import proofs.«01_k».proof.Proof.Gen.Reference15Ideal.Run
public import proofs.«01_k».proof.Proof.Gen.Kernel16.Frame
public import proofs.«01_k».proof.Proof.Gen.Kernel16Ideal.Frame
public import proofs.«01_k».proof.Proof.Gen.Reference16Ideal.Run
public import proofs.«01_k».proof.Proof.Gen.Kernel17.Frame
public import proofs.«01_k».proof.Proof.Gen.Kernel17Ideal.Frame
public import proofs.«01_k».proof.Proof.Gen.Reference17Ideal.Run
public import proofs.«01_k».proof.Proof.Gen.Kernel18.Frame
public import proofs.«01_k».proof.Proof.Gen.Kernel18Ideal.Frame
public import proofs.«01_k».proof.Proof.Gen.Reference18Ideal.Run
public import proofs.«01_k».proof.Proof.Gen.Kernel19.Frame
public import proofs.«01_k».proof.Proof.Gen.Kernel19Ideal.Frame
public import proofs.«01_k».proof.Proof.Gen.Reference19Ideal.Run
public import proofs.«01_k».proof.Proof.Gen.Kernel20.Frame
public import proofs.«01_k».proof.Proof.Gen.Kernel20Ideal.Frame
public import proofs.«01_k».proof.Proof.Gen.Reference20Ideal.Run
public import proofs.«01_k».proof.Proof.Gen.Kernel21.Frame
public import proofs.«01_k».proof.Proof.Gen.Kernel21Ideal.Frame
public import proofs.«01_k».proof.Proof.Gen.Reference21Ideal.Run
public import proofs.«01_k».proof.Proof.Gen.Kernel22.Frame
public import proofs.«01_k».proof.Proof.Gen.Kernel22Ideal.Frame
public import proofs.«01_k».proof.Proof.Gen.Reference22Ideal.Run
public import proofs.«01_k».proof.Proof.Gen.Kernel23.Frame
public import proofs.«01_k».proof.Proof.Gen.Kernel23Ideal.Frame
public import proofs.«01_k».proof.Proof.Gen.Reference23Ideal.Run
public import proofs.«01_k».proof.Proof.Gen.Pre_finite2
public import proofs.«01_k».proof.Proof.Rec
public import proofs.«01_k».proof.Proof.Ffn
public import proofs.«01_k».proof.Proof.Mm3
public import proofs.«01_k».proof.Proof.Mm4
public import proofs.«01_k».proof.Proof.Mm5
public import proofs.«01_k».proof.Proof.Mm6
public import proofs.«01_k».proof.Proof.Mm7
public import proofs.«01_k».proof.Proof.Mm8
public import proofs.«01_k».proof.Proof.Mm9
public import proofs.«01_k».proof.Proof.Mm10
public import proofs.«01_k».proof.Proof.Mm11
public import proofs.«01_k».proof.Proof.Mm12
public import proofs.«01_k».proof.Proof.Adam13
public import proofs.«01_k».proof.Proof.Adam14
public import proofs.«01_k».proof.Proof.Adam15
public import proofs.«01_k».proof.Proof.Adam16
public import proofs.«01_k».proof.Proof.Adam17
public import proofs.«01_k».proof.Proof.Ada18
public import proofs.«01_k».proof.Proof.Ada19
public import proofs.«01_k».proof.Proof.Sum20
public import proofs.«01_k».proof.Proof.Norm21
public import proofs.«01_k».proof.Proof.Norm22
public import proofs.«01_k».proof.Proof.Loss23
public import Idealize.ShloMosaic.Lib.Quiescent

@[expose] public section

noncomputable section

namespace Cert.Proof

open Idealize.ShloMosaic Idealize.ShloMosaic.TcCoe Idealize.SL.Sem

/-- The host program `ReferenceIdeal` ends, leaves its arguments as they were and every counter at zero. -/
theorem frame_referenceideal : Cert.quiescent_ReferenceIdeal := fun m g _ =>
  (θ_run Cert.ReferenceIdeal.defs _ _).mono (fun r h => ⟨fun c => (h c).2.2, sem_eq_zero_of_no_sems (by decide) r.2⟩)
    (Cert.ReferenceIdeal.Value.run m g)

/-- The host program `Reference2Ideal` ends, leaves its arguments as they were and every counter at zero. -/
theorem frame_reference2ideal : Cert.quiescent_Reference2Ideal := fun m g _ =>
  (θ_run Cert.Reference2Ideal.defs _ _).mono (fun r h => ⟨fun c => (h c).2.2.2, sem_eq_zero_of_no_sems (by decide) r.2⟩)
    (Cert.Reference2Ideal.Value.run m g)

/-- The host program `Reference2Ideal` ends, leaves its arguments as they were and every counter at zero, run from finite arguments. -/
theorem frame_reference2ideal_pre_finite2 : Cert.quiescent_Reference2Ideal_pre_finite2 := fun m g _ =>
  (θ_run Cert.Reference2Ideal.defs _ _).mono (fun r h => ⟨fun c => (h c).2.2.2, sem_eq_zero_of_no_sems (by decide) r.2⟩)
    (Cert.Reference2Ideal.Value.run m g)

/-- The host program `Reference3Ideal` ends, leaves its arguments as they were and every counter at zero. -/
theorem frame_reference3ideal : Cert.quiescent_Reference3Ideal := fun m g _ =>
  (θ_run Cert.Reference3Ideal.defs _ _).mono (fun r h => ⟨fun c => (h c).2, sem_eq_zero_of_no_sems (by decide) r.2⟩)
    (Cert.Reference3Ideal.Value.run m g)

/-- The host program `Reference4Ideal` ends, leaves its arguments as they were and every counter at zero. -/
theorem frame_reference4ideal : Cert.quiescent_Reference4Ideal := fun m g _ =>
  (θ_run Cert.Reference4Ideal.defs _ _).mono (fun r h => ⟨fun c => (h c).2, sem_eq_zero_of_no_sems (by decide) r.2⟩)
    (Cert.Reference4Ideal.Value.run m g)

/-- The host program `Reference5Ideal` ends, leaves its arguments as they were and every counter at zero. -/
theorem frame_reference5ideal : Cert.quiescent_Reference5Ideal := fun m g _ =>
  (θ_run Cert.Reference5Ideal.defs _ _).mono (fun r h => ⟨fun c => (h c).2, sem_eq_zero_of_no_sems (by decide) r.2⟩)
    (Cert.Reference5Ideal.Value.run m g)

/-- The host program `Reference6Ideal` ends, leaves its arguments as they were and every counter at zero. -/
theorem frame_reference6ideal : Cert.quiescent_Reference6Ideal := fun m g _ =>
  (θ_run Cert.Reference6Ideal.defs _ _).mono (fun r h => ⟨fun c => (h c).2, sem_eq_zero_of_no_sems (by decide) r.2⟩)
    (Cert.Reference6Ideal.Value.run m g)

/-- The host program `Reference7Ideal` ends, leaves its arguments as they were and every counter at zero. -/
theorem frame_reference7ideal : Cert.quiescent_Reference7Ideal := fun m g _ =>
  (θ_run Cert.Reference7Ideal.defs _ _).mono (fun r h => ⟨fun c => (h c).2, sem_eq_zero_of_no_sems (by decide) r.2⟩)
    (Cert.Reference7Ideal.Value.run m g)

/-- The host program `Reference8Ideal` ends, leaves its arguments as they were and every counter at zero. -/
theorem frame_reference8ideal : Cert.quiescent_Reference8Ideal := fun m g _ =>
  (θ_run Cert.Reference8Ideal.defs _ _).mono (fun r h => ⟨fun c => (h c).2, sem_eq_zero_of_no_sems (by decide) r.2⟩)
    (Cert.Reference8Ideal.Value.run m g)

/-- The host program `Reference9Ideal` ends, leaves its arguments as they were and every counter at zero. -/
theorem frame_reference9ideal : Cert.quiescent_Reference9Ideal := fun m g _ =>
  (θ_run Cert.Reference9Ideal.defs _ _).mono (fun r h => ⟨fun c => (h c).2, sem_eq_zero_of_no_sems (by decide) r.2⟩)
    (Cert.Reference9Ideal.Value.run m g)

/-- The host program `Reference10Ideal` ends, leaves its arguments as they were and every counter at zero. -/
theorem frame_reference10ideal : Cert.quiescent_Reference10Ideal := fun m g _ =>
  (θ_run Cert.Reference10Ideal.defs _ _).mono (fun r h => ⟨fun c => (h c).2, sem_eq_zero_of_no_sems (by decide) r.2⟩)
    (Cert.Reference10Ideal.Value.run m g)

/-- The host program `Reference11Ideal` ends, leaves its arguments as they were and every counter at zero. -/
theorem frame_reference11ideal : Cert.quiescent_Reference11Ideal := fun m g _ =>
  (θ_run Cert.Reference11Ideal.defs _ _).mono (fun r h => ⟨fun c => (h c).2, sem_eq_zero_of_no_sems (by decide) r.2⟩)
    (Cert.Reference11Ideal.Value.run m g)

/-- The host program `Reference12Ideal` ends, leaves its arguments as they were and every counter at zero. -/
theorem frame_reference12ideal : Cert.quiescent_Reference12Ideal := fun m g _ =>
  (θ_run Cert.Reference12Ideal.defs _ _).mono (fun r h => ⟨fun c => (h c).2, sem_eq_zero_of_no_sems (by decide) r.2⟩)
    (Cert.Reference12Ideal.Value.run m g)

/-- The host program `Reference13Ideal` ends, leaves its arguments as they were and every counter at zero. -/
theorem frame_reference13ideal : Cert.quiescent_Reference13Ideal := fun m g _ =>
  (θ_run Cert.Reference13Ideal.defs _ _).mono (fun r h => ⟨fun c => (h c).2.2.2.2, sem_eq_zero_of_no_sems (by decide) r.2⟩)
    (Cert.Reference13Ideal.Value.run m g)

/-- The host program `Reference14Ideal` ends, leaves its arguments as they were and every counter at zero. -/
theorem frame_reference14ideal : Cert.quiescent_Reference14Ideal := fun m g _ =>
  (θ_run Cert.Reference14Ideal.defs _ _).mono (fun r h => ⟨fun c => (h c).2.2.2.2, sem_eq_zero_of_no_sems (by decide) r.2⟩)
    (Cert.Reference14Ideal.Value.run m g)

/-- The host program `Reference15Ideal` ends, leaves its arguments as they were and every counter at zero. -/
theorem frame_reference15ideal : Cert.quiescent_Reference15Ideal := fun m g _ =>
  (θ_run Cert.Reference15Ideal.defs _ _).mono (fun r h => ⟨fun c => (h c).2.2.2.2, sem_eq_zero_of_no_sems (by decide) r.2⟩)
    (Cert.Reference15Ideal.Value.run m g)

/-- The host program `Reference16Ideal` ends, leaves its arguments as they were and every counter at zero. -/
theorem frame_reference16ideal : Cert.quiescent_Reference16Ideal := fun m g _ =>
  (θ_run Cert.Reference16Ideal.defs _ _).mono (fun r h => ⟨fun c => (h c).2.2.2.2, sem_eq_zero_of_no_sems (by decide) r.2⟩)
    (Cert.Reference16Ideal.Value.run m g)

/-- The host program `Reference17Ideal` ends, leaves its arguments as they were and every counter at zero. -/
theorem frame_reference17ideal : Cert.quiescent_Reference17Ideal := fun m g _ =>
  (θ_run Cert.Reference17Ideal.defs _ _).mono (fun r h => ⟨fun c => (h c).2.2.2, sem_eq_zero_of_no_sems (by decide) r.2⟩)
    (Cert.Reference17Ideal.Value.run m g)

/-- The host program `Reference18Ideal` ends, leaves its arguments as they were and every counter at zero. -/
theorem frame_reference18ideal : Cert.quiescent_Reference18Ideal := fun m g _ =>
  (θ_run Cert.Reference18Ideal.defs _ _).mono (fun r h => ⟨fun c => (h c).2.2, sem_eq_zero_of_no_sems (by decide) r.2⟩)
    (Cert.Reference18Ideal.Value.run m g)

/-- The host program `Reference19Ideal` ends, leaves its arguments as they were and every counter at zero. -/
theorem frame_reference19ideal : Cert.quiescent_Reference19Ideal := fun m g _ =>
  (θ_run Cert.Reference19Ideal.defs _ _).mono (fun r h => ⟨fun c => (h c).2, sem_eq_zero_of_no_sems (by decide) r.2⟩)
    (Cert.Reference19Ideal.Value.run m g)

/-- The host program `Reference20Ideal` ends, leaves its arguments as they were and every counter at zero. -/
theorem frame_reference20ideal : Cert.quiescent_Reference20Ideal := fun m g _ =>
  (θ_run Cert.Reference20Ideal.defs _ _).mono (fun r h => ⟨fun c => (h c).2, sem_eq_zero_of_no_sems (by decide) r.2⟩)
    (Cert.Reference20Ideal.Value.run m g)

/-- The host program `Reference21Ideal` ends, leaves its arguments as they were and every counter at zero. -/
theorem frame_reference21ideal : Cert.quiescent_Reference21Ideal := fun m g _ =>
  (θ_run Cert.Reference21Ideal.defs _ _).mono (fun r h => ⟨fun c => (h c).2.2, sem_eq_zero_of_no_sems (by decide) r.2⟩)
    (Cert.Reference21Ideal.Value.run m g)

/-- The host program `Reference22Ideal` ends, leaves its arguments as they were and every counter at zero. -/
theorem frame_reference22ideal : Cert.quiescent_Reference22Ideal := fun m g _ =>
  (θ_run Cert.Reference22Ideal.defs _ _).mono (fun r h => ⟨fun c => (h c).2.2, sem_eq_zero_of_no_sems (by decide) r.2⟩)
    (Cert.Reference22Ideal.Value.run m g)

/-- The host program `Reference23Ideal` ends, leaves its arguments as they were and every counter at zero. -/
theorem frame_reference23ideal : Cert.quiescent_Reference23Ideal := fun m g _ =>
  (θ_run Cert.Reference23Ideal.defs _ _).mono (fun r h => ⟨fun c => (h c).2.2.2, sem_eq_zero_of_no_sems (by decide) r.2⟩)
    (Cert.Reference23Ideal.Value.run m g)

/-- Every claim of the certificate, in the order it states them. -/
theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Cert.Kernel12.Gen.facts,
    Cert.Kernel12Ideal.Gen.facts,
    Cert.Reference12Ideal.Gen.facts,
    Cert.Kernel13.Gen.facts,
    Cert.Kernel13Ideal.Gen.facts,
    Cert.Reference13Ideal.Gen.facts,
    Cert.Kernel14.Gen.facts,
    Cert.Kernel14Ideal.Gen.facts,
    Cert.Reference14Ideal.Gen.facts,
    Cert.Kernel15.Gen.facts,
    Cert.Kernel15Ideal.Gen.facts,
    Cert.Reference15Ideal.Gen.facts,
    Cert.Kernel16.Gen.facts,
    Cert.Kernel16Ideal.Gen.facts,
    Cert.Reference16Ideal.Gen.facts,
    Cert.Kernel17.Gen.facts,
    Cert.Kernel17Ideal.Gen.facts,
    Cert.Reference17Ideal.Gen.facts,
    Cert.Kernel18.Gen.facts,
    Cert.Kernel18Ideal.Gen.facts,
    Cert.Reference18Ideal.Gen.facts,
    Cert.Kernel19.Gen.facts,
    Cert.Kernel19Ideal.Gen.facts,
    Cert.Reference19Ideal.Gen.facts,
    Cert.Kernel20.Gen.facts,
    Cert.Kernel20Ideal.Gen.facts,
    Cert.Reference20Ideal.Gen.facts,
    Cert.Kernel21.Gen.facts,
    Cert.Kernel21Ideal.Gen.facts,
    Cert.Reference21Ideal.Gen.facts,
    Cert.Kernel22.Gen.facts,
    Cert.Kernel22Ideal.Gen.facts,
    Cert.Reference22Ideal.Gen.facts,
    Cert.Kernel23.Gen.facts,
    Cert.Kernel23Ideal.Gen.facts,
    Cert.Reference23Ideal.Gen.facts,
    Cert.Pre_finite2.Gen.facts,
    fun m ρ _ => Cert.Kernel.Gen.frame m ρ,
    fun m ρ _ => Cert.KernelIdeal.Gen.frame m ρ,
    frame_referenceideal,
    fun m ρ _ => Cert.Kernel2.Gen.frame m ρ,
    fun m ρ _ => Cert.Kernel2Ideal.Gen.frame m ρ,
    fun m ρ _ => Cert.Kernel2Ideal.Gen.frame m ρ,
    frame_reference2ideal,
    frame_reference2ideal_pre_finite2,
    fun m ρ _ => Cert.Kernel3.Gen.frame m ρ,
    fun m ρ _ => Cert.Kernel3Ideal.Gen.frame m ρ,
    frame_reference3ideal,
    fun m ρ _ => Cert.Kernel4.Gen.frame m ρ,
    fun m ρ _ => Cert.Kernel4Ideal.Gen.frame m ρ,
    frame_reference4ideal,
    fun m ρ _ => Cert.Kernel5.Gen.frame m ρ,
    fun m ρ _ => Cert.Kernel5Ideal.Gen.frame m ρ,
    frame_reference5ideal,
    fun m ρ _ => Cert.Kernel6.Gen.frame m ρ,
    fun m ρ _ => Cert.Kernel6Ideal.Gen.frame m ρ,
    frame_reference6ideal,
    fun m ρ _ => Cert.Kernel7.Gen.frame m ρ,
    fun m ρ _ => Cert.Kernel7Ideal.Gen.frame m ρ,
    frame_reference7ideal,
    fun m ρ _ => Cert.Kernel8.Gen.frame m ρ,
    fun m ρ _ => Cert.Kernel8Ideal.Gen.frame m ρ,
    frame_reference8ideal,
    fun m ρ _ => Cert.Kernel9.Gen.frame m ρ,
    fun m ρ _ => Cert.Kernel9Ideal.Gen.frame m ρ,
    frame_reference9ideal,
    fun m ρ _ => Cert.Kernel10.Gen.frame m ρ,
    fun m ρ _ => Cert.Kernel10Ideal.Gen.frame m ρ,
    frame_reference10ideal,
    fun m ρ _ => Cert.Kernel11.Gen.frame m ρ,
    fun m ρ _ => Cert.Kernel11Ideal.Gen.frame m ρ,
    frame_reference11ideal,
    fun m ρ _ => Cert.Kernel12.Gen.frame m ρ,
    fun m ρ _ => Cert.Kernel12Ideal.Gen.frame m ρ,
    frame_reference12ideal,
    fun m ρ _ => Cert.Kernel13.Gen.frame m ρ,
    fun m ρ _ => Cert.Kernel13Ideal.Gen.frame m ρ,
    frame_reference13ideal,
    fun m ρ _ => Cert.Kernel14.Gen.frame m ρ,
    fun m ρ _ => Cert.Kernel14Ideal.Gen.frame m ρ,
    frame_reference14ideal,
    fun m ρ _ => Cert.Kernel15.Gen.frame m ρ,
    fun m ρ _ => Cert.Kernel15Ideal.Gen.frame m ρ,
    frame_reference15ideal,
    fun m ρ _ => Cert.Kernel16.Gen.frame m ρ,
    fun m ρ _ => Cert.Kernel16Ideal.Gen.frame m ρ,
    frame_reference16ideal,
    fun m ρ _ => Cert.Kernel17.Gen.frame m ρ,
    fun m ρ _ => Cert.Kernel17Ideal.Gen.frame m ρ,
    frame_reference17ideal,
    fun m ρ _ => Cert.Kernel18.Gen.frame m ρ,
    fun m ρ _ => Cert.Kernel18Ideal.Gen.frame m ρ,
    frame_reference18ideal,
    fun m ρ _ => Cert.Kernel19.Gen.frame m ρ,
    fun m ρ _ => Cert.Kernel19Ideal.Gen.frame m ρ,
    frame_reference19ideal,
    fun m ρ _ => Cert.Kernel20.Gen.frame m ρ,
    fun m ρ _ => Cert.Kernel20Ideal.Gen.frame m ρ,
    frame_reference20ideal,
    fun m ρ _ => Cert.Kernel21.Gen.frame m ρ,
    fun m ρ _ => Cert.Kernel21Ideal.Gen.frame m ρ,
    frame_reference21ideal,
    fun m ρ _ => Cert.Kernel22.Gen.frame m ρ,
    fun m ρ _ => Cert.Kernel22Ideal.Gen.frame m ρ,
    frame_reference22ideal,
    fun m ρ _ => Cert.Kernel23.Gen.frame m ρ,
    fun m ρ _ => Cert.Kernel23Ideal.Gen.frame m ρ,
    frame_reference23ideal,
    trivial,
    Cert.KernelIdeal.Recurrence.algebraic,
    trivial,
    Cert.Kernel2Ideal.FeedForward.algebraic,
    trivial,
    Cert.Kernel3Ideal.Product.algebraic,
    trivial,
    Cert.Kernel4Ideal.Product.algebraic,
    trivial,
    Cert.Kernel5Ideal.Product.algebraic,
    trivial,
    Cert.Kernel6Ideal.Product.algebraic,
    trivial,
    Cert.Kernel7Ideal.Product.algebraic,
    trivial,
    Cert.Kernel8Ideal.Product.algebraic,
    trivial,
    Cert.Kernel9Ideal.Product.algebraic,
    trivial,
    Cert.Kernel10Ideal.Product.algebraic,
    trivial,
    Cert.Kernel11Ideal.Product.algebraic,
    trivial,
    Cert.Kernel12Ideal.Product.algebraic,
    trivial,
    Cert.Kernel13Ideal.Update.algebraic,
    trivial,
    Cert.Kernel14Ideal.Update.algebraic,
    trivial,
    Cert.Kernel15Ideal.Update.algebraic,
    trivial,
    Cert.Kernel16Ideal.Update.algebraic,
    trivial,
    Cert.Kernel17Ideal.Update.algebraic,
    trivial,
    Cert.Kernel18Ideal.Condition.algebraic,
    trivial,
    Cert.Kernel19Ideal.Condition.algebraic,
    trivial,
    Cert.Kernel20Ideal.Sum.algebraic,
    trivial,
    Cert.Kernel21Ideal.Norm.algebraic,
    trivial,
    Cert.Kernel22Ideal.Norm.algebraic,
    trivial,
    Cert.Kernel23Ideal.Loss.algebraic⟩

end Cert.Proof

end
